-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v78_0)) (v1 : (c : Dev Cert.Kernel2Ideal.nD) → Buf (Elt Ideal) ((c.tc : Thread Cert.Kernel2Ideal.nD Cert.Kernel2Ideal.τ).loc Cert.Kernel2Ideal.main_v78_1)) (v2 : (c : Dev Cert.Kernel2Ideal.nD) → Buf (Elt Ideal) ((c.tc : Thread Cert.Kernel2Ideal.nD Cert.Kernel2Ideal.τ).loc Cert.Kernel2Ideal.main_v78_2)) (v3 : (c : Dev Cert.Kernel2Ideal.nD) → Buf (Elt Ideal) ((c.tc : Thread Cert.Kernel2Ideal.nD Cert.Kernel2Ideal.τ).loc Cert.Kernel2Ideal.main_v78_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v78_0) = v0 c
          ∧ r.2.mem ((c.tc : Thread Cert.Kernel2Ideal.nD Cert.Kernel2Ideal.τ).loc Cert.Kernel2Ideal.main_v78_1) = v1 c
          ∧ r.2.mem ((c.tc : Thread Cert.Kernel2Ideal.nD Cert.Kernel2Ideal.τ).loc Cert.Kernel2Ideal.main_v78_2) = v2 c
          ∧ r.2.mem ((c.tc : Thread Cert.Kernel2Ideal.nD Cert.Kernel2Ideal.τ).loc Cert.Kernel2Ideal.main_v78_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v166) = v0 c
          ∧ r.2.mem ((c.tc : Thread Cert.Reference2Ideal.nD Cert.Reference2Ideal.τ).loc Cert.Reference2Ideal.main_v168) = v1 c
          ∧ r.2.mem ((c.tc : Thread Cert.Reference2Ideal.nD Cert.Reference2Ideal.τ).loc Cert.Reference2Ideal.main_v146) = v2 c
          ∧ r.2.mem ((c.tc : Thread Cert.Reference2Ideal.nD Cert.Reference2Ideal.τ).loc Cert.Reference2Ideal.main_v134) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)) (v5 : (c : Dev Cert.Kernel3Ideal.nD) → Buf (Elt Ideal) ((c.tc : Thread Cert.Kernel3Ideal.nD Cert.Kernel3Ideal.τ).loc Cert.Kernel3Ideal.main_v10_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_v10_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v132) = v0 c
          ∧ r.2.mem ((c.tc : Thread Cert.Reference3Ideal.nD Cert.Reference3Ideal.τ).loc Cert.Reference3Ideal.main_v143) = v1 c
          ∧ r.2.mem ((c.tc : Thread Cert.Reference3Ideal.nD Cert.Reference3Ideal.τ).loc Cert.Reference3Ideal.main_v144) = v2 c
          ∧ r.2.mem ((c.tc : Thread Cert.Reference3Ideal.nD Cert.Reference3Ideal.τ).loc Cert.Reference3Ideal.main_v145) = v3 c
          ∧ r.2.mem ((c.tc : Thread Cert.Reference3Ideal.nD Cert.Reference3Ideal.τ).loc Cert.Reference3Ideal.main_v146) = v4 c
          ∧ r.2.mem ((c.tc : Thread Cert.Reference3Ideal.nD Cert.Reference3Ideal.τ).loc Cert.Reference3Ideal.main_v142) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)) (v4 : (c : Dev Cert.Kernel4Ideal.nD) → Buf (Elt Ideal) ((c.tc : Thread Cert.Kernel4Ideal.nD Cert.Kernel4Ideal.τ).loc Cert.Kernel4Ideal.main_v4_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_v4_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v74) = v0 c
          ∧ r.2.mem ((c.tc : Thread Cert.Reference4Ideal.nD Cert.Reference4Ideal.τ).loc Cert.Reference4Ideal.main_v98) = v1 c
          ∧ r.2.mem ((c.tc : Thread Cert.Reference4Ideal.nD Cert.Reference4Ideal.τ).loc Cert.Reference4Ideal.main_v106) = v2 c
          ∧ r.2.mem ((c.tc : Thread Cert.Reference4Ideal.nD Cert.Reference4Ideal.τ).loc Cert.Reference4Ideal.main_v107) = v3 c
          ∧ r.2.mem ((c.tc : Thread Cert.Reference4Ideal.nD Cert.Reference4Ideal.τ).loc Cert.Reference4Ideal.main_v105) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v30)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v30) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite3 : Cert.Pre_finite3.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S8192x1024 : Shape := ⟨2, ![8192, 1024]⟩
abbrev S8192x512 : Shape := ⟨2, ![8192, 512]⟩
abbrev S8192x256 : Shape := ⟨2, ![8192, 256]⟩
abbrev S8192x8 : Shape := ⟨2, ![8192, 8]⟩
abbrev S1024 : Shape := ⟨1, ![1024]⟩
abbrev S1024x2312 : Shape := ⟨2, ![1024, 2312]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S8192x512 : S_.BroadcastsInDim S8192x512 (![] : Fin 0 → Fin S8192x512.rank)
  bcast_S_S8192x256 : S_.BroadcastsInDim S8192x256 (![] : Fin 0 → Fin S8192x256.rank)
  bcast_S_S8192x8 : S_.BroadcastsInDim S8192x8 (![] : Fin 0 → Fin S8192x8.rank)
  bcast_S_S1024 : S_.BroadcastsInDim S1024 (![] : Fin 0 → Fin S1024.rank)
  bcast_S_S1024x2312 : S_.BroadcastsInDim S1024x2312 (![] : Fin 0 → Fin S1024x2312.rank)

variable [Facts]

def fn_part1 {F : FTy → Type} [FloatOps F] (main_arg6 : FVec F S8192x8 .bf16) (main_arg7 : FVec F S1024 .f32) (main_arg8 : FVec F S1024 .f32) (main_arg10 : FVec F S1024x2312 .f32) (main_v2 : IVec S8192x1024 1) (main_v6 : IVec S8192x512 1) (main_v10 : IVec S8192x256 1) (main_v14 : IVec S8192x512 1) (main_v18 : IVec S8192x1024 1) : IVec S8192x1024 1 × IVec S8192x512 1 × IVec S8192x256 1 × IVec S8192x512 1 × IVec S8192x1024 1 × IVec S8192x8 1 × IVec S1024 1 × IVec S1024 1 × IVec S1024x2312 1 :=
  let main_v19 : FVec F S8192x8 .f32 := (extf .f32 · bitsLt_bf16_f32) main_arg6
  let main_v20 : FVec F S8192x8 .f32 := Host.absf main_v19
  let main_cst_4 : FVec F S_ .f32 := constant S_ .f32 0x7F800000#32
  let main_v21 : FVec F S8192x8 .f32 := broadcastInDim S8192x8 ![] bcast_S_S8192x8 main_cst_4
  let main_v22 : IVec S8192x8 1 := cmpf .olt main_v20 main_v21
  let main_v23 : FVec F S1024 .f32 := Host.absf main_arg7
  let main_cst_5 : FVec F S_ .f32 := constant S_ .f32 0x7F800000#32
  let main_v24 : FVec F S1024 .f32 := broadcastInDim S1024 ![] bcast_S_S1024 main_cst_5
  let main_v25 : IVec S1024 1 := cmpf .olt main_v23 main_v24
  let main_v26 : FVec F S1024 .f32 := Host.absf main_arg8
  let main_cst_6 : FVec F S_ .f32 := constant S_ .f32 0x7F800000#32
  let main_v27 : FVec F S1024 .f32 := broadcastInDim S1024 ![] bcast_S_S1024 main_cst_6
  let main_v28 : IVec S1024 1 := cmpf .olt main_v26 main_v27
  let main_v29 : FVec F S1024x2312 .f32 := Host.absf main_arg10
  let main_cst_7 : FVec F S_ .f32 := constant S_ .f32 0x7F800000#32
  let main_v30 : FVec F S1024x2312 .f32 := broadcastInDim S1024x2312 ![] bcast_S_S1024x2312 main_cst_7
  let main_v31 : IVec S1024x2312 1 := cmpf .olt main_v29 main_v30
  (main_v2, main_v6, main_v10, main_v14, main_v18, main_v22, main_v25, main_v28, main_v31)

def fn {F : FTy → Type} [FloatOps F] (main_arg0 : FVec F S8192x1024 .f32) (main_arg1 : FVec F S8192x1024 .f32) (main_arg2 : FVec F S8192x512 .bf16) (main_arg3 : FVec F S8192x256 .bf16) (main_arg4 : FVec F S8192x512 .bf16) (main_arg5 : FVec F S8192x1024 .bf16) (main_arg6 : FVec F S8192x8 .bf16) (main_arg7 : FVec F S1024 .f32) (main_arg8 : FVec F S1024 .f32) (main_arg9 : FVec F S1024 .f32) (main_arg10 : FVec F S1024x2312 .f32) : IVec S8192x1024 1 × IVec S8192x512 1 × IVec S8192x256 1 × IVec S8192x512 1 × IVec S8192x1024 1 × IVec S8192x8 1 × IVec S1024 1 × IVec S1024 1 × IVec S1024x2312 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := (extf .f32 · bitsLt_bf16_f32) main_arg2
  let main_v4 : FVec F S8192x512 .f32 := Host.absf main_v3
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_v7 : FVec F S8192x256 .f32 := (extf .f32 · bitsLt_bf16_f32) main_arg3
  let main_v8 : FVec F S8192x256 .f32 := Host.absf main_v7
  let main_cst_1 : FVec F S_ .f32 := constant S_ .f32 0x7F800000#32
  let main_v9 : FVec F S8192x256 .f32 := broadcastInDim S8192x256 ![] bcast_S_S8192x256 main_cst_1
  let main_v10 : IVec S8192x256 1 := cmpf .olt main_v8 main_v9
  let main_v11 : FVec F S8192x512 .f32 := (extf .f32 · bitsLt_bf16_f32) main_arg4
  let main_v12 : FVec F S8192x512 .f32 := Host.absf main_v11
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  let main_v15 : FVec F S8192x1024 .f32 := (extf .f32 · bitsLt_bf16_f32) main_arg5
  let main_v16 : FVec F S8192x1024 .f32 := Host.absf main_v15
  let main_cst_3 : FVec F S_ .f32 := constant S_ .f32 0x7F800000#32
  let main_v17 : FVec F S8192x1024 .f32 := broadcastInDim S8192x1024 ![] bcast_S_S8192x1024 main_cst_3
  let main_v18 : IVec S8192x1024 1 := cmpf .olt main_v16 main_v17
  fn_part1 (F := F) main_arg6 main_arg7 main_arg8 main_arg10 main_v2 main_v6 main_v10 main_v14 main_v18
-- ==== Pre_finite2.lean ====
abbrev S8192x512 : Shape := ⟨2, ![8192, 512]⟩
abbrev S8192x128 : Shape := ⟨2, ![8192, 128]⟩
abbrev S8 : Shape := ⟨1, ![8]⟩
abbrev S8x128x256 : Shape := ⟨3, ![8, 128, 256]⟩
abbrev S_ : Shape := ⟨0, ![]⟩

class Facts : Prop where
  bcast_S_S8192x512 : S_.BroadcastsInDim S8192x512 (![] : Fin 0 → Fin S8192x512.rank)
  bcast_S_S8192x128 : S_.BroadcastsInDim S8192x128 (![] : Fin 0 → Fin S8192x128.rank)
  bcast_S_S8 : S_.BroadcastsInDim S8 (![] : Fin 0 → Fin S8.rank)
  bcast_S_S8x128x256 : S_.BroadcastsInDim S8x128x256 (![] : Fin 0 → Fin S8x128x256.rank)

variable [Facts]

def fn {F : FTy → Type} [FloatOps F] (main_arg0 : FVec F S8192x512 .f32) (main_arg1 : FVec F S8192x128 .f32) (main_arg2 : FVec F S8192x128 .f32) (main_arg3 : FVec F S8 .f32) (main_arg4 : FVec F S8x128x256 .f32) (main_arg5 : FVec F S8192x512 .f32) : IVec S8192x512 1 × IVec S8192x128 1 × IVec S8192x128 1 × IVec S8 1 × IVec S8x128x256 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x128 .f32 := Host.absf main_arg1
  let main_cst_0 : FVec F S_ .f32 := constant S_ .f32 0x7F800000#32
  let main_v4 : FVec F S8192x128 .f32 := broadcastInDim S8192x128 ![] bcast_S_S8192x128 main_cst_0
  let main_v5 : IVec S8192x128 1 := cmpf .olt main_v3 main_v4
  let main_v6 : FVec F S8192x128 .f32 := Host.absf main_arg2
  let main_cst_1 : FVec F S_ .f32 := constant S_ .f32 0x7F800000#32
  let main_v7 : FVec F S8192x128 .f32 := broadcastInDim S8192x128 ![] bcast_S_S8192x128 main_cst_1
  let main_v8 : IVec S8192x128 1 := cmpf .olt main_v6 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_v12 : FVec F S8x128x256 .f32 := Host.absf main_arg4
  let main_cst_3 : FVec F S_ .f32 := constant S_ .f32 0x7F800000#32
  let main_v13 : FVec F S8x128x256 .f32 := broadcastInDim S8x128x256 ![] bcast_S_S8x128x256 main_cst_3
  let main_v14 : IVec S8x128x256 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  (main_v2, main_v5, main_v8, main_v11, main_v14, main_v17)
-- ==== Pre_finite3.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S1024 .f32) (main_arg7 : FVec F S1024x5632 .f32) (main_arg8 : FVec F S2816x1024 .f32) (main_v2 : IVec S8192x1024 1) (main_v5 : IVec S8192x1024 1) (main_v8 : IVec S1024 1) (main_v11 : IVec S1024 1) (main_v14 : IVec S1024 1) (main_v17 : IVec S1024 1) : IVec S8192x1024 1 × IVec S8192x1024 1 × IVec S1024 1 × IVec S1024 1 × IVec S1024 1 × IVec S1024 1 × IVec S1024 1 × IVec S1024x5632 1 × IVec S2816x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024x5632 .f32 := Host.absf main_arg7
  let main_cst_6 : FVec F S_ .f32 := constant S_ .f32 0x7F800000#32
  let main_v22 : FVec F S1024x5632 .f32 := broadcastInDim S1024x5632 ![] bcast_S_S1024x5632 main_cst_6
  let main_v23 : IVec S1024x5632 1 := cmpf .olt main_v21 main_v22
  let main_v24 : FVec F S2816x1024 .f32 := Host.absf main_arg8
  let main_cst_7 : FVec F S_ .f32 := constant S_ .f32 0x7F800000#32
  let main_v25 : FVec F S2816x1024 .f32 := broadcastInDim S2816x1024 ![] bcast_S_S2816x1024 main_cst_7
  let main_v26 : IVec S2816x1024 1 := cmpf .olt main_v24 main_v25
  (main_v2, main_v5, main_v8, main_v11, main_v14, main_v17, main_v20, main_v23, main_v26)

def fn {F : FTy → Type} [FloatOps F] (main_arg0 : FVec F S8192x1024 .f32) (main_arg1 : FVec F S8192x1024 .f32) (main_arg2 : FVec F S1024 .f32) (main_arg3 : FVec F S1024 .f32) (main_arg4 : FVec F S1024 .f32) (main_arg5 : FVec F S1024 .f32) (main_arg6 : FVec F S1024 .f32) (main_arg7 : FVec F S1024x5632 .f32) (main_arg8 : FVec F S2816x1024 .f32) : IVec S8192x1024 1 × IVec S8192x1024 1 × IVec S1024 1 × IVec S1024 1 × IVec S1024 1 × IVec S1024 1 × IVec S1024 1 × IVec S1024x5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_arg8 main_v2 main_v5 main_v8 main_v11 main_v14 main_v17
-- ==== Pre_finite5.lean ====
abbrev S8192x512 : Shape := ⟨2, ![8192, 512]⟩
abbrev S8192x128 : Shape := ⟨2, ![8192, 128]⟩
abbrev S8 : Shape := ⟨1, ![8]⟩
abbrev S8x128x256 : Shape := ⟨3, ![8, 128, 256]⟩
abbrev S_ : Shape := ⟨0, ![]⟩

class Facts : Prop where
  bcast_S_S8192x512 : S_.BroadcastsInDim S8192x512 (![] : Fin 0 → Fin S8192x512.rank)
  bcast_S_S8192x128 : S_.BroadcastsInDim S8192x128 (![] : Fin 0 → Fin S8192x128.rank)
  bcast_S_S8 : S_.BroadcastsInDim S8 (![] : Fin 0 → Fin S8.rank)
  bcast_S_S8x128x256 : S_.BroadcastsInDim S8x128x256 (![] : Fin 0 → Fin S8x128x256.rank)

variable [Facts]

def fn {F : FTy → Type} [FloatOps F] (main_arg0 : FVec F S8192x512 .f32) (main_arg1 : FVec F S8192x128 .f32) (main_arg2 : FVec F S8192x128 .f32) (main_arg3 : FVec F S8 .f32) (main_arg4 : FVec F S8x128x256 .f32) : IVec S8192x512 1 × IVec S8192x128 1 × IVec S8 1 × IVec S8x128x256 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x128 .f32 := Host.absf main_arg1
  let main_cst_0 : FVec F S_ .f32 := constant S_ .f32 0x7F800000#32
  let main_v4 : FVec F S8192x128 .f32 := broadcastInDim S8192x128 ![] bcast_S_S8192x128 main_cst_0
  let main_v5 : IVec S8192x128 1 := cmpf .olt main_v3 main_v4
  let main_v6 : FVec F S8 .f32 := Host.absf main_arg3
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  let main_v9 : FVec F S8x128x256 .f32 := Host.absf main_arg4
  let main_cst_2 : FVec F S_ .f32 := constant S_ .f32 0x7F800000#32
  let main_v10 : FVec F S8x128x256 .f32 := broadcastInDim S8x128x256 ![] bcast_S_S8x128x256 main_cst_2
  let main_v11 : IVec S8x128x256 1 := cmpf .olt main_v9 main_v10
  (main_v2, main_v5, main_v8, main_v11)
-- ==== Kernel.lean ====
abbrev S8192x1024 : Shape := ⟨2, ![8192, 1024]⟩
abbrev S8192x512 : Shape := ⟨2, ![8192, 512]⟩
abbrev S8192x256 : Shape := ⟨2, ![8192, 256]⟩
abbrev S8192x8 : Shape := ⟨2, ![8192, 8]⟩
abbrev S1024 : Shape := ⟨1, ![1024]⟩
abbrev S1024x2312 : Shape := ⟨2, ![1024, 2312]⟩
abbrev S2312x1024 : Shape := ⟨2, ![2312, 1024]⟩
abbrev S_ : Shape := ⟨0, ![]⟩
abbrev S2432x1024 : Shape := ⟨2, ![2432, 1024]⟩
abbrev S8192x128 : Shape := ⟨2, ![8192, 128]⟩
abbrev S1x1024 : Shape := ⟨2, ![1, 1024]⟩
abbrev S8x1024 : Shape := ⟨2, ![8, 1024]⟩
abbrev S2432x512 : Shape := ⟨2, ![2432, 512]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S256x512 : Shape := ⟨2, ![256, 512]⟩
abbrev S256x256 : Shape := ⟨2, ![256, 256]⟩
abbrev S256x1024 : Shape := ⟨2, ![256, 1024]⟩
abbrev S256x128 : Shape := ⟨2, ![256, 128]⟩
abbrev S256x2432 : Shape := ⟨2, ![256, 2432]⟩
abbrev S256 : Shape := ⟨1, ![256]⟩
abbrev S256x1 : Shape := ⟨2, ![256, 1]⟩

abbrev nBuf : Space → Nat
  | .hbm => 26
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .bf16⟩
  | .hbm, ⟨3, _⟩ => ⟨S8192x256, .bf16⟩
  | .hbm, ⟨4, _⟩ => ⟨S8192x512, .bf16⟩
  | .hbm, ⟨5, _⟩ => ⟨S8192x1024, .bf16⟩
  | .hbm, ⟨6, _⟩ => ⟨S8192x8, .bf16⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x2312, .f32⟩
  | .hbm, ⟨11, _⟩ => ⟨S2312x1024, .f32⟩
  | .hbm, ⟨12, _⟩ => ⟨S2312x1024, .bf16⟩
  | .hbm, ⟨13, _⟩ => ⟨S_, .i32⟩
  | .hbm, ⟨14, _⟩ => ⟨S_, .bf16⟩
  | .hbm, ⟨15, _⟩ => ⟨S2432x1024, .bf16⟩
  | .hbm, ⟨16, _⟩ => ⟨S_, .i32⟩
  | .hbm, ⟨17, _⟩ => ⟨S_, .bf16⟩
  | .hbm, ⟨18, _⟩ => ⟨S8192x128, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .bf16⟩
  | .hbm, ⟨24, _⟩ => ⟨S8x1024, .f32⟩
  | .hbm, ⟨25, _⟩ => ⟨S2432x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x128, .bf16⟩
  | .local _ .vmem, ⟨13, _⟩ => ⟨S512x128, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S2432x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S8x1024, .f32⟩
  | .local _ .vmem, ⟨23, _⟩ => ⟨S2432x512, .bf16⟩
  | .local _ .vmem, ⟨24, _⟩ => ⟨S2432x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v7_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v164 : BitVec 1 := Scalar.cmpi .eq arg0 c15_i32
  let v165 : BitVec 32 := Scalar.extui v164
  let c0_i32_96 : BitVec 32 := 0#32
  let v166 : BitVec 1 := Scalar.cmpi .ne v165 c0_i32_96
  v166

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2432x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2432x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S8192x1024 : Shape := ⟨2, ![8192, 1024]⟩
abbrev S8192x512 : Shape := ⟨2, ![8192, 512]⟩
abbrev S8192x256 : Shape := ⟨2, ![8192, 256]⟩
abbrev S8192x8 : Shape := ⟨2, ![8192, 8]⟩
abbrev S1024 : Shape := ⟨1, ![1024]⟩
abbrev S1024x2312 : Shape := ⟨2, ![1024, 2312]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2312 : Shape := ⟨2, ![8192, 2312]⟩
abbrev S2312x1024 : Shape := ⟨2, ![2312, 1024]⟩
abbrev S5x1024 : Shape := ⟨2, ![5, 1024]⟩
abbrev S8x1024 : Shape := ⟨2, ![8, 1024]⟩
abbrev S2312x512 : Shape := ⟨2, ![2312, 512]⟩
abbrev S2432x512 : Shape := ⟨2, ![2432, 512]⟩

abbrev nBuf : Space → Nat
  | .hbm => 105
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .bf16⟩
  | .hbm, ⟨3, _⟩ => ⟨S8192x256, .bf16⟩
  | .hbm, ⟨4, _⟩ => ⟨S8192x512, .bf16⟩
  | .hbm, ⟨5, _⟩ => ⟨S8192x1024, .bf16⟩
  | .hbm, ⟨6, _⟩ => ⟨S8192x8, .bf16⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x2312, .f32⟩
  | .hbm, ⟨11, _⟩ => ⟨S8192x512, .f32⟩
  | .hbm, ⟨12, _⟩ => ⟨S8192x256, .f32⟩
  | .hbm, ⟨13, _⟩ => ⟨S8192x512, .f32⟩
  | .hbm, ⟨14, _⟩ => ⟨S8192x1024, .f32⟩
  | .hbm, ⟨15, _⟩ => ⟨S8192x8, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x2312, .f32⟩
  | .hbm, ⟨46, _⟩ => ⟨S8192x2312, .f32⟩
  | .hbm, ⟨47, _⟩ => ⟨S_, .f32⟩
  | .hbm, ⟨48, _⟩ => ⟨S8192x1024, .f32⟩
  | .hbm, ⟨49, _⟩ => ⟨S2312x1024, .f32⟩
  | .hbm, ⟨50, _⟩ => ⟨S1024x2312, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S_, .f32⟩
  | .hbm, ⟨96, _⟩ => ⟨S5x1024, .f32⟩
  | .hbm, ⟨97, _⟩ => ⟨S8x1024, .f32⟩
  | .hbm, ⟨98, _⟩ => ⟨S2312x1024, .f32⟩
  | .hbm, ⟨99, _⟩ => ⟨S2312x512, .f32⟩
  | .hbm, ⟨100, _⟩ => ⟨S_, .i32⟩
  | .hbm, ⟨101, _⟩ => ⟨S_, .f32⟩
  | .hbm, ⟨102, _⟩ => ⟨S2432x512, .f32⟩
  | .hbm, ⟨103, _⟩ => ⟨S8192x1024, .bf16⟩
  | .hbm, ⟨104, _⟩ => ⟨S2432x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c : Ref sig .tc := ⟨.hbm, 100, rfl⟩
abbrev main_call0_v0 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== Kernel2.lean ====
abbrev S8192x512 : Shape := ⟨2, ![8192, 512]⟩
abbrev S8192x128 : Shape := ⟨2, ![8192, 128]⟩
abbrev S8 : Shape := ⟨1, ![8]⟩
abbrev S8x128x256 : Shape := ⟨3, ![8, 128, 256]⟩
abbrev S64x128x256 : Shape := ⟨3, ![64, 128, 256]⟩
abbrev S_ : Shape := ⟨0, ![]⟩
abbrev S8x1x1 : Shape := ⟨3, ![8, 1, 1]⟩
abbrev S8x128x1 : Shape := ⟨3, ![8, 128, 1]⟩
abbrev S64x128x2x4x64 : Shape := ⟨5, ![64, 128, 2, 4, 64]⟩
abbrev S128x2x64 : Shape := ⟨3, ![128, 2, 64]⟩
abbrev S8192x2x64 : Shape := ⟨3, ![8192, 2, 64]⟩
abbrev S8320x2x64 : Shape := ⟨3, ![8320, 2, 64]⟩
abbrev S65x128x2x64 : Shape := ⟨4, ![65, 128, 2, 64]⟩
abbrev S64x128x2x64 : Shape := ⟨4, ![64, 128, 2, 64]⟩
abbrev S64x256x2x64 : Shape := ⟨4, ![64, 256, 2, 64]⟩
abbrev S64x1x1x128x256 : Shape := ⟨5, ![64, 1, 1, 128, 256]⟩
abbrev S2x4x128x256 : Shape := ⟨4, ![2, 4, 128, 256]⟩
abbrev S64x2x256x128x4 : Shape := ⟨5, ![64, 2, 256, 128, 4]⟩
abbrev S64x2x4x128x256 : Shape := ⟨5, ![64, 2, 4, 128, 256]⟩
abbrev S1x2x4x128x256 : Shape := ⟨5, ![1, 2, 4, 128, 256]⟩
abbrev S2x4x128x1 : Shape := ⟨4, ![2, 4, 128, 1]⟩
abbrev S64x2x4x128 : Shape := ⟨4, ![64, 2, 4, 128]⟩
abbrev S64x2x4x128x1 : Shape := ⟨5, ![64, 2, 4, 128, 1]⟩
abbrev S1x2x4x128x1 : Shape := ⟨5, ![1, 2, 4, 128, 1]⟩
abbrev S64x2x4x128x64 : Shape := ⟨5, ![64, 2, 4, 128, 64]⟩
abbrev S8192x768 : Shape := ⟨2, ![8192, 768]⟩
abbrev S1x128x256 : Shape := ⟨3, ![1, 128, 256]⟩
abbrev S128x256 : Shape := ⟨2, ![128, 256]⟩
abbrev S1x8x128x256 : Shape := ⟨4, ![1, 8, 128, 256]⟩
abbrev S2x8x128x256 : Shape := ⟨4, ![2, 8, 128, 256]⟩
abbrev S8192x256 : Shape := ⟨2, ![8192, 256]⟩
abbrev S512x512 : Shape := ⟨2, ![512, 512]⟩
abbrev S512x256 : Shape := ⟨2, ![512, 256]⟩
abbrev S640x256 : Shape := ⟨2, ![640, 256]⟩
abbrev S640x128 : Shape := ⟨2, ![640, 128]⟩
abbrev S256x128 : Shape := ⟨2, ![256, 128]⟩
abbrev S128x512 : Shape := ⟨2, ![128, 512]⟩
abbrev S128x128 : Shape := ⟨2, ![128, 128]⟩
abbrev S1x1x128x256 : Shape := ⟨4, ![1, 1, 128, 256]⟩
abbrev S128 : Shape := ⟨1, ![128]⟩
abbrev S128x1 : Shape := ⟨2, ![128, 1]⟩
abbrev S1 : Shape := ⟨1, ![1]⟩
abbrev S1x128x1 : Shape := ⟨3, ![1, 128, 1]⟩
abbrev S512x128 : Shape := ⟨2, ![512, 128]⟩

abbrev nBuf : Space → Nat
  | .hbm => 111
  | .vmem => 18
  | .smem => 1
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8, .f32⟩
  | .hbm, ⟨4, _⟩ => ⟨S8x128x256, .f32⟩
  | .hbm, ⟨5, _⟩ => ⟨S8192x512, .f32⟩
  | .hbm, ⟨6, _⟩ => ⟨S64x128x256, .i32⟩
  | .hbm, ⟨7, _⟩ => ⟨S64x128x256, .i32⟩
  | .hbm, ⟨8, _⟩ => ⟨S64x128x256, .i32⟩
  | .hbm, ⟨9, _⟩ => ⟨S_, .i32⟩
  | .hbm, ⟨10, _⟩ => ⟨S64x128x256, .i32⟩
  | .hbm, ⟨11, _⟩ => ⟨S64x128x256, .i32⟩
  | .hbm, ⟨12, _⟩ => ⟨S64x128x256, .i32⟩
  | .hbm, ⟨13, _⟩ => ⟨S_, .i32⟩
  | .hbm, ⟨14, _⟩ => ⟨S64x128x256, .i32⟩
  | .hbm, ⟨15, _⟩ => ⟨S64x128x256, .i32⟩
  | .hbm, ⟨16, _⟩ => ⟨S_, .i32⟩
  | .hbm, ⟨17, _⟩ => ⟨S64x128x256, .i32⟩
  | .hbm, ⟨18, _⟩ => ⟨S64x128x256, .i32⟩
  | .hbm, ⟨19, _⟩ => ⟨S64x128x256, .i32⟩
  | .hbm, ⟨20, _⟩ => ⟨S_, .i32⟩
  | .hbm, ⟨21, _⟩ => ⟨S64x128x256, .i32⟩
  | .hbm, ⟨22, _⟩ => ⟨S64x128x256, .i1⟩
  | .hbm, ⟨23, _⟩ => ⟨S_, .i32⟩
  | .hbm, ⟨24, _⟩ => ⟨S64x128x256, .i32⟩
  | .hbm, ⟨25, _⟩ => ⟨S64x128x256, .i1⟩
  | .hbm, ⟨26, _⟩ => ⟨S64x128x256, .i1⟩
  | .hbm, ⟨27, _⟩ => ⟨S_, .i32⟩
  | .hbm, ⟨28, _⟩ => ⟨S64x128x256, .i32⟩
  | .hbm, ⟨29, _⟩ => ⟨S64x128x256, .i1⟩
  | .hbm, ⟨30, _⟩ => ⟨S64x128x256, .i1⟩
  | .hbm, ⟨31, _⟩ => ⟨S8x1x1, .f32⟩
  | .hbm, ⟨32, _⟩ => ⟨S8x128x1, .f32⟩
  | .hbm, ⟨33, _⟩ => ⟨S64x128x2x4x64, .f32⟩
  | .hbm, ⟨34, _⟩ => ⟨S_, .f32⟩
  | .hbm, ⟨35, _⟩ => ⟨S128x2x64, .f32⟩
  | .hbm, ⟨36, _⟩ => ⟨S8192x2x64, .f32⟩
  | .hbm, ⟨37, _⟩ => ⟨S8320x2x64, .f32⟩
  | .hbm, ⟨38, _⟩ => ⟨S65x128x2x64, .f32⟩
  | .hbm, ⟨39, _⟩ => ⟨S64x128x2x64, .f32⟩
  | .hbm, ⟨40, _⟩ => ⟨S64x128x2x64, .f32⟩
  | .hbm, ⟨41, _⟩ => ⟨S64x256x2x64, .f32⟩
  | .hbm, ⟨42, _⟩ => ⟨S_, .f32⟩
  | .hbm, ⟨43, _⟩ => ⟨S128x2x64, .f32⟩
  | .hbm, ⟨44, _⟩ => ⟨S8192x2x64, .f32⟩
  | .hbm, ⟨45, _⟩ => ⟨S8320x2x64, .f32⟩
  | .hbm, ⟨46, _⟩ => ⟨S65x128x2x64, .f32⟩
  | .hbm, ⟨47, _⟩ => ⟨S64x128x2x64, .f32⟩
  | .hbm, ⟨48, _⟩ => ⟨S64x128x2x64, .f32⟩
  | .hbm, ⟨49, _⟩ => ⟨S64x256x2x64, .f32⟩
  | .hbm, ⟨50, _⟩ => ⟨S64x1x1x128x256, .i1⟩
  | .hbm, ⟨51, _⟩ => ⟨S2x4x128x256, .f32⟩
  | .hbm, ⟨52, _⟩ => ⟨S64x2x256x128x4, .f32⟩
  | .hbm, ⟨53, _⟩ => ⟨S64x2x4x128x256, .f32⟩
  | .hbm, ⟨54, _⟩ => ⟨S_, .f32⟩
  | .hbm, ⟨55, _⟩ => ⟨S64x2x4x128x256, .f32⟩
  | .hbm, ⟨56, _⟩ => ⟨S64x2x4x128x256, .f32⟩
  | .hbm, ⟨57, _⟩ => ⟨S1x2x4x128x256, .f32⟩
  | .hbm, ⟨58, _⟩ => ⟨S64x2x4x128x256, .f32⟩
  | .hbm, ⟨59, _⟩ => ⟨S64x2x4x128x256, .f32⟩
  | .hbm, ⟨60, _⟩ => ⟨S_, .f32⟩
  | .hbm, ⟨61, _⟩ => ⟨S_, .f32⟩
  | .hbm, ⟨62, _⟩ => ⟨S64x2x4x128x256, .i1⟩
  | .hbm, ⟨63, _⟩ => ⟨S64x2x4x128x256, .f32⟩
  | .hbm, ⟨64, _⟩ => ⟨S64x2x4x128x256, .f32⟩
  | .hbm, ⟨65, _⟩ => ⟨S2x4x128x1, .f32⟩
  | .hbm, ⟨66, _⟩ => ⟨S_, .f32⟩
  | .hbm, ⟨67, _⟩ => ⟨S64x2x4x128, .f32⟩
  | .hbm, ⟨68, _⟩ => ⟨S64x2x4x128x1, .f32⟩
  | .hbm, ⟨69, _⟩ => ⟨S1x2x4x128x1, .f32⟩
  | .hbm, ⟨70, _⟩ => ⟨S64x2x4x128x1, .f32⟩
  | .hbm, ⟨71, _⟩ => ⟨S64x2x4x128x1, .f32⟩
  | .hbm, ⟨72, _⟩ => ⟨S64x2x4x128x256, .f32⟩
  | .hbm, ⟨73, _⟩ => ⟨S64x2x4x128x256, .f32⟩
  | .hbm, ⟨74, _⟩ => ⟨S64x2x4x128x256, .f32⟩
  | .hbm, ⟨75, _⟩ => ⟨S_, .f32⟩
  | .hbm, ⟨76, _⟩ => ⟨S64x2x4x128, .f32⟩
  | .hbm, ⟨77, _⟩ => ⟨S64x2x4x128x1, .f32⟩
  | .hbm, ⟨78, _⟩ => ⟨S1x2x4x128x1, .f32⟩
  | .hbm, ⟨79, _⟩ => ⟨S64x2x4x128x1, .f32⟩
  | .hbm, ⟨80, _⟩ => ⟨S64x2x4x128x1, .f32⟩
  | .hbm, ⟨81, _⟩ => ⟨S64x2x4x128x1, .f32⟩
  | .hbm, ⟨82, _⟩ => ⟨S64x2x4x128x1, .f32⟩
  | .hbm, ⟨83, _⟩ => ⟨S64x2x4x128x64, .f32⟩
  | .hbm, ⟨84, _⟩ => ⟨S64x2x4x128x64, .f32⟩
  | .hbm, ⟨85, _⟩ => ⟨S64x2x4x128x64, .f32⟩
  | .hbm, ⟨86, _⟩ => ⟨S64x128x2x4x64, .f32⟩
  | .hbm, ⟨87, _⟩ => ⟨S8192x512, .f32⟩
  | .hbm, ⟨88, _⟩ => ⟨S8192x768, .f32⟩
  | .hbm, ⟨89, _⟩ => ⟨S8192x768, .bf16⟩
  | .hbm, ⟨90, _⟩ => ⟨S1x128x256, .i1⟩
  | .hbm, ⟨91, _⟩ => ⟨S128x256, .i1⟩
  | .hbm, ⟨92, _⟩ => ⟨S_, .f32⟩
  | .hbm, ⟨93, _⟩ => ⟨S_, .f32⟩
  | .hbm, ⟨94, _⟩ => ⟨S8x128x256, .i1⟩
  | .hbm, ⟨95, _⟩ => ⟨S8x128x256, .f32⟩
  | .hbm, ⟨96, _⟩ => ⟨S8x128x256, .f32⟩
  | .hbm, ⟨97, _⟩ => ⟨S1x128x256, .i1⟩
  | .hbm, ⟨98, _⟩ => ⟨S128x256, .i1⟩
  | .hbm, ⟨99, _⟩ => ⟨S_, .f32⟩
  | .hbm, ⟨100, _⟩ => ⟨S_, .f32⟩
  | .hbm, ⟨101, _⟩ => ⟨S8x128x256, .i1⟩
  | .hbm, ⟨102, _⟩ => ⟨S8x128x256, .f32⟩
  | .hbm, ⟨103, _⟩ => ⟨S8x128x256, .f32⟩
  | .hbm, ⟨104, _⟩ => ⟨S1x8x128x256, .f32⟩
  | .hbm, ⟨105, _⟩ => ⟨S1x8x128x256, .f32⟩
  | .hbm, ⟨106, _⟩ => ⟨S2x8x128x256, .f32⟩
  | .hbm, ⟨107, _⟩ => ⟨S8192x512, .bf16⟩
  | .hbm, ⟨108, _⟩ => ⟨S8192x256, .bf16⟩
  | .hbm, ⟨109, _⟩ => ⟨S8x128x256, .f32⟩
  | .hbm, ⟨110, _⟩ => ⟨S8x128x1, .f32⟩
  | .local _ .vmem, ⟨0, _⟩ => ⟨S512x512, .bf16⟩
  | .local _ .vmem, ⟨1, _⟩ => ⟨S512x512, .bf16⟩
  | .local _ .vmem, ⟨2, _⟩ => ⟨S128x256, .bf16⟩
  | .local _ .vmem, ⟨3, _⟩ => ⟨S128x256, .bf16⟩
  | .local _ .vmem, ⟨4, _⟩ => ⟨S512x256, .bf16⟩
  | .local _ .vmem, ⟨5, _⟩ => ⟨S512x256, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S2x8x128x256, .f32⟩
  | .local _ .vmem, ⟨11, _⟩ => ⟨S512x512, .bf16⟩
  | .local _ .vmem, ⟨12, _⟩ => ⟨S512x512, .bf16⟩
  | .local _ .vmem, ⟨13, _⟩ => ⟨S512x256, .bf16⟩
  | .local _ .vmem, ⟨14, _⟩ => ⟨S512x256, .bf16⟩
  | .local _ .vmem, ⟨15, _⟩ => ⟨S8x128x256, .f32⟩
  | .local _ .vmem, ⟨16, _⟩ => ⟨S8x128x1, .f32⟩
  | .local _ .vmem, ⟨17, _⟩ => ⟨S128x256, .f32⟩
  | .local _ .smem, ⟨0, _⟩ => ⟨S8, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_11 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78_0 : Ref sig .tc := ⟨.hbm, 107, rfl⟩
abbrev main_v78_1 : Ref sig .tc := ⟨.hbm, 108, rfl⟩
abbrev main_v78_2 : Ref sig .tc := ⟨.hbm, 109, rfl⟩
abbrev main_v78_3 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_off1 (i : grid0.Coords) : Fin 4 → Nat :=
  let arg0 : BitVec 32 := BitVec.ofNat 32 (i 0).val
  let c15_i32 : BitVec 32 := 15#32
  let v68 : BitVec 1 := Scalar.cmpi .eq arg0 c15_i32
  let c1_i32 : BitVec 32 := 1#32
  let c0_i32_15 : BitVec 32 := 0#32
  let v69 : BitVec 32 := Scalar.select v68 c1_i32 c0_i32_15
  let v647 : Index := Scalar.indexCast v69
  let c0_270 : Index := 0#32
  let c0_271 : Index := 0#32
  let c0_272 : Index := 0#32
  ![v647.toNat, 0, 0, 0]
def k0_off2 (i : grid0.Coords) : Fin 4 → Nat :=
  let arg0 : BitVec 32 := BitVec.ofNat 32 (i 0).val
  let c15_i32 : BitVec 32 := 15#32
  let v68 : BitVec 1 := Scalar.cmpi .eq arg0 c15_i32
  let c1_i32 : BitVec 32 := 1#32
  let c0_i32_15 : BitVec 32 := 0#32
  let v69 : BitVec 32 := Scalar.select v68 c1_i32 c0_i32_15
  let v652 : Index := Scalar.indexCast v69
  let c1 : Index := 1#32
  let c0_274 : Index := 0#32
  let c0_275 : Index := 0#32
  ![v652.toNat, 1, 0, 0]
def k0_off3 (i : grid0.Coords) : Fin 4 → Nat :=
  let arg0 : BitVec 32 := BitVec.ofNat 32 (i 0).val
  let c15_i32 : BitVec 32 := 15#32
  let v68 : BitVec 1 := Scalar.cmpi .eq arg0 c15_i32
  let c1_i32 : BitVec 32 := 1#32
  let c0_i32_15 : BitVec 32 := 0#32
  let v69 : BitVec 32 := Scalar.select v68 c1_i32 c0_i32_15
  let v657 : Index := Scalar.indexCast v69
  let c2 : Index := 2#32
  let c0_277 : Index := 0#32
  let c0_278 : Index := 0#32
  ![v657.toNat, 2, 0, 0]
def k0_off4 (i : grid0.Coords) : Fin 4 → Nat :=
  let arg0 : BitVec 32 := BitVec.ofNat 32 (i 0).val
  let c15_i32 : BitVec 32 := 15#32
  let v68 : BitVec 1 := Scalar.cmpi .eq arg0 c15_i32
  let c1_i32 : BitVec 32 := 1#32
  let c0_i32_15 : BitVec 32 := 0#32
  let v69 : BitVec 32 := Scalar.select v68 c1_i32 c0_i32_15
  let v662 : Index := Scalar.indexCast v69
  let c3 : Index := 3#32
  let c0_280 : Index := 0#32
  let c0_281 : Index := 0#32
  ![v662.toNat, 3, 0, 0]
def k0_off5 (i : grid0.Coords) : Fin 4 → Nat :=
  let arg0 : BitVec 32 := BitVec.ofNat 32 (i 0).val
  let c15_i32 : BitVec 32 := 15#32
  let v68 : BitVec 1 := Scalar.cmpi .eq arg0 c15_i32
  let c1_i32 : BitVec 32 := 1#32
  let c0_i32_15 : BitVec 32 := 0#32
  let v69 : BitVec 32 := Scalar.select v68 c1_i32 c0_i32_15
  let v667 : Index := Scalar.indexCast v69
  let c4 : Index := 4#32
  let c0_283 : Index := 0#32
  let c0_284 : Index := 0#32
  ![v667.toNat, 4, 0, 0]
def k0_off6 (i : grid0.Coords) : Fin 4 → Nat :=
  let arg0 : BitVec 32 := BitVec.ofNat 32 (i 0).val
  let c15_i32 : BitVec 32 := 15#32
  let v68 : BitVec 1 := Scalar.cmpi .eq arg0 c15_i32
  let c1_i32 : BitVec 32 := 1#32
  let c0_i32_15 : BitVec 32 := 0#32
  let v69 : BitVec 32 := Scalar.select v68 c1_i32 c0_i32_15
  let v672 : Index := Scalar.indexCast v69
  let c5 : Index := 5#32
  let c0_286 : Index := 0#32
  let c0_287 : Index := 0#32
  ![v672.toNat, 5, 0, 0]
def k0_off7 (i : grid0.Coords) : Fin 4 → Nat :=
  let arg0 : BitVec 32 := BitVec.ofNat 32 (i 0).val
  let c15_i32 : BitVec 32 := 15#32
  let v68 : BitVec 1 := Scalar.cmpi .eq arg0 c15_i32
  let c1_i32 : BitVec 32 := 1#32
  let c0_i32_15 : BitVec 32 := 0#32
  let v69 : BitVec 32 := Scalar.select v68 c1_i32 c0_i32_15
  let v677 : Index := Scalar.indexCast v69
  let c6 : Index := 6#32
  let c0_289 : Index := 0#32
  let c0_290 : Index := 0#32
  ![v677.toNat, 6, 0, 0]
def k0_off8 (i : grid0.Coords) : Fin 4 → Nat :=
  let arg0 : BitVec 32 := BitVec.ofNat 32 (i 0).val
  let c15_i32 : BitVec 32 := 15#32
  let v68 : BitVec 1 := Scalar.cmpi .eq arg0 c15_i32
  let c1_i32 : BitVec 32 := 1#32
  let c0_i32_15 : BitVec 32 := 0#32
  let v69 : BitVec 32 := Scalar.select v68 c1_i32 c0_i32_15
  let v682 : Index := Scalar.indexCast v69
  let c7 : Index := 7#32
  let c0_292 : Index := 0#32
  let c0_293 : Index := 0#32
  ![v682.toNat, 7, 0, 0]
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S8192x512 : Shape := ⟨2, ![8192, 512]⟩
abbrev S8192x128 : Shape := ⟨2, ![8192, 128]⟩
abbrev S8 : Shape := ⟨1, ![8]⟩
abbrev S8x128x256 : Shape := ⟨3, ![8, 128, 256]⟩
abbrev S8x1x1 : Shape := ⟨3, ![8, 1, 1]⟩
abbrev S8x128x1 : Shape := ⟨3, ![8, 128, 1]⟩
abbrev S64x128x256 : Shape := ⟨3, ![64, 128, 256]⟩
abbrev S_ : Shape := ⟨0, ![]⟩
abbrev S64x128x2x4x64 : Shape := ⟨5, ![64, 128, 2, 4, 64]⟩
abbrev S128x2x64 : Shape := ⟨3, ![128, 2, 64]⟩
abbrev S8192x2x64 : Shape := ⟨3, ![8192, 2, 64]⟩
abbrev S8320x2x64 : Shape := ⟨3, ![8320, 2, 64]⟩
abbrev S65x128x2x64 : Shape := ⟨4, ![65, 128, 2, 64]⟩
abbrev S64x128x2x64 : Shape := ⟨4, ![64, 128, 2, 64]⟩
abbrev S64x256x2x64 : Shape := ⟨4, ![64, 256, 2, 64]⟩
abbrev S64x1x1x128x256 : Shape := ⟨5, ![64, 1, 1, 128, 256]⟩
abbrev S2x4x128x256 : Shape := ⟨4, ![2, 4, 128, 256]⟩
abbrev S64x2x256x128x4 : Shape := ⟨5, ![64, 2, 256, 128, 4]⟩
abbrev S64x2x4x128x256 : Shape := ⟨5, ![64, 2, 4, 128, 256]⟩
abbrev S1x2x4x128x256 : Shape := ⟨5, ![1, 2, 4, 128, 256]⟩
abbrev S2x4x128x1 : Shape := ⟨4, ![2, 4, 128, 1]⟩
abbrev S64x2x4x128 : Shape := ⟨4, ![64, 2, 4, 128]⟩
abbrev S64x2x4x128x1 : Shape := ⟨5, ![64, 2, 4, 128, 1]⟩
abbrev S1x2x4x128x1 : Shape := ⟨5, ![1, 2, 4, 128, 1]⟩
abbrev S64x2x4x128x64 : Shape := ⟨5, ![64, 2, 4, 128, 64]⟩
abbrev S64x2x64x256 : Shape := ⟨4, ![64, 2, 64, 256]⟩
abbrev S2x4x128 : Shape := ⟨3, ![2, 4, 128]⟩
abbrev S64x2x128x4x64 : Shape := ⟨5, ![64, 2, 128, 4, 64]⟩
abbrev S64x2x256x64 : Shape := ⟨4, ![64, 2, 256, 64]⟩
abbrev S8192x256 : Shape := ⟨2, ![8192, 256]⟩

abbrev nBuf : Space → Nat
  | .hbm => 219
  | .vmem => 0
  | .smem => 0
  | _ => 0

abbrev hbmTy0_0 (i : Nat) : BufTy := match i % 128 with
  | 0 => ⟨S8192x512, .f32⟩
  | 1 => ⟨S8192x128, .f32⟩
  | 2 => ⟨S8192x128, .f32⟩
  | 3 => ⟨S8, .f32⟩
  | 4 => ⟨S8x128x256, .f32⟩
  | 5 => ⟨S8192x512, .f32⟩
  | 6 => ⟨S8x1x1, .f32⟩
  | 7 => ⟨S8x128x1, .f32⟩
  | 8 => ⟨S64x128x256, .i32⟩
  | 9 => ⟨S64x128x256, .i32⟩
  | 10 => ⟨S64x128x256, .i32⟩
  | 11 => ⟨S_, .i32⟩
  | 12 => ⟨S64x128x256, .i32⟩
  | 13 => ⟨S64x128x256, .i32⟩
  | 14 => ⟨S64x128x256, .i32⟩
  | 15 => ⟨S_, .i32⟩
  | 16 => ⟨S64x128x256, .i32⟩
  | 17 => ⟨S64x128x256, .i32⟩
  | 18 => ⟨S_, .i32⟩
  | 19 => ⟨S64x128x256, .i32⟩
  | 20 => ⟨S64x128x256, .i32⟩
  | 21 => ⟨S64x128x256, .i32⟩
  | 22 => ⟨S_, .i32⟩
  | 23 => ⟨S64x128x256, .i32⟩
  | 24 => ⟨S64x128x256, .i1⟩
  | 25 => ⟨S_, .i32⟩
  | 26 => ⟨S64x128x256, .i32⟩
  | 27 => ⟨S64x128x256, .i1⟩
  | 28 => ⟨S64x128x256, .i1⟩
  | 29 => ⟨S_, .i32⟩
  | 30 => ⟨S64x128x256, .i32⟩
  | 31 => ⟨S64x128x256, .i1⟩
  | 32 => ⟨S64x128x256, .i1⟩
  | 33 => ⟨S64x128x2x4x64, .f32⟩
  | 34 => ⟨S_, .f32⟩
  | 35 => ⟨S128x2x64, .f32⟩
  | 36 => ⟨S8192x2x64, .f32⟩
  | 37 => ⟨S8320x2x64, .f32⟩
  | 38 => ⟨S_, .f32⟩
  | 39 => ⟨S128x2x64, .f32⟩
  | 40 => ⟨S65x128x2x64, .f32⟩
  | 41 => ⟨S64x128x2x64, .f32⟩
  | 42 => ⟨S64x128x2x64, .f32⟩
  | 43 => ⟨S64x256x2x64, .f32⟩
  | 44 => ⟨S_, .f32⟩
  | 45 => ⟨S128x2x64, .f32⟩
  | 46 => ⟨S8192x2x64, .f32⟩
  | 47 => ⟨S8320x2x64, .f32⟩
  | 48 => ⟨S_, .f32⟩
  | 49 => ⟨S128x2x64, .f32⟩
  | 50 => ⟨S65x128x2x64, .f32⟩
  | 51 => ⟨S64x128x2x64, .f32⟩
  | 52 => ⟨S64x128x2x64, .f32⟩
  | 53 => ⟨S64x256x2x64, .f32⟩
  | 54 => ⟨S64x1x1x128x256, .i1⟩
  | 55 => ⟨S2x4x128x256, .f32⟩
  | 56 => ⟨S64x2x256x128x4, .f32⟩
  | 57 => ⟨S64x2x4x128x256, .f32⟩
  | 58 => ⟨S_, .f32⟩
  | 59 => ⟨S64x2x4x128x256, .f32⟩
  | 60 => ⟨S64x2x4x128x256, .f32⟩
  | 61 => ⟨S1x2x4x128x256, .f32⟩
  | 62 => ⟨S64x2x4x128x256, .f32⟩
  | 63 => ⟨S64x2x4x128x256, .f32⟩
  | 64 => ⟨S_, .f32⟩
  | 65 => ⟨S_, .f32⟩
  | 66 => ⟨S64x2x4x128x256, .i1⟩
  | 67 => ⟨S64x2x4x128x256, .f32⟩
  | 68 => ⟨S64x2x4x128x256, .f32⟩
  | 69 => ⟨S_, .f32⟩
  | 70 => ⟨S64x2x4x128x256, .f32⟩
  | 71 => ⟨S2x4x128x1, .f32⟩
  | 72 => ⟨S_, .f32⟩
  | 73 => ⟨S64x2x4x128, .f32⟩
  | 74 => ⟨S64x2x4x128x1, .f32⟩
  | 75 => ⟨S64x2x4x128x256, .f32⟩
  | 76 => ⟨S64x2x4x128x256, .i1⟩
  | 77 => ⟨S64x2x4x128x256, .f32⟩
  | 78 => ⟨S_, .f32⟩
  | 79 => ⟨S64x2x4x128, .f32⟩
  | 80 => ⟨S64x2x4x128x1, .f32⟩
  | 81 => ⟨S1x2x4x128x1, .f32⟩
  | 82 => ⟨S64x2x4x128x1, .f32⟩
  | 83 => ⟨S64x2x4x128x1, .f32⟩
  | 84 => ⟨S64x2x4x128x1, .f32⟩
  | 85 => ⟨S64x2x4x128x1, .i1⟩
  | 86 => ⟨S64x2x4x128x1, .f32⟩
  | 87 => ⟨S64x2x4x128x1, .i1⟩
  | 88 => ⟨S_, .f32⟩
  | 89 => ⟨S64x2x4x128x1, .f32⟩
  | 90 => ⟨S_, .f32⟩
  | 91 => ⟨S64x2x4x128x1, .f32⟩
  | 92 => ⟨S_, .f32⟩
  | 93 => ⟨S64x2x4x128x1, .f32⟩
  | 94 => ⟨S64x2x4x128x1, .f32⟩
  | 95 => ⟨S64x2x4x128x1, .f32⟩
  | 96 => ⟨S64x2x4x128x1, .f32⟩
  | 97 => ⟨S64x2x4x128x1, .i1⟩
  | 98 => ⟨S64x2x4x128x1, .f32⟩
  | 99 => ⟨S64x2x4x128x1, .i1⟩
  | 100 => ⟨S_, .f32⟩
  | 101 => ⟨S64x2x4x128x1, .f32⟩
  | 102 => ⟨S_, .f32⟩
  | 103 => ⟨S64x2x4x128x1, .f32⟩
  | 104 => ⟨S_, .f32⟩
  | 105 => ⟨S64x2x4x128x1, .f32⟩
  | 106 => ⟨S64x2x4x128x1, .f32⟩
  | 107 => ⟨S64x2x4x128x1, .f32⟩
  | 108 => ⟨S64x2x4x128x256, .f32⟩
  | 109 => ⟨S64x2x4x128x256, .f32⟩
  | 110 => ⟨S64x2x4x128x256, .f32⟩
  | 111 => ⟨S_, .f32⟩
  | 112 => ⟨S64x2x4x128, .f32⟩
  | 113 => ⟨S64x2x4x128x1, .f32⟩
  | 114 => ⟨S1x2x4x128x1, .f32⟩
  | 115 => ⟨S64x2x4x128x1, .f32⟩
  | 116 => ⟨S64x2x4x128x1, .f32⟩
  | 117 => ⟨S64x2x4x128x1, .f32⟩
  | 118 => ⟨S64x2x4x128x1, .f32⟩
  | 119 => ⟨S64x2x4x128x64, .f32⟩
  | 120 => ⟨S64x2x4x128x64, .f32⟩
  | 121 => ⟨S64x2x4x128x64, .f32⟩
  | 122 => ⟨S64x2x4x128x1, .f32⟩
  | 123 => ⟨S_, .f32⟩
  | 124 => ⟨S64x2x4x128x1, .f32⟩
  | 125 => ⟨S64x2x4x128x1, .f32⟩
  | 126 => ⟨S64x128x2x4x64, .f32⟩
  | 127 => ⟨S8192x512, .f32⟩
  | _ => ⟨S8192x512, .f32⟩

abbrev hbmTy0_1 (i : Nat) : BufTy := match i % 128 with
  | 0 => ⟨S64x128x2x4x64, .f32⟩
  | 1 => ⟨S64x2x4x128x64, .f32⟩
  | 2 => ⟨S64x2x4x128x64, .f32⟩
  | 3 => ⟨S64x2x4x128x64, .f32⟩
  | 4 => ⟨S64x2x4x128x64, .f32⟩
  | 5 => ⟨S_, .f32⟩
  | 6 => ⟨S64x2x4x128, .f32⟩
  | 7 => ⟨S64x2x4x128x1, .f32⟩
  | 8 => ⟨S64x2x4x128x1, .f32⟩
  | 9 => ⟨S64x2x4x128x64, .f32⟩
  | 10 => ⟨S64x2x4x128x64, .f32⟩
  | 11 => ⟨S64x2x64x256, .f32⟩
  | 12 => ⟨S64x256x2x64, .f32⟩
  | 13 => ⟨S64x2x4x128x256, .f32⟩
  | 14 => ⟨S64x2x4x128x1, .f32⟩
  | 15 => ⟨S_, .f32⟩
  | 16 => ⟨S2x4x128x1, .f32⟩
  | 17 => ⟨S1x2x4x128x1, .f32⟩
  | 18 => ⟨S64x2x4x128x1, .f32⟩
  | 19 => ⟨S_, .f32⟩
  | 20 => ⟨S2x4x128, .f32⟩
  | 21 => ⟨S2x4x128x1, .f32⟩
  | 22 => ⟨S_, .f32⟩
  | 23 => ⟨S64x2x4x128, .f32⟩
  | 24 => ⟨S64x2x4x128x256, .f32⟩
  | 25 => ⟨S64x2x4x128x256, .f32⟩
  | 26 => ⟨S64x2x4x128x256, .f32⟩
  | 27 => ⟨S64x2x4x128x256, .f32⟩
  | 28 => ⟨S_, .f32⟩
  | 29 => ⟨S64x2x4x128, .f32⟩
  | 30 => ⟨S64x2x4x128x1, .f32⟩
  | 31 => ⟨S64x2x4x128x1, .f32⟩
  | 32 => ⟨S64x2x4x128x1, .f32⟩
  | 33 => ⟨S_, .f32⟩
  | 34 => ⟨S2x4x128x1, .f32⟩
  | 35 => ⟨S1x2x4x128x1, .f32⟩
  | 36 => ⟨S64x2x4x128x1, .f32⟩
  | 37 => ⟨S_, .f32⟩
  | 38 => ⟨S2x4x128, .f32⟩
  | 39 => ⟨S2x4x128x1, .f32⟩
  | 40 => ⟨S2x4x128x1, .f32⟩
  | 41 => ⟨S_, .f32⟩
  | 42 => ⟨S64x2x4x128, .f32⟩
  | 43 => ⟨S64x2x4x128, .f32⟩
  | 44 => ⟨S64x2x4x128x256, .f32⟩
  | 45 => ⟨S64x2x4x128x256, .f32⟩
  | 46 => ⟨S64x2x4x128x256, .f32⟩
  | 47 => ⟨S8x128x1, .f32⟩
  | 48 => ⟨S_, .f32⟩
  | 49 => ⟨S64x2x4x128x256, .f32⟩
  | 50 => ⟨S64x2x4x128x256, .f32⟩
  | 51 => ⟨S_, .f32⟩
  | 52 => ⟨S2x4x128x256, .f32⟩
  | 53 => ⟨S1x2x4x128x256, .f32⟩
  | 54 => ⟨S_, .f32⟩
  | 55 => ⟨S2x4x128x256, .f32⟩
  | 56 => ⟨S_, .f32⟩
  | 57 => ⟨S64x2x4x128x256, .f32⟩
  | 58 => ⟨S64x2x4x128x256, .f32⟩
  | 59 => ⟨S64x2x256x128x4, .f32⟩
  | 60 => ⟨S64x2x128x4x64, .f32⟩
  | 61 => ⟨S64x128x2x4x64, .f32⟩
  | 62 => ⟨S64x2x256x64, .f32⟩
  | 63 => ⟨S64x256x2x64, .f32⟩
  | 64 => ⟨S8x128x256, .f32⟩
  | 65 => ⟨S64x128x2x64, .f32⟩
  | 66 => ⟨S64x128x2x64, .f32⟩
  | 67 => ⟨S_, .f32⟩
  | 68 => ⟨S65x128x2x64, .f32⟩
  | 69 => ⟨S_, .f32⟩
  | 70 => ⟨S65x128x2x64, .f32⟩
  | 71 => ⟨S65x128x2x64, .f32⟩
  | 72 => ⟨S8320x2x64, .f32⟩
  | 73 => ⟨S128x2x64, .f32⟩
  | 74 => ⟨S8192x2x64, .f32⟩
  | 75 => ⟨S8192x128, .f32⟩
  | 76 => ⟨S64x128x2x64, .f32⟩
  | 77 => ⟨S64x128x2x64, .f32⟩
  | 78 => ⟨S_, .f32⟩
  | 79 => ⟨S65x128x2x64, .f32⟩
  | 80 => ⟨S_, .f32⟩
  | 81 => ⟨S65x128x2x64, .f32⟩
  | 82 => ⟨S65x128x2x64, .f32⟩
  | 83 => ⟨S8320x2x64, .f32⟩
  | 84 => ⟨S128x2x64, .f32⟩
  | 85 => ⟨S8192x2x64, .f32⟩
  | 86 => ⟨S8192x128, .f32⟩
  | 87 => ⟨S8192x512, .f32⟩
  | 88 => ⟨S8192x512, .bf16⟩
  | 89 => ⟨S8192x256, .f32⟩
  | 90 => ⟨S8192x256, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_call0_v0 : Ref sig .tc := ⟨.hbm, 65, rfl⟩
abbrev main_v47_1 : Ref sig .tc := ⟨.hbm, 66, rfl⟩
abbrev main_call0_v2 : Ref sig .tc := ⟨.hbm, 67, rfl⟩
abbrev main_v47_0 : Ref sig .tc := ⟨.hbm, 68, rfl⟩
abbrev main_call0_cst : Ref sig .tc := ⟨.hbm, 69, rfl⟩
abbrev main_v47_2 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_cst_17 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_18 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_19 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_20 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_21 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_22 : Ref sig .tc := ⟨.hbm, 147, rfl⟩
abbrev main_v112 : Ref sig .tc := ⟨.hbm, 148, rfl⟩
abbrev main_v113 : Ref sig .tc := ⟨.hbm, 149, rfl⟩
abbrev main_cst_23 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_24 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_25 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_26 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_27 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_call1_cst : Ref sig .tc := ⟨.hbm, 176, rfl⟩
abbrev main_call1_v0 : Ref sig .tc := ⟨.hbm, 177, rfl⟩
abbrev main_v135 : Ref sig .tc := ⟨.hbm, 178, rfl⟩
abbrev main_cst_28 : Ref sig .tc := ⟨.hbm, 179, rfl⟩
abbrev main_v136 : Ref sig .tc := ⟨.hbm, 180, rfl⟩
abbrev main_v137 : Ref sig .tc := ⟨.hbm, 181, rfl⟩
abbrev main_cst_29 : Ref sig .tc := ⟨.hbm, 182, rfl⟩
abbrev main_v138 : Ref sig .tc := ⟨.hbm, 183, rfl⟩
abbrev main_cst_30 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_cst_31 : Ref sig .tc := ⟨.hbm, 195, rfl⟩
abbrev main_v149 : Ref sig .tc := ⟨.hbm, 196, rfl⟩
abbrev main_cst_32 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_cst_33 : Ref sig .tc := ⟨.hbm, 206, rfl⟩
abbrev main_v158 : Ref sig .tc := ⟨.hbm, 207, rfl⟩
abbrev main_cst_34 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S8x352x1024 : Shape := ⟨3, ![8, 352, 1024]⟩
abbrev S1x1024 : Shape := ⟨2, ![1, 1024]⟩
abbrev S8192x5632 : Shape := ⟨2, ![8192, 5632]⟩
abbrev S8192x2816 : Shape := ⟨2, ![8192, 2816]⟩
abbrev S8x1024 : Shape := ⟨2, ![8, 1024]⟩
abbrev S256x1024 : Shape := ⟨2, ![256, 1024]⟩
abbrev S256x5632 : Shape := ⟨2, ![256, 5632]⟩
abbrev S256x2816 : Shape := ⟨2, ![256, 2816]⟩
abbrev S16 : Shape := ⟨1, ![16]⟩
abbrev S1 : Shape := ⟨1, ![1]⟩
abbrev S_ : Shape := ⟨0, ![]⟩
abbrev S704x1024 : Shape := ⟨2, ![704, 1024]⟩
abbrev S1x704x1024 : Shape := ⟨3, ![1, 704, 1024]⟩
abbrev S352x1024 : Shape := ⟨2, ![352, 1024]⟩
abbrev S1x352x1024 : Shape := ⟨3, ![1, 352, 1024]⟩
abbrev S256 : Shape := ⟨1, ![256]⟩
abbrev S256x1 : Shape := ⟨2, ![256, 1]⟩
abbrev S1x1 : Shape := ⟨2, ![1, 1]⟩
abbrev S1x1x1 : Shape := ⟨3, ![1, 1, 1]⟩

abbrev nBuf : Space → Nat
  | .hbm => 25
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S5632x1024, .f32⟩
  | .hbm, ⟨10, _⟩ => ⟨S5632x1024, .bf16⟩
  | .hbm, ⟨11, _⟩ => ⟨S8x704x1024, .bf16⟩
  | .hbm, ⟨12, _⟩ => ⟨S2816x1024, .bf16⟩
  | .hbm, ⟨13, _⟩ => ⟨S8x352x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S8192x1024, .f32⟩
  | .hbm, ⟨20, _⟩ => ⟨S8192x1024, .bf16⟩
  | .hbm, ⟨21, _⟩ => ⟨S8192x5632, .bf16⟩
  | .hbm, ⟨22, _⟩ => ⟨S8192x2816, .bf16⟩
  | .hbm, ⟨23, _⟩ => ⟨S8192x1024, .bf16⟩
  | .hbm, ⟨24, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x5632, .bf16⟩
  | .local _ .vmem, ⟨14, _⟩ => ⟨S256x5632, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | .local _ .vmem, ⟨20, _⟩ => ⟨S5632x1024, .bf16⟩
  | .local _ .vmem, ⟨21, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference3Ideal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S6x1024 : Shape := ⟨2, ![6, 1024]⟩
abbrev S2x1024 : Shape := ⟨2, ![2, 1024]⟩
abbrev S8x1024 : Shape := ⟨2, ![8, 1024]⟩

abbrev nBuf : Space → Nat
  | .hbm => 209
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024x5632, .f32⟩
  | 8 => ⟨S2816x1024, .f32⟩
  | 9 => ⟨S_, .f32⟩
  | 10 => ⟨S8192x5632, .f32⟩
  | 11 => ⟨S_, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S_, .f32⟩
  | 34 => ⟨S1024, .f32⟩
  | 35 => ⟨S1024, .f32⟩
  | 36 => ⟨S1x1024, .f32⟩
  | 37 => ⟨S8192x1024, .f32⟩
  | 38 => ⟨S8192x1024, .f32⟩
  | 39 => ⟨S1x1024, .f32⟩
  | 40 => ⟨S8192x1024, .f32⟩
  | 41 => ⟨S8192x1024, .f32⟩
  | 42 => ⟨S8192x5632, .f32⟩
  | 43 => ⟨S8192x5632, .f32⟩
  | 44 => ⟨S8192x2816, .f32⟩
  | 45 => ⟨S8192x2816, .f32⟩
  | 46 => ⟨S8192x2816, .f32⟩
  | 47 => ⟨S8192x2816, .f32⟩
  | 48 => ⟨S_, .f32⟩
  | 49 => ⟨S8192x2816, .f32⟩
  | 50 => ⟨S8192x2816, .f32⟩
  | 51 => ⟨S_, .f32⟩
  | 52 => ⟨S8192x2816, .f32⟩
  | 53 => ⟨S8192x2816, .f32⟩
  | 54 => ⟨S_, .f32⟩
  | 55 => ⟨S8192x2816, .f32⟩
  | 56 => ⟨S8192x2816, .f32⟩
  | 57 => ⟨S8192x2816, .f32⟩
  | 58 => ⟨S8192x2816, .f32⟩
  | 59 => ⟨S8192x2816, .f32⟩
  | 60 => ⟨S8192x1024, .f32⟩
  | 61 => ⟨S8192x1024, .f32⟩
  | 62 => ⟨S1x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192, .f32⟩
  | 69 => ⟨S8192x1, .f32⟩
  | 70 => ⟨S_, .f32⟩
  | 71 => ⟨S8192x1, .f32⟩
  | 72 => ⟨S8192x1, .f32⟩
  | 73 => ⟨S_, .f32⟩
  | 74 => ⟨S8192x1, .f32⟩
  | 75 => ⟨S8192x1, .f32⟩
  | 76 => ⟨S8192x1, .f32⟩
  | 77 => ⟨S8192x1, .f32⟩
  | 78 => ⟨S_, .f32⟩
  | 79 => ⟨S8192x1, .f32⟩
  | 80 => ⟨S8192x1, .f32⟩
  | 81 => ⟨S8192x1024, .f32⟩
  | 82 => ⟨S8192x1024, .f32⟩
  | 83 => ⟨S1x1024, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S_, .f32⟩
  | 92 => ⟨S8192, .f32⟩
  | 93 => ⟨S_, .f32⟩
  | 94 => ⟨S8192, .f32⟩
  | 95 => ⟨S8192, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S8192, .f32⟩
  | 104 => ⟨S_, .f32⟩
  | 105 => ⟨S8192, .f32⟩
  | 106 => ⟨S8192, .f32⟩
  | 107 => ⟨S8192x1024, .f32⟩
  | 108 => ⟨S8192x1024, .f32⟩
  | 109 => ⟨S8192x1024, .f32⟩
  | 110 => ⟨S_, .f32⟩
  | 111 => ⟨S1024, .f32⟩
  | 112 => ⟨S1x1024, .f32⟩
  | 113 => ⟨S8192x1024, .f32⟩
  | 114 => ⟨S8192x1024, .f32⟩
  | 115 => ⟨S_, .f32⟩
  | 116 => ⟨S1024, .f32⟩
  | 117 => ⟨S8192x1024, .f32⟩
  | 118 => ⟨S_, .f32⟩
  | 119 => ⟨S8192, .f32⟩
  | 120 => ⟨S8192x1, .f32⟩
  | 121 => ⟨S8192x1024, .f32⟩
  | 122 => ⟨S8192x1024, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x1024, .f32⟩

abbrev hbmTy0_1 (i : Nat) : BufTy := match i % 128 with
  | 0 => ⟨S8192, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S_, .f32⟩
  | 10 => ⟨S1024, .f32⟩
  | 11 => ⟨S1x1024, .f32⟩
  | 12 => ⟨S_, .f32⟩
  | 13 => ⟨S1024, .f32⟩
  | 14 => ⟨S8192x2816, .f32⟩
  | 15 => ⟨S8192x2816, .f32⟩
  | 16 => ⟨S8192x2816, .f32⟩
  | 17 => ⟨S8192x2816, .f32⟩
  | 18 => ⟨S8192x2816, .f32⟩
  | 19 => ⟨S8192x2816, .f32⟩
  | 20 => ⟨S8192x2816, .f32⟩
  | 21 => ⟨S_, .f32⟩
  | 22 => ⟨S8192x5632, .f32⟩
  | 23 => ⟨S_, .f32⟩
  | 24 => ⟨S8192x5632, .f32⟩
  | 25 => ⟨S8192x5632, .f32⟩
  | 26 => ⟨S8192x1024, .f32⟩
  | 27 => ⟨S_, .f32⟩
  | 28 => ⟨S1024, .f32⟩
  | 29 => ⟨S1x1024, .f32⟩
  | 30 => ⟨S_, .f32⟩
  | 31 => ⟨S1024, .f32⟩
  | 32 => ⟨S8192x1024, .f32⟩
  | 33 => ⟨S_, .f32⟩
  | 34 => ⟨S1024, .f32⟩
  | 35 => ⟨S1x1024, .f32⟩
  | 36 => ⟨S8192x1024, .f32⟩
  | 37 => ⟨S8192x1024, .f32⟩
  | 38 => ⟨S_, .f32⟩
  | 39 => ⟨S1024, .f32⟩
  | 40 => ⟨S8192x1024, .f32⟩
  | 41 => ⟨S_, .f32⟩
  | 42 => ⟨S1024, .f32⟩
  | 43 => ⟨S1x1024, .f32⟩
  | 44 => ⟨S8192x1024, .f32⟩
  | 45 => ⟨S8192x1024, .f32⟩
  | 46 => ⟨S_, .f32⟩
  | 47 => ⟨S1024, .f32⟩
  | 48 => ⟨S8192x1024, .f32⟩
  | 49 => ⟨S_, .f32⟩
  | 50 => ⟨S8192, .f32⟩
  | 51 => ⟨S8192x1, .f32⟩
  | 52 => ⟨S8192x1024, .f32⟩
  | 53 => ⟨S8192x1024, .f32⟩
  | 54 => ⟨S8192x1024, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S1024, .f32⟩
  | 67 => ⟨S1x1024, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S6x1024, .f32⟩
  | 74 => ⟨S_, .f32⟩
  | 75 => ⟨S2x1024, .f32⟩
  | 76 => ⟨S8x1024, .f32⟩
  | 77 => ⟨S8192x1024, .bf16⟩
  | 78 => ⟨S8192x5632, .bf16⟩
  | 79 => ⟨S8192x2816, .bf16⟩
  | 80 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v30_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v30_1 : Ref sig .tc := ⟨.hbm, 57, rfl⟩
abbrev main_v30_0 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_cst_13 : Ref sig .tc := ⟨.hbm, 96, rfl⟩
abbrev main_v61 : Ref sig .tc := ⟨.hbm, 97, rfl⟩
abbrev main_cst_14 : Ref sig .tc := ⟨.hbm, 98, rfl⟩
abbrev main_v62 : Ref sig .tc := ⟨.hbm, 99, rfl⟩
abbrev main_cst_15 : Ref sig .tc := ⟨.hbm, 100, rfl⟩
abbrev main_cst_16 : Ref sig .tc := ⟨.hbm, 101, rfl⟩
abbrev main_v63 : Ref sig .tc := ⟨.hbm, 102, rfl⟩
abbrev main_v64 : Ref sig .tc := ⟨.hbm, 103, rfl⟩
abbrev main_cst_17 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_18 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_19 : Ref sig .tc := ⟨.hbm, 115, rfl⟩
abbrev main_v74 : Ref sig .tc := ⟨.hbm, 116, rfl⟩
abbrev main_v75 : Ref sig .tc := ⟨.hbm, 117, rfl⟩
abbrev main_cst_20 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_21 : Ref sig .tc := ⟨.hbm, 124, rfl⟩
abbrev main_v81 : Ref sig .tc := ⟨.hbm, 125, rfl⟩
abbrev main_v82 : Ref sig .tc := ⟨.hbm, 126, rfl⟩
abbrev main_cst_22 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_23 : Ref sig .tc := ⟨.hbm, 137, rfl⟩
abbrev main_v92 : Ref sig .tc := ⟨.hbm, 138, rfl⟩
abbrev main_v93 : Ref sig .tc := ⟨.hbm, 139, rfl⟩
abbrev main_cst_24 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_v98 : Ref sig .tc := ⟨.hbm, 148, rfl⟩
abbrev main_cst_25 : Ref sig .tc := ⟨.hbm, 149, rfl⟩
abbrev main_v99 : Ref sig .tc := ⟨.hbm, 150, rfl⟩
abbrev main_cst_26 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_27 : Ref sig .tc := ⟨.hbm, 155, rfl⟩
abbrev main_v103 : Ref sig .tc := ⟨.hbm, 156, rfl⟩
abbrev main_v104 : Ref sig .tc := ⟨.hbm, 157, rfl⟩
abbrev main_cst_28 : Ref sig .tc := ⟨.hbm, 158, rfl⟩
abbrev main_v105 : Ref sig .tc := ⟨.hbm, 159, rfl⟩
abbrev main_v106 : Ref sig .tc := ⟨.hbm, 160, rfl⟩
abbrev main_cst_29 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_cst_30 : Ref sig .tc := ⟨.hbm, 166, rfl⟩
abbrev main_v111 : Ref sig .tc := ⟨.hbm, 167, rfl⟩
abbrev main_v112 : Ref sig .tc := ⟨.hbm, 168, rfl⟩
abbrev main_cst_31 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_32 : Ref sig .tc := ⟨.hbm, 174, rfl⟩
abbrev main_v117 : Ref sig .tc := ⟨.hbm, 175, rfl⟩
abbrev main_v118 : Ref sig .tc := ⟨.hbm, 176, rfl⟩
abbrev main_cst_33 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_cst_34 : Ref sig .tc := ⟨.hbm, 184, rfl⟩
abbrev main_v125 : Ref sig .tc := ⟨.hbm, 185, rfl⟩
abbrev main_v126 : Ref sig .tc := ⟨.hbm, 186, rfl⟩
abbrev main_cst_35 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_cst_36 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩

abbrev nD : Nat := 1
abbrev τ : Topo := Topo.v7x

variable {F : FTy → Type} [FloatOps F]
-- ==== Kernel4.lean ====
abbrev S8192x1024 : Shape := ⟨2, ![8192, 1024]⟩
abbrev S8192x512 : Shape := ⟨2, ![8192, 512]⟩
abbrev S512 : Shape := ⟨1, ![512]⟩
abbrev S1024 : Shape := ⟨1, ![1024]⟩
abbrev S1024x1024 : Shape := ⟨2, ![1024, 1024]⟩
abbrev S1x512 : Shape := ⟨2, ![1, 512]⟩
abbrev S1x1024 : Shape := ⟨2, ![1, 1024]⟩
abbrev S8x1024 : Shape := ⟨2, ![8, 1024]⟩
abbrev S512x1024 : Shape := ⟨2, ![512, 1024]⟩
abbrev S512x512 : Shape := ⟨2, ![512, 512]⟩
abbrev S512x256 : Shape := ⟨2, ![512, 256]⟩
abbrev S1x256 : Shape := ⟨2, ![1, 256]⟩
abbrev S512x1 : Shape := ⟨2, ![512, 1]⟩
abbrev S256 : Shape := ⟨1, ![256]⟩

abbrev nBuf : Space → Nat
  | .hbm => 17
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S512, .f32⟩
  | .hbm, ⟨5, _⟩ => ⟨S512, .f32⟩
  | .hbm, ⟨6, _⟩ => ⟨S1024, .f32⟩
  | .hbm, ⟨7, _⟩ => ⟨S1024x1024, .f32⟩
  | .hbm, ⟨8, _⟩ => ⟨S1x512, .f32⟩
  | .hbm, ⟨9, _⟩ => ⟨S1x512, .f32⟩
  | .hbm, ⟨10, _⟩ => ⟨S1x1024, .f32⟩
  | .hbm, ⟨11, _⟩ => ⟨S1024x1024, .bf16⟩
  | .hbm, ⟨12, _⟩ => ⟨S8192x512, .f32⟩
  | .hbm, ⟨13, _⟩ => ⟨S8192x512, .f32⟩
  | .hbm, ⟨14, _⟩ => ⟨S8192x512, .bf16⟩
  | .hbm, ⟨15, _⟩ => ⟨S1024x1024, .bf16⟩
  | .hbm, ⟨16, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x1024, .f32⟩
  | .local _ .vmem, ⟨11, _⟩ => ⟨S1024x1024, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S1024x1024, .bf16⟩
  | .local _ .vmem, ⟨19, _⟩ => ⟨S8x1024, .f32⟩
  | .local _ .vmem, ⟨20, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v184 : BitVec 1 := Scalar.cmpi .eq arg0 c15_i32
  let v185 : BitVec 32 := Scalar.extui v184
  let c0_i32_69 : BitVec 32 := 0#32
  let v186 : BitVec 1 := Scalar.cmpi .ne v185 c0_i32_69
  v186

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S8192x1024 : Shape := ⟨2, ![8192, 1024]⟩
abbrev S8192x512 : Shape := ⟨2, ![8192, 512]⟩
abbrev S512 : Shape := ⟨1, ![512]⟩
abbrev S1024 : Shape := ⟨1, ![1024]⟩
abbrev S1024x1024 : Shape := ⟨2, ![1024, 1024]⟩
abbrev S_ : Shape := ⟨0, ![]⟩
abbrev S8192x2x256 : Shape := ⟨3, ![8192, 2, 256]⟩
abbrev S2x256 : Shape := ⟨2, ![2, 256]⟩
abbrev S8192x2 : Shape := ⟨2, ![8192, 2]⟩
abbrev S8192x2x1 : Shape := ⟨3, ![8192, 2, 1]⟩
abbrev S1x2x256 : Shape := ⟨3, ![1, 2, 256]⟩
abbrev S8192 : Shape := ⟨1, ![8192]⟩
abbrev S8192x1 : Shape := ⟨2, ![8192, 1]⟩
abbrev S1x512 : Shape := ⟨2, ![1, 512]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 152
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x512, .f32⟩
  | 4 => ⟨S512, .f32⟩
  | 5 => ⟨S512, .f32⟩
  | 6 => ⟨S1024, .f32⟩
  | 7 => ⟨S1024x1024, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S8192x512, .f32⟩
  | 20 => ⟨S8192x512, .f32⟩
  | 21 => ⟨S8192x2x256, .f32⟩
  | 22 => ⟨S8192x2x256, .f32⟩
  | 23 => ⟨S8192x2x256, .f32⟩
  | 24 => ⟨S2x256, .f32⟩
  | 25 => ⟨S8192x2x256, .f32⟩
  | 26 => ⟨S_, .f32⟩
  | 27 => ⟨S8192x2, .f32⟩
  | 28 => ⟨S8192x2x1, .f32⟩
  | 29 => ⟨S_, .f32⟩
  | 30 => ⟨S8192x2x1, .f32⟩
  | 31 => ⟨S8192x2x1, .f32⟩
  | 32 => ⟨S_, .f32⟩
  | 33 => ⟨S8192x2x1, .f32⟩
  | 34 => ⟨S8192x2x1, .f32⟩
  | 35 => ⟨S8192x2x1, .f32⟩
  | 36 => ⟨S8192x2x1, .f32⟩
  | 37 => ⟨S_, .f32⟩
  | 38 => ⟨S8192x2x1, .f32⟩
  | 39 => ⟨S8192x2x1, .f32⟩
  | 40 => ⟨S8192x2x256, .f32⟩
  | 41 => ⟨S8192x2x256, .f32⟩
  | 42 => ⟨S1x2x256, .f32⟩
  | 43 => ⟨S8192x2x256, .f32⟩
  | 44 => ⟨S8192x2x256, .f32⟩
  | 45 => ⟨S8192x512, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x512, .f32⟩
  | 61 => ⟨S8192x512, .f32⟩
  | 62 => ⟨S1x512, .f32⟩
  | 63 => ⟨S8192x512, .f32⟩
  | 64 => ⟨S8192x512, .f32⟩
  | 65 => ⟨S8192x512, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S1024, .f32⟩
  | 76 => ⟨S1x1024, .f32⟩
  | 77 => ⟨S_, .f32⟩
  | 78 => ⟨S1024, .f32⟩
  | 79 => ⟨S1024x1024, .f32⟩
  | 80 => ⟨S1024x1024, .f32⟩
  | 81 => ⟨S8192x1024, .f32⟩
  | 82 => ⟨S8192x512, .f32⟩
  | 83 => ⟨S8192x512, .f32⟩
  | 84 => ⟨S8192x2x256, .f32⟩
  | 85 => ⟨S8192x512, .f32⟩
  | 86 => ⟨S_, .f32⟩
  | 87 => ⟨S512, .f32⟩
  | 88 => ⟨S1x512, .f32⟩
  | 89 => ⟨S8192x512, .f32⟩
  | 90 => ⟨S8192x512, .f32⟩
  | 91 => ⟨S_, .f32⟩
  | 92 => ⟨S512, .f32⟩
  | 93 => ⟨S8192x512, .f32⟩
  | 94 => ⟨S_, .f32⟩
  | 95 => ⟨S8192, .f32⟩
  | 96 => ⟨S8192x1, .f32⟩
  | 97 => ⟨S8192x512, .f32⟩
  | 98 => ⟨S8192x512, .f32⟩
  | 99 => ⟨S8192x1, .f32⟩
  | 100 => ⟨S_, .f32⟩
  | 101 => ⟨S8192x1, .f32⟩
  | 102 => ⟨S8192x1, .f32⟩
  | 103 => ⟨S_, .f32⟩
  | 104 => ⟨S8192, .f32⟩
  | 105 => ⟨S8192x512, .f32⟩
  | 106 => ⟨S8192x512, .f32⟩
  | 107 => ⟨S8192x512, .f32⟩
  | 108 => ⟨S8192x512, .f32⟩
  | 109 => ⟨S8192x512, .f32⟩
  | 110 => ⟨S8192x2x256, .f32⟩
  | 111 => ⟨S_, .f32⟩
  | 112 => ⟨S2x256, .f32⟩
  | 113 => ⟨S1x2x256, .f32⟩
  | 114 => ⟨S8192x2x256, .f32⟩
  | 115 => ⟨S8192x2x256, .f32⟩
  | 116 => ⟨S_, .f32⟩
  | 117 => ⟨S2x256, .f32⟩
  | 118 => ⟨S8192x2x256, .f32⟩
  | 119 => ⟨S_, .f32⟩
  | 120 => ⟨S8192x2, .f32⟩
  | 121 => ⟨S8192x2x1, .f32⟩
  | 122 => ⟨S8192x2x256, .f32⟩
  | 123 => ⟨S8192x2x256, .f32⟩
  | 124 => ⟨S8192x2x1, .f32⟩
  | 125 => ⟨S_, .f32⟩
  | 126 => ⟨S8192x2x1, .f32⟩
  | 127 => ⟨S8192x2x1, .f32⟩
  | _ => ⟨S8192x1024, .f32⟩

abbrev hbmTy0_1 (i : Nat) : BufTy := match i % 128 with
  | 0 => ⟨S_, .f32⟩
  | 1 => ⟨S8192x2, .f32⟩
  | 2 => ⟨S8192x2x256, .f32⟩
  | 3 => ⟨S8192x2x256, .f32⟩
  | 4 => ⟨S8192x2x256, .f32⟩
  | 5 => ⟨S8192x2x256, .f32⟩
  | 6 => ⟨S8192x2x256, .f32⟩
  | 7 => ⟨S512, .f32⟩
  | 8 => ⟨S8192x2x256, .f32⟩
  | 9 => ⟨S8192x2x256, .f32⟩
  | 10 => ⟨S8192x512, .f32⟩
  | 11 => ⟨S8192x512, .f32⟩
  | 12 => ⟨S8192x512, .f32⟩
  | 13 => ⟨S8192x512, .f32⟩
  | 14 => ⟨S8192x512, .f32⟩
  | 15 => ⟨S8192x512, .f32⟩
  | 16 => ⟨S1x1024, .f32⟩
  | 17 => ⟨S1024, .f32⟩
  | 18 => ⟨S1x1024, .f32⟩
  | 19 => ⟨S_, .f32⟩
  | 20 => ⟨S6x1024, .f32⟩
  | 21 => ⟨S8x1024, .f32⟩
  | 22 => ⟨S8192x512, .bf16⟩
  | 23 => ⟨S1024x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v0_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v0_1 : Ref sig .tc := ⟨.hbm, 19, rfl⟩
abbrev main_v0_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_3 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_cst_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_14 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_15 : Ref sig .tc := ⟨.hbm, 116, rfl⟩
abbrev main_v80 : Ref sig .tc := ⟨.hbm, 117, rfl⟩
abbrev main_v81 : Ref sig .tc := ⟨.hbm, 118, rfl⟩
abbrev main_cst_16 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_17 : Ref sig .tc := ⟨.hbm, 125, rfl⟩
abbrev main_v87 : Ref sig .tc := ⟨.hbm, 126, rfl⟩
abbrev main_v88 : Ref sig .tc := ⟨.hbm, 127, rfl⟩
abbrev main_cst_18 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_call1_v0 : Ref sig .tc := ⟨.hbm, 140, rfl⟩
abbrev main_call1_v1 : Ref sig .tc := ⟨.hbm, 141, rfl⟩
abbrev main_call1_v2 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_19 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩

abbrev nD : Nat := 1
abbrev τ : Topo := Topo.v7x

variable {F : FTy → Type} [FloatOps F]
-- ==== Kernel5.lean ====
abbrev S8192x512 : Shape := ⟨2, ![8192, 512]⟩
abbrev S8192x128 : Shape := ⟨2, ![8192, 128]⟩
abbrev S8 : Shape := ⟨1, ![8]⟩
abbrev S8x128x256 : Shape := ⟨3, ![8, 128, 256]⟩
abbrev S64x128x256 : Shape := ⟨3, ![64, 128, 256]⟩
abbrev S_ : Shape := ⟨0, ![]⟩
abbrev S8192x768 : Shape := ⟨2, ![8192, 768]⟩
abbrev S1x128x256 : Shape := ⟨3, ![1, 128, 256]⟩
abbrev S128x256 : Shape := ⟨2, ![128, 256]⟩
abbrev S1x8x128x256 : Shape := ⟨4, ![1, 8, 128, 256]⟩
abbrev S2x8x128x256 : Shape := ⟨4, ![2, 8, 128, 256]⟩
abbrev S512x512 : Shape := ⟨2, ![512, 512]⟩
abbrev S512x256 : Shape := ⟨2, ![512, 256]⟩
abbrev S640x256 : Shape := ⟨2, ![640, 256]⟩
abbrev S640x128 : Shape := ⟨2, ![640, 128]⟩
abbrev S256x128 : Shape := ⟨2, ![256, 128]⟩
abbrev S128x512 : Shape := ⟨2, ![128, 512]⟩
abbrev S128x128 : Shape := ⟨2, ![128, 128]⟩
abbrev S1x1x128x256 : Shape := ⟨4, ![1, 1, 128, 256]⟩
abbrev S128 : Shape := ⟨1, ![128]⟩
abbrev S128x1 : Shape := ⟨2, ![128, 1]⟩
abbrev S1 : Shape := ⟨1, ![1]⟩

abbrev nBuf : Space → Nat
  | .hbm => 50
  | .vmem => 9
  | .smem => 1
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8, .f32⟩
  | .hbm, ⟨4, _⟩ => ⟨S8x128x256, .f32⟩
  | .hbm, ⟨5, _⟩ => ⟨S64x128x256, .i32⟩
  | .hbm, ⟨6, _⟩ => ⟨S64x128x256, .i32⟩
  | .hbm, ⟨7, _⟩ => ⟨S64x128x256, .i32⟩
  | .hbm, ⟨8, _⟩ => ⟨S_, .i32⟩
  | .hbm, ⟨9, _⟩ => ⟨S64x128x256, .i32⟩
  | .hbm, ⟨10, _⟩ => ⟨S64x128x256, .i32⟩
  | .hbm, ⟨11, _⟩ => ⟨S64x128x256, .i32⟩
  | .hbm, ⟨12, _⟩ => ⟨S_, .i32⟩
  | .hbm, ⟨13, _⟩ => ⟨S64x128x256, .i32⟩
  | .hbm, ⟨14, _⟩ => ⟨S64x128x256, .i32⟩
  | .hbm, ⟨15, _⟩ => ⟨S_, .i32⟩
  | .hbm, ⟨16, _⟩ => ⟨S64x128x256, .i32⟩
  | .hbm, ⟨17, _⟩ => ⟨S64x128x256, .i32⟩
  | .hbm, ⟨18, _⟩ => ⟨S64x128x256, .i32⟩
  | .hbm, ⟨19, _⟩ => ⟨S_, .i32⟩
  | .hbm, ⟨20, _⟩ => ⟨S64x128x256, .i32⟩
  | .hbm, ⟨21, _⟩ => ⟨S64x128x256, .i1⟩
  | .hbm, ⟨22, _⟩ => ⟨S_, .i32⟩
  | .hbm, ⟨23, _⟩ => ⟨S64x128x256, .i32⟩
  | .hbm, ⟨24, _⟩ => ⟨S64x128x256, .i1⟩
  | .hbm, ⟨25, _⟩ => ⟨S64x128x256, .i1⟩
  | .hbm, ⟨26, _⟩ => ⟨S_, .i32⟩
  | .hbm, ⟨27, _⟩ => ⟨S64x128x256, .i32⟩
  | .hbm, ⟨28, _⟩ => ⟨S64x128x256, .i1⟩
  | .hbm, ⟨29, _⟩ => ⟨S64x128x256, .i1⟩
  | .hbm, ⟨30, _⟩ => ⟨S8192x768, .f32⟩
  | .hbm, ⟨31, _⟩ => ⟨S8192x768, .bf16⟩
  | .hbm, ⟨32, _⟩ => ⟨S1x128x256, .i1⟩
  | .hbm, ⟨33, _⟩ => ⟨S128x256, .i1⟩
  | .hbm, ⟨34, _⟩ => ⟨S_, .f32⟩
  | .hbm, ⟨35, _⟩ => ⟨S_, .f32⟩
  | .hbm, ⟨36, _⟩ => ⟨S8x128x256, .i1⟩
  | .hbm, ⟨37, _⟩ => ⟨S8x128x256, .f32⟩
  | .hbm, ⟨38, _⟩ => ⟨S8x128x256, .f32⟩
  | .hbm, ⟨39, _⟩ => ⟨S1x128x256, .i1⟩
  | .hbm, ⟨40, _⟩ => ⟨S128x256, .i1⟩
  | .hbm, ⟨41, _⟩ => ⟨S_, .f32⟩
  | .hbm, ⟨42, _⟩ => ⟨S_, .f32⟩
  | .hbm, ⟨43, _⟩ => ⟨S8x128x256, .i1⟩
  | .hbm, ⟨44, _⟩ => ⟨S8x128x256, .f32⟩
  | .hbm, ⟨45, _⟩ => ⟨S8x128x256, .f32⟩
  | .hbm, ⟨46, _⟩ => ⟨S1x8x128x256, .f32⟩
  | .hbm, ⟨47, _⟩ => ⟨S1x8x128x256, .f32⟩
  | .hbm, ⟨48, _⟩ => ⟨S2x8x128x256, .f32⟩
  | .hbm, ⟨49, _⟩ => ⟨S8192x512, .f32⟩
  | .local _ .vmem, ⟨0, _⟩ => ⟨S512x512, .bf16⟩
  | .local _ .vmem, ⟨1, _⟩ => ⟨S512x512, .bf16⟩
  | .local _ .vmem, ⟨2, _⟩ => ⟨S128x256, .bf16⟩
  | .local _ .vmem, ⟨3, _⟩ => ⟨S128x256, .bf16⟩
  | .local _ .vmem, ⟨4, _⟩ => ⟨S512x256, .bf16⟩
  | .local _ .vmem, ⟨5, _⟩ => ⟨S512x256, .bf16⟩
  | .local _ .vmem, ⟨6, _⟩ => ⟨S2x8x128x256, .f32⟩
  | .local _ .vmem, ⟨7, _⟩ => ⟨S512x512, .f32⟩
  | .local _ .vmem, ⟨8, _⟩ => ⟨S512x512, .f32⟩
  | .local _ .smem, ⟨0, _⟩ => ⟨S8, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def k0_off1 (i : grid0.Coords) : Fin 4 → Nat :=
  let arg0 : BitVec 32 := BitVec.ofNat 32 (i 0).val
  let c0_i32 : BitVec 32 := 0#32
  let v245 : BitVec 1 := Scalar.cmpi .eq arg0 c0_i32
  let c1_i32 : BitVec 32 := 1#32
  let c0_i32_94 : BitVec 32 := 0#32
  let v246 : BitVec 32 := Scalar.select v245 c1_i32 c0_i32_94
  let v249 : Index := Scalar.indexCast v246
  let c0_96 : Index := 0#32
  let c0_97 : Index := 0#32
  let c0_98 : Index := 0#32
  ![v249.toNat, 0, 0, 0]
def k0_off2 (i : grid0.Coords) : Fin 4 → Nat :=
  let arg0 : BitVec 32 := BitVec.ofNat 32 (i 0).val
  let c0_i32 : BitVec 32 := 0#32
  let v245 : BitVec 1 := Scalar.cmpi .eq arg0 c0_i32
  let c1_i32 : BitVec 32 := 1#32
  let c0_i32_94 : BitVec 32 := 0#32
  let v246 : BitVec 32 := Scalar.select v245 c1_i32 c0_i32_94
  let v255 : Index := Scalar.indexCast v246
  let c1 : Index := 1#32
  let c0_100 : Index := 0#32
  let c0_101 : Index := 0#32
  ![v255.toNat, 1, 0, 0]
def k0_off3 (i : grid0.Coords) : Fin 4 → Nat :=
  let arg0 : BitVec 32 := BitVec.ofNat 32 (i 0).val
  let c0_i32 : BitVec 32 := 0#32
  let v245 : BitVec 1 := Scalar.cmpi .eq arg0 c0_i32
  let c1_i32 : BitVec 32 := 1#32
  let c0_i32_94 : BitVec 32 := 0#32
  let v246 : BitVec 32 := Scalar.select v245 c1_i32 c0_i32_94
  let v261 : Index := Scalar.indexCast v246
  let c2 : Index := 2#32
  let c0_103 : Index := 0#32
  let c0_104 : Index := 0#32
  ![v261.toNat, 2, 0, 0]
def k0_off4 (i : grid0.Coords) : Fin 4 → Nat :=
  let arg0 : BitVec 32 := BitVec.ofNat 32 (i 0).val
  let c0_i32 : BitVec 32 := 0#32
  let v245 : BitVec 1 := Scalar.cmpi .eq arg0 c0_i32
  let c1_i32 : BitVec 32 := 1#32
  let c0_i32_94 : BitVec 32 := 0#32
  let v246 : BitVec 32 := Scalar.select v245 c1_i32 c0_i32_94
  let v267 : Index := Scalar.indexCast v246
  let c3 : Index := 3#32
  let c0_106 : Index := 0#32
  let c0_107 : Index := 0#32
  ![v267.toNat, 3, 0, 0]
def k0_off5 (i : grid0.Coords) : Fin 4 → Nat :=
  let arg0 : BitVec 32 := BitVec.ofNat 32 (i 0).val
  let c0_i32 : BitVec 32 := 0#32
  let v245 : BitVec 1 := Scalar.cmpi .eq arg0 c0_i32
  let c1_i32 : BitVec 32 := 1#32
  let c0_i32_94 : BitVec 32 := 0#32
  let v246 : BitVec 32 := Scalar.select v245 c1_i32 c0_i32_94
  let v273 : Index := Scalar.indexCast v246
  let c4 : Index := 4#32
  let c0_109 : Index := 0#32
  let c0_110 : Index := 0#32
  ![v273.toNat, 4, 0, 0]
def k0_off6 (i : grid0.Coords) : Fin 4 → Nat :=
  let arg0 : BitVec 32 := BitVec.ofNat 32 (i 0).val
  let c0_i32 : BitVec 32 := 0#32
  let v245 : BitVec 1 := Scalar.cmpi .eq arg0 c0_i32
  let c1_i32 : BitVec 32 := 1#32
  let c0_i32_94 : BitVec 32 := 0#32
  let v246 : BitVec 32 := Scalar.select v245 c1_i32 c0_i32_94
  let v279 : Index := Scalar.indexCast v246
  let c5 : Index := 5#32
  let c0_112 : Index := 0#32
  let c0_113 : Index := 0#32
  ![v279.toNat, 5, 0, 0]
def k0_off7 (i : grid0.Coords) : Fin 4 → Nat :=
  let arg0 : BitVec 32 := BitVec.ofNat 32 (i 0).val
  let c0_i32 : BitVec 32 := 0#32
  let v245 : BitVec 1 := Scalar.cmpi .eq arg0 c0_i32
  let c1_i32 : BitVec 32 := 1#32
  let c0_i32_94 : BitVec 32 := 0#32
  let v246 : BitVec 32 := Scalar.select v245 c1_i32 c0_i32_94
  let v285 : Index := Scalar.indexCast v246
  let c6 : Index := 6#32
  let c0_115 : Index := 0#32
  let c0_116 : Index := 0#32
  ![v285.toNat, 6, 0, 0]
def k0_off8 (i : grid0.Coords) : Fin 4 → Nat :=
  let arg0 : BitVec 32 := BitVec.ofNat 32 (i 0).val
  let c0_i32 : BitVec 32 := 0#32
  let v245 : BitVec 1 := Scalar.cmpi .eq arg0 c0_i32
  let c1_i32 : BitVec 32 := 1#32
  let c0_i32_94 : BitVec 32 := 0#32
  let v246 : BitVec 32 := Scalar.select v245 c1_i32 c0_i32_94
  let v291 : Index := Scalar.indexCast v246
  let c7 : Index := 7#32
  let c0_118 : Index := 0#32
  let c0_119 : Index := 0#32
  ![v291.toNat, 7, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x8x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8192x512 : Shape := ⟨2, ![8192, 512]⟩
abbrev S8192x128 : Shape := ⟨2, ![8192, 128]⟩
abbrev S8 : Shape := ⟨1, ![8]⟩
abbrev S8x128x256 : Shape := ⟨3, ![8, 128, 256]⟩
abbrev S8x1x1 : Shape := ⟨3, ![8, 1, 1]⟩
abbrev S8x128x1 : Shape := ⟨3, ![8, 128, 1]⟩
abbrev S64x128x256 : Shape := ⟨3, ![64, 128, 256]⟩
abbrev S_ : Shape := ⟨0, ![]⟩
abbrev S64x128x2x4x64 : Shape := ⟨5, ![64, 128, 2, 4, 64]⟩
abbrev S128x2x64 : Shape := ⟨3, ![128, 2, 64]⟩
abbrev S8192x2x64 : Shape := ⟨3, ![8192, 2, 64]⟩
abbrev S8320x2x64 : Shape := ⟨3, ![8320, 2, 64]⟩
abbrev S65x128x2x64 : Shape := ⟨4, ![65, 128, 2, 64]⟩
abbrev S64x128x2x64 : Shape := ⟨4, ![64, 128, 2, 64]⟩
abbrev S64x256x2x64 : Shape := ⟨4, ![64, 256, 2, 64]⟩
abbrev S64x1x1x128x256 : Shape := ⟨5, ![64, 1, 1, 128, 256]⟩
abbrev S2x4x128x256 : Shape := ⟨4, ![2, 4, 128, 256]⟩
abbrev S64x2x256x128x4 : Shape := ⟨5, ![64, 2, 256, 128, 4]⟩
abbrev S64x2x4x128x256 : Shape := ⟨5, ![64, 2, 4, 128, 256]⟩
abbrev S1x2x4x128x256 : Shape := ⟨5, ![1, 2, 4, 128, 256]⟩
abbrev S2x4x128x1 : Shape := ⟨4, ![2, 4, 128, 1]⟩
abbrev S64x2x4x128 : Shape := ⟨4, ![64, 2, 4, 128]⟩
abbrev S64x2x4x128x1 : Shape := ⟨5, ![64, 2, 4, 128, 1]⟩
abbrev S1x2x4x128x1 : Shape := ⟨5, ![1, 2, 4, 128, 1]⟩
abbrev S64x2x4x128x64 : Shape := ⟨5, ![64, 2, 4, 128, 64]⟩

abbrev nBuf : Space → Nat
  | .hbm => 87
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8, .f32⟩
  | .hbm, ⟨4, _⟩ => ⟨S8x128x256, .f32⟩
  | .hbm, ⟨5, _⟩ => ⟨S8x1x1, .f32⟩
  | .hbm, ⟨6, _⟩ => ⟨S8x128x1, .f32⟩
  | .hbm, ⟨7, _⟩ => ⟨S64x128x256, .i32⟩
  | .hbm, ⟨8, _⟩ => ⟨S64x128x256, .i32⟩
  | .hbm, ⟨9, _⟩ => ⟨S64x128x256, .i32⟩
  | .hbm, ⟨10, _⟩ => ⟨S_, .i32⟩
  | .hbm, ⟨11, _⟩ => ⟨S64x128x256, .i32⟩
  | .hbm, ⟨12, _⟩ => ⟨S64x128x256, .i32⟩
  | .hbm, ⟨13, _⟩ => ⟨S64x128x256, .i32⟩
  | .hbm, ⟨14, _⟩ => ⟨S_, .i32⟩
  | .hbm, ⟨15, _⟩ => ⟨S64x128x256, .i32⟩
  | .hbm, ⟨16, _⟩ => ⟨S64x128x256, .i32⟩
  | .hbm, ⟨17, _⟩ => ⟨S_, .i32⟩
  | .hbm, ⟨18, _⟩ => ⟨S64x128x256, .i32⟩
  | .hbm, ⟨19, _⟩ => ⟨S64x128x256, .i32⟩
  | .hbm, ⟨20, _⟩ => ⟨S64x128x256, .i32⟩
  | .hbm, ⟨21, _⟩ => ⟨S_, .i32⟩
  | .hbm, ⟨22, _⟩ => ⟨S64x128x256, .i32⟩
  | .hbm, ⟨23, _⟩ => ⟨S64x128x256, .i1⟩
  | .hbm, ⟨24, _⟩ => ⟨S_, .i32⟩
  | .hbm, ⟨25, _⟩ => ⟨S64x128x256, .i32⟩
  | .hbm, ⟨26, _⟩ => ⟨S64x128x256, .i1⟩
  | .hbm, ⟨27, _⟩ => ⟨S64x128x256, .i1⟩
  | .hbm, ⟨28, _⟩ => ⟨S_, .i32⟩
  | .hbm, ⟨29, _⟩ => ⟨S64x128x256, .i32⟩
  | .hbm, ⟨30, _⟩ => ⟨S64x128x256, .i1⟩
  | .hbm, ⟨31, _⟩ => ⟨S64x128x256, .i1⟩
  | .hbm, ⟨32, _⟩ => ⟨S64x128x2x4x64, .f32⟩
  | .hbm, ⟨33, _⟩ => ⟨S_, .f32⟩
  | .hbm, ⟨34, _⟩ => ⟨S128x2x64, .f32⟩
  | .hbm, ⟨35, _⟩ => ⟨S8192x2x64, .f32⟩
  | .hbm, ⟨36, _⟩ => ⟨S8320x2x64, .f32⟩
  | .hbm, ⟨37, _⟩ => ⟨S65x128x2x64, .f32⟩
  | .hbm, ⟨38, _⟩ => ⟨S64x128x2x64, .f32⟩
  | .hbm, ⟨39, _⟩ => ⟨S64x128x2x64, .f32⟩
  | .hbm, ⟨40, _⟩ => ⟨S64x256x2x64, .f32⟩
  | .hbm, ⟨41, _⟩ => ⟨S_, .f32⟩
  | .hbm, ⟨42, _⟩ => ⟨S128x2x64, .f32⟩
  | .hbm, ⟨43, _⟩ => ⟨S8192x2x64, .f32⟩
  | .hbm, ⟨44, _⟩ => ⟨S8320x2x64, .f32⟩
  | .hbm, ⟨45, _⟩ => ⟨S65x128x2x64, .f32⟩
  | .hbm, ⟨46, _⟩ => ⟨S64x128x2x64, .f32⟩
  | .hbm, ⟨47, _⟩ => ⟨S64x128x2x64, .f32⟩
  | .hbm, ⟨48, _⟩ => ⟨S64x256x2x64, .f32⟩
  | .hbm, ⟨49, _⟩ => ⟨S64x1x1x128x256, .i1⟩
  | .hbm, ⟨50, _⟩ => ⟨S2x4x128x256, .f32⟩
  | .hbm, ⟨51, _⟩ => ⟨S64x2x256x128x4, .f32⟩
  | .hbm, ⟨52, _⟩ => ⟨S64x2x4x128x256, .f32⟩
  | .hbm, ⟨53, _⟩ => ⟨S_, .f32⟩
  | .hbm, ⟨54, _⟩ => ⟨S64x2x4x128x256, .f32⟩
  | .hbm, ⟨55, _⟩ => ⟨S64x2x4x128x256, .f32⟩
  | .hbm, ⟨56, _⟩ => ⟨S1x2x4x128x256, .f32⟩
  | .hbm, ⟨57, _⟩ => ⟨S64x2x4x128x256, .f32⟩
  | .hbm, ⟨58, _⟩ => ⟨S64x2x4x128x256, .f32⟩
  | .hbm, ⟨59, _⟩ => ⟨S_, .f32⟩
  | .hbm, ⟨60, _⟩ => ⟨S_, .f32⟩
  | .hbm, ⟨61, _⟩ => ⟨S64x2x4x128x256, .i1⟩
  | .hbm, ⟨62, _⟩ => ⟨S64x2x4x128x256, .f32⟩
  | .hbm, ⟨63, _⟩ => ⟨S64x2x4x128x256, .f32⟩
  | .hbm, ⟨64, _⟩ => ⟨S2x4x128x1, .f32⟩
  | .hbm, ⟨65, _⟩ => ⟨S_, .f32⟩
  | .hbm, ⟨66, _⟩ => ⟨S64x2x4x128, .f32⟩
  | .hbm, ⟨67, _⟩ => ⟨S64x2x4x128x1, .f32⟩
  | .hbm, ⟨68, _⟩ => ⟨S1x2x4x128x1, .f32⟩
  | .hbm, ⟨69, _⟩ => ⟨S64x2x4x128x1, .f32⟩
  | .hbm, ⟨70, _⟩ => ⟨S64x2x4x128x1, .f32⟩
  | .hbm, ⟨71, _⟩ => ⟨S64x2x4x128x256, .f32⟩
  | .hbm, ⟨72, _⟩ => ⟨S64x2x4x128x256, .f32⟩
  | .hbm, ⟨73, _⟩ => ⟨S64x2x4x128x256, .f32⟩
  | .hbm, ⟨74, _⟩ => ⟨S_, .f32⟩
  | .hbm, ⟨75, _⟩ => ⟨S64x2x4x128, .f32⟩
  | .hbm, ⟨76, _⟩ => ⟨S64x2x4x128x1, .f32⟩
  | .hbm, ⟨77, _⟩ => ⟨S1x2x4x128x1, .f32⟩
  | .hbm, ⟨78, _⟩ => ⟨S64x2x4x128x1, .f32⟩
  | .hbm, ⟨79, _⟩ => ⟨S64x2x4x128x1, .f32⟩
  | .hbm, ⟨80, _⟩ => ⟨S64x2x4x128x1, .f32⟩
  | .hbm, ⟨81, _⟩ => ⟨S64x2x4x128x1, .f32⟩
  | .hbm, ⟨82, _⟩ => ⟨S64x2x4x128x64, .f32⟩
  | .hbm, ⟨83, _⟩ => ⟨S64x2x4x128x64, .f32⟩
  | .hbm, ⟨84, _⟩ => ⟨S64x2x4x128x64, .f32⟩
  | .hbm, ⟨85, _⟩ => ⟨S64x128x2x4x64, .f32⟩
  | .hbm, ⟨86, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]
-- ==== Proof.Math.lean ====
module

public import proofs.«01_k».proof.Proof.Gen.KernelIdeal.Skeleton
public import Idealize.ShloMosaic.Lib.Pointwise

@[expose] public section

set_option maxRecDepth 16384

noncomputable section

open Idealize.ShloMosaic

/-! The modulated norm of one row and its gradient, over extended reals: `x` the row, `g` the norm's gain, `s` the scale, `b` the
shift, `dy` the cotangent of the row's output. -/

namespace Cert.InProj

/-- The reciprocal root mean square of a row of 1024. -/
def rinv (x : Fin 1024 → EReal) : EReal :=
  Ideal.rsqrt ((∑ e, x e * x e) * Ideal.ofBits .f32 0x3A800000#32 + Ideal.ofBits .f32 0x358637BD#32)

/-- The row's output. -/
def hRow (x g s b : Fin 1024 → EReal) (d : Fin 1024) : EReal := x d * rinv x * g d * (1 + s d) + b d

/-- The row's gradient as the kernel writes it. -/
def gxRow (x dy g s : Fin 1024 → EReal) (d : Fin 1024) : EReal :=
  rinv x * (dy d * (g d * (1 + s d))
    - x d * rinv x * ((∑ e, dy e * (g e * (1 + s e)) * (x e * rinv x)) * Ideal.ofBits .f32 0x3A800000#32))

/-! The reference writes the mean as a quotient and the derivative of the reciprocal root as `-1/2 · r / v`. -/

/-- The mean square with the floor added. -/
def refV (x : Fin 1024 → EReal) : EReal :=
  Ideal.div (∑ e, x e * x e) (Ideal.ofBits .f32 1149239296#32) + Ideal.ofBits .f32 0x358637BD#32

/-- Half the derivative of the row's factor, carried back to an entry of the row. -/
def refT (x dyg : Fin 1024 → EReal) : EReal :=
  Ideal.div ((∑ e, x e * dyg e) * (Ideal.ofBits .f32 3204448256#32 * Ideal.div (Ideal.rsqrt (refV x)) (refV x))) (Ideal.ofBits .f32 1149239296#32)

theorem c1024 : Ideal.ofBits .f32 1149239296#32 = ((1024 : ℝ) : EReal) := by
  simp [Ideal.ofBits, Ideal.ieee, -EReal.coe_mul]; norm_num

theorem cInv : Ideal.ofBits .f32 0x3A800000#32 = ((1 / 1024 : ℝ) : EReal) := by
  simp [Ideal.ofBits, Ideal.ieee, -EReal.coe_mul]; norm_num

theorem cHalf : Ideal.ofBits .f32 3204448256#32 = ((-1 / 2 : ℝ) : EReal) := by
  simp [Ideal.ofBits, Ideal.ieee, -EReal.coe_mul]; norm_num

theorem cEps : ∃ ε : ℝ, 0 < ε ∧ Ideal.ofBits .f32 0x358637BD#32 = ((ε : ℝ) : EReal) := by
  refine ⟨8796093 / 2 ^ 43, by norm_num, ?_⟩
  simp [Ideal.ofBits, Ideal.ieee, -EReal.coe_mul]; norm_num

theorem coe_sum {ι : Type*} (s : Finset ι) (f : ι → ℝ) : (∑ e ∈ s, (f e : EReal)) = ((∑ e ∈ s, f e : ℝ) : EReal) :=
  (map_sum (⟨⟨Real.toEReal, rfl⟩, EReal.coe_add⟩ : ℝ →+ EReal) f s).symm

/-- On a row of real numbers the floor keeps the mean square away from zero: the factor is the real reciprocal root. -/
theorem row_real (a : Fin 1024 → ℝ) : ∃ ρ v : ℝ, v ≠ 0 ∧ ρ * ρ * v = 1 ∧ refV (fun e => (a e : EReal)) = v
    ∧ Ideal.rsqrt (refV (fun e => (a e : EReal))) = ρ ∧ rinv (fun e => (a e : EReal)) = ρ := by
  obtain ⟨ε, hε, he⟩ := cEps
  have h0 : 0 ≤ ∑ e, a e * a e := Finset.sum_nonneg fun e _ => mul_self_nonneg _
  have hv : 0 < (∑ e, a e * a e) * (1 / 1024) + ε := by positivity
  have e1 : (∑ e, (a e : EReal) * (a e : EReal)) = ((∑ e, a e * a e : ℝ) : EReal) := by
    simp only [← EReal.coe_mul]; exact coe_sum _ _
  have e2 : refV (fun e => (a e : EReal)) = (((∑ e, a e * a e) * (1 / 1024) + ε : ℝ) : EReal) := by
    rw [refV, e1, c1024, he, Ideal.div_coe (by norm_num), ← EReal.coe_mul, ← EReal.coe_add]
  have e3 : Ideal.rsqrt (((∑ e, a e * a e) * (1 / 1024) + ε : ℝ) : EReal) = ((Real.sqrt ((∑ e, a e * a e) * (1 / 1024) + ε))⁻¹ : ℝ) := by
    rw [Ideal.rsqrt_coe, if_neg (not_lt.mpr hv.le), if_neg hv.ne']
  refine ⟨(Real.sqrt ((∑ e, a e * a e) * (1 / 1024) + ε))⁻¹, _, hv.ne', ?_, e2, by rw [e2, e3], ?_⟩
  · rw [← mul_inv, Real.mul_self_sqrt hv.le, inv_mul_cancel₀ hv.ne']
  · rw [rinv, e1, cInv, he, ← EReal.coe_mul, ← EReal.coe_add, e3]

section
variable {x dy g s : Fin 1024 → EReal} (hx : ∀ e, ∃ a : ℝ, x e = a)
include hx

theorem rinv_real : ∃ ρ : ℝ, rinv x = ρ := by
  choose a ha using hx
  obtain rfl : x = fun e => (a e : EReal) := funext ha
  obtain ⟨ρ, v, _, _, _, _, h⟩ := row_real a
  exact ⟨ρ, h⟩

theorem rsqrt_refV : Ideal.rsqrt (refV x) = rinv x := by
  choose a ha using hx
  obtain rfl : x = fun e => (a e : EReal) := funext ha
  obtain ⟨ρ, v, _, _, _, h, h'⟩ := row_real a
  rw [h, h']

theorem gx_eq (hdy : ∀ e, ∃ a : ℝ, dy e = a) (hg : ∀ e, ∃ a : ℝ, g e = a) (hs : ∀ e, ∃ a : ℝ, s e = a) (x1 : EReal) (d : Fin 1024) :
    x1 + dy d * (1 + s d) * g d * Ideal.rsqrt (refV x) + x d * refT x (fun e => dy e * (1 + s e) * g e)
      + refT x (fun e => dy e * (1 + s e) * g e) * x d = x1 + gxRow x dy g s d := by
  choose a ha using hx
  choose b hb using hdy
  choose p hp using hg
  choose q hq using hs
  obtain rfl : x = fun e => (a e : EReal) := funext ha
  obtain rfl : dy = fun e => (b e : EReal) := funext hb
  obtain rfl : g = fun e => (p e : EReal) := funext hp
  obtain rfl : s = fun e => (q e : EReal) := funext hq
  obtain ⟨ρ, v, hv, h1, h2, h3, h4⟩ := row_real a
  rw [add_assoc, add_assoc]
  congr 1
  rw [gxRow, refT, h3, h4, h2, c1024, cHalf, cInv]
  simp only [Ideal.div_coe hv, Ideal.div_coe (show (1024 : ℝ) ≠ 0 by norm_num), ← EReal.coe_one, ← EReal.coe_mul, ← EReal.coe_add, coe_sum, ← EReal.coe_sub]
  congr 1
  have hs1 : ∑ e, b e * (p e * (1 + q e)) * (a e * ρ) = (∑ e, a e * (b e * (1 + q e) * p e)) * ρ := by
    rw [Finset.sum_mul]; exact Finset.sum_congr rfl fun e _ => by ring
  rw [hs1]
  have hv' : 1 / v = ρ * ρ := by field_simp; linarith
  rw [hv']
  ring

end

end Cert.InProj

end

end
-- ==== Proof.Pay.lean ====
module

public import proofs.«01_k».proof.Proof.Gen.KernelIdeal.Skeleton
public import proofs.«01_k».proof.Proof.Math
public import Idealize.ShloMosaic.Lib.Pointwise

@[expose] public section

set_option maxRecDepth 16384

noncomputable section

open Idealize.ShloMosaic
open Cert.KernelIdeal Cert.KernelIdeal.Gen

namespace Cert.InProj

/-! What the kernel computes on one half of a block, read at an index: `X` is the half's 256 rows, `Y` the cotangent of the norm's
output on them, `G`, `S`, `B` the gain, the scale and the shift. -/

variable (X Y D xh : FVec Ideal S256x1024 .f32) (G S B a : FVec Ideal S1x1024 .f32) (p : Fin 256) (d : Fin 1024)
  (q q' : FVec Ideal S256x512 .bf16) (kv : FVec Ideal S256x256 .bf16) (z : FVec Ideal S256x512 .bf16)
  (xbc : FVec Ideal S256x1024 .bf16) (dt : FVec Ideal S256x128 .bf16) (W : FVec Ideal S2432x1024 .bf16)

theorem pay12_at : k0_pay12 (F := Ideal) (k0_pay11 X) (ix2 p 0) = rinv (fun e => X (ix2 p e)) := by
  pointwise [k0_pay12, k0_pay11, rinv]

theorem pay14_at : k0_pay14 (F := Ideal) X (ix2 p 0) = rinv (fun e => X (ix2 p e)) := by
  pointwise [k0_pay14, rinv]

theorem pay13_at : k0_pay13 (F := Ideal) X (k0_pay11 X) (ix2 p d) = X (ix2 p d) * rinv (fun e => X (ix2 p e)) := by
  pointwise [k0_pay13, pay12_at]

theorem pay15_at : k0_pay15 (F := Ideal) X (ix2 p d) = X (ix2 p d) * rinv (fun e => X (ix2 p e)) := by
  pointwise [k0_pay15, pay14_at]

/-- Column `k` of the five parts of the projection's cotangent, side by side. -/
def cat5 (k : Fin 2432) : EReal :=
  if h : (k : ℕ) < 512 then q (ix2 p ⟨k, h⟩)
  else if h : (k : ℕ) - 512 < 256 then kv (ix2 p ⟨k - 512, h⟩)
  else if h : (k : ℕ) - 512 - 256 < 512 then z (ix2 p ⟨k - 512 - 256, h⟩)
  else if h : (k : ℕ) - 512 - 256 - 512 < 1024 then xbc (ix2 p ⟨k - 512 - 256 - 512, h⟩)
  else dt (ix2 p ⟨k - 512 - 256 - 512 - 1024, by omega⟩)

theorem pay7_at (k : Fin 2432) : k0_pay7 (F := Ideal) q kv z xbc dt (ix2 p k) = cat5 p q kv z xbc dt k := by
  pointwise [k0_pay7, cat5]

theorem pay8_at (k : Fin 2432) : k0_pay8 (F := Ideal) q kv z xbc dt (ix2 p k) = cat5 p q kv z xbc dt k := pay7_at p q kv z xbc dt k

theorem pay9_at : k0_pay9 (F := Ideal) q kv z xbc dt W (ix2 p d) = ∑ k : Fin 2432, cat5 p q kv z xbc dt k * W (ix2 k d) := by
  pointwise [k0_pay9, pay7_at]

theorem pay10_at : k0_pay10 (F := Ideal) q kv z xbc dt W (ix2 p d) = ∑ k : Fin 2432, cat5 p q kv z xbc dt k * W (ix2 k d) :=
  pay9_at p d q kv z xbc dt W

theorem one_f32 : Ideal.ofBits .f32 0x3F800000#32 = 1 := by
  simp [Ideal.ofBits, Ideal.ieee, -EReal.coe_mul]; norm_num

theorem pay16_at : k0_pay16 (F := Ideal) X (k0_pay11 X) G S B (ix2 p d)
    = hRow (fun e => X (ix2 p e)) (fun e => G (ix2 0 e)) (fun e => S (ix2 0 e)) (fun e => B (ix2 0 e)) d := by
  pointwise [k0_pay16, pay13_at, hRow, one_f32]

theorem pay19_at : k0_pay19 (F := Ideal) (k0_pay17 X G) (k0_pay18 S) B (ix2 p d)
    = hRow (fun e => X (ix2 p e)) (fun e => G (ix2 0 e)) (fun e => S (ix2 0 e)) (fun e => B (ix2 0 e)) d := by
  pointwise [k0_pay19, k0_pay17, k0_pay18, pay15_at, hRow, one_f32]

theorem pay34_at : k0_pay34 (F := Ideal) (k0_pay23 Y (k0_pay12 (k0_pay11 X)) (k0_pay13 X (k0_pay11 X)) G S) D (ix2 p d)
    = D (ix2 p d) + gxRow (fun e => X (ix2 p e)) (fun e => Y (ix2 p e)) (fun e => G (ix2 0 e)) (fun e => S (ix2 0 e)) d := by
  pointwise [k0_pay34, k0_pay23, k0_pay21, k0_pay22, pay12_at, pay13_at, gxRow, one_f32]

theorem pay35_at : k0_pay35 (F := Ideal) Y (k0_pay14 X) (k0_pay15 X) G S D (ix2 p d)
    = D (ix2 p d) + gxRow (fun e => X (ix2 p e)) (fun e => Y (ix2 p e)) (fun e => G (ix2 0 e)) (fun e => S (ix2 0 e)) d := by
  pointwise [k0_pay35, k0_pay28, k0_pay29, pay14_at, pay15_at, gxRow, one_f32]

section
variable (X' Y' : FVec Ideal S256x1024 .f32)

/-- One block's addition to the gradient of the gain. -/
theorem pay1_at : k0_pay1 (F := Ideal) (k0_pay25 Y (k0_pay13 X (k0_pay11 X)) S) (k0_pay31 Y' (k0_pay15 X') S) a (ix2 0 d)
    = a (ix2 0 d) + ((∑ p : Fin 256, Y (ix2 p d) * (X (ix2 p d) * rinv (fun e => X (ix2 p e)))) * (1 + S (ix2 0 d))
      + (∑ p : Fin 256, Y' (ix2 p d) * (X' (ix2 p d) * rinv (fun e => X' (ix2 p e)))) * (1 + S (ix2 0 d))) := by
  pointwise [k0_pay1, k0_pay25, k0_pay31, k0_pay24, k0_pay30, k0_pay22, k0_pay29, pay13_at, pay15_at, one_f32]

/-- One block's addition to the gradient of the scale. -/
theorem pay2_at : k0_pay2 (F := Ideal) (k0_pay26 (k0_pay21 G) (k0_pay24 Y (k0_pay13 X (k0_pay11 X)))) (k0_pay32 Y' (k0_pay15 X') G) a (ix2 0 d)
    = a (ix2 0 d) + ((∑ p : Fin 256, Y (ix2 p d) * (X (ix2 p d) * rinv (fun e => X (ix2 p e)))) * G (ix2 0 d)
      + (∑ p : Fin 256, Y' (ix2 p d) * (X' (ix2 p d) * rinv (fun e => X' (ix2 p e)))) * G (ix2 0 d)) := by
  pointwise [k0_pay2, k0_pay26, k0_pay32, k0_pay24, k0_pay30, k0_pay21, k0_pay28, pay13_at, pay15_at]

/-- One block's addition to the gradient of the shift. -/
theorem pay3_at : k0_pay3 (F := Ideal) (k0_pay27 Y) (k0_pay33 Y') a (ix2 0 d)
    = a (ix2 0 d) + ((∑ p : Fin 256, Y (ix2 p d)) + ∑ p : Fin 256, Y' (ix2 p d)) := by
  pointwise [k0_pay3, k0_pay27, k0_pay33]

/-- One block's addition to the gradient of the weight. -/
theorem pay20_at (P P' : FVec Ideal S256x2432 .bf16) (w : FVec Ideal S2432x512 .f32) (j : Fin 2432) (k : Fin 512) :
    k0_pay20 (F := Ideal) P P' (k0_pay16 X (k0_pay11 X) G S B) (k0_pay17 X' G) (k0_pay18 S) B w (ix2 j k)
    = w (ix2 j k) + ((∑ p : Fin 256, P (ix2 p j)
        * hRow (fun e => X (ix2 p e)) (fun e => G (ix2 0 e)) (fun e => S (ix2 0 e)) (fun e => B (ix2 0 e)) ⟨k, by omega⟩)
      + ∑ p : Fin 256, P' (ix2 p j)
        * hRow (fun e => X' (ix2 p e)) (fun e => G (ix2 0 e)) (fun e => S (ix2 0 e)) (fun e => B (ix2 0 e)) ⟨k, by omega⟩) := by
  pointwise [k0_pay20, pay16_at, pay19_at]

end

end Cert.InProj

end

end
-- ==== Proof.Ker.lean ====
module

public import proofs.«01_k».proof.Proof.Gen.KernelIdeal.Value
public import proofs.«01_k».proof.Proof.Pay
public import Idealize.ShloMosaic.Lib.Pointwise
public import Idealize.ShloMosaic.Lib.Pipeline.ValueKit
public import Idealize.ShloMosaic.Lib.Claim
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.InProj

/-! The kernel's arrays over variables. -/
section
variable (x0 x1 : FVec Ideal S8192x1024 .f32) (x2 : FVec Ideal S8192x512 .bf16) (x3 : FVec Ideal S8192x256 .bf16)
  (x4 : FVec Ideal S8192x512 .bf16) (x5 : FVec Ideal S8192x1024 .bf16) (x6 : FVec Ideal S8192x8 .bf16)
  (x7 x8 x9 : FVec Ideal S1024 .f32) (x10 : FVec Ideal S1024x2312 .f32)

/-- Row `r` of the projection's cotangent, its five parts side by side and zeros behind them. -/
def projK (r : Fin 8192) (k : Fin 2432) : EReal :=
  if h : (k : ℕ) < 512 then x2 (ix2 r ⟨k, h⟩)
  else if h : (k : ℕ) - 512 < 256 then x3 (ix2 r ⟨k - 512, h⟩)
  else if h : (k : ℕ) - 512 - 256 < 512 then x4 (ix2 r ⟨k - 512 - 256, h⟩)
  else if h : (k : ℕ) - 512 - 256 - 512 < 1024 then x5 (ix2 r ⟨k - 512 - 256 - 512, h⟩)
  else if h : (k : ℕ) - 512 - 256 - 512 - 1024 < 8 then x6 (ix2 r ⟨k - 512 - 256 - 512 - 1024, h⟩)
  else 0

/-- The projection's weight, transposed, with zero rows behind. -/
def wK (k : Fin 2432) (d : Fin 1024) : EReal := if h : (k : ℕ) < 2312 then x10 (ix2 d ⟨k, h⟩) else 0

/-- The cotangent of the norm's output. -/
def dyK (r : Fin 8192) (d : Fin 1024) : EReal := ∑ k : Fin 2432, projK x2 x3 x4 x5 x6 r k * wK x10 k d

def GX : FVec Ideal S8192x1024 .f32 := fun i =>
  x1 i + gxRow (fun e => x0 (ix2 (i 0) e)) (dyK x2 x3 x4 x5 x6 x10 (i 0)) (fun e => x7 (ix1 e)) (fun e => x8 (ix1 e)) (i 1)

def HH : FVec Ideal S8192x1024 .bf16 := fun i =>
  hRow (fun e => x0 (ix2 (i 0) e)) (fun e => x7 (ix1 e)) (fun e => x8 (ix1 e)) (fun e => x9 (ix1 e)) (i 1)

end

variable (m : (ℓ : Loc nD τ sig) → Buf (Elt Ideal) ℓ)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] ∧ win0_8.index t = ![0, 0] ∧ win0_9.index t = ![0, 0] ∧ win0_10.index t = ![0, 0] ∧ win0_11.index t = ![t.val, 0] ∧ win0_12.index t = ![t.val, 0] ∧ win0_13.index t = ![0, 0] ∧ win0_14.index t = ![0, 0] :=
  (by decide +kernel : ∀ t : Fin grid0.N, _)

def GXm (c : Dev nD) : FVec Ideal S8192x1024 .f32 :=
  GX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10))

def HHm (c : Dev nD) : FVec Ideal S8192x1024 .bf16 :=
  HH (m ((c : Thread nD τ).loc main_arg0)) (m ((c : Thread nD τ).loc main_arg7)) (m ((c : Thread nD τ).loc main_arg8)) (m ((c : Thread nD τ).loc main_arg9))

/-- The projection's cotangent and the cotangent of the norm's output, on the launched arguments. -/
def PRm (c : Dev nD) (r : Fin 8192) (k : Fin 2432) : EReal := projK (m ((c : Thread nD τ).loc main_arg2)) (m ((c : Thread nD τ).loc main_arg3)) (m ((c : Thread nD τ).loc main_arg4)) (m ((c : Thread nD τ).loc main_arg5)) (m ((c : Thread nD τ).loc main_arg6)) r k

def DYm (c : Dev nD) (r : Fin 8192) (d : Fin 1024) : EReal := dyK (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) r d

/-! What the host prepared. -/

theorem V_v2 (c : Dev nD) : V m c main_v2 = pad S2432x1024 ![0, 0] ![120, 0] ![0, 0]
    (truncf .bf16 (transpose S2312x1024 [1, 0] (show FVec Ideal S1024x2312 .f32 from m ((c : Thread nD τ).loc main_arg10)) transposes_S1024x2312_S2312x1024_1_0) bitsLt_bf16_f32)
    (sitofp .bf16 (constantI S_ 32 0#32)) pads_S2312x1024_S2432x1024_01200_000 h_S_ := by
  unfold V
  simp only [List.flatten_cons, List.flatten_nil, List.append_nil, List.cons_append, List.nil_append]
  after_results
  rfl

theorem V_v3 (c : Dev nD) : V m c main_v3 = pad S8192x128 ![0, 0] ![0, 120] ![0, 0]
    (show FVec Ideal S8192x8 .bf16 from m ((c : Thread nD τ).loc main_arg6))
    (sitofp .bf16 (constantI S_ 32 0#32)) pads_S8192x8_S8192x128_000_01200 h_S_ := by
  unfold V
  simp only [List.flatten_cons, List.flatten_nil, List.append_nil, List.cons_append, List.nil_append]
  after_results
  rfl

theorem rowCast (x : FVec Ideal S1024 .f32) (i0 : Fin 1) (i1 : Fin 1024) :
    shapeCast S1x1024 x shapeCasts_S1024_S1x1024 (ix2 i0 i1) = x (ix1 i1) := by
  pointwise

theorem V_v4 (c : Dev nD) : V m c main_v4 = fun i => m ((c : Thread nD τ).loc main_arg7) (ix1 (i 1)) := by
  unfold V
  simp only [List.flatten_cons, List.flatten_nil, List.append_nil, List.cons_append, List.nil_append]
  after_results
  funext i
  idx_vars i
  exact rowCast (m ((c : Thread nD τ).loc main_arg7)) i0 i1

theorem V_v5 (c : Dev nD) : V m c main_v5 = fun i => m ((c : Thread nD τ).loc main_arg8) (ix1 (i 1)) := by
  unfold V
  simp only [List.flatten_cons, List.flatten_nil, List.append_nil, List.cons_append, List.nil_append]
  after_results
  funext i
  idx_vars i
  exact rowCast (m ((c : Thread nD τ).loc main_arg8)) i0 i1

theorem V_v6 (c : Dev nD) : V m c main_v6 = fun i => m ((c : Thread nD τ).loc main_arg9) (ix1 (i 1)) := by
  unfold V
  simp only [List.flatten_cons, List.flatten_nil, List.append_nil, List.cons_append, List.nil_append]
  after_results
  funext i
  idx_vars i
  exact rowCast (m ((c : Thread nD τ).loc main_arg9)) i0 i1

theorem zero_bf16 : FloatOps.sitofp (F := Ideal) .bf16 0#32 = 0 := by
  simp [FloatOps.sitofp]

/-- The block's number among the sixteen. -/
def pt (t : Fin cfg0.N) : Fin 16 := ⟨t.val, by have := t.isLt; have : cfg0.N = 16 := N_0; omega⟩

/-- Row `p` of the half of block `t` that begins at row `o` of it. -/
def row (t : Fin 16) (o : ℕ) (ho : o ≤ 256) (p : Fin 256) : Fin 8192 := ⟨512 * t + o + p, by omega⟩

/-- The rows, the gain and the scale as launched. -/
abbrev X0 (c : Dev nD) : FVec Ideal S8192x1024 .f32 := m ((c : Thread nD τ).loc main_arg0)
abbrev X7 (c : Dev nD) : FVec Ideal S1024 .f32 := m ((c : Thread nD τ).loc main_arg7)
abbrev X8 (c : Dev nD) : FVec Ideal S1024 .f32 := m ((c : Thread nD τ).loc main_arg8)

/-- The cotangent times the normalised row. -/
def UM (c : Dev nD) (r : Fin 8192) (d : Fin 1024) : EReal :=
  DYm m c r d * (X0 m c (ix2 r d) * rinv (fun e => X0 m c (ix2 r e)))

/-- What block `t` adds to the row accumulator: the gain's, the scale's and the shift's gradient. -/
def accT (c : Dev nD) (t : Fin 16) (r : Fin 8) (d : Fin 1024) : EReal :=
  if (r : ℕ) = 0 then
    (∑ p : Fin 256, UM m c (row t 0 (by decide) p) d) * (1 + X8 m c (ix1 d))
      + (∑ p : Fin 256, UM m c (row t 256 (by decide) p) d) * (1 + X8 m c (ix1 d))
  else if (r : ℕ) = 1 then
    (∑ p : Fin 256, UM m c (row t 0 (by decide) p) d) * X7 m c (ix1 d)
      + (∑ p : Fin 256, UM m c (row t 256 (by decide) p) d) * X7 m c (ix1 d)
  else if (r : ℕ) = 2 then (∑ p : Fin 256, DYm m c (row t 0 (by decide) p) d) + ∑ p : Fin 256, DYm m c (row t 256 (by decide) p) d
  else 0

/-- What block `t` adds to the weight's gradient. -/
def gwT (c : Dev nD) (t : Fin 16) (j : Fin 2432) (k : Fin 512) : EReal :=
  (∑ p : Fin 256, PRm m c (row t 0 (by decide) p) j * HHm m c (ix2 (row t 0 (by decide) p) ⟨k, by omega⟩))
    + ∑ p : Fin 256, PRm m c (row t 256 (by decide) p) j * HHm m c (ix2 (row t 256 (by decide) p) ⟨k, by omega⟩)

theorem blkW (c : Dev nD) (t : Fin cfg0.N) :
    (show FVec Ideal S2432x1024 .bf16 from iblk m c 10 t) = fun i => wK (m ((c : Thread nD τ).loc main_arg10)) (i 0) (i 1) := by
  have e : (show FVec Ideal S2432x1024 .bf16 from iblk m c 10 t) = V m c main_v2 := by
    blk_ext! [iblk, idx_val t]
  rw [e, V_v2]
  funext i
  idx_vars i
  pointwise [wK, zero_bf16]

theorem blk7 (c : Dev nD) (t : Fin cfg0.N) :
    (show FVec Ideal S1x1024 .f32 from iblk m c 7 t) = fun i => m ((c : Thread nD τ).loc main_arg7) (ix1 (i 1)) := by
  refine Eq.trans ?_ (V_v4 m c)
  blk_ext! [iblk, idx_val t]

theorem blk8 (c : Dev nD) (t : Fin cfg0.N) :
    (show FVec Ideal S1x1024 .f32 from iblk m c 8 t) = fun i => m ((c : Thread nD τ).loc main_arg8) (ix1 (i 1)) := by
  refine Eq.trans ?_ (V_v5 m c)
  blk_ext! [iblk, idx_val t]

theorem blk9 (c : Dev nD) (t : Fin cfg0.N) :
    (show FVec Ideal S1x1024 .f32 from iblk m c 9 t) = fun i => m ((c : Thread nD τ).loc main_arg9) (ix1 (i 1)) := by
  refine Eq.trans ?_ (V_v6 m c)
  blk_ext! [iblk, idx_val t]

/-! The half of a block of a row-tiled argument that begins at row `o` of the block. -/

section
variable (c : Dev nD) (t : Fin cfg0.N) (o : ℕ) (ho : o ≤ 256)

theorem tile0 (inb : ∀ a : Fin 2, ![o, 0] a + ![256, 1024] a ≤ S512x1024.size a) :
    View.ld (Val := Elt Ideal) (S := S512x1024) (e' := .f32) (iblk m c 0 t) (Rect.unit ![o, 0] ![256, 1024] inb)
      = fun i => m ((c : Thread nD τ).loc main_arg0) (ix2 (row (pt t) o ho (i 0)) (i 1)) := by
  funext i
  have h0 : (i 0 : ℕ) < 256 := (i 0).isLt
  refine (View.ld_unit_apply_of (Val := Elt Ideal) (S := S512x1024) (e := .f32) (iblk m c 0 t) _ _ inb i (ix2 ⟨o + (i 0 : ℕ), by omega⟩ (i 1)) (fun a => by fin_cases a <;> simp)).trans ?_
  simp only [iblk]
  rw [show V m c (Pipeline.arrRef spec0 0) = _ from V_main_arg0 m c]
  blk_ext [idx_val t, row, pt]

theorem tile1 (inb : ∀ a : Fin 2, ![o, 0] a + ![256, 1024] a ≤ S512x1024.size a) :
    View.ld (Val := Elt Ideal) (S := S512x1024) (e' := .f32) (iblk m c 1 t) (Rect.unit ![o, 0] ![256, 1024] inb)
      = fun i => m ((c : Thread nD τ).loc main_arg1) (ix2 (row (pt t) o ho (i 0)) (i 1)) := by
  funext i
  have h0 : (i 0 : ℕ) < 256 := (i 0).isLt
  refine (View.ld_unit_apply_of (Val := Elt Ideal) (S := S512x1024) (e := .f32) (iblk m c 1 t) _ _ inb i (ix2 ⟨o + (i 0 : ℕ), by omega⟩ (i 1)) (fun a => by fin_cases a <;> simp)).trans ?_
  simp only [iblk]
  rw [show V m c (Pipeline.arrRef spec0 1) = _ from V_main_arg1 m c]
  blk_ext [idx_val t, row, pt]

theorem tile2 (inb : ∀ a : Fin 2, ![o, 0] a + ![256, 512] a ≤ S512x512.size a) :
    View.ld (Val := Elt Ideal) (S := S512x512) (e' := .bf16) (iblk m c 2 t) (Rect.unit ![o, 0] ![256, 512] inb)
      = fun i => m ((c : Thread nD τ).loc main_arg2) (ix2 (row (pt t) o ho (i 0)) (i 1)) := by
  funext i
  have h0 : (i 0 : ℕ) < 256 := (i 0).isLt
  refine (View.ld_unit_apply_of (Val := Elt Ideal) (S := S512x512) (e := .bf16) (iblk m c 2 t) _ _ inb i (ix2 ⟨o + (i 0 : ℕ), by omega⟩ (i 1)) (fun a => by fin_cases a <;> simp)).trans ?_
  simp only [iblk]
  rw [show V m c (Pipeline.arrRef spec0 2) = _ from V_main_arg2 m c]
  blk_ext [idx_val t, row, pt]

theorem tile3 (inb : ∀ a : Fin 2, ![o, 0] a + ![256, 256] a ≤ S512x256.size a) :
    View.ld (Val := Elt Ideal) (S := S512x256) (e' := .bf16) (iblk m c 3 t) (Rect.unit ![o, 0] ![256, 256] inb)
      = fun i => m ((c : Thread nD τ).loc main_arg3) (ix2 (row (pt t) o ho (i 0)) (i 1)) := by
  funext i
  have h0 : (i 0 : ℕ) < 256 := (i 0).isLt
  refine (View.ld_unit_apply_of (Val := Elt Ideal) (S := S512x256) (e := .bf16) (iblk m c 3 t) _ _ inb i (ix2 ⟨o + (i 0 : ℕ), by omega⟩ (i 1)) (fun a => by fin_cases a <;> simp)).trans ?_
  simp only [iblk]
  rw [show V m c (Pipeline.arrRef spec0 3) = _ from V_main_arg3 m c]
  blk_ext [idx_val t, row, pt]

theorem tile4 (inb : ∀ a : Fin 2, ![o, 0] a + ![256, 512] a ≤ S512x512.size a) :
    View.ld (Val := Elt Ideal) (S := S512x512) (e' := .bf16) (iblk m c 4 t) (Rect.unit ![o, 0] ![256, 512] inb)
      = fun i => m ((c : Thread nD τ).loc main_arg4) (ix2 (row (pt t) o ho (i 0)) (i 1)) := by
  funext i
  have h0 : (i 0 : ℕ) < 256 := (i 0).isLt
  refine (View.ld_unit_apply_of (Val := Elt Ideal) (S := S512x512) (e := .bf16) (iblk m c 4 t) _ _ inb i (ix2 ⟨o + (i 0 : ℕ), by omega⟩ (i 1)) (fun a => by fin_cases a <;> simp)).trans ?_
  simp only [iblk]
  rw [show V m c (Pipeline.arrRef spec0 4) = _ from V_main_arg4 m c]
  blk_ext [idx_val t, row, pt]

theorem tile5 (inb : ∀ a : Fin 2, ![o, 0] a + ![256, 1024] a ≤ S512x1024.size a) :
    View.ld (Val := Elt Ideal) (S := S512x1024) (e' := .bf16) (iblk m c 5 t) (Rect.unit ![o, 0] ![256, 1024] inb)
      = fun i => m ((c : Thread nD τ).loc main_arg5) (ix2 (row (pt t) o ho (i 0)) (i 1)) := by
  funext i
  have h0 : (i 0 : ℕ) < 256 := (i 0).isLt
  refine (View.ld_unit_apply_of (Val := Elt Ideal) (S := S512x1024) (e := .bf16) (iblk m c 5 t) _ _ inb i (ix2 ⟨o + (i 0 : ℕ), by omega⟩ (i 1)) (fun a => by fin_cases a <;> simp)).trans ?_
  simp only [iblk]
  rw [show V m c (Pipeline.arrRef spec0 5) = _ from V_main_arg5 m c]
  blk_ext [idx_val t, row, pt]

/-- The columns of the step sizes' gradient, zeros behind the eight. -/
def dtK (x6 : FVec Ideal S8192x8 .bf16) (r : Fin 8192) (k : Fin 128) : EReal := if h : (k : ℕ) < 8 then x6 (ix2 r ⟨k, h⟩) else 0

theorem V_v3_at (c : Dev nD) (r : Fin 8192) (k : Fin 128) :
    @Eq EReal ((show FVec Ideal S8192x128 .bf16 from V m c main_v3) (ix2 r k)) (dtK (m ((c : Thread nD τ).loc main_arg6)) r k) := by
  rw [V_v3]
  pointwise [dtK, zero_bf16]

theorem tile6 (inb : ∀ a : Fin 2, ![o, 0] a + ![256, 128] a ≤ S512x128.size a) :
    View.ld (Val := Elt Ideal) (S := S512x128) (e' := .bf16) (iblk m c 6 t) (Rect.unit ![o, 0] ![256, 128] inb)
      = fun i => dtK (m ((c : Thread nD τ).loc main_arg6)) (row (pt t) o ho (i 0)) (i 1) := by
  funext i
  have h0 : (i 0 : ℕ) < 256 := (i 0).isLt
  refine (View.ld_unit_apply_of (Val := Elt Ideal) (S := S512x128) (e := .bf16) (iblk m c 6 t) _ _ inb i (ix2 ⟨o + (i 0 : ℕ), by omega⟩ (i 1)) (fun a => by fin_cases a <;> simp)).trans ?_
  refine Eq.trans ?_ (V_v3_at m c _ _)
  blk_ext [iblk, idx_val t, row, pt]

variable (i1024 : ∀ a : Fin 2, ![o, 0] a + ![256, 1024] a ≤ S512x1024.size a)
  (i512 : ∀ a : Fin 2, ![o, 0] a + ![256, 512] a ≤ S512x512.size a)
  (i256 : ∀ a : Fin 2, ![o, 0] a + ![256, 256] a ≤ S512x256.size a)
  (i128 : ∀ a : Fin 2, ![o, 0] a + ![256, 128] a ≤ S512x128.size a)

theorem cat5_tile (p : Fin 256) (k : Fin 2432) :
    cat5 p (View.ld (Val := Elt Ideal) (S := S512x512) (e' := .bf16) (iblk m c 2 t) (Rect.unit ![o, 0] ![256, 512] i512)) (View.ld (Val := Elt Ideal) (S := S512x256) (e' := .bf16) (iblk m c 3 t) (Rect.unit ![o, 0] ![256, 256] i256)) (View.ld (Val := Elt Ideal) (S := S512x512) (e' := .bf16) (iblk m c 4 t) (Rect.unit ![o, 0] ![256, 512] i512)) (View.ld (Val := Elt Ideal) (S := S512x1024) (e' := .bf16) (iblk m c 5 t) (Rect.unit ![o, 0] ![256, 1024] i1024)) (View.ld (Val := Elt Ideal) (S := S512x128) (e' := .bf16) (iblk m c 6 t) (Rect.unit ![o, 0] ![256, 128] i128)) k = PRm m c (row (pt t) o ho p) k := by
  rw [tile2 m c t o ho, tile3 m c t o ho, tile4 m c t o ho, tile5 m c t o ho, tile6 m c t o ho]
  rfl

/-- The half's rows. -/
abbrev xT : FVec Ideal S256x1024 .f32 := (View.ld (Val := Elt Ideal) (S := S512x1024) (e' := .f32) (iblk m c 0 t) (Rect.unit ![o, 0] ![256, 1024] i1024))

/-- The five parts of the projection's cotangent on the half. -/
abbrev projT : FVec Ideal S256x2432 .bf16 := k0_pay8 (F := Ideal) (View.ld (Val := Elt Ideal) (S := S512x512) (e' := .bf16) (iblk m c 2 t) (Rect.unit ![o, 0] ![256, 512] i512)) (View.ld (Val := Elt Ideal) (S := S512x256) (e' := .bf16) (iblk m c 3 t) (Rect.unit ![o, 0] ![256, 256] i256)) (View.ld (Val := Elt Ideal) (S := S512x512) (e' := .bf16) (iblk m c 4 t) (Rect.unit ![o, 0] ![256, 512] i512)) (View.ld (Val := Elt Ideal) (S := S512x1024) (e' := .bf16) (iblk m c 5 t) (Rect.unit ![o, 0] ![256, 1024] i1024)) (View.ld (Val := Elt Ideal) (S := S512x128) (e' := .bf16) (iblk m c 6 t) (Rect.unit ![o, 0] ![256, 128] i128))

/-- The cotangent of the norm's output on the half. -/
abbrev dyT : FVec Ideal S256x1024 .f32 := k0_pay10 (F := Ideal) (View.ld (Val := Elt Ideal) (S := S512x512) (e' := .bf16) (iblk m c 2 t) (Rect.unit ![o, 0] ![256, 512] i512)) (View.ld (Val := Elt Ideal) (S := S512x256) (e' := .bf16) (iblk m c 3 t) (Rect.unit ![o, 0] ![256, 256] i256)) (View.ld (Val := Elt Ideal) (S := S512x512) (e' := .bf16) (iblk m c 4 t) (Rect.unit ![o, 0] ![256, 512] i512)) (View.ld (Val := Elt Ideal) (S := S512x1024) (e' := .bf16) (iblk m c 5 t) (Rect.unit ![o, 0] ![256, 1024] i1024)) (View.ld (Val := Elt Ideal) (S := S512x128) (e' := .bf16) (iblk m c 6 t) (Rect.unit ![o, 0] ![256, 128] i128)) (iblk m c 10 t)

theorem dyT_at (p : Fin 256) (d : Fin 1024) : dyT m c t o i1024 i512 i256 i128 (ix2 p d) = DYm m c (row (pt t) o ho p) d := by
  rw [dyT, pay10_at, show iblk m c 10 t = _ from blkW m c t]
  simp only [cat5_tile m c t o ho i1024 i512 i256 i128]
  rfl

theorem projT_at (p : Fin 256) (k : Fin 2432) : projT m c t o i1024 i512 i256 i128 (ix2 p k) = PRm m c (row (pt t) o ho p) k := by
  rw [projT, pay8_at, cat5_tile m c t o ho i1024 i512 i256 i128]

theorem xT_at (p : Fin 256) (d : Fin 1024) : xT m c t o i1024 (ix2 p d) = m ((c : Thread nD τ).loc main_arg0) (ix2 (row (pt t) o ho p) d) := by
  rw [xT, tile0 m c t o ho]
  rfl

theorem gx_tile (p : Fin 256) (d : Fin 1024) :
    k0_pay35 (F := Ideal) (dyT m c t o i1024 i512 i256 i128) (k0_pay14 (xT m c t o i1024)) (k0_pay15 (xT m c t o i1024)) (iblk m c 7 t) (iblk m c 8 t)
      (View.ld (Val := Elt Ideal) (S := S512x1024) (e' := .f32) (iblk m c 1 t) (Rect.unit ![o, 0] ![256, 1024] i1024)) (ix2 p d) = GXm m c (ix2 (row (pt t) o ho p) d) := by
  rw [pay35_at]
  simp only [dyT_at m c t o ho i1024 i512 i256 i128]
  rw [xT, tile0 m c t o ho, tile1 m c t o ho, show iblk m c 7 t = _ from blk7 m c t, show iblk m c 8 t = _ from blk8 m c t]
  rfl

theorem h_tile (p : Fin 256) (d : Fin 1024) :
    k0_pay16 (F := Ideal) (xT m c t o i1024) (k0_pay11 (xT m c t o i1024)) (iblk m c 7 t) (iblk m c 8 t) (iblk m c 9 t) (ix2 p d)
      = HHm m c (ix2 (row (pt t) o ho p) d) := by
  rw [pay16_at]
  rw [xT, tile0 m c t o ho, show iblk m c 7 t = _ from blk7 m c t, show iblk m c 8 t = _ from blk8 m c t, show iblk m c 9 t = _ from blk9 m c t]
  rfl

end

/-! The accumulators' steps. -/

section
variable (c : Dev nD) (t : Fin cfg0.N)
  (i1024 : ∀ a : Fin 2, ![0, 0] a + ![256, 1024] a ≤ S512x1024.size a)
  (i512 : ∀ a : Fin 2, ![0, 0] a + ![256, 512] a ≤ S512x512.size a)
  (i256 : ∀ a : Fin 2, ![0, 0] a + ![256, 256] a ≤ S512x256.size a)
  (i128 : ∀ a : Fin 2, ![0, 0] a + ![256, 128] a ≤ S512x128.size a)
  (i1024' : ∀ a : Fin 2, ![256, 0] a + ![256, 1024] a ≤ S512x1024.size a)
  (i512' : ∀ a : Fin 2, ![256, 0] a + ![256, 512] a ≤ S512x512.size a)
  (i256' : ∀ a : Fin 2, ![256, 0] a + ![256, 256] a ≤ S512x256.size a)
  (i128' : ∀ a : Fin 2, ![256, 0] a + ![256, 128] a ≤ S512x128.size a)

theorem acc0_tile (a : FVec Ideal S1x1024 .f32) (d : Fin 1024) :
    k0_pay1 (F := Ideal) (k0_pay25 (dyT m c t 0 i1024 i512 i256 i128) (k0_pay13 (xT m c t 0 i1024) (k0_pay11 (xT m c t 0 i1024))) (iblk m c 8 t))
      (k0_pay31 (dyT m c t 256 i1024' i512' i256' i128') (k0_pay15 (xT m c t 256 i1024')) (iblk m c 8 t)) a (ix2 0 d)
      = a (ix2 0 d) + accT m c (pt t) 0 d := by
  rw [pay1_at]
  simp only [dyT_at m c t 0 (by decide) i1024 i512 i256 i128, dyT_at m c t 256 (by decide) i1024' i512' i256' i128']
  rw [xT, xT, tile0 m c t 0 (by decide), tile0 m c t 256 (by decide), show iblk m c 8 t = _ from blk8 m c t]
  rw [accT, if_pos (by decide)]
  rfl

theorem acc1_tile (a : FVec Ideal S1x1024 .f32) (d : Fin 1024) :
    k0_pay2 (F := Ideal) (k0_pay26 (k0_pay21 (iblk m c 7 t)) (k0_pay24 (dyT m c t 0 i1024 i512 i256 i128) (k0_pay13 (xT m c t 0 i1024) (k0_pay11 (xT m c t 0 i1024)))))
      (k0_pay32 (dyT m c t 256 i1024' i512' i256' i128') (k0_pay15 (xT m c t 256 i1024')) (iblk m c 7 t)) a (ix2 0 d)
      = a (ix2 0 d) + accT m c (pt t) 1 d := by
  rw [pay2_at]
  simp only [dyT_at m c t 0 (by decide) i1024 i512 i256 i128, dyT_at m c t 256 (by decide) i1024' i512' i256' i128']
  rw [xT, xT, tile0 m c t 0 (by decide), tile0 m c t 256 (by decide), show iblk m c 7 t = _ from blk7 m c t]
  rw [accT, if_neg (by decide), if_pos (by decide)]
  rfl

theorem acc2_tile (a : FVec Ideal S1x1024 .f32) (d : Fin 1024) :
    k0_pay3 (F := Ideal) (k0_pay27 (dyT m c t 0 i1024 i512 i256 i128)) (k0_pay33 (dyT m c t 256 i1024' i512' i256' i128')) a (ix2 0 d)
      = a (ix2 0 d) + accT m c (pt t) 2 d := by
  rw [pay3_at]
  simp only [dyT_at m c t 0 (by decide) i1024 i512 i256 i128, dyT_at m c t 256 (by decide) i1024' i512' i256' i128']
  rw [accT, if_neg (by decide), if_neg (by decide), if_pos (by decide)]

theorem gw_tile (w : FVec Ideal S2432x512 .f32) (j : Fin 2432) (k : Fin 512) :
    k0_pay20 (F := Ideal) (projT m c t 0 i1024 i512 i256 i128) (projT m c t 256 i1024' i512' i256' i128')
      (k0_pay16 (xT m c t 0 i1024) (k0_pay11 (xT m c t 0 i1024)) (iblk m c 7 t) (iblk m c 8 t) (iblk m c 9 t))
      (k0_pay17 (xT m c t 256 i1024') (iblk m c 7 t)) (k0_pay18 (iblk m c 8 t)) (iblk m c 9 t) w (ix2 j k)
      = w (ix2 j k) + gwT m c (pt t) j k := by
  rw [pay20_at]
  simp only [projT_at m c t 0 (by decide) i1024 i512 i256 i128, projT_at m c t 256 (by decide) i1024' i512' i256' i128']
  rw [xT, xT, tile0 m c t 0 (by decide), tile0 m c t 256 (by decide), show iblk m c 7 t = _ from blk7 m c t, show iblk m c 8 t = _ from blk8 m c t,
    show iblk m c 9 t = _ from blk9 m c t]
  rfl

end

theorem case_split (t : Fin cfg0.N) : (t.val % 16 = 0 ∧ ¬t.val % 16 = 15) ∨ (¬t.val % 16 = 0 ∧ ¬t.val % 16 = 15)
    ∨ (¬t.val % 16 = 0 ∧ t.val % 16 = 15) := by omega

theorem outs11 (c : Dev nD) (t : Fin cfg0.N) :
    (outsAt0 m c t.val t.isLt).1 = fun i : S512x1024.Idx => GXm m c (ix2 ⟨512 * pt t + i 0, by have := (i 0).isLt; have : S512x1024.size 0 = 512 := rfl; omega⟩ (i 1)) := by
  funext y
  rcases case_split t with ⟨h0, h1⟩ | ⟨h0, h1⟩ | ⟨h0, h1⟩
  · rw [outsAt0_A m c t h0 h1]; dsimp only; frame_out
    canon_tiles x h
    · idx_vars x
      exact (gx_tile m c t 256 (by decide) _ _ _ _ x0 x1).trans (congrArg (GXm m c) (by blk_ext [row]))
    · idx_vars x
      exact (gx_tile m c t 0 (by decide) _ _ _ _ x0 x1).trans (congrArg (GXm m c) (by blk_ext [row]))
  · rw [outsAt0_B m c t h0 h1]; dsimp only; frame_out
    canon_tiles x h
    · idx_vars x
      exact (gx_tile m c t 256 (by decide) _ _ _ _ x0 x1).trans (congrArg (GXm m c) (by blk_ext [row]))
    · idx_vars x
      exact (gx_tile m c t 0 (by decide) _ _ _ _ x0 x1).trans (congrArg (GXm m c) (by blk_ext [row]))
  · rw [outsAt0_C m c t h0 h1]; dsimp only; frame_out
    canon_tiles x h
    · idx_vars x
      exact (gx_tile m c t 256 (by decide) _ _ _ _ x0 x1).trans (congrArg (GXm m c) (by blk_ext [row]))
    · idx_vars x
      exact (gx_tile m c t 0 (by decide) _ _ _ _ x0 x1).trans (congrArg (GXm m c) (by blk_ext [row]))

theorem final11 (c : Dev nD) : (dats m 0 c).arrAt 11 (cfgs 0).N = GXm m c := by
  refine (dats m 0 c).arrAt_eq_of_covers 11 _ (by decide +kernel) fun t _ y => ?_
  rw [after0_11, outs11]
  refine congrArg (GXm m c) ?_
  blk_ext [idx_val t, pt]

theorem outs12 (c : Dev nD) (t : Fin cfg0.N) :
    (outsAt0 m c t.val t.isLt).2.1 = fun i : S512x1024.Idx => HHm m c (ix2 ⟨512 * pt t + i 0, by have := (i 0).isLt; have : S512x1024.size 0 = 512 := rfl; omega⟩ (i 1)) := by
  funext y
  rcases case_split t with ⟨h0, h1⟩ | ⟨h0, h1⟩ | ⟨h0, h1⟩
  · rw [outsAt0_A m c t h0 h1]; dsimp only; frame_out
    canon_tiles x h
    · idx_vars x
      exact (h_tile m c t 256 (by decide) _ x0 x1).trans (congrArg (HHm m c) (by blk_ext [row]))
    · idx_vars x
      exact (h_tile m c t 0 (by decide) _ x0 x1).trans (congrArg (HHm m c) (by blk_ext [row]))
  · rw [outsAt0_B m c t h0 h1]; dsimp only; frame_out
    canon_tiles x h
    · idx_vars x
      exact (h_tile m c t 256 (by decide) _ x0 x1).trans (congrArg (HHm m c) (by blk_ext [row]))
    · idx_vars x
      exact (h_tile m c t 0 (by decide) _ x0 x1).trans (congrArg (HHm m c) (by blk_ext [row]))
  · rw [outsAt0_C m c t h0 h1]; dsimp only; frame_out
    canon_tiles x h
    · idx_vars x
      exact (h_tile m c t 256 (by decide) _ x0 x1).trans (congrArg (HHm m c) (by blk_ext [row]))
    · idx_vars x
      exact (h_tile m c t 0 (by decide) _ x0 x1).trans (congrArg (HHm m c) (by blk_ext [row]))

theorem final12 (c : Dev nD) : (dats m 0 c).arrAt 12 (cfgs 0).N = HHm m c := by
  refine (dats m 0 c).arrAt_eq_of_covers 12 _ (by decide +kernel) fun t _ y => ?_
  rw [after0_12, outs12]
  refine congrArg (HHm m c) ?_
  blk_ext [idx_val t, pt]

/-- A 32-bit zero. -/
theorem zero_f32 : Ideal.ofBits .f32 0x00000000#32 = 0 := by
  simp [Ideal.ofBits, Ideal.ieee]

/-- Three rows stored over a block of eight: the stored rows, and the block elsewhere. -/
theorem rows3 (v : View sig .tc .vmem S8x1024 .f32) (f : v.ty.Contents (Elt Ideal)) (p0 p1 p2 : FVec Ideal S1x1024 .f32)
    (L : List (View.Piece (Elt Ideal) S8x1024 .f32)) (b0 b1 b2) (r : Fin 8) (d : Fin 1024) :
    v.read (Elt Ideal) (v.writes (Elt Ideal) f (⟨Rect.unit ![2, 0] ![1, 1024] b2, p2⟩ :: ⟨Rect.unit ![1, 0] ![1, 1024] b1, p1⟩
      :: ⟨Rect.unit ![0, 0] ![1, 1024] b0, p0⟩ :: L)) (ix2 r d)
      = if (r : ℕ) = 0 then p0 (ix2 0 d) else if (r : ℕ) = 1 then p1 (ix2 0 d) else if (r : ℕ) = 2 then p2 (ix2 0 d)
        else v.read (Elt Ideal) (v.writes (Elt Ideal) f L) (ix2 r d) := by
  have e0 : (1 : Fin 2 → ℕ) = 1 := rfl
  by_cases h0 : (r : ℕ) = 0
  · rw [if_pos h0, View.read_writes_cons_rows_of_not_mem v f b2 p2 _ (ix2 r d) (W := 1) rfl rfl (.inl (by show (r : ℕ) < 2; omega)),
      View.read_writes_cons_rows_of_not_mem v f b1 p1 _ (ix2 r d) (W := 1) rfl rfl (.inl (by show (r : ℕ) < 1; omega)),
      View.read_writes_cons_rows_of_mem v f b0 p0 L (ix2 r d) (ix2 (0 : Fin 1) d) rfl h0 rfl]
  rw [if_neg h0]
  by_cases h1 : (r : ℕ) = 1
  · rw [if_pos h1, View.read_writes_cons_rows_of_not_mem v f b2 p2 _ (ix2 r d) (W := 1) rfl rfl (.inl (by show (r : ℕ) < 2; omega)),
      View.read_writes_cons_rows_of_mem v f b1 p1 _ (ix2 r d) (ix2 (0 : Fin 1) d) rfl h1 rfl]
  rw [if_neg h1]
  by_cases h2 : (r : ℕ) = 2
  · rw [if_pos h2, View.read_writes_cons_rows_of_mem v f b2 p2 _ (ix2 r d) (ix2 (0 : Fin 1) d) rfl h2 rfl]
  rw [if_neg h2, View.read_writes_cons_rows_of_not_mem v f b2 p2 _ (ix2 r d) (W := 1) rfl rfl (.inr (by show 2 + 1 ≤ (r : ℕ); omega)),
    View.read_writes_cons_rows_of_not_mem v f b1 p1 _ (ix2 r d) (W := 1) rfl rfl (.inr (by show 1 + 1 ≤ (r : ℕ); omega)),
    View.read_writes_cons_rows_of_not_mem v f b0 p0 _ (ix2 r d) (W := 1) rfl rfl (.inr (by show 0 + 1 ≤ (r : ℕ); omega))]

/-- A load of row `q` after stores. -/
theorem cov_row (v : View sig .tc .vmem S8x1024 .f32) (L : List (View.Piece (Elt Ideal) S8x1024 .f32)) (q : ℕ) (hq : q < 8)
    (b : ∀ a : Fin 2, ![q, 0] a + ![1, 1024] a ≤ S8x1024.size a) (x : (Rect.unit (s := S8x1024) ![q, 0] ![1, 1024] b).toLoadRect.shape.Idx) (d : Fin 1024)
    (hx0 : (x (0 : Fin 2) : ℕ) = 0) (hx1 : (x (1 : Fin 2) : ℕ) = d) :
    v.readCov (Val := Elt Ideal) L (Rect.unit (s := S8x1024) ![q, 0] ![1, 1024] b).toLoadRect x
      = v.read (Elt Ideal) (v.writes (Elt Ideal) v.junk L) (ix2 (⟨q, hq⟩ : Fin 8) d) := by
  rw [View.readCov_eq_canon', View.read_writes_junk_eq_canon]
  refine congrArg (View.canon L) (funext fun a => Fin.ext ?_)
  refine (Rect.idx_unit_val (s := S8x1024) ![q, 0] ![1, 1024] b x a).trans ?_
  fin_cases a
  · show q + (x (0 : Fin 2) : ℕ) = q; omega
  · show 0 + (x (1 : Fin 2) : ℕ) = d; omega

/-- A row of the block under two stores of other rows, over a block of zeros. -/
theorem zero_row (v : View sig .tc .vmem S8x1024 .f32) (f : v.ty.Contents (Elt Ideal)) (b) (r : Fin 8) (d : Fin 1024) :
    v.read (Elt Ideal) (v.writes (Elt Ideal) f [⟨Rect.unit ![0, 0] ![8, 1024] b, k0_pay5 (F := Ideal)⟩]) (ix2 r d) = (0 : EReal) := by
  rw [View.read_writes_cons_rows_of_mem v f b _ [] (ix2 r d) (ix2 r d) rfl (by simp) rfl]
  pointwise [k0_pay5, zero_f32]

theorem accT_rest (c : Dev nD) (t : Fin 16) (r : Fin 8) (d : Fin 1024) (h0 : ¬(r : ℕ) = 0) (h1 : ¬(r : ℕ) = 1) (h2 : ¬(r : ℕ) = 2) :
    accT m c t r d = 0 := by
  rw [accT, if_neg h0, if_neg h1, if_neg h2]

theorem outs13_A (c : Dev nD) (t : Fin cfg0.N) (h0 : t.val % 16 = 0) (h1 : ¬t.val % 16 = 15) (r : Fin 8) (d : Fin 1024) :
    (show FVec Ideal S8x1024 .f32 from (outsAt0 m c t.val t.isLt).2.2.1) (ix2 r d) = (0 : EReal) + accT m c (pt t) r d := by
  rw [outsAt0_A m c t h0 h1]; dsimp only; frame_out
  rw [← View.read_writes_junk_eq_canon (ms0_13 t).view, rows3]
  split_ifs with hr0 hr1 hr2
  · obtain rfl : r = 0 := Fin.ext hr0
    refine (acc0_tile m c t _ _ _ _ _ _ _ _ _ d).trans (congrArg (· + _) ?_)
    rw [cov_row _ _ 0 (by decide) _ _ d rfl rfl]
    exact zero_row _ _ _ _ _
  · obtain rfl : r = 1 := Fin.ext hr1
    refine (acc1_tile m c t _ _ _ _ _ _ _ _ _ d).trans (congrArg (· + _) ?_)
    rw [cov_row _ _ 1 (by decide) _ _ d rfl rfl, View.read_writes_cons_rows_of_not_mem _ _ _ _ _ _ (W := 1) rfl rfl (.inr (Nat.le_of_ble_eq_true rfl))]
    exact zero_row _ _ _ _ _
  · obtain rfl : r = 2 := Fin.ext hr2
    refine (acc2_tile m c t _ _ _ _ _ _ _ _ _ d).trans (congrArg (· + _) ?_)
    rw [cov_row _ _ 2 (by decide) _ _ d rfl rfl, View.read_writes_cons_rows_of_not_mem _ _ _ _ _ _ (W := 1) rfl rfl (.inr (Nat.le_of_ble_eq_true rfl)),
      View.read_writes_cons_rows_of_not_mem _ _ _ _ _ _ (W := 1) rfl rfl (.inr (Nat.le_of_ble_eq_true rfl))]
    exact zero_row _ _ _ _ _
  · rw [accT_rest m c _ r d hr0 hr1 hr2, add_zero]
    exact zero_row _ _ _ _ _

theorem outs13_BC (c : Dev nD) (t : Fin cfg0.N) (h0 : ¬t.val % 16 = 0) (r : Fin 8) (d : Fin 1024) :
    (show FVec Ideal S8x1024 .f32 from (outsAt0 m c t.val t.isLt).2.2.1) (ix2 r d)
      = (show FVec Ideal S8x1024 .f32 from (outsAt0 m c (t.val - 1) (Nat.lt_of_le_of_lt (Nat.sub_le _ _) t.isLt)).2.2.1) (ix2 r d) + accT m c (pt t) r d := by
  have ld (X : FVec Ideal S8x1024 .f32) (q : ℕ) (hq : q < 8) (b) : View.ld (Val := Elt Ideal) (S := S8x1024) (e' := .f32) X (Rect.unit ![q, 0] ![1, 1024] b) (ix2 (0 : Fin 1) d)
      = X (ix2 ⟨q, hq⟩ d) :=
    View.ld_unit_apply_of (Val := Elt Ideal) (S := S8x1024) (e := .f32) X _ _ b _ _ (fun a => by fin_cases a <;> simp)
  by_cases h1 : t.val % 16 = 15
  · rw [outsAt0_C m c t h0 h1]; dsimp only; frame_out
    rw [rows3]
    split_ifs with hr0 hr1 hr2
    · obtain rfl : r = 0 := Fin.ext hr0
      exact (acc0_tile m c t _ _ _ _ _ _ _ _ _ d).trans (congrArg (· + _) (ld _ 0 (by decide) _))
    · obtain rfl : r = 1 := Fin.ext hr1
      exact (acc1_tile m c t _ _ _ _ _ _ _ _ _ d).trans (congrArg (· + _) (ld _ 1 (by decide) _))
    · obtain rfl : r = 2 := Fin.ext hr2
      exact (acc2_tile m c t _ _ _ _ _ _ _ _ _ d).trans (congrArg (· + _) (ld _ 2 (by decide) _))
    · rw [accT_rest m c _ r d hr0 hr1 hr2, add_zero, View.writes_nil]
      simp only [Memref.IsWhole.read_unread]
  · rw [outsAt0_B m c t h0 h1]; dsimp only; frame_out
    rw [rows3]
    split_ifs with hr0 hr1 hr2
    · obtain rfl : r = 0 := Fin.ext hr0
      exact (acc0_tile m c t _ _ _ _ _ _ _ _ _ d).trans (congrArg (· + _) (ld _ 0 (by decide) _))
    · obtain rfl : r = 1 := Fin.ext hr1
      exact (acc1_tile m c t _ _ _ _ _ _ _ _ _ d).trans (congrArg (· + _) (ld _ 1 (by decide) _))
    · obtain rfl : r = 2 := Fin.ext hr2
      exact (acc2_tile m c t _ _ _ _ _ _ _ _ _ d).trans (congrArg (· + _) (ld _ 2 (by decide) _))
    · rw [accT_rest m c _ r d hr0 hr1 hr2, add_zero, View.writes_nil]
      simp only [Memref.IsWhole.read_unread]

theorem gw_A (c : Dev nD) (t : Fin cfg0.N) (h0 : t.val % 16 = 0) (h1 : ¬t.val % 16 = 15) (j : Fin 2432) (k : Fin 512) :
    (show FVec Ideal S2432x512 .f32 from (outsAt0 m c t.val t.isLt).2.2.2.2) (ix2 j k) = (0 : EReal) + gwT m c (pt t) j k := by
  rw [outsAt0_A m c t h0 h1]; dsimp only; frame_out
  refine (gw_tile m c t _ _ _ _ _ _ _ _ _ j k).trans ?_
  pointwise [k0_pay6, zero_f32]

theorem gw_BC (c : Dev nD) (t : Fin cfg0.N) (h0 : ¬t.val % 16 = 0) (j : Fin 2432) (k : Fin 512) :
    (show FVec Ideal S2432x512 .f32 from (outsAt0 m c t.val t.isLt).2.2.2.2) (ix2 j k)
      = (show FVec Ideal S2432x512 .f32 from (outsAt0 m c (t.val - 1) (Nat.lt_of_le_of_lt (Nat.sub_le _ _) t.isLt)).2.2.2.2) (ix2 j k) + gwT m c (pt t) j k := by
  by_cases h1 : t.val % 16 = 15
  · rw [outsAt0_C m c t h0 h1]; dsimp only; frame_out
    simp only [read_unread_whole]
    exact gw_tile m c t _ _ _ _ _ _ _ _ _ j k
  · rw [outsAt0_B m c t h0 h1]; dsimp only; frame_out
    simp only [read_unread_whole]
    exact gw_tile m c t _ _ _ _ _ _ _ _ _ j k

theorem outs14 (c : Dev nD) (t : Fin cfg0.N) (h0 : ¬t.val % 16 = 0) (h1 : t.val % 16 = 15) (j : Fin 2432) (k : Fin 512) :
    (show FVec Ideal S2432x512 .bf16 from (outsAt0 m c t.val t.isLt).2.2.2.1) (ix2 j k)
      = (show FVec Ideal S2432x512 .f32 from (outsAt0 m c t.val t.isLt).2.2.2.2) (ix2 j k) := by
  rw [outsAt0_C m c t h0 h1]; dsimp only; frame_out
  pointwise [k0_pay4]

/-- The row accumulator and the weight's gradient after the sixteen blocks. -/
def ACm (c : Dev nD) : FVec Ideal S8x1024 .f32 := fun i => ∑ t : Fin cfg0.N, accT m c (pt t) (i 0) (i 1)

def GWm (c : Dev nD) : FVec Ideal S2432x512 .bf16 := fun i => ∑ t : Fin cfg0.N, gwT m c (pt t) (i 0) (i 1)

theorem final13 (c : Dev nD) : (dats m 0 c).arrAt 13 (cfgs 0).N = ACm m c := by
  refine (dats m 0 c).arrAt_eq_of_covers 13 _ (by decide +kernel) fun t hf y => ?_
  have h15 : t.val % 16 = 15 := (flush0_13 t).mp hf
  have hN : cfg0.N = 16 := N_0
  have ht : t.val < 16 := lt_of_lt_of_eq t.isLt hN
  have key := Pipeline.eq_sum_fin_of_reset_step_apply_last
    (fun n h (j : Fin 8 × Fin 1024) => (show FVec Ideal S8x1024 .f32 from (outsAt0 m c n h).2.2.1) (ix2 j.1 j.2)) 16 (fun _ => (0 : EReal))
    (fun t j => accT m c (pt t) j.1 j.2) (fun t h j => outs13_A m c t h (by omega) j.1 j.2) (fun t h j => outs13_BC m c t h j.1 j.2)
    (le_of_eq N_0) t (by omega)
  have e : (outsAt0 m c t.val t.isLt).2.2.1 = ACm m c := by
    funext i
    idx_vars i
    exact (key (i0, i1)).trans (zero_add _)
  rw [after0_13, e]
  refine congrArg (ACm m c) ?_
  blk_ext [idx_val t, pt]

theorem final14 (c : Dev nD) : (dats m 0 c).arrAt 14 (cfgs 0).N = GWm m c := by
  refine (dats m 0 c).arrAt_eq_of_covers 14 _ (by decide +kernel) fun t hf y => ?_
  have h15 : t.val % 16 = 15 := (flush0_14 t).mp hf
  have hN : cfg0.N = 16 := N_0
  have ht : t.val < 16 := lt_of_lt_of_eq t.isLt hN
  have key := Pipeline.eq_sum_fin_of_reset_step_apply_last
    (fun n h (j : Fin 2432 × Fin 512) => (show FVec Ideal S2432x512 .f32 from (outsAt0 m c n h).2.2.2.2) (ix2 j.1 j.2)) 16 (fun _ => (0 : EReal))
    (fun t j => gwT m c (pt t) j.1 j.2) (fun t h j => gw_A m c t h (by omega) j.1 j.2) (fun t h j => gw_BC m c t h j.1 j.2)
    (le_of_eq N_0) t (by omega)
  have e : (outsAt0 m c t.val t.isLt).2.2.2.1 = GWm m c := by
    funext i
    idx_vars i
    exact (outs14 m c t (by omega) h15 i0 i1).trans ((key (i0, i1)).trans (zero_add _))
  rw [after0_14, e]
  refine congrArg (GWm m c) ?_
  blk_ext [idx_val t, pt]

end Cert.InProj

end

end
-- ==== Proof.Ref.lean ====
module

public import proofs.«01_k».proof.Proof.Gen.ReferenceIdeal.Run
public import proofs.«01_k».proof.Proof.Gen.ReferenceIdeal.Read
public import Idealize.ShloMosaic.Lib.Pointwise
public import proofs.«01_k».proof.Proof.Math
public import Idealize.ShloMosaic.Lib.Pipeline.ValueKit

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.InProj

/-! The reference's arrays read at an index. -/

variable (x0 x1 : FVec Ideal S8192x1024 .f32) (x2 : FVec Ideal S8192x512 .bf16) (x3 : FVec Ideal S8192x256 .bf16)
  (x4 : FVec Ideal S8192x512 .bf16) (x5 : FVec Ideal S8192x1024 .bf16) (x6 : FVec Ideal S8192x8 .bf16)
  (x7 x8 x9 : FVec Ideal S1024 .f32) (x10 : FVec Ideal S1024x2312 .f32)

theorem r11 (r : Fin 8192) (d : Fin 1) : val_main_v11 (F := Ideal) x0 (ix2 r d) = refV (fun e => x0 (ix2 r e)) := by
  pointwise [val_main_v11, val_main_v9, val_main_v7, val_main_v8, val_main_v6, val_main_v5, val_main_cst, val_main_cst_0, val_main_v10, val_main_cst_1, refV]

theorem r12 (r : Fin 8192) (d : Fin 1) : val_main_v12 (F := Ideal) x0 (ix2 r d) = Ideal.rsqrt (refV (fun e => x0 (ix2 r e))) := by
  pointwise [val_main_v12, r11]

theorem r15 (r : Fin 8192) (d : Fin 1) : val_main_v15 (F := Ideal) x0 (ix2 r d)
    = Ideal.ofBits .f32 3204448256#32 * Ideal.div (Ideal.rsqrt (refV (fun e => x0 (ix2 r e)))) (refV (fun e => x0 (ix2 r e))) := by
  pointwise [val_main_v15, val_main_v14, val_main_v13, val_main_cst_2, r11, r12]

theorem one_bits : Ideal.ofBits .f32 0x3F800000#32 = 1 := by
  simp [Ideal.ofBits, Ideal.ieee, -EReal.coe_mul]; norm_num

theorem zero_bits : Ideal.ofBits .f32 0x00000000#32 = 0 := by
  simp [Ideal.ofBits, Ideal.ieee]

theorem r28 (r : Fin 8192) (d : Fin 1024) : val_main_v28 (F := Ideal) x0 x7 x8 x9 (ix2 r d)
    = x0 (ix2 r d) * Ideal.rsqrt (refV (fun e => x0 (ix2 r e))) * x7 (ix1 d) * (1 + x8 (ix1 d)) + x9 (ix1 d) := by
  pointwise [val_main_v28, val_main_v25, val_main_v27,val_main_v26, val_main_v20, val_main_v24, val_main_v23, val_main_v22, val_main_v21, val_main_cst_3, val_main_v17, val_main_v18, val_main_v19, val_main_v16, r12, one_bits]

/-- Row `r` of the projection's cotangent, its five parts side by side. -/
def projR (r : Fin 8192) (k : Fin 2312) : EReal :=
  if h : (k : ℕ) < 512 then x2 (ix2 r ⟨k, h⟩)
  else if h : (k : ℕ) - 512 < 256 then x3 (ix2 r ⟨k - 512, h⟩)
  else if h : (k : ℕ) - 512 - 256 < 512 then x4 (ix2 r ⟨k - 512 - 256, h⟩)
  else if h : (k : ℕ) - 512 - 256 - 512 < 1024 then x5 (ix2 r ⟨k - 512 - 256 - 512, h⟩)
  else x6 (ix2 r ⟨k - 512 - 256 - 512 - 1024, by omega⟩)

theorem r30 (r : Fin 8192) (k : Fin 2312) : val_main_v30 (F := Ideal) x2 x3 x4 x5 x6 (ix2 r k) = projR x2 x3 x4 x5 x6 r k := by
  pointwise [val_main_v30, val_main_v0, val_main_v1, val_main_v2, val_main_v3, val_main_v4, projR]

/-- The cotangent of the norm's output. -/
def dyR (r : Fin 8192) (d : Fin 1024) : EReal := ∑ k : Fin 2312, projR x2 x3 x4 x5 x6 r k * x10 (ix2 d k)

theorem r35 (r : Fin 8192) (d : Fin 1024) : val_main_v35 (F := Ideal) x2 x3 x4 x5 x6 x10 (ix2 r d) = dyR x2 x3 x4 x5 x6 x10 r d := by
  pointwise [val_main_v35, val_main_v34, val_main_v31, val_main_cst_4, r30, dyR]

theorem r65 (r : Fin 8192) (d : Fin 1024) : val_main_v65 (F := Ideal) x0 x1 x2 x3 x4 x5 x6 x7 x8 x10 (ix2 r d)
    = x1 (ix2 r d) + dyR x2 x3 x4 x5 x6 x10 r d * (1 + x8 (ix1 d)) * x7 (ix1 d) * Ideal.rsqrt (refV (fun e => x0 (ix2 r e)))
      + x0 (ix2 r d) * refT (fun e => x0 (ix2 r e)) (fun e => dyR x2 x3 x4 x5 x6 x10 r e * (1 + x8 (ix1 e)) * x7 (ix1 e))
      + refT (fun e => x0 (ix2 r e)) (fun e => dyR x2 x3 x4 x5 x6 x10 r e * (1 + x8 (ix1 e)) * x7 (ix1 e)) * x0 (ix2 r d) := by
  pointwise [val_main_v65, val_main_v64, val_main_v63, val_main_v62, val_main_v61, val_main_v60, val_main_v59, val_main_v58, val_main_v57, val_main_v56, val_main_v55, val_main_v54, val_main_v53, val_main_v52, val_main_v51, val_main_v49, val_main_v48, val_main_v43, val_main_v42, val_main_cst_11, val_main_cst_12, val_main_cst_13, val_main_v18, val_main_v23, val_main_v22, val_main_v21, val_main_cst_3, r12, r15, r35, refT, one_bits]
  simp only [Finset.univ_unique, Finset.sum_singleton, Finset.sum_const, Finset.card_singleton, one_smul]

theorem r70 (r : Fin 8) (d : Fin 1024) : val_main_v70 (F := Ideal) x0 x2 x3 x4 x5 x6 x7 x8 x10 (ix2 r d)
    = if (r : ℕ) = 0 then ∑ x : Fin 8192, x0 (ix2 x d) * Ideal.rsqrt (refV (fun e => x0 (ix2 x e))) * (dyR x2 x3 x4 x5 x6 x10 x d * (1 + x8 (ix1 d)))
      else if (r : ℕ) = 1 then ∑ x : Fin 8192, x0 (ix2 x d) * Ideal.rsqrt (refV (fun e => x0 (ix2 x e))) * x7 (ix1 d) * dyR x2 x3 x4 x5 x6 x10 x d
      else if (r : ℕ) = 2 then ∑ x : Fin 8192, dyR x2 x3 x4 x5 x6 x10 x d
      else 0 := by
  pointwise [val_main_v70, val_main_v69, val_main_v68, val_main_v67, val_main_v66, val_main_v50, val_main_v47, val_main_v46, val_main_v45, val_main_v44, val_main_v41, val_main_v40, val_main_v39, val_main_v38, val_main_v37, val_main_v36, val_main_v43, val_main_v42, val_main_v23, val_main_v22, val_main_v21, val_main_cst_3,  val_main_cst_14, val_main_cst_10, val_main_cst_9, val_main_cst_8, val_main_cst_7, val_main_cst_6, val_main_cst_5, val_main_v17, val_main_v16, val_main_v20, val_main_v19, val_main_v18, r12, r35, one_bits, zero_bits]
  split_ifs <;> first | omega | simp

theorem r75 (r : Fin 2432) (d : Fin 512) : val_main_v75 (F := Ideal) x0 x2 x3 x4 x5 x6 x7 x8 x9 (ix2 r d)
    = if h : (r : ℕ) < 2312 then ∑ x : Fin 8192, projR x2 x3 x4 x5 x6 x ⟨r, h⟩
        * (x0 (ix2 x ⟨d, by omega⟩) * Ideal.rsqrt (refV (fun e => x0 (ix2 x e))) * x7 (ix1 ⟨d, by omega⟩) * (1 + x8 (ix1 ⟨d, by omega⟩)) + x9 (ix1 ⟨d, by omega⟩))
      else 0 := by
  pointwise [val_main_v75, val_main_v73, val_main_v72, val_main_v71, val_main_call0_v0, val_main_v33, val_main_v32, r28, r30, val_main_c]
  simp [FloatOps.sitofp]

theorem r74 (r : Fin 8192) (d : Fin 1024) : val_main_v74 (F := Ideal) x0 x7 x8 x9 (ix2 r d)
    = x0 (ix2 r d) * Ideal.rsqrt (refV (fun e => x0 (ix2 r e))) * x7 (ix1 d) * (1 + x8 (ix1 d)) + x9 (ix1 d) := by
  pointwise [val_main_v74, val_main_v29, r28]

end Cert.InProj

end

end
-- ==== Proof.Pre.lean ====
module

public import proofs.«01_k».proof.Pre_finite
public import Idealize.ShloMosaic.Lib.Pointwise

@[expose] public section

set_option maxRecDepth 16384

noncomputable section

open Idealize.ShloMosaic

namespace Cert.InProj

/-! Finite arguments: what the precondition says of an entry. -/

/-- An extended real that is a real number. -/
def IsReal (a : EReal) : Prop := ∃ r : ℝ, a = r

theorem inf_bits : Ideal.ofBits .f32 0x7F800000#32 = ⊤ := by
  simp [Ideal.ofBits, Ideal.ieee]

theorem isReal_of_abs (a : EReal) (h : FloatOps.cmpf (F := Ideal) (φ := .f32) .olt (FloatOps.absf (F := Ideal) (φ := .f32) a) (Ideal.ofBits .f32 0x7F800000#32) = 1#1) : IsReal a := by
  rw [inf_bits] at h
  induction a using EReal.rec with
  | bot => simp [FloatOps.cmpf, FloatOps.absf, Ideal.cmp] at h
  | top => simp [FloatOps.cmpf, FloatOps.absf, Ideal.cmp] at h
  | coe r => exact ⟨r, rfl⟩

instance facts : Cert.Pre_finite.Facts where
  bcast_S_S8192x1024 := by decide
  bitsLt_bf16_f32 := by decide
  bcast_S_S8192x512 := by decide
  bcast_S_S8192x256 := by decide
  bcast_S_S8192x8 := by decide
  bcast_S_S1024 := by decide
  bcast_S_S1024x2312 := by decide

section
variable (x0 x1 : FVec Ideal Pre_finite.S8192x1024 .f32) (x2 : FVec Ideal Pre_finite.S8192x512 .bf16) (x3 : FVec Ideal Pre_finite.S8192x256 .bf16)
  (x4 : FVec Ideal Pre_finite.S8192x512 .bf16) (x5 : FVec Ideal Pre_finite.S8192x1024 .bf16) (x6 : FVec Ideal Pre_finite.S8192x8 .bf16)
  (x7 x8 x9 : FVec Ideal Pre_finite.S1024 .f32) (x10 : FVec Ideal Pre_finite.S1024x2312 .f32)

theorem real0 (h : (Pre_finite.fn (F := Ideal) x0 x1 x2 x3 x4 x5 x6 x7 x8 x9 x10).1 = fun _ => 1#1) (i) : IsReal (x0 i) :=
  isReal_of_abs _ (congrFun h i)

theorem real2 (h : (Pre_finite.fn (F := Ideal) x0 x1 x2 x3 x4 x5 x6 x7 x8 x9 x10).2.1 = fun _ => 1#1) (i) : IsReal (x2 i) :=
  isReal_of_abs _ (congrFun h i)

theorem real3 (h : (Pre_finite.fn (F := Ideal) x0 x1 x2 x3 x4 x5 x6 x7 x8 x9 x10).2.2.1 = fun _ => 1#1) (i) : IsReal (x3 i) :=
  isReal_of_abs _ (congrFun h i)

theorem real4 (h : (Pre_finite.fn (F := Ideal) x0 x1 x2 x3 x4 x5 x6 x7 x8 x9 x10).2.2.2.1 = fun _ => 1#1) (i) : IsReal (x4 i) :=
  isReal_of_abs _ (congrFun h i)

theorem real5 (h : (Pre_finite.fn (F := Ideal) x0 x1 x2 x3 x4 x5 x6 x7 x8 x9 x10).2.2.2.2.1 = fun _ => 1#1) (i) : IsReal (x5 i) :=
  isReal_of_abs _ (congrFun h i)

theorem real6 (h : (Pre_finite.fn (F := Ideal) x0 x1 x2 x3 x4 x5 x6 x7 x8 x9 x10).2.2.2.2.2.1 = fun _ => 1#1) (i) : IsReal (x6 i) :=
  isReal_of_abs _ (congrFun h i)

theorem real7 (h : (Pre_finite.fn (F := Ideal) x0 x1 x2 x3 x4 x5 x6 x7 x8 x9 x10).2.2.2.2.2.2.1 = fun _ => 1#1) (i) : IsReal (x7 i) :=
  isReal_of_abs _ (congrFun h i)

theorem real8 (h : (Pre_finite.fn (F := Ideal) x0 x1 x2 x3 x4 x5 x6 x7 x8 x9 x10).2.2.2.2.2.2.2.1 = fun _ => 1#1) (i) : IsReal (x8 i) :=
  isReal_of_abs _ (congrFun h i)

theorem real10 (h : (Pre_finite.fn (F := Ideal) x0 x1 x2 x3 x4 x5 x6 x7 x8 x9 x10).2.2.2.2.2.2.2.2 = fun _ => 1#1) (i) : IsReal (x10 i) :=
  isReal_of_abs _ (congrFun h i)

end

end Cert.InProj

end

end
-- ==== Proof.Alg.lean ====
module

public import proofs.«01_k».proof.Proof.Ker
public import proofs.«01_k».proof.Proof.Ref
public import proofs.«01_k».proof.Proof.Pre

@[expose] public section

set_option maxRecDepth 16384

noncomputable section

open Idealize.ShloMosaic Idealize.ShloMosaic.TcCoe Idealize.SL.Sem
open Cert.KernelIdeal Cert.KernelIdeal.Gen

namespace Cert.InProj

/-! The kernel's arrays are the reference's. -/

theorem IsReal.mul {a b : EReal} (ha : IsReal a) (hb : IsReal b) : IsReal (a * b) := by
  obtain ⟨a, rfl⟩ := ha; obtain ⟨b, rfl⟩ := hb; exact ⟨a * b, (EReal.coe_mul a b).symm⟩

theorem IsReal.add {a b : EReal} (ha : IsReal a) (hb : IsReal b) : IsReal (a + b) := by
  obtain ⟨a, rfl⟩ := ha; obtain ⟨b, rfl⟩ := hb; exact ⟨a + b, (EReal.coe_add a b).symm⟩

theorem isReal_one : IsReal 1 := ⟨1, EReal.coe_one.symm⟩

theorem isReal_sum {ι : Type*} (s : Finset ι) (f : ι → EReal) (hf : ∀ i, IsReal (f i)) : IsReal (∑ i ∈ s, f i) := by
  choose a ha using hf
  obtain rfl : f = fun e => (a e : EReal) := funext ha
  exact ⟨_, coe_sum s a⟩

/-- A real factor goes into a sum of real terms. -/
theorem sum_mul_real {ι : Type*} (s : Finset ι) (f : ι → EReal) (c : EReal) (hf : ∀ i, IsReal (f i)) (hc : IsReal c) :
    (∑ i ∈ s, f i) * c = ∑ i ∈ s, f i * c := by
  choose a ha using hf
  obtain rfl : f = fun e => (a e : EReal) := funext ha
  obtain ⟨c, rfl⟩ := hc
  simp only [← EReal.coe_mul, coe_sum, Finset.sum_mul]

/-- The sixteen blocks' halves are all the rows. -/
theorem sum_blocks (f : Fin 8192 → EReal) :
    ∑ t : Fin cfg0.N, ((∑ p, f (row (pt t) 0 (by decide) p)) + ∑ p, f (row (pt t) 256 (by decide) p)) = ∑ r, f r := by
  have h2 : ∀ t : Fin cfg0.N, (∑ p, f (row (pt t) 0 (by decide) p)) + ∑ p, f (row (pt t) 256 (by decide) p)
      = ∑ k : Fin (256 + 256), f ⟨512 * (pt t : ℕ) + k, by have := (pt t).isLt; omega⟩ := by
    intro t
    rw [Fin.sum_univ_add]
    refine congrArg₂ _ (Finset.sum_congr rfl fun p _ => congrArg f (Fin.ext ?_)) (Finset.sum_congr rfl fun p _ => congrArg f (Fin.ext ?_))
    · simp [row]
    · simp [row]; omega
  simp only [h2]
  refine Fin.sum_mul_add_congr (L := 8192) (S := cfg0.N) (n := 256 + 256) (fun s k hl => congrArg f (Fin.ext ?_)) (by decide)
  simp [pt]; omega

section
variable (x0 x1 : FVec Ideal S8192x1024 .f32) (x2 : FVec Ideal S8192x512 .bf16) (x3 : FVec Ideal S8192x256 .bf16)
  (x4 : FVec Ideal S8192x512 .bf16) (x5 : FVec Ideal S8192x1024 .bf16) (x6 : FVec Ideal S8192x8 .bf16)
  (x7 x8 x9 : FVec Ideal S1024 .f32) (x10 : FVec Ideal S1024x2312 .f32)

theorem proj_lt (r : Fin 8192) (k : Fin 2432) (h : (k : ℕ) < 2312) : projK x2 x3 x4 x5 x6 r k = projR x2 x3 x4 x5 x6 r ⟨k, h⟩ := by
  unfold projK projR
  split_ifs <;> first | rfl | omega

theorem proj_ge (r : Fin 8192) (k : Fin 2432) (h : ¬ (k : ℕ) < 2312) : projK x2 x3 x4 x5 x6 r k = 0 := by
  unfold projK
  split_ifs <;> first | rfl | omega

theorem dy_eq (r : Fin 8192) (d : Fin 1024) : dyK x2 x3 x4 x5 x6 x10 r d = dyR x2 x3 x4 x5 x6 x10 r d := by
  have h := Fin.sum_univ_add (fun k : Fin (2312 + 120) => projK x2 x3 x4 x5 x6 r k * wK x10 k d)
  refine (show dyK x2 x3 x4 x5 x6 x10 r d = _ from h).trans ?_
  rw [Finset.sum_eq_zero (s := (Finset.univ : Finset (Fin 120))), add_zero, dyR]
  · refine Finset.sum_congr rfl fun k _ => ?_
    have hk : ((Fin.castAdd 120 k : Fin (2312 + 120)) : ℕ) < 2312 := k.isLt
    rw [proj_lt x2 x3 x4 x5 x6 r _ hk, wK, dif_pos hk]
    rfl
  · intro k _
    have hk : ¬ ((Fin.natAdd 2312 k : Fin (2312 + 120)) : ℕ) < 2312 := by simp
    rw [proj_ge x2 x3 x4 x5 x6 r _ hk, zero_mul]

variable (h0 : ∀ i, IsReal (x0 i)) (h2 : ∀ i, IsReal (x2 i)) (h3 : ∀ i, IsReal (x3 i)) (h4 : ∀ i, IsReal (x4 i)) (h5 : ∀ i, IsReal (x5 i))
  (h6 : ∀ i, IsReal (x6 i)) (h7 : ∀ i, IsReal (x7 i)) (h8 : ∀ i, IsReal (x8 i)) (h10 : ∀ i, IsReal (x10 i))

include h2 h3 h4 h5 h6 h10 in
theorem dy_real (r : Fin 8192) (d : Fin 1024) : IsReal (dyR x2 x3 x4 x5 x6 x10 r d) := by
  refine isReal_sum _ _ fun k => IsReal.mul ?_ (h10 _)
  unfold projR
  split_ifs <;> first | exact h2 _ | exact h3 _ | exact h4 _ | exact h5 _ | exact h6 _

include h0 h2 h3 h4 h5 h6 h7 h8 h10 in
theorem GX_eq : GX x0 x1 x2 x3 x4 x5 x6 x7 x8 x10 = Cert.ReferenceIdeal.Read.val_main_v65 (F := Ideal) x0 x1 x2 x3 x4 x5 x6 x7 x8 x10 := by
  funext i
  idx_vars i
  rw [r65, gx_eq (fun e => h0 _) (fun e => dy_real x2 x3 x4 x5 x6 x10 h2 h3 h4 h5 h6 h10 i0 e) (fun e => h7 _) (fun e => h8 _)]
  have : dyK x2 x3 x4 x5 x6 x10 i0 = fun e => dyR x2 x3 x4 x5 x6 x10 i0 e := funext fun e => dy_eq ..
  exact congrArg (fun q => x1 (ix2 i0 i1) + gxRow (fun e => x0 (ix2 i0 e)) q (fun e => x7 (ix1 e)) (fun e => x8 (ix1 e)) i1) this

include h0 in
theorem HH_eq : HH x0 x7 x8 x9 = Cert.ReferenceIdeal.Read.val_main_v74 (F := Ideal) x0 x7 x8 x9 := by
  funext i
  idx_vars i
  rw [r74, rsqrt_refV fun e => h0 _]
  rfl

end

section
variable (m : (ℓ : Loc nD τ sig) → Buf (Elt Ideal) ℓ) (c : Dev nD)

abbrev A1 : FVec Ideal S8192x1024 .f32 := m ((c : Thread nD τ).loc main_arg1)
abbrev A2 : FVec Ideal S8192x512 .bf16 := m ((c : Thread nD τ).loc main_arg2)
abbrev A3 : FVec Ideal S8192x256 .bf16 := m ((c : Thread nD τ).loc main_arg3)
abbrev A4 : FVec Ideal S8192x512 .bf16 := m ((c : Thread nD τ).loc main_arg4)
abbrev A5 : FVec Ideal S8192x1024 .bf16 := m ((c : Thread nD τ).loc main_arg5)
abbrev A6 : FVec Ideal S8192x8 .bf16 := m ((c : Thread nD τ).loc main_arg6)
abbrev A9 : FVec Ideal S1024 .f32 := m ((c : Thread nD τ).loc main_arg9)
abbrev A10 : FVec Ideal S1024x2312 .f32 := m ((c : Thread nD τ).loc main_arg10)

variable (h0 : ∀ i, IsReal (X0 m c i)) (h2 : ∀ i, IsReal (A2 m c i)) (h3 : ∀ i, IsReal (A3 m c i)) (h4 : ∀ i, IsReal (A4 m c i))
  (h5 : ∀ i, IsReal (A5 m c i)) (h6 : ∀ i, IsReal (A6 m c i)) (h7 : ∀ i, IsReal (X7 m c i)) (h8 : ∀ i, IsReal (X8 m c i))
  (h10 : ∀ i, IsReal (A10 m c i))

theorem DYm_eq (r : Fin 8192) (d : Fin 1024) : DYm m c r d = dyR (A2 m c) (A3 m c) (A4 m c) (A5 m c) (A6 m c) (A10 m c) r d := dy_eq ..

include h0 h2 h3 h4 h5 h6 h10 in
theorem UM_real (r : Fin 8192) (d : Fin 1024) : IsReal (UM m c r d) := by
  rw [UM, DYm_eq]
  exact (dy_real _ _ _ _ _ _ h2 h3 h4 h5 h6 h10 r d).mul ((h0 _).mul (rinv_real fun e => h0 _))

include h0 h2 h3 h4 h5 h6 h7 h8 h10 in
theorem AC_eq : ACm m c = Cert.ReferenceIdeal.Read.val_main_v70 (F := Ideal) (X0 m c) (A2 m c) (A3 m c) (A4 m c) (A5 m c) (A6 m c) (X7 m c) (X8 m c) (A10 m c) := by
  funext i
  idx_vars i
  rw [r70]
  have hu := UM_real m c h0 h2 h3 h4 h5 h6 h10
  have hr : ∀ x, Ideal.rsqrt (refV (fun e => X0 m c (ix2 x e))) = rinv (fun e => X0 m c (ix2 x e)) := fun x => rsqrt_refV fun e => h0 _
  show (∑ t : Fin cfg0.N, accT m c (pt t) i0 i1) = _
  unfold accT
  split_ifs
  · rw [← sum_blocks]
    refine Finset.sum_congr rfl fun t _ => ?_
    rw [sum_mul_real _ _ _ (fun p => hu _ _) (isReal_one.add (h8 _)), sum_mul_real _ _ _ (fun p => hu _ _) (isReal_one.add (h8 _))]
    refine congrArg₂ _ (Finset.sum_congr rfl fun p _ => ?_) (Finset.sum_congr rfl fun p _ => ?_) <;>
      (rw [hr, UM, DYm_eq]; ac_rfl)
  · rw [← sum_blocks]
    refine Finset.sum_congr rfl fun t _ => ?_
    rw [sum_mul_real _ _ _ (fun p => hu _ _) (h7 _), sum_mul_real _ _ _ (fun p => hu _ _) (h7 _)]
    refine congrArg₂ _ (Finset.sum_congr rfl fun p _ => ?_) (Finset.sum_congr rfl fun p _ => ?_) <;>
      (rw [hr, UM, DYm_eq]; ac_rfl)
  · rw [← sum_blocks]
    simp only [DYm_eq]
  · simp

include h0 in
theorem GW_eq : GWm m c = Cert.ReferenceIdeal.Read.val_main_v75 (F := Ideal) (X0 m c) (A2 m c) (A3 m c) (A4 m c) (A5 m c) (A6 m c) (X7 m c) (X8 m c) (A9 m c) := by
  funext i
  idx_vars i
  rw [r75]
  show (∑ t : Fin cfg0.N, gwT m c (pt t) i0 i1) = _
  unfold gwT
  split_ifs with h
  · rw [← sum_blocks]
    refine Finset.sum_congr rfl fun t _ => ?_
    refine congrArg₂ _ (Finset.sum_congr rfl fun p _ => ?_) (Finset.sum_congr rfl fun p _ => ?_) <;>
      (rw [PRm, proj_lt _ _ _ _ _ _ _ h, rsqrt_refV fun e => h0 _]; rfl)
  · refine Finset.sum_eq_zero fun t _ => ?_
    simp only [PRm, proj_ge _ _ _ _ _ _ _ h, zero_mul, Finset.sum_const_zero, add_zero]

end

end Cert.InProj

end

end
-- ==== Proof.Item.lean ====
module

public import proofs.«01_k».proof.Proof.Gen.Kernel2Ideal.Value
public import Idealize.ShloMosaic.Lib.Pointwise
public import Idealize.ShloMosaic.Lib.Pipeline.ValueKit
public import Idealize.ShloMosaic.Lib.Claim
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

namespace Cert.Attn

/-! One grid step of the attention's backward kernel, written once for a (block, head) pair and once for a block: what the
step stores is these functions of its window blocks. Heads of 64 lanes lie in registers of 128, the upper lanes zero. -/

abbrev Reg := FVec Ideal S128x128 .f32
abbrev Tile := FVec Ideal S128x256 .f32
abbrev Col := FVec Ideal S128x1 .f32

def lanes : IVec S128x128 32 := iota .tc S128x128 32 [1] iota_S128x128_d1_w32
def zeroReg : Reg := broadcast S128x128 (Scalar.ofBits .f32 0x00000000#32 : Ideal .f32)
/-- The register's first head. -/
def lo (v : Reg) : Reg := select (cmpi .slt lanes (broadcast S128x128 64#32)) v zeroReg
/-- The register's second head, moved to the first lanes. -/
def hi (v : Reg) : Reg :=
  dynamicRotate 1 64#32 none (select (cmpi .sge lanes (broadcast S128x128 64#32)) v zeroReg) rotates_S128x128_d1
/-- Two heads side by side. -/
def join (a b : Reg) : Reg := select (cmpi .slt lanes (broadcast S128x128 64#32)) a (dynamicRotate 1 64#32 none b rotates_S128x128_d1)

def rowsAt (x : FVec Ideal S512x512 .f32) : Fin 4 → FVec Ideal S128x512 .f32
  | 0 => extractStridedSlice S128x512 ![0, 0] x slices_S512x512_o0_0_S128x512
  | 1 => extractStridedSlice S128x512 ![128, 0] x slices_S512x512_o128_0_S128x512
  | 2 => extractStridedSlice S128x512 ![256, 0] x slices_S512x512_o256_0_S128x512
  | 3 => extractStridedSlice S128x512 ![384, 0] x slices_S512x512_o384_0_S128x512
/-- Rows of a block read from a window. -/
def ldAt (x : FVec Ideal S512x512 .f32) : Fin 4 → FVec Ideal S128x512 .f32
  | 0 => View.ld (Val := Elt Ideal) (S := S512x512) (e' := .f32) x (Rect.unit ![0, 0] ![128, 512] inb_S512x512_S128x512_0_0)
  | 1 => View.ld (Val := Elt Ideal) (S := S512x512) (e' := .f32) x (Rect.unit ![128, 0] ![128, 512] inb_S512x512_S128x512_128_0)
  | 2 => View.ld (Val := Elt Ideal) (S := S512x512) (e' := .f32) x (Rect.unit ![256, 0] ![128, 512] inb_S512x512_S128x512_256_0)
  | 3 => View.ld (Val := Elt Ideal) (S := S512x512) (e' := .f32) x (Rect.unit ![384, 0] ![128, 512] inb_S512x512_S128x512_384_0)
/-- The same through a reshape to the same shape. -/
def loadAt (x : FVec Ideal S512x512 .f32) : Fin 4 → FVec Ideal S128x512 .f32
  | 0 => shapeCast S128x512 (ldAt x 0) shapeCasts_S128x512_S128x512 | 1 => shapeCast S128x512 (ldAt x 1) shapeCasts_S128x512_S128x512
  | 2 => shapeCast S128x512 (ldAt x 2) shapeCasts_S128x512_S128x512 | 3 => shapeCast S128x512 (ldAt x 3) shapeCasts_S128x512_S128x512
def colsAt (x : FVec Ideal S128x512 .f32) : Fin 4 → Reg
  | 0 => extractStridedSlice S128x128 ![0, 0] x slices_S128x512_o0_0_S128x128
  | 1 => extractStridedSlice S128x128 ![0, 128] x slices_S128x512_o0_128_S128x128
  | 2 => extractStridedSlice S128x128 ![0, 256] x slices_S128x512_o0_256_S128x128
  | 3 => extractStridedSlice S128x128 ![0, 384] x slices_S128x512_o0_384_S128x128
/-- Head `h` of a block's rows. -/
def head (x : FVec Ideal S128x512 .f32) : Fin 8 → Reg
  | 0 => lo (colsAt x 0) | 1 => hi (colsAt x 0) | 2 => lo (colsAt x 1) | 3 => hi (colsAt x 1)
  | 4 => lo (colsAt x 2) | 5 => hi (colsAt x 2) | 6 => lo (colsAt x 3) | 7 => hi (colsAt x 3)
/-- The two blocks of keys that block `b` sees. -/
def bandAt (x : FVec Ideal S640x128 .f32) : Fin 4 → FVec Ideal S256x128 .bf16
  | 0 => truncf .bf16 (extractStridedSlice S256x128 ![0, 0] x slices_S640x128_o0_0_S256x128) bitsLt_bf16_f32
  | 1 => truncf .bf16 (extractStridedSlice S256x128 ![128, 0] x slices_S640x128_o128_0_S256x128) bitsLt_bf16_f32
  | 2 => truncf .bf16 (extractStridedSlice S256x128 ![256, 0] x slices_S640x128_o256_0_S256x128) bitsLt_bf16_f32
  | 3 => truncf .bf16 (extractStridedSlice S256x128 ![384, 0] x slices_S640x128_o384_0_S256x128) bitsLt_bf16_f32

/-! One block and head. -/
section
variable (q : FVec Ideal S128x128 .bf16) (k v : FVec Ideal S256x128 .bf16) (y dy : Reg) (bias : FVec Ideal S1x1x128x256 .f32) (sink : EReal)

def sc : Tile :=
  addf (matmul dot_S128x128_S256x128_S128x256_1_1_0_0_n_n none q k (constant S128x256 .f32 0x00000000#32))
    (shapeCast S128x256 bias shapeCasts_S1x1x128x256_S128x256)
def mx : Col :=
  maximumf (shapeCast S128x1 (multiReduction .maximumf [1] S128 (sc q k bias) 0xFF800000#32 reduces_S128x256_S128 (.inl rfl) rfl) shapeCasts_S128_S128x1)
    (broadcast S128x1 sink)
def pr : Tile := exp (subf (sc q k bias) (broadcastTo S128x256 (mx q k bias sink) broadcasts_S128x1_S128x256))
def es : Col := exp (subf (broadcast S128x1 sink) (mx q k bias sink))
def ri : Col :=
  divf (broadcast S128x1 (Scalar.ofBits .f32 0x3F800000#32 : Ideal .f32))
    (addf (shapeCast S128x1 (multiReduction .add [1] S128 (pr q k bias sink) 0x00000000#32 reduces_S128x256_S128 (.inl rfl) rfl) shapeCasts_S128_S128x1)
      (es q k bias sink))
def tt : Reg := mulf dy (broadcastTo S128x128 (ri q k bias sink) broadcasts_S128x1_S128x128)
def dl : Col :=
  shapeCast S128x1 (multiReduction .add [1] S128 (mulf (tt q k dy bias sink) y) 0x00000000#32 reduces_S128x128_S128 (.inl rfl) rfl) shapeCasts_S128_S128x1
def tb : FVec Ideal S128x128 .bf16 := truncf .bf16 (tt q k dy bias sink) bitsLt_bf16_f32
def dp : Tile := matmul dot_S128x128_S256x128_S128x256_1_1_0_0_n_n none (tb q k dy bias sink) v (constant S128x256 .f32 0x00000000#32)
def ds : Tile :=
  mulf (pr q k bias sink) (subf (dp q k v dy bias sink) (broadcastTo S128x256 (dl q k y dy bias sink) broadcasts_S128x1_S128x256))
def dsb : FVec Ideal S128x256 .bf16 := truncf .bf16 (ds q k v y dy bias sink) bitsLt_bf16_f32
def pb : FVec Ideal S128x256 .bf16 := truncf .bf16 (pr q k bias sink) bitsLt_bf16_f32
def dqi : Reg :=
  mulf (matmul dot_S128x256_S256x128_S128x128_1_0_0_1_n_n none (dsb q k v y dy bias sink) k (constant S128x128 .f32 0x00000000#32))
    (broadcast S128x128 (Scalar.ofBits .f32 0x3E000000#32 : Ideal .f32))
def eds : Col := mulf (es q k bias sink) (dl q k y dy bias sink)

end

/-- Eight heads side by side. -/
def joins (f : Fin 8 → Reg) : FVec Ideal S128x512 .f32 :=
  concatenate S128x512 1 [⟨S128x128, join (f 0) (f 1)⟩, ⟨S128x128, join (f 2) (f 3)⟩, ⟨S128x128, join (f 4) (f 5)⟩, ⟨S128x128, join (f 6) (f 7)⟩]
    concatenates_S128x128_S128x128_S128x128_S128x128_S128x512_d1
/-- A block of 512 rows from its four blocks' eight heads. -/
def dqOf (f : Fin 4 → Fin 8 → Reg) : FVec Ideal S512x512 .bf16 :=
  truncf .bf16 (concatenate S512x512 0 [⟨S128x512, joins (f 0)⟩, ⟨S128x512, joins (f 1)⟩, ⟨S128x512, joins (f 2)⟩, ⟨S128x512, joins (f 3)⟩]
    concatenates_S128x512_S128x512_S128x512_S128x512_S512x512_d0) bitsLt_bf16_f32
/-- The gradient of two blocks of keys from four heads' rows. -/
def pad (a : Fin 4 → FVec Ideal S128x256 .bf16) (b : Fin 4 → FVec Ideal S128x128 .bf16) : FVec Ideal S256x128 .f32 :=
  matmul dot_S512x256_S512x128_S256x128_0_0_1_1_n_n none
    (concatenate S512x256 0 [⟨S128x256, a 0⟩, ⟨S128x256, a 1⟩, ⟨S128x256, a 2⟩, ⟨S128x256, a 3⟩] concatenates_S128x256_S128x256_S128x256_S128x256_S512x256_d0)
    (concatenate S512x128 0 [⟨S128x128, b 0⟩, ⟨S128x128, b 1⟩, ⟨S128x128, b 2⟩, ⟨S128x128, b 3⟩] concatenates_S128x128_S128x128_S128x128_S128x128_S512x128_d0)
    (constant S256x128 .f32 0x00000000#32)
/-- The earlier block's keys of four pads (two of `dk`, two of `dv`), and the block's own. -/
def early (a b c d : FVec Ideal S256x128 .f32) : Tile :=
  concatenate S128x256 1
    [⟨S128x128, join (extractStridedSlice S128x128 ![0, 0] a slices_S256x128_o0_0_S128x128) (extractStridedSlice S128x128 ![0, 0] b slices_S256x128_o0_0_S128x128)⟩,
     ⟨S128x128, join (extractStridedSlice S128x128 ![0, 0] c slices_S256x128_o0_0_S128x128) (extractStridedSlice S128x128 ![0, 0] d slices_S256x128_o0_0_S128x128)⟩]
    concatenates_S128x128_S128x128_S128x256_d1
def own (a b c d : FVec Ideal S256x128 .f32) : Tile :=
  concatenate S128x256 1
    [⟨S128x128, join (extractStridedSlice S128x128 ![128, 0] a slices_S256x128_o128_0_S128x128) (extractStridedSlice S128x128 ![128, 0] b slices_S256x128_o128_0_S128x128)⟩,
     ⟨S128x128, join (extractStridedSlice S128x128 ![128, 0] c slices_S256x128_o128_0_S128x128) (extractStridedSlice S128x128 ![128, 0] d slices_S256x128_o128_0_S128x128)⟩]
    concatenates_S128x128_S128x128_S128x256_d1

/-- What a step stores for its keys: each block's own part and the later block's early part. -/
def dkvOf (dk dv : Fin 4 → Fin 2 → FVec Ideal S256x128 .f32) (carry : Tile) : FVec Ideal S512x256 .bf16 :=
  truncf .bf16 (concatenate S512x256 0
    [⟨S128x256, addf (own (dk 0 0) (dk 0 1) (dv 0 0) (dv 0 1)) (early (dk 1 0) (dk 1 1) (dv 1 0) (dv 1 1))⟩,
     ⟨S128x256, addf (own (dk 1 0) (dk 1 1) (dv 1 0) (dv 1 1)) (early (dk 2 0) (dk 2 1) (dv 2 0) (dv 2 1))⟩,
     ⟨S128x256, addf (own (dk 2 0) (dk 2 1) (dv 2 0) (dv 2 1)) (early (dk 3 0) (dk 3 1) (dv 3 0) (dv 3 1))⟩,
     ⟨S128x256, addf (own (dk 3 0) (dk 3 1) (dv 3 0) (dv 3 1)) carry⟩]
    concatenates_S128x256_S128x256_S128x256_S128x256_S512x256_d0) bitsLt_bf16_f32
def carryOf (dk dv : Fin 4 → Fin 2 → FVec Ideal S256x128 .f32) : Tile :=
  shapeCast S128x256 (early (dk 0 0) (dk 0 1) (dv 0 0) (dv 0 1)) shapeCasts_S128x256_S128x256

/-! The step over its window blocks. -/
section
variable (xq : FVec Ideal S512x512 .bf16) (xp : FVec Ideal S128x256 .bf16) (xc : FVec Ideal S512x256 .bf16) (xy xd : FVec Ideal S512x512 .f32)
  (bias : Fin 4 → Fin 8 → FVec Ideal S1x1x128x256 .f32) (sink : Fin 8 → EReal)

def qs (b : Fin 4) (h : Fin 8) : FVec Ideal S128x128 .bf16 := truncf .bf16 (head (rowsAt (k0_pay6 (F := Ideal) xq) b) h) bitsLt_bf16_f32
/-- Keys and values of the group of head `h`. -/
def kband (b : Fin 4) : Fin 8 → FVec Ideal S256x128 .bf16
  | 0 | 1 | 2 | 3 => bandAt (k0_pay9 (F := Ideal) xp xc) b
  | 4 | 5 | 6 | 7 => bandAt (k0_pay10 (F := Ideal) xp xc) b
def vband (b : Fin 4) : Fin 8 → FVec Ideal S256x128 .bf16
  | 0 | 1 | 2 | 3 => bandAt (k0_pay12 (F := Ideal) xp xc) b
  | 4 | 5 | 6 | 7 => bandAt (k0_pay13 (F := Ideal) xp xc) b

def iDs (b : Fin 4) (h : Fin 8) : Tile :=
  ds (qs xq b h) (kband xp xc b h) (vband xp xc b h) (head (loadAt xy b) h) (head (ldAt xd b) h) (bias b h) (sink h)
def iDsb (b : Fin 4) (h : Fin 8) : FVec Ideal S128x256 .bf16 :=
  dsb (qs xq b h) (kband xp xc b h) (vband xp xc b h) (head (loadAt xy b) h) (head (ldAt xd b) h) (bias b h) (sink h)
def iPb (b : Fin 4) (h : Fin 8) : FVec Ideal S128x256 .bf16 := pb (qs xq b h) (kband xp xc b h) (bias b h) (sink h)
def iTb (b : Fin 4) (h : Fin 8) : FVec Ideal S128x128 .bf16 := tb (qs xq b h) (kband xp xc b h) (head (ldAt xd b) h) (bias b h) (sink h)
def iDq (b : Fin 4) (h : Fin 8) : Reg :=
  dqi (qs xq b h) (kband xp xc b h) (vband xp xc b h) (head (loadAt xy b) h) (head (ldAt xd b) h) (bias b h) (sink h)
def iEds (b : Fin 4) (h : Fin 8) : Col :=
  eds (qs xq b h) (kband xp xc b h) (head (loadAt xy b) h) (head (ldAt xd b) h) (bias b h) (sink h)

def dqOut : FVec Ideal S512x512 .bf16 := dqOf (iDq xq xp xc xy xd bias sink)

def dkPad (b : Fin 4) (g : Fin 2) : FVec Ideal S256x128 .f32 :=
  match g with
  | 0 => pad (fun | 0 => iDsb xq xp xc xy xd bias sink b 0 | 1 => iDsb xq xp xc xy xd bias sink b 1 | 2 => iDsb xq xp xc xy xd bias sink b 2 | 3 => iDsb xq xp xc xy xd bias sink b 3)
      (fun | 0 => qs xq b 0 | 1 => qs xq b 1 | 2 => qs xq b 2 | 3 => qs xq b 3)
  | 1 => pad (fun | 0 => iDsb xq xp xc xy xd bias sink b 4 | 1 => iDsb xq xp xc xy xd bias sink b 5 | 2 => iDsb xq xp xc xy xd bias sink b 6 | 3 => iDsb xq xp xc xy xd bias sink b 7)
      (fun | 0 => qs xq b 4 | 1 => qs xq b 5 | 2 => qs xq b 6 | 3 => qs xq b 7)
def dvPad (b : Fin 4) (g : Fin 2) : FVec Ideal S256x128 .f32 :=
  match g with
  | 0 => pad (fun | 0 => iPb xq xp xc bias sink b 0 | 1 => iPb xq xp xc bias sink b 1 | 2 => iPb xq xp xc bias sink b 2 | 3 => iPb xq xp xc bias sink b 3)
      (fun | 0 => iTb xq xp xc xd bias sink b 0 | 1 => iTb xq xp xc xd bias sink b 1 | 2 => iTb xq xp xc xd bias sink b 2 | 3 => iTb xq xp xc xd bias sink b 3)
  | 1 => pad (fun | 0 => iPb xq xp xc bias sink b 4 | 1 => iPb xq xp xc bias sink b 5 | 2 => iPb xq xp xc bias sink b 6 | 3 => iPb xq xp xc bias sink b 7)
      (fun | 0 => iTb xq xp xc xd bias sink b 4 | 1 => iTb xq xp xc xd bias sink b 5 | 2 => iTb xq xp xc xd bias sink b 6 | 3 => iTb xq xp xc xd bias sink b 7)

def dkvOut (carry : Tile) : FVec Ideal S512x256 .bf16 := dkvOf (dkPad xq xp xc xy xd bias sink) (dvPad xq xp xc xd bias sink) carry
def carryOut : Tile := carryOf (dkPad xq xp xc xy xd bias sink) (dvPad xq xp xc xd bias sink)

def dbiasOut (h : Fin 8) (old : FVec Ideal S1x128x256 .f32) : FVec Ideal S1x128x256 .f32 :=
  shapeCast S1x128x256 (addf (shapeCast S128x256 old shapeCasts_S1x128x256_S128x256)
    (addf (addf (addf (iDs xq xp xc xy xd bias sink 0 h) (iDs xq xp xc xy xd bias sink 1 h)) (iDs xq xp xc xy xd bias sink 2 h)) (iDs xq xp xc xy xd bias sink 3 h)))
    shapeCasts_S128x256_S1x128x256
def dskOut (h : Fin 8) (old : FVec Ideal S1x128x1 .f32) : FVec Ideal S1x128x1 .f32 :=
  shapeCast S1x128x1 (subf (shapeCast S128x1 old shapeCasts_S1x128x1_S128x1)
    (addf (addf (addf (iEds xq xp xc xy xd bias sink 0 h) (iEds xq xp xc xy xd bias sink 1 h)) (iEds xq xp xc xy xd bias sink 2 h)) (iEds xq xp xc xy xd bias sink 3 h)))
    shapeCasts_S128x1_S1x128x1

end

/-! The step's masks and sinks. -/
section
variable (i : grid0.Coords) (x5 : FVec Ideal S2x8x128x256 .f32) (x6 : FVec Ideal S8 .f32)

def offs : Fin 8 → Fin 4 → ℕ
  | 0 => k0_off1 i | 1 => k0_off2 i | 2 => k0_off3 i | 3 => k0_off4 i | 4 => k0_off5 i | 5 => k0_off6 i | 6 => k0_off7 i | 7 => k0_off8 i
theorem offs_inb : ∀ h a, offs i h a + S1x1x128x256.size a ≤ S2x8x128x256.size a
  | 0 => k0_off1_inb i | 1 => k0_off2_inb i | 2 => k0_off3_inb i | 3 => k0_off4_inb i
  | 4 => k0_off5_inb i | 5 => k0_off6_inb i | 6 => k0_off7_inb i | 7 => k0_off8_inb i
theorem later_inb : ∀ (h : Fin 8) (a : Fin 4), (![0, h.val, 0, 0] : Fin 4 → ℕ) a + S1x1x128x256.size a ≤ S2x8x128x256.size a := by decide
theorem sink_inb : ∀ (h : Fin 8) (a : Fin 1), (![h.val] : Fin 1 → ℕ) a + S1.size a ≤ S8.size a := by decide

def biasAt : Fin 4 → Fin 8 → FVec Ideal S1x1x128x256 .f32
  | 0, h => View.ld (Val := Elt Ideal) (S := S2x8x128x256) (e' := .f32) x5 (Rect.unit (offs i h) S1x1x128x256.size (offs_inb i h))
  | 1, h | 2, h | 3, h => View.ld (Val := Elt Ideal) (S := S2x8x128x256) (e' := .f32) x5 (Rect.unit ![0, h.val, 0, 0] S1x1x128x256.size (later_inb h))
def sinkAt (h : Fin 8) : EReal := View.ld (Val := Elt Ideal) (S := S8) (e' := .f32) x6 (Rect.unit ![h.val] S1.size (sink_inb h)) (Shape.Idx.first (show 0 < S1.numel from by decide))

end

end Cert.Attn
end
end
-- ==== Proof.Row.lean ====
module

public import proofs.«01_k».proof.Proof.Math

@[expose] public section

set_option maxRecDepth 16384

noncomputable section

open Idealize.ShloMosaic

/-! One row of the attention and its gradient, over extended reals: `s` the scores of its 256 keys, `⊥` where a key is masked, `z`
the row's sink, `v` the values, `y` the row's output and `dy` its cotangent. -/

namespace Cert.Attn

open Cert.InProj (coe_sum)

variable (s : Fin 256 → EReal) (z : EReal)

def rowM : EReal := max (Finset.univ.fold max (Ideal.ofBits .f32 0xFF800000#32) s) z
def rowP (j : Fin 256) : EReal := Ideal.exp (s j - rowM s z)
def rowE : EReal := Ideal.exp (z - rowM s z)
def rowZ : EReal := (∑ j, rowP s z j) + rowE s z

section
variable (v : Fin 256 → Fin 64 → EReal) (y dy : Fin 64 → EReal)

/-- The row's output. -/
def rowY (d : Fin 64) : EReal := Ideal.div (∑ j, rowP s z j * v j d) (rowZ s z)

/-! The kernel's gradient of the scores and of the sink, from the output saved. -/

def kT (d : Fin 64) : EReal := dy d * Ideal.div 1 (rowZ s z)
def kDl : EReal := ∑ d, kT s z dy d * y d
def kDs (j : Fin 256) : EReal := rowP s z j * ((∑ d, kT s z dy d * v j d) - kDl s z y dy)
def kEds : EReal := rowE s z * kDl s z y dy

/-! The derivative of the forward lines, one operation after the other; `u` is the share of the row's maximum that goes to the scores. -/

def rD : EReal := -(∑ d, dy d * Ideal.div 1 (rowZ s z * rowZ s z) * (∑ j, rowP s z j * v j d))
def rT (d : Fin 64) : EReal := Ideal.div (dy d) (rowZ s z)
def rW (j : Fin 256) : EReal := ((∑ d, rT s z dy d * v j d) + rD s z v dy) * rowP s z j
def rE : EReal := rD s z v dy * rowE s z
/-- The cotangent of the row's maximum. -/
def rMax : EReal := -rE s z v dy + ∑ j, -rW s z v dy j
def rDs (u : EReal) (ind : Fin 256 → EReal) (j : Fin 256) : EReal :=
  rW s z v dy j + Ideal.div (rMax s z v dy * u) (∑ j, ind j) * ind j

end

theorem bot_bits : Ideal.ofBits .f32 0xFF800000#32 = ⊥ := by
  simp [Ideal.ofBits, Ideal.ieee]

theorem fold_eq : Finset.univ.fold max (Ideal.ofBits .f32 0xFF800000#32) s = Finset.univ.sup s := by
  rw [bot_bits]; rfl

/-- The largest score is one of them. -/
theorem fold_mem : ∃ j, s j = Finset.univ.fold max (Ideal.ofBits .f32 0xFF800000#32) s := by
  obtain ⟨j, _, h⟩ := Finset.exists_mem_eq_sup (Finset.univ : Finset (Fin 256)) ⟨0, Finset.mem_univ _⟩ s
  exact ⟨j, by rw [fold_eq, h]⟩

section
variable {s z}
variable (hs : ∀ j, s j = ⊥ ∨ ∃ a : ℝ, s j = a) (hz : ∃ a : ℝ, z = a)
include hs hz

theorem rowM_real : ∃ a : ℝ, rowM s z = a := by
  obtain ⟨a, rfl⟩ := hz
  obtain ⟨j, hj⟩ := fold_mem s
  rcases hs j with h | ⟨b, h⟩
  · exact ⟨a, by rw [rowM, ← hj, h]; exact max_eq_right bot_le⟩
  · exact ⟨max b a, by rw [rowM, ← hj, h, EReal.coe_strictMono.monotone.map_max]⟩

theorem row_real : ∃ (p : Fin 256 → ℝ) (e : ℝ), (∑ j, p j) + e ≠ 0 ∧ (∀ j, rowP s z j = p j) ∧ rowE s z = e
    ∧ rowZ s z = (((∑ j, p j) + e : ℝ) : EReal) ∧ ∀ j, s j = ⊥ → p j = 0 := by
  obtain ⟨M, hM⟩ := rowM_real hs hz
  have hp : ∀ j, ∃ p : ℝ, 0 ≤ p ∧ rowP s z j = p ∧ (s j = ⊥ → p = 0) := fun j => by
    rcases hs j with h | ⟨b, h⟩
    · exact ⟨0, le_rfl, by rw [rowP, h, EReal.bot_sub, Ideal.exp_bot]; rfl, fun _ => rfl⟩
    · exact ⟨Real.exp (b - M), (Real.exp_pos _).le, by rw [rowP, h, hM, ← EReal.coe_sub, Ideal.exp_coe],
        fun h' => absurd (h ▸ h') (EReal.coe_ne_bot b)⟩
  choose p hp0 hp hpb using hp
  obtain ⟨a, rfl⟩ := hz
  have he : rowE s a = ((Real.exp (a - M) : ℝ) : EReal) := by rw [rowE, hM, ← EReal.coe_sub, Ideal.exp_coe]
  refine ⟨p, Real.exp (a - M), (add_pos_of_nonneg_of_pos (Finset.sum_nonneg fun j _ => hp0 j) (Real.exp_pos _)).ne', hp, he, ?_, hpb⟩
  simp only [rowZ, he, hp, coe_sum, EReal.coe_add]

variable {v v' : Fin 256 → Fin 64 → EReal} {dy : Fin 64 → EReal}
variable (hv : ∀ j d, ∃ a : ℝ, v j d = a) (hv' : ∀ j d, ∃ a : ℝ, v' j d = a) (hvv : ∀ j, s j ≠ ⊥ → v' j = v j) (hdy : ∀ d, ∃ a : ℝ, dy d = a)
include hv hv' hvv hdy

/-- Both gradients are real and agree; the gradient through the row's maximum is zero. -/
theorem row_grad : ∃ (f : Fin 256 → ℝ) (e : ℝ) (t : Fin 64 → ℝ) (p : Fin 256 → ℝ),
    (∀ j, kDs s z v' (rowY s z v) dy j = f j) ∧ (∀ j, rW s z v dy j = f j) ∧ (∀ j, s j = ⊥ → f j = 0)
    ∧ kEds s z (rowY s z v) dy = e ∧ rE s z v dy = ((-e : ℝ) : EReal) ∧ rMax s z v dy = 0
    ∧ (∀ d, kT s z dy d = t d) ∧ (∀ d, rT s z dy d = t d) ∧ (∀ j, rowP s z j = p j) ∧ ∀ j, s j = ⊥ → p j = 0 := by
  obtain ⟨p, e, hZ, hp, he, hz', hpb⟩ := row_real hs hz
  choose V hV using hv
  choose V' hV' using hv'
  choose D hD using hdy
  have hVV : ∀ j, p j = 0 ∨ V' j = V j := fun j => by
    by_cases h : s j = ⊥
    · exact .inl (hpb j h)
    · exact .inr (funext fun d => by have := congrFun (hvv j h) d; rw [hV, hV'] at this; exact EReal.coe_injective this)
  have hT : ∀ d, kT s z dy d = ((D d * (1 / ((∑ j, p j) + e)) : ℝ) : EReal) := fun d => by
    rw [kT, hz', hD, Ideal.div_coe hZ, one_mul, EReal.coe_mul]
  have hrT : ∀ d, rT s z dy d = ((D d * (1 / ((∑ j, p j) + e)) : ℝ) : EReal) := fun d => by
    rw [rT, hz', hD, Ideal.div_coe hZ, EReal.coe_mul]
  have hY : ∀ d, rowY s z v d = (((∑ j, p j * V j d) * (1 / ((∑ j, p j) + e)) : ℝ) : EReal) := fun d => by
    rw [rowY, hz', Ideal.div_coe hZ]; simp only [hp, hV, ← EReal.coe_mul, coe_sum]
  generalize hw : (1 / ((∑ j, p j) + e) : ℝ) = w at hT hrT hY
  have hw1 : ((∑ j, p j) + e) * w = 1 := by rw [← hw]; field_simp
  have hDl : kDl s z (rowY s z v) dy = ((∑ d, D d * w * ((∑ j, p j * V j d) * w) : ℝ) : EReal) := by
    simp only [kDl, hT, hY, ← EReal.coe_mul, coe_sum]
  have hrD : rD s z v dy = ((-∑ d, D d * w * ((∑ j, p j * V j d) * w) : ℝ) : EReal) := by
    rw [rD, hz', ← EReal.coe_mul, Ideal.div_coe (mul_ne_zero hZ hZ)]
    simp only [hp, hV, hD, one_mul, ← EReal.coe_mul, coe_sum, ← EReal.coe_neg]
    refine congrArg (fun x : ℝ => (x : EReal)) (congrArg Neg.neg (Finset.sum_congr rfl fun d _ => ?_))
    rw [← hw]; field_simp
  generalize hdl : (∑ d, D d * w * ((∑ j, p j * V j d) * w) : ℝ) = dl at hDl hrD
  have hW : ∀ j, rW s z v dy j = ((p j * ((∑ d, D d * w * V j d) - dl) : ℝ) : EReal) := fun j => by
    simp only [rW, hrT, hV, hrD, hp, ← EReal.coe_mul, coe_sum, ← EReal.coe_add]; congr 1; ring
  have hE : rE s z v dy = ((-(e * dl) : ℝ) : EReal) := by
    rw [rE, hrD, he, ← EReal.coe_mul]; congr 1; ring
  refine ⟨fun j => p j * ((∑ d, D d * w * V j d) - dl), e * dl, fun d => D d * w, p, fun j => ?_, hW, fun j h => by show p j * _ = 0; rw [hpb j h, zero_mul],
    by rw [kEds, hDl, he, EReal.coe_mul], hE, ?_, hT, hrT, hp, hpb⟩
  · simp only [kDs, hT, hV', hDl, hp, ← EReal.coe_mul, coe_sum, ← EReal.coe_sub]
    rcases hVV j with h | h
    · simp [h]
    · rw [h]
  · rw [rMax, hE]
    simp only [hW, ← EReal.coe_neg, coe_sum, ← EReal.coe_add]
    rw [← EReal.coe_zero]; congr 1
    have h1 : (∑ j, p j * ((∑ d, D d * w * V j d) - dl)) = (∑ d, D d * w * ((∑ j, p j * V j d))) - (∑ j, p j) * dl := by
      simp only [mul_sub, Finset.sum_sub_distrib, ← Finset.sum_mul, Finset.mul_sum]
      rw [Finset.sum_comm]
      congr 1
      exact Finset.sum_congr rfl fun d _ => Finset.sum_congr rfl fun j _ => by ring
    have h2 : (∑ d, D d * w * ((∑ j, p j * V j d))) = ((∑ j, p j) + e) * dl := by
      rw [← hdl, Finset.mul_sum]
      refine Finset.sum_congr rfl fun d _ => ?_
      calc _ = D d * w * (∑ j, p j * V j d) * (((∑ j, p j) + e) * w) := by rw [hw1, mul_one]
        _ = _ := by ring
    rw [Finset.sum_neg_distrib, h1, h2]; ring

end

/-- No gradient goes through the row's maximum. -/
theorem rDs_eq {v : Fin 256 → Fin 64 → EReal} {dy : Fin 64 → EReal} (h : rMax s z v dy = 0) (u : EReal) (ind : Fin 256 → EReal)
    (h01 : ∀ j, ind j = 0 ∨ ind j = 1) (h1 : ∃ j, ind j = 1) (j : Fin 256) : rDs s z v dy u ind j = rW s z v dy j := by
  have hr : ∀ j, ∃ a : ℝ, 0 ≤ a ∧ ind j = a := fun j =>
    (h01 j).elim (fun h => ⟨0, le_rfl, h⟩) (fun h => ⟨1, zero_le_one, h⟩)
  choose a ha0 ha using hr
  obtain ⟨i, hi⟩ := h1
  have hi' : a i = 1 := EReal.coe_injective ((ha i).symm.trans hi)
  have hpos : (∑ j, a j) ≠ 0 := (lt_of_lt_of_le (by rw [hi']; exact one_pos) (Finset.single_le_sum (fun j _ => ha0 j) (Finset.mem_univ i))).ne'
  simp only [rDs, h, zero_mul, ha, coe_sum]
  rw [Ideal.div_coe hpos, zero_mul, zero_mul, add_zero]

end Cert.Attn
end
end
-- ==== Proof.ItemVal.lean ====
module

public import proofs.«01_k».proof.Proof.Item
public import proofs.«01_k».proof.Proof.Row

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

/-! The block and head functions of the backward kernel read at an index. -/

namespace Cert.Attn
/-- A head's 64 lanes in a register of 128. -/
def lane (f : Fin 64 → EReal) (x : Fin 128) : EReal := if h : (x : ℕ) < 64 then f ⟨x, h⟩ else 0

theorem sum_lane (f g : Fin 64 → EReal) : (∑ x, lane f x * lane g x) = ∑ d, f d * g d := by
  rw [show (∑ x : Fin 128, lane f x * lane g x) = _ from Fin.sum_univ_add (fun k : Fin (64 + 64) => lane f k * lane g k)]
  simp [lane]

theorem lane_mul (f : Fin 64 → EReal) (c : EReal) (x : Fin 128) : lane f x * c = lane (fun d => f d * c) x := by
  unfold lane; split <;> simp

theorem sum_mul_lane {n : ℕ} (a : Fin n → EReal) (f : Fin n → Fin 64 → EReal) (x : Fin 128) :
    (∑ j, a j * lane (f j) x) = lane (fun d => ∑ j, a j * f j d) x := by
  unfold lane; split <;> simp

section
variable (q : FVec Ideal S128x128 .bf16) (k v : FVec Ideal S256x128 .bf16) (y dy : Reg) (bias : FVec Ideal S1x1x128x256 .f32) (sink : EReal)
variable (Q Y D : Fin 128 → Fin 64 → EReal) (K V : Fin 256 → Fin 64 → EReal)

/-- The scores of row `p`. -/
def scoreOf (p : Fin 128) (j : Fin 256) : EReal := (∑ d, Q p d * K j d) + bias (ix4 0 0 p j)

variable {q k v y dy Q Y D K V}
variable (hq : ∀ p x, q (ix2 p x) = lane (Q p) x) (hk : ∀ j x, k (ix2 j x) = lane (K j) x) (hv : ∀ j x, v (ix2 j x) = lane (V j) x)
  (hy : ∀ p x, y (ix2 p x) = lane (Y p) x) (hd : ∀ p x, dy (ix2 p x) = lane (D p) x)

include hq hk

theorem sc_at (p : Fin 128) (j : Fin 256) : sc q k bias (ix2 p j) = scoreOf bias Q K p j := by
  pointwise [sc, scoreOf, hq, hk, sum_lane]

theorem mx_at (p : Fin 128) (d : Fin 1) : mx q k bias sink (ix2 p d) = rowM (scoreOf bias Q K p) sink := by
  pointwise [mx, rowM, sc_at bias hq hk]

theorem pr_at (p : Fin 128) (j : Fin 256) : pr q k bias sink (ix2 p j) = rowP (scoreOf bias Q K p) sink j := by
  pointwise [pr, rowP, sc_at bias hq hk, mx_at bias sink hq hk]

theorem es_at (p : Fin 128) (d : Fin 1) : es q k bias sink (ix2 p d) = rowE (scoreOf bias Q K p) sink := by
  pointwise [es, rowE, mx_at bias sink hq hk]

theorem ri_at (p : Fin 128) (d : Fin 1) : ri q k bias sink (ix2 p d) = Ideal.div 1 (rowZ (scoreOf bias Q K p) sink) := by
  pointwise [ri, rowZ, pr_at bias sink hq hk, es_at bias sink hq hk]

include hd
theorem tt_at (p x : Fin 128) : tt q k dy bias sink (ix2 p x) = lane (kT (scoreOf bias Q K p) sink (D p)) x := by
  pointwise [tt, ri_at bias sink hq hk, hd, lane_mul]
  rfl

theorem tb_at (p x : Fin 128) : tb q k dy bias sink (ix2 p x) = lane (kT (scoreOf bias Q K p) sink (D p)) x := by
  pointwise [tb, tt_at bias sink hq hk hd]

include hy
theorem dl_at (p : Fin 128) (e : Fin 1) : dl q k y dy bias sink (ix2 p e) = kDl (scoreOf bias Q K p) sink (Y p) (D p) := by
  pointwise [dl, kDl, tt_at bias sink hq hk hd, hy, sum_lane]

theorem eds_at (p : Fin 128) (e : Fin 1) : eds q k y dy bias sink (ix2 p e) = kEds (scoreOf bias Q K p) sink (Y p) (D p) := by
  pointwise [eds, kEds, es_at bias sink hq hk, dl_at bias sink hq hk hy hd]

include hv
theorem ds_at (p : Fin 128) (j : Fin 256) : ds q k v y dy bias sink (ix2 p j) = kDs (scoreOf bias Q K p) sink V (Y p) (D p) j := by
  pointwise [ds, kDs, dp, pr_at bias sink hq hk, tb_at bias sink hq hk hd, hv, sum_lane, dl_at bias sink hq hk hy hd]

theorem dqi_at (p x : Fin 128) : dqi q k v y dy bias sink (ix2 p x)
    = lane (fun d => (∑ j, kDs (scoreOf bias Q K p) sink V (Y p) (D p) j * K j d) * Ideal.ofBits .f32 0x3E000000#32) x := by
  pointwise [dqi, dsb, ds_at bias sink hq hk hv hy hd, hk, sum_mul_lane, lane_mul]
end

theorem small_lt : ∀ d : Fin 128, IntOp.cmpi CmpIPredicate.slt (BitVec.ofNat 32 d) 64#32 = if (d : ℕ) < 64 then 1#1 else 0#1 := by decide +kernel
theorem small_ge : ∀ d : Fin 128, IntOp.cmpi CmpIPredicate.sge (BitVec.ofNat 32 d) 64#32 = if (d : ℕ) < 64 then 0#1 else 1#1 := by decide +kernel

theorem lo_at (x : Reg) (p d : Fin 128) : lo x (ix2 p d) = lane (fun e => x (ix2 p ⟨e, by omega⟩)) d := by
  pointwise [lo, lanes, zeroReg, small_lt, lane]
  split <;> simp [Scalar.select]
theorem hi_at (x : Reg) (p d : Fin 128) : hi x (ix2 p d) = lane (fun e => x (ix2 p ⟨64 + e, by omega⟩)) d := by
  pointwise [hi, lanes, zeroReg, lane]
  rw [small_ge ⟨(d.val + 128 - 64) % 128, Nat.mod_lt _ (by decide)⟩]
  by_cases h : (d : ℕ) < 64
  · have e : (d.val + 64) % 128 = 64 + d := by omega
    simp [Scalar.select, h, e]
  · have e : (d.val + 64) % 128 < 64 := by omega
    simp [Scalar.select, h, e]
theorem join_at (a b : Reg) (p d : Fin 128) : join a b (ix2 p d)
    = if h : (d : ℕ) < 64 then a (ix2 p d) else b (ix2 p ⟨d - 64, by omega⟩) := by
  pointwise [join, lanes, small_lt]
  by_cases h : (d : ℕ) < 64
  · simp [Scalar.select, h]
  · have e : (d.val + 64) % 128 = d - 64 := by omega
    simp [Scalar.select, h, e]

/-- A sum over 512 rows, block after block. -/
theorem sum_512 (f : Fin 512 → EReal) : (∑ r, f r) = ∑ g : Fin 4, ∑ p : Fin 128, f ⟨128 * g + p, by omega⟩ :=
  (Fin.sum_mul_add_congr (L := 512) (S := 4) (n := 128) (fun s k hl => congrArg f (Fin.ext (by simp; try omega))) (by decide)).symm

/-- Four blocks of 128, one after the other. -/
theorem four_blocks {α : Type} (A : Fin 4 → Fin 128 → α) (x : Fin 512) :
    (if h : (x : ℕ) < 128 then A 0 ⟨x, h⟩ else if h : (x : ℕ) - 128 < 128 then A 1 ⟨x - 128, h⟩
      else if h : (x : ℕ) - 128 - 128 < 128 then A 2 ⟨x - 128 - 128, h⟩ else A 3 ⟨x - 128 - 128 - 128, by omega⟩)
    = A ⟨x / 128, by omega⟩ ⟨x % 128, by omega⟩ := by
  split_ifs
  · exact congrArg₂ A (Fin.ext (show 0 = (x : ℕ) / 128 by omega)) (Fin.ext (show (x : ℕ) = x % 128 by omega))
  · exact congrArg₂ A (Fin.ext (show 1 = (x : ℕ) / 128 by omega)) (Fin.ext (show (x : ℕ) - 128 = x % 128 by omega))
  · exact congrArg₂ A (Fin.ext (show 2 = (x : ℕ) / 128 by omega)) (Fin.ext (show (x : ℕ) - 128 - 128 = x % 128 by omega))
  · exact congrArg₂ A (Fin.ext (show 3 = (x : ℕ) / 128 by omega)) (Fin.ext (show (x : ℕ) - 128 - 128 - 128 = x % 128 by omega))

theorem pad_at (a : Fin 4 → FVec Ideal S128x256 .bf16) (b : Fin 4 → FVec Ideal S128x128 .bf16) (j : Fin 256) (x : Fin 128) :
  pad a b (ix2 j x) = ∑ g, ∑ p, a g (ix2 p j) * b g (ix2 p x) := by
  pointwise [pad]
  refine (Finset.sum_congr rfl fun r _ => congrArg₂ (fun u v : EReal => u * v) (four_blocks (fun g p => a g (ix2 p j)) r)
    (four_blocks (fun g p => b g (ix2 p x)) r)).trans ((sum_512 _).trans (Finset.sum_congr rfl fun g _ => Finset.sum_congr rfl fun p _ => ?_))
  dsimp only
  have e1 : (⟨(128 * (g : ℕ) + p) / 128, by omega⟩ : Fin 4) = g := Fin.ext (by show (128 * (g : ℕ) + p) / 128 = g; omega)
  have e2 : (⟨(128 * (g : ℕ) + p) % 128, by omega⟩ : Fin 128) = p := Fin.ext (by show (128 * (g : ℕ) + p) % 128 = p; omega)
  rw [e1, e2]

theorem joins_at (f : Fin 8 → Reg) (p : Fin 128) (c : Fin 512) : joins f (ix2 p c)
    = f ⟨c / 64, by omega⟩ (ix2 p ⟨c % 64, by omega⟩) := by
  pointwise [joins]
  refine (four_blocks (fun g e => (match g with | 0 => join (f 0) (f 1) | 1 => join (f 2) (f 3) | 2 => join (f 4) (f 5) | 3 => join (f 6) (f 7)) (ix2 p e)) c).trans ?_
  have key : ∀ (g : Fin 4) (e : Fin 128), (match g with | 0 => join (f 0) (f 1) | 1 => join (f 2) (f 3) | 2 => join (f 4) (f 5) | 3 => join (f 6) (f 7)) (ix2 p e)
      = f ⟨(128 * g + e) / 64, by omega⟩ (ix2 p ⟨(128 * g + e) % 64, by omega⟩) := by
    intro g e
    match g with
    | 0 | 1 | 2 | 3 =>
      simp only [join_at]
      split
      · next h => exact congrArg₂ (fun h e => f h (ix2 p e)) (Fin.ext (by simp; omega)) (Fin.ext (by simp; omega))
      · next h => exact congrArg₂ (fun h e => f h (ix2 p e)) (Fin.ext (by simp; omega)) (Fin.ext (by simp; omega))
  rw [key]
  exact congrArg₂ (fun h e => f h (ix2 p e)) (Fin.ext (by simp; omega)) (Fin.ext (by simp; omega))

theorem dqOf_at (f : Fin 4 → Fin 8 → Reg) (r c : Fin 512) : dqOf f (ix2 r c)
    = f ⟨r / 128, by omega⟩ ⟨c / 64, by omega⟩ (ix2 ⟨r % 128, by omega⟩ ⟨c % 64, by omega⟩) := by
  pointwise [dqOf]
  refine (four_blocks (fun g e => joins (f g) (ix2 e c)) r).trans ?_
  rw [joins_at]

end Cert.Attn
end
end
-- ==== Proof.StepVal.lean ====
module

public import proofs.«01_k».proof.Proof.Item
public import proofs.«01_k».proof.Proof.ItemVal

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

/-! A step's windows and outputs read at an index. -/

namespace Cert.Attn
/-- The four heads of a block of keys: two of `dk`, two of `dv`. -/
def quarter (a b c d : FVec Ideal S256x128 .f32) : Fin 4 → FVec Ideal S256x128 .f32
  | 0 => a | 1 => b | 2 => c | 3 => d

theorem early_at (a b c d : FVec Ideal S256x128 .f32) (p : Fin 128) (e : Fin 256) : early a b c d (ix2 p e)
    = quarter a b c d ⟨e / 64, by omega⟩ (ix2 ⟨p, by omega⟩ ⟨e % 64, by omega⟩) := by
  have key : ∀ (n : ℕ) (hn : n < 4), (e : ℕ) / 64 = n → quarter a b c d ⟨e / 64, by omega⟩ = quarter a b c d ⟨n, hn⟩ := fun n hn h => by simp only [h]
  pointwise [early]
  split_ifs with h
  · pointwise [join_at]
    split_ifs with h'
    · rw [key 0 (by decide) (by omega)]; exact congrArg a (congrArg₂ ix2 rfl (Fin.ext (by simp; omega)))
    · rw [key 1 (by decide) (by omega)]; exact congrArg b (congrArg₂ ix2 rfl (Fin.ext (by simp; omega)))
  · pointwise [join_at]
    split_ifs with h'
    · rw [key 2 (by decide) (by omega)]; exact congrArg c (congrArg₂ ix2 rfl (Fin.ext (by simp; omega)))
    · rw [key 3 (by decide) (by omega)]; exact congrArg d (congrArg₂ ix2 rfl (Fin.ext (by simp; omega)))
  · next hn => exact absurd rfl hn

theorem own_at (a b c d : FVec Ideal S256x128 .f32) (p : Fin 128) (e : Fin 256) : own a b c d (ix2 p e)
    = quarter a b c d ⟨e / 64, by omega⟩ (ix2 ⟨128 + p, by omega⟩ ⟨e % 64, by omega⟩) := by
  have key : ∀ (n : ℕ) (hn : n < 4), (e : ℕ) / 64 = n → quarter a b c d ⟨e / 64, by omega⟩ = quarter a b c d ⟨n, hn⟩ := fun n hn h => by simp only [h]
  pointwise [own]
  split_ifs with h
  · pointwise [join_at]
    split_ifs with h'
    · rw [key 0 (by decide) (by omega)]; exact congrArg a (congrArg₂ ix2 rfl (Fin.ext (by simp; omega)))
    · rw [key 1 (by decide) (by omega)]; exact congrArg b (congrArg₂ ix2 rfl (Fin.ext (by simp; omega)))
  · pointwise [join_at]
    split_ifs with h'
    · rw [key 2 (by decide) (by omega)]; exact congrArg c (congrArg₂ ix2 rfl (Fin.ext (by simp; omega)))
    · rw [key 3 (by decide) (by omega)]; exact congrArg d (congrArg₂ ix2 rfl (Fin.ext (by simp; omega)))
  · next hn => exact absurd rfl hn

/-- The gradient of the keys' band of block `b`, head `u` of its four. -/
def bandGrad (dk dv : Fin 4 → Fin 2 → FVec Ideal S256x128 .f32) (b : Fin 4) : Fin 4 → FVec Ideal S256x128 .f32 :=
  quarter (dk b 0) (dk b 1) (dv b 0) (dv b 1)

theorem carryOf_at (dk dv : Fin 4 → Fin 2 → FVec Ideal S256x128 .f32) (p : Fin 128) (e : Fin 256) : carryOf dk dv (ix2 p e)
    = bandGrad dk dv 0 ⟨e / 64, by omega⟩ (ix2 ⟨p, by omega⟩ ⟨e % 64, by omega⟩) := by
  pointwise [carryOf, early_at, bandGrad]

theorem dkvOf_at (dk dv : Fin 4 → Fin 2 → FVec Ideal S256x128 .f32) (carry : Tile) (r : Fin 512) (e : Fin 256) :
    dkvOf dk dv carry (ix2 r e)
    = bandGrad dk dv ⟨r / 128, by omega⟩ ⟨e / 64, by omega⟩ (ix2 ⟨128 + r % 128, by omega⟩ ⟨e % 64, by omega⟩)
      + if h : (r : ℕ) / 128 < 3 then bandGrad dk dv ⟨r / 128 + 1, by omega⟩ ⟨e / 64, by omega⟩ (ix2 ⟨r % 128, by omega⟩ ⟨e % 64, by omega⟩)
        else carry (ix2 ⟨r % 128, by omega⟩ e) := by
  pointwise [dkvOf]
  refine (four_blocks (fun g p => (own (dk g 0) (dk g 1) (dv g 0) (dv g 1)) (ix2 p e) + (if h : (g : ℕ) < 3 then
    early (dk ⟨g + 1, by omega⟩ 0) (dk ⟨g + 1, by omega⟩ 1) (dv ⟨g + 1, by omega⟩ 0) (dv ⟨g + 1, by omega⟩ 1) (ix2 p e) else carry (ix2 p e))) r).trans ?_
  simp only [own_at, early_at, bandGrad]

section
variable (xq : FVec Ideal S512x512 .bf16) (xp : FVec Ideal S128x256 .bf16) (xc : FVec Ideal S512x256 .bf16) (xy xd : FVec Ideal S512x512 .f32)

theorem ldAt_at (b : Fin 4) (p : Fin 128) (e : Fin 512) : ldAt xy b (ix2 p e) = xy (ix2 ⟨128 * b + p, by omega⟩ e) := by
  match b with
  | 0 | 1 | 2 | 3 =>
    exact View.ld_unit_apply_of (Val := Elt Ideal) (S := S512x512) (e := .f32) xy _ _ _ (ix2 p e) (ix2 _ e) (fun a => by fin_cases a <;> simp)

theorem loadAt_at (b : Fin 4) (p : Fin 128) (e : Fin 512) : loadAt xy b (ix2 p e) = xy (ix2 ⟨128 * b + p, by omega⟩ e) := by
  match b with
  | 0 | 1 | 2 | 3 => pointwise [loadAt, ldAt_at]

theorem rowsAt_at (b : Fin 4) (p : Fin 128) (e : Fin 512) : rowsAt xy b (ix2 p e) = xy (ix2 ⟨128 * b + p, by omega⟩ e) := by
  match b with
  | 0 | 1 | 2 | 3 => pointwise [rowsAt]

theorem head_at (x : FVec Ideal S128x512 .f32) (h : Fin 8) (p e : Fin 128) : head x h (ix2 p e)
    = lane (fun d => x (ix2 p ⟨64 * h + d, by omega⟩)) e := by
  match h with
  | 0 | 1 | 2 | 3 | 4 | 5 | 6 | 7 =>
    pointwise [head, lo_at, hi_at, colsAt]
    try exact congrArg₂ lane (funext fun d => congrArg x (congrArg₂ ix2 rfl (Fin.ext (by simp; try omega)))) rfl

theorem qs_at (b : Fin 4) (h : Fin 8) (p e : Fin 128) : qs xq b h (ix2 p e)
    = lane (fun d => xq (ix2 ⟨128 * b + p, by omega⟩ ⟨64 * h + d, by omega⟩) * Ideal.ofBits .f32 0x3E000000#32) e := by
  pointwise [qs, head_at, rowsAt_at, k0_pay6]

/-- Row `j` of the keys and values a step loads: the block before its rows, then its own rows. -/
def kvRow (j : Fin 640) (e : Fin 256) : EReal :=
  if h : (j : ℕ) < 128 then xp (ix2 ⟨j, h⟩ e) else xc (ix2 ⟨j - 128, by omega⟩ e)

theorem pay7_at (j : Fin 640) (e : Fin 256) : k0_pay7 (F := Ideal) xp xc (ix2 j e) = kvRow xp xc j e := by
  pointwise [k0_pay7, kvRow]
theorem pay9_at (j : Fin 640) (e : Fin 128) : k0_pay9 (F := Ideal) xp xc (ix2 j e) = lane (fun d => kvRow xp xc j ⟨d, by omega⟩) e := by
  pointwise [k0_pay9, k0_pay8, pay7_at, small_lt, lane]
  split <;> simp [Scalar.select]
theorem pay12_at (j : Fin 640) (e : Fin 128) : k0_pay12 (F := Ideal) xp xc (ix2 j e) = lane (fun d => kvRow xp xc j ⟨128 + d, by omega⟩) e := by
  pointwise [k0_pay12, k0_pay11, pay7_at, small_lt, lane]
  split <;> simp [Scalar.select]
theorem pay10_at (j : Fin 640) (e : Fin 128) : k0_pay10 (F := Ideal) xp xc (ix2 j e) = lane (fun d => kvRow xp xc j ⟨64 + d, by omega⟩) e := by
  pointwise [k0_pay10, k0_pay8, pay7_at, lane]
  rw [small_ge ⟨(e.val + 128 - 64) % 128, Nat.mod_lt _ (by decide)⟩]
  by_cases h : (e : ℕ) < 64
  · have e : (e.val + 64) % 128 = 64 + e := by omega
    simp [Scalar.select, h, e]
  · have e : (e.val + 64) % 128 < 64 := by omega
    simp [Scalar.select, h, e]
theorem pay13_at (j : Fin 640) (e : Fin 128) : k0_pay13 (F := Ideal) xp xc (ix2 j e) = lane (fun d => kvRow xp xc j ⟨192 + d, by omega⟩) e := by
  pointwise [k0_pay13, k0_pay11, pay7_at, lane]
  rw [small_ge ⟨(e.val + 128 - 64) % 128, Nat.mod_lt _ (by decide)⟩]
  by_cases h : (e : ℕ) < 64
  · have e : (e.val + 64) % 128 = 64 + e := by omega
    simp [Scalar.select, h, e]
    try (congr 2; omega)
  · have e : (e.val + 64) % 128 < 64 := by omega
    simp [Scalar.select, h, e]

theorem bandAt_at (x : FVec Ideal S640x128 .f32) (b : Fin 4) (j : Fin 256) (e : Fin 128) : bandAt x b (ix2 j e) = x (ix2 ⟨128 * b + j, by omega⟩ e) := by
  match b with
  | 0 | 1 | 2 | 3 => pointwise [bandAt]

theorem kband_at (b : Fin 4) (h : Fin 8) (j : Fin 256) (e : Fin 128) : kband xp xc b h (ix2 j e)
    = lane (fun d => kvRow xp xc ⟨128 * b + j, by omega⟩ ⟨64 * (h / 4) + d, by omega⟩) e := by
  match h with
  | 0 | 1 | 2 | 3 | 4 | 5 | 6 | 7 =>
    pointwise [kband, bandAt_at, pay9_at, pay10_at]
    try simp only [Fin.val_ofNat]
    try exact congrArg₂ lane (funext fun d => congrArg (kvRow xp xc _) (Fin.ext (by simp; try omega))) rfl

theorem vband_at (b : Fin 4) (h : Fin 8) (j : Fin 256) (e : Fin 128) : vband xp xc b h (ix2 j e)
    = lane (fun d => kvRow xp xc ⟨128 * b + j, by omega⟩ ⟨128 + 64 * (h / 4) + d, by omega⟩) e := by
  match h with
  | 0 | 1 | 2 | 3 | 4 | 5 | 6 | 7 =>
    pointwise [vband, bandAt_at, pay12_at, pay13_at]
    try exact congrArg₂ lane (funext fun d => congrArg (kvRow xp xc _) (Fin.ext (by simp; try omega))) rfl
end

section
variable (xq : FVec Ideal S512x512 .bf16) (xp : FVec Ideal S128x256 .bf16) (xc : FVec Ideal S512x256 .bf16) (xy xd : FVec Ideal S512x512 .f32)
  (bias : Fin 4 → Fin 8 → FVec Ideal S1x1x128x256 .f32) (sink : Fin 8 → EReal)

/-! Block `b` and head `h` of a step: the scaled queries, keys, values, saved output and cotangent, the scores and their gradient. -/
def bQ (b : Fin 4) (h : Fin 8) (p : Fin 128) (d : Fin 64) : EReal :=
  xq (ix2 ⟨128 * b + p, by omega⟩ ⟨64 * h + d, by omega⟩) * Ideal.ofBits .f32 0x3E000000#32
def bK (b : Fin 4) (h : Fin 8) (j : Fin 256) (d : Fin 64) : EReal := kvRow xp xc ⟨128 * b + j, by omega⟩ ⟨64 * (h / 4) + d, by omega⟩
def bV (b : Fin 4) (h : Fin 8) (j : Fin 256) (d : Fin 64) : EReal := kvRow xp xc ⟨128 * b + j, by omega⟩ ⟨128 + 64 * (h / 4) + d, by omega⟩
def bY (b : Fin 4) (h : Fin 8) (p : Fin 128) (d : Fin 64) : EReal := xy (ix2 ⟨128 * b + p, by omega⟩ ⟨64 * h + d, by omega⟩)
def bS (b : Fin 4) (h : Fin 8) (p : Fin 128) : Fin 256 → EReal := scoreOf (bias b h) (bQ xq b h) (bK xp xc b h) p
def bDs (b : Fin 4) (h : Fin 8) (p : Fin 128) (j : Fin 256) : EReal :=
  kDs (bS xq xp xc bias b h p) (sink h) (bV xp xc b h) (bY xy b h p) (bY xd b h p) j
def bEds (b : Fin 4) (h : Fin 8) (p : Fin 128) : EReal := kEds (bS xq xp xc bias b h p) (sink h) (bY xy b h p) (bY xd b h p)
def bP (b : Fin 4) (h : Fin 8) (p : Fin 128) (j : Fin 256) : EReal := rowP (bS xq xp xc bias b h p) (sink h) j
def bT (b : Fin 4) (h : Fin 8) (p : Fin 128) (d : Fin 64) : EReal := kT (bS xq xp xc bias b h p) (sink h) (bY xd b h p) d
def bDq (b : Fin 4) (h : Fin 8) (p : Fin 128) (d : Fin 64) : EReal :=
  (∑ j, bDs xq xp xc xy xd bias sink b h p j * bK xp xc b h j d) * Ideal.ofBits .f32 0x3E000000#32
/-- The gradients of the keys and values of the band of block `b`. -/
def bDk (b : Fin 4) (g : Fin 2) (j : Fin 256) (d : Fin 64) : EReal :=
  ∑ u : Fin 4, ∑ p, bDs xq xp xc xy xd bias sink b ⟨4 * g + u, by omega⟩ p j * bQ xq b ⟨4 * g + u, by omega⟩ p d
def bDv (b : Fin 4) (g : Fin 2) (j : Fin 256) (d : Fin 64) : EReal :=
  ∑ u : Fin 4, ∑ p, bP xq xp xc bias sink b ⟨4 * g + u, by omega⟩ p j * bT xq xp xc xd bias sink b ⟨4 * g + u, by omega⟩ p d
def bBand (b : Fin 4) : Fin 4 → Fin 256 → Fin 64 → EReal
  | 0 => bDk xq xp xc xy xd bias sink b 0 | 1 => bDk xq xp xc xy xd bias sink b 1
  | 2 => bDv xq xp xc xd bias sink b 0 | 3 => bDv xq xp xc xd bias sink b 1

theorem iDs_at (b : Fin 4) (h : Fin 8) (p : Fin 128) (j : Fin 256) : iDs xq xp xc xy xd bias sink b h (ix2 p j)
    = bDs xq xp xc xy xd bias sink b h p j :=
  ds_at (bias b h) (sink h) (qs_at xq b h) (kband_at xp xc b h) (vband_at xp xc b h)
    (fun p x => by rw [head_at]; simp only [loadAt_at]; rfl) (fun p x => by rw [head_at]; simp only [ldAt_at]; rfl) p j

theorem iDsb_at (b : Fin 4) (h : Fin 8) (p : Fin 128) (j : Fin 256) : iDsb xq xp xc xy xd bias sink b h (ix2 p j)
    = bDs xq xp xc xy xd bias sink b h p j := iDs_at ..

theorem iEds_at (b : Fin 4) (h : Fin 8) (p : Fin 128) (e : Fin 1) : iEds xq xp xc xy xd bias sink b h (ix2 p e)
    = bEds xq xp xc xy xd bias sink b h p :=
  eds_at (bias b h) (sink h) (qs_at xq b h) (kband_at xp xc b h)
    (fun p x => by rw [head_at]; simp only [loadAt_at]; rfl) (fun p x => by rw [head_at]; simp only [ldAt_at]; rfl) p e

theorem iPb_at (b : Fin 4) (h : Fin 8) (p : Fin 128) (j : Fin 256) : iPb xq xp xc bias sink b h (ix2 p j) = bP xq xp xc bias sink b h p j :=
  pr_at (bias b h) (sink h) (qs_at xq b h) (kband_at xp xc b h) p j

theorem iTb_at (b : Fin 4) (h : Fin 8) (p x : Fin 128) : iTb xq xp xc xd bias sink b h (ix2 p x) = lane (bT xq xp xc xd bias sink b h p) x :=
  tb_at (bias b h) (sink h) (qs_at xq b h) (kband_at xp xc b h) (fun p x => by rw [head_at]; simp only [ldAt_at]; rfl) p x

theorem iDq_at (b : Fin 4) (h : Fin 8) (p x : Fin 128) : iDq xq xp xc xy xd bias sink b h (ix2 p x) = lane (bDq xq xp xc xy xd bias sink b h p) x :=
  dqi_at (bias b h) (sink h) (qs_at xq b h) (kband_at xp xc b h) (vband_at xp xc b h)
    (fun p x => by rw [head_at]; simp only [loadAt_at]; rfl) (fun p x => by rw [head_at]; simp only [ldAt_at]; rfl) p x

theorem lane_lt (f : Fin 64 → EReal) (x : ℕ) (hx : x < 64) : lane f ⟨x, by omega⟩ = f ⟨x, hx⟩ := dif_pos hx

theorem dqOut_at (r c : Fin 512) : dqOut xq xp xc xy xd bias sink (ix2 r c)
    = bDq xq xp xc xy xd bias sink ⟨r / 128, by omega⟩ ⟨c / 64, by omega⟩ ⟨r % 128, by omega⟩ ⟨c % 64, by omega⟩ := by
  rw [dqOut, dqOf_at, iDq_at, lane_lt _ _ (Nat.mod_lt _ (by decide))]

theorem pad_lane (a : Fin 4 → FVec Ideal S128x256 .bf16) (b : Fin 4 → FVec Ideal S128x128 .bf16) (A : Fin 4 → Fin 128 → Fin 256 → EReal)
    (B : Fin 4 → Fin 128 → Fin 64 → EReal) (ha : ∀ u p j, a u (ix2 p j) = A u p j) (hb : ∀ u p x, b u (ix2 p x) = lane (B u p) x)
    (j : Fin 256) (x : Fin 128) : pad a b (ix2 j x) = lane (fun d => ∑ u, ∑ p, A u p j * B u p d) x := by
  rw [pad_at]
  simp only [ha, hb, sum_mul_lane]
  unfold lane; split <;> simp

theorem four {C : Fin 4 → Prop} (h0 : C 0) (h1 : C 1) (h2 : C 2) (h3 : C 3) : ∀ u, C u
  | 0 => h0 | 1 => h1 | 2 => h2 | 3 => h3

theorem dkPad_at (b : Fin 4) (g : Fin 2) (j : Fin 256) (x : Fin 128) : dkPad xq xp xc xy xd bias sink b g (ix2 j x)
    = lane (bDk xq xp xc xy xd bias sink b g j) x := by
  match g with
  | 0 =>
    rw [dkPad]
    refine (pad_lane _ _ (fun u => bDs xq xp xc xy xd bias sink b ⟨4 * (0 : Fin 2) + u, by omega⟩) (fun u => bQ xq b ⟨4 * (0 : Fin 2) + u, by omega⟩) ?_ ?_ j x).trans rfl
    · refine four ?_ ?_ ?_ ?_
      · exact iDsb_at xq xp xc xy xd bias sink b 0
      · exact iDsb_at xq xp xc xy xd bias sink b 1
      · exact iDsb_at xq xp xc xy xd bias sink b 2
      · exact iDsb_at xq xp xc xy xd bias sink b 3
    · refine four ?_ ?_ ?_ ?_
      · exact qs_at xq b 0
      · exact qs_at xq b 1
      · exact qs_at xq b 2
      · exact qs_at xq b 3
  | 1 =>
    rw [dkPad]
    refine (pad_lane _ _ (fun u => bDs xq xp xc xy xd bias sink b ⟨4 * (1 : Fin 2) + u, by omega⟩) (fun u => bQ xq b ⟨4 * (1 : Fin 2) + u, by omega⟩) ?_ ?_ j x).trans rfl
    · refine four ?_ ?_ ?_ ?_
      · exact iDsb_at xq xp xc xy xd bias sink b 4
      · exact iDsb_at xq xp xc xy xd bias sink b 5
      · exact iDsb_at xq xp xc xy xd bias sink b 6
      · exact iDsb_at xq xp xc xy xd bias sink b 7
    · refine four ?_ ?_ ?_ ?_
      · exact qs_at xq b 4
      · exact qs_at xq b 5
      · exact qs_at xq b 6
      · exact qs_at xq b 7

theorem dvPad_at (b : Fin 4) (g : Fin 2) (j : Fin 256) (x : Fin 128) : dvPad xq xp xc xd bias sink b g (ix2 j x)
    = lane (bDv xq xp xc xd bias sink b g j) x := by
  match g with
  | 0 =>
    rw [dvPad]
    refine (pad_lane _ _ (fun u => bP xq xp xc bias sink b ⟨4 * (0 : Fin 2) + u, by omega⟩) (fun u => bT xq xp xc xd bias sink b ⟨4 * (0 : Fin 2) + u, by omega⟩) ?_ ?_ j x).trans rfl
    · refine four ?_ ?_ ?_ ?_
      · exact iPb_at xq xp xc bias sink b 0
      · exact iPb_at xq xp xc bias sink b 1
      · exact iPb_at xq xp xc bias sink b 2
      · exact iPb_at xq xp xc bias sink b 3
    · refine four ?_ ?_ ?_ ?_
      · exact iTb_at xq xp xc xd bias sink b 0
      · exact iTb_at xq xp xc xd bias sink b 1
      · exact iTb_at xq xp xc xd bias sink b 2
      · exact iTb_at xq xp xc xd bias sink b 3
  | 1 =>
    rw [dvPad]
    refine (pad_lane _ _ (fun u => bP xq xp xc bias sink b ⟨4 * (1 : Fin 2) + u, by omega⟩) (fun u => bT xq xp xc xd bias sink b ⟨4 * (1 : Fin 2) + u, by omega⟩) ?_ ?_ j x).trans rfl
    · refine four ?_ ?_ ?_ ?_
      · exact iPb_at xq xp xc bias sink b 4
      · exact iPb_at xq xp xc bias sink b 5
      · exact iPb_at xq xp xc bias sink b 6
      · exact iPb_at xq xp xc bias sink b 7
    · refine four ?_ ?_ ?_ ?_
      · exact iTb_at xq xp xc xd bias sink b 4
      · exact iTb_at xq xp xc xd bias sink b 5
      · exact iTb_at xq xp xc xd bias sink b 6
      · exact iTb_at xq xp xc xd bias sink b 7

theorem bandGrad_at (b u : Fin 4) (j : Fin 256) (x : Fin 128) :
    bandGrad (dkPad xq xp xc xy xd bias sink) (dvPad xq xp xc xd bias sink) b u (ix2 j x) = lane (bBand xq xp xc xy xd bias sink b u j) x := by
  match u with
  | 0 => exact dkPad_at xq xp xc xy xd bias sink b 0 j x
  | 1 => exact dkPad_at xq xp xc xy xd bias sink b 1 j x
  | 2 => exact dvPad_at xq xp xc xd bias sink b 0 j x
  | 3 => exact dvPad_at xq xp xc xd bias sink b 1 j x

theorem dkvOut_at (carry : Tile) (r : Fin 512) (e : Fin 256) : dkvOut xq xp xc xy xd bias sink carry (ix2 r e)
    = bBand xq xp xc xy xd bias sink ⟨r / 128, by omega⟩ ⟨e / 64, by omega⟩ ⟨128 + r % 128, by omega⟩ ⟨e % 64, by omega⟩
      + if h : (r : ℕ) / 128 < 3 then bBand xq xp xc xy xd bias sink ⟨r / 128 + 1, by omega⟩ ⟨e / 64, by omega⟩ ⟨r % 128, by omega⟩ ⟨e % 64, by omega⟩
        else carry (ix2 ⟨r % 128, by omega⟩ e) := by
  rw [dkvOut, dkvOf_at]
  simp only [bandGrad_at, lane_lt _ _ (Nat.mod_lt (e : ℕ) (show 64 > 0 by decide))]

theorem carryOut_at (p : Fin 128) (e : Fin 256) : carryOut xq xp xc xy xd bias sink (ix2 p e)
    = bBand xq xp xc xy xd bias sink 0 ⟨e / 64, by omega⟩ ⟨p, by omega⟩ ⟨e % 64, by omega⟩ := by
  rw [carryOut, carryOf_at, bandGrad_at, lane_lt _ _ (Nat.mod_lt (e : ℕ) (show 64 > 0 by decide))]
end

end Cert.Attn
end
end
-- ==== Proof.Forward.lean ====
module

public import proofs.«01_k».proof.Proof.Gen.Reference2Ideal.Read
public import proofs.«01_k».proof.Proof.Row
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.Reference2Ideal Cert.Reference2Ideal.Gen Cert.Reference2Ideal.Read

/-! The attention's forward lines and their derivative read at an index. -/

namespace Cert.Attn

variable (x0 : FVec Ideal S8192x512 .f32) (x1 x2 : FVec Ideal S8192x128 .f32) (x3 : FVec Ideal S8 .f32) (x4 : FVec Ideal S8x128x256 .f32) (x5 : FVec Ideal S8192x512 .f32)

/-- Key `j` of block `n` is in the window of row `i`. -/
def Seen (n : Fin 64) (i : Fin 128) (j : Fin 256) : Prop := (j : ℕ) ≤ i + 128 ∧ (i : ℕ) < j ∧ 128 ≤ n * 128 + (j : ℕ)
instance (n : Fin 64) (i : Fin 128) (j : Fin 256) : Decidable (Seen n i j) := inferInstanceAs (Decidable (_ ∧ _))

/-- Row `i` of block `n`, head `g` of group `k`. -/
def rowOf (x : FVec Ideal S8192x512 .f32) (n : Fin 64) (k : Fin 2) (g : Fin 4) (i : Fin 128) (d : Fin 64) : EReal :=
  x (ix2 ⟨n * 128 + i, by omega⟩ ⟨k * 256 + g * 64 + d, by omega⟩)
/-- Key or value `j` of the two blocks that block `n` sees, zeros before the first. -/
def keyOf (x : FVec Ideal S8192x128 .f32) (n : Fin 64) (k : Fin 2) (j : Fin 256) (d : Fin 64) : EReal :=
  if h : 128 ≤ n * 128 + (j : ℕ) then x (ix2 ⟨n * 128 + j - 128, by omega⟩ ⟨k * 64 + d, by omega⟩) else 0
def headOf (k : Fin 2) (g : Fin 4) : Fin 8 := ⟨k * 4 + g, by omega⟩

section
variable (n : Fin 64) (k : Fin 2) (g : Fin 4) (i : Fin 128)
def rS (j : Fin 256) : EReal := (∑ d, keyOf x1 n k j d * rowOf x0 n k g i d) * Ideal.ofBits .f32 0x3E000000#32 + x4 (ix3 (headOf k g) i j)
/-- The masked scores. -/
def rSm (j : Fin 256) : EReal := if Seen n i j then rS x0 x1 x4 n k g i j else Ideal.ofBits .f32 0xFF800000#32
end

theorem dist_ge : ∀ (i : Fin 128) (j : Fin 256), IntOp.cmpi CmpIPredicate.sge (BitVec.ofNat 32 i + 128#32 - BitVec.ofNat 32 j) 0#32
    = if (j : ℕ) ≤ i + 128 then 1#1 else 0#1 := by decide +kernel
theorem dist_lt : ∀ (i : Fin 128) (j : Fin 256), IntOp.cmpi CmpIPredicate.slt (BitVec.ofNat 32 i + 128#32 - BitVec.ofNat 32 j) 128#32
    = if (i : ℕ) < j then 1#1 else 0#1 := by decide +kernel
theorem pos_ge : ∀ (n : Fin 64) (j : Fin 256), IntOp.cmpi CmpIPredicate.sge (BitVec.ofNat 32 n * 128#32 - 128#32 + BitVec.ofNat 32 j) 0#32
    = if 128 ≤ n * 128 + (j : ℕ) then 1#1 else 0#1 := by decide +kernel

theorem v20_at (n : Fin 64) (i : Fin 128) (j : Fin 256) : val_main_v20 (F := Ideal) (ix3 n i j) = if Seen n i j then 1#1 else 0#1 := by
  have h : val_main_v20 (F := Ideal) (ix3 n i j)
      = (IntOp.cmpi CmpIPredicate.sge (BitVec.ofNat 32 i + 128#32 - BitVec.ofNat 32 j) 0#32 &&&
          IntOp.cmpi CmpIPredicate.slt (BitVec.ofNat 32 i + 128#32 - BitVec.ofNat 32 j) 128#32) &&&
          IntOp.cmpi CmpIPredicate.sge (BitVec.ofNat 32 n * 128#32 - 128#32 + BitVec.ofNat 32 j) 0#32 := rfl
  rw [h, dist_ge, dist_lt, pos_ge]
  unfold Seen
  by_cases h1 : (j : ℕ) ≤ i + 128 <;> by_cases h2 : (i : ℕ) < j <;> by_cases h3 : 128 ≤ n * 128 + (j : ℕ) <;> simp [h1, h2, h3]

theorem v21_at (n : Fin 64) (i : Fin 128) (k : Fin 2) (g : Fin 4) (d : Fin 64) : val_main_v21 (F := Ideal) x0 (ix5 n i k g d) = rowOf x0 n k g i d := by
  pointwise [val_main_v21, rowOf]
theorem v29_at (n : Fin 64) (j : Fin 256) (k : Fin 2) (d : Fin 64) : val_main_v29 (F := Ideal) x1 (ix4 n j k d) = keyOf x1 n k j d := by
  pointwise [val_main_v29, val_main_v27, val_main_v28, val_main_v26, val_main_v24, val_main_v22, val_main_v23, val_main_cst, keyOf]
  by_cases hj : (j : ℕ) < 128
  · by_cases h : (n : ℕ) * 128 + j < 128
    · simp [hj, h, show ¬ 128 ≤ (n : ℕ) * 128 + j by omega]
    · simp [hj, h, show 128 ≤ (n : ℕ) * 128 + j by omega]
  · simp only [hj, dif_neg, not_false_iff, show ¬ ((1 + (n : ℕ)) * 128 + (j - 128) < 128) by omega, show 128 ≤ (n : ℕ) * 128 + j by omega, dif_pos]
    exact congrArg x1 (congrArg₂ ix2 (Fin.ext (by show (1 + (n : ℕ)) * 128 + (j - 128) - 128 = n * 128 + j - 128; omega)) rfl)
theorem v37_at (n : Fin 64) (j : Fin 256) (k : Fin 2) (d : Fin 64) : val_main_v37 (F := Ideal) x2 (ix4 n j k d) = keyOf x2 n k j d := v29_at x2 n j k d
theorem v46_at (n : Fin 64) (k : Fin 2) (g : Fin 4) (i : Fin 128) (j : Fin 256) : val_main_v46 (F := Ideal) x0 x1 x4 (ix5 n k g i j) = rS x0 x1 x4 n k g i j := by
  pointwise [val_main_v46, val_main_v45, val_main_v44, val_main_v43, val_main_v42, val_main_v41, val_main_v40, val_main_v39, val_main_cst_8, v29_at, v21_at, rS, headOf]
theorem v471_at (n : Fin 64) (k : Fin 2) (g : Fin 4) (i : Fin 128) (j : Fin 256) : val_main_v47_1 (F := Ideal) (ix5 n k g i j) = if Seen n i j then 1#1 else 0#1 := by
  pointwise [val_main_v47_1, val_main_v38, v20_at]
theorem v470_at (n : Fin 64) (k : Fin 2) (g : Fin 4) (i : Fin 128) (j : Fin 256) : val_main_v47_0 (F := Ideal) x0 x1 x4 (ix5 n k g i j) = rSm x0 x1 x4 n k g i j := by
  pointwise [val_main_v47_0, v471_at, v46_at, val_main_call0_v2, val_main_call0_v0, val_main_cst_9, rSm]
  split <;> simp [Scalar.select]
  rfl
theorem v56_at (k : Fin 2) (g : Fin 4) (i : Fin 128) : val_main_v56 (F := Ideal) x3 (ix5 0 k g i 0) = x3 (ix1 (headOf k g)) := by
  pointwise [val_main_v56, val_main_v48, val_main_v1, val_main_v0, headOf]
theorem v49_at (n : Fin 64) (k : Fin 2) (g : Fin 4) (i : Fin 128) : val_main_v49 (F := Ideal) x0 x1 x4 (ix4 n k g i)
    = Finset.univ.fold max (Ideal.ofBits .f32 0xFF800000#32) (rSm x0 x1 x4 n k g i) := by
  pointwise [val_main_v49, val_main_cst_10, v470_at]

end Cert.Attn
end
end
-- ==== Proof.Backward.lean ====
module

public import proofs.«01_k».proof.Proof.Gen.Reference2Ideal.Read
public import proofs.«01_k».proof.Proof.Forward
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.Reference2Ideal Cert.Reference2Ideal.Gen Cert.Reference2Ideal.Read

/-! The attention's derivative read at an index. -/

namespace Cert.Attn

variable (x0 : FVec Ideal S8192x512 .f32) (x1 x2 : FVec Ideal S8192x128 .f32) (x3 : FVec Ideal S8 .f32) (x4 : FVec Ideal S8x128x256 .f32) (x5 : FVec Ideal S8192x512 .f32)
variable (n : Fin 64) (k : Fin 2) (g : Fin 4) (i : Fin 128)

theorem v55_at : val_main_v55 (F := Ideal) x0 x1 x4 (ix5 n k g i 0) = Finset.univ.fold max (Ideal.ofBits .f32 0xFF800000#32) (rSm x0 x1 x4 n k g i) := by
  pointwise [val_main_v55, v49_at]
theorem v57_at : val_main_v57 (F := Ideal) x3 (ix5 n k g i 0) = (x3 (ix1 (headOf k g))) := by
  pointwise [val_main_v57, v56_at]
theorem maximumf_eq (a b : EReal) : FloatOps.maximumf (F := Ideal) (φ := .f32) a b = max a b := rfl
theorem v58_at : val_main_v58 (F := Ideal) x0 x1 x3 x4 (ix5 n k g i 0) = rowM (rSm x0 x1 x4 n k g i) (x3 (ix1 (headOf k g))) := by
  unfold rowM
  rw [val_main_v58_apply, v55_at x0 x1 x4 n k g i, v57_at x3 n k g i]
  exact maximumf_eq _ _
theorem v53_at (j : Fin 256) : val_main_v53 (F := Ideal) x0 x1 x4 (ix5 n k g i j)
    = if (rSm x0 x1 x4 n k g i) j = Finset.univ.fold max (Ideal.ofBits .f32 0xFF800000#32) (rSm x0 x1 x4 n k g i) then 1 else 0 := by
  pointwise [val_main_v53, val_main_v52, val_main_v51, val_main_v50, v49_at, v470_at]
  split <;> simp [FloatOps.uitofp, *]
theorem v79_at (j : Fin 256) : val_main_v79 (F := Ideal) x0 x1 x3 x4 (ix5 n k g i j) = rowP (rSm x0 x1 x4 n k g i) (x3 (ix1 (headOf k g))) j := by
  pointwise [val_main_v79, val_main_v78, val_main_v77, v470_at, v58_at, rowP]
theorem v85_at : val_main_v85 (F := Ideal) x0 x1 x3 x4 (ix5 n k g i 0) = rowE (rSm x0 x1 x4 n k g i) (x3 (ix1 (headOf k g))) := by
  pointwise [val_main_v85, val_main_v84, val_main_v83, val_main_v82, val_main_v48, val_main_v1, val_main_v0, v58_at, rowE, headOf]
theorem v86_at : val_main_v86 (F := Ideal) x0 x1 x3 x4 (ix5 n k g i 0) = rowZ (rSm x0 x1 x4 n k g i) (x3 (ix1 (headOf k g))) := by
  pointwise [val_main_v86, val_main_v81, val_main_v80, val_main_cst_18, v79_at, v85_at, rowZ]
theorem v87_at (d : Fin 64) : val_main_v87 (F := Ideal) x0 x1 x2 x3 x4 (ix5 n k g i d) = ∑ j, rowP (rSm x0 x1 x4 n k g i) (x3 (ix1 (headOf k g))) j * keyOf x2 n k j d := by
  pointwise [val_main_v87, v79_at, v37_at]
theorem v89_at (d : Fin 64) : val_main_v89 (F := Ideal) x0 x1 x2 x3 x4 (ix5 n k g i d) = rowY (rSm x0 x1 x4 n k g i) (x3 (ix1 (headOf k g))) (keyOf x2 n k) d := by
  pointwise [val_main_v89, val_main_v88, v87_at, v86_at, rowY]
theorem v92_at : val_main_v92 (F := Ideal) x0 x1 x3 x4 (ix5 n k g i 0) = Ideal.div 1 (rowZ (rSm x0 x1 x4 n k g i) (x3 (ix1 (headOf k g))) * rowZ (rSm x0 x1 x4 n k g i) (x3 (ix1 (headOf k g)))) := by
  pointwise [val_main_v92, val_main_v91, val_main_v90, val_main_cst_19, v86_at]
theorem v96_at (d : Fin 64) : val_main_v96 (F := Ideal) x5 (ix5 n k g i d) = rowOf x5 n k g i d := by
  pointwise [val_main_v96, val_main_v95, rowOf]

theorem v102_at : val_main_v102 (F := Ideal) x0 x1 x2 x3 x4 x5 (ix5 n k g i 0) = rD (rSm x0 x1 x4 n k g i) (x3 (ix1 (headOf k g))) (keyOf x2 n k) (rowOf x5 n k g i) := by
  pointwise [val_main_v102, val_main_v101, val_main_v100, val_main_v99, val_main_v98, val_main_v97, val_main_cst_20, v96_at, v92_at, v87_at, rD]
theorem v104_at (d : Fin 64) : val_main_v104 (F := Ideal) x0 x1 x3 x4 x5 (ix5 n k g i d) = rT (rSm x0 x1 x4 n k g i) (x3 (ix1 (headOf k g))) (rowOf x5 n k g i) d := by
  pointwise [val_main_v104, val_main_v103, v96_at, v86_at, rT]
theorem v115_at (j : Fin 256) : val_main_v115 (F := Ideal) x0 x1 x2 x3 x4 x5 (ix5 n k g i j) = rD (rSm x0 x1 x4 n k g i) (x3 (ix1 (headOf k g))) (keyOf x2 n k) (rowOf x5 n k g i) := by
  pointwise [val_main_v115, val_main_v114, val_main_cst_23]
  rw [Fin.sum_univ_one, v102_at]
theorem v107_at (j : Fin 256) : val_main_v107 (F := Ideal) x0 x1 x2 x3 x4 x5 (ix5 n k g i j) = ∑ d, rT (rSm x0 x1 x4 n k g i) (x3 (ix1 (headOf k g))) (rowOf x5 n k g i) d * keyOf x2 n k j d := by
  pointwise [val_main_v107, v104_at, v37_at]
theorem v117_at (j : Fin 256) : val_main_v117 (F := Ideal) x0 x1 x2 x3 x4 x5 (ix5 n k g i j) = rW (rSm x0 x1 x4 n k g i) (x3 (ix1 (headOf k g))) (keyOf x2 n k) (rowOf x5 n k g i) j := by
  pointwise [val_main_v117, val_main_v116, v115_at, v107_at, v79_at, rW]
theorem v108_at : val_main_v108 (F := Ideal) x0 x1 x2 x3 x4 x5 (ix5 n k g i 0) = rE (rSm x0 x1 x4 n k g i) (x3 (ix1 (headOf k g))) (keyOf x2 n k) (rowOf x5 n k g i) := by
  pointwise [val_main_v108, v102_at, v85_at, rE]
theorem v121_at : val_main_v121 (F := Ideal) x0 x1 x2 x3 x4 x5 (ix5 n k g i 0) = rMax (rSm x0 x1 x4 n k g i) (x3 (ix1 (headOf k g))) (keyOf x2 n k) (rowOf x5 n k g i) := by
  pointwise [val_main_v121, val_main_v120, val_main_v119, val_main_v118, val_main_v111, val_main_cst_24, v108_at, v117_at, rMax]
theorem v54_at : val_main_v54 (F := Ideal) x0 x1 x4 (ix4 n k g i) = ∑ j, val_main_v53 (F := Ideal) x0 x1 x4 (ix5 n k g i j) := by
  pointwise [val_main_v54, val_main_cst_11]
theorem v125_at : val_main_v125 (F := Ideal) x0 x1 x2 x3 x4 x5 (ix5 n k g i 0)
    = rMax (rSm x0 x1 x4 n k g i) (x3 (ix1 (headOf k g))) (keyOf x2 n k) (rowOf x5 n k g i) * val_main_v67 (F := Ideal) x0 x1 x3 x4 (ix5 n k g i 0) := by
  rw [val_main_v125_apply, v121_at x0 x1 x2 x3 x4 x5 n k g i]
  exact Ideal.mulf_def _ _
theorem v129_at : val_main_v129 (F := Ideal) x0 x1 x2 x3 x4 x5 (ix4 n k g i)
    = rMax (rSm x0 x1 x4 n k g i) (x3 (ix1 (headOf k g))) (keyOf x2 n k) (rowOf x5 n k g i) * val_main_v67 (F := Ideal) x0 x1 x3 x4 (ix5 n k g i 0) := by
  rw [← v125_at x0 x1 x2 x3 x4 x5 n k g i]
  unfold val_main_v129
  generalize val_main_v125 (F := Ideal) x0 x1 x2 x3 x4 x5 = y
  pointwise [val_main_cst_27]
  try rw [Fin.sum_univ_one]
theorem v130_at : val_main_v130 (F := Ideal) x0 x1 x2 x3 x4 x5 (ix4 n k g i)
    = Ideal.div (rMax (rSm x0 x1 x4 n k g i) (x3 (ix1 (headOf k g))) (keyOf x2 n k) (rowOf x5 n k g i) * val_main_v67 (F := Ideal) x0 x1 x3 x4 (ix5 n k g i 0)) (∑ j, val_main_v53 (F := Ideal) x0 x1 x4 (ix5 n k g i j)) := by
  rw [val_main_v130_apply, v129_at x0 x1 x2 x3 x4 x5 n k g i, v54_at x0 x1 x4 n k g i]
  exact Ideal.hostDivf_def _ _
theorem v133_at (j : Fin 256) : val_main_v133 (F := Ideal) x0 x1 x2 x3 x4 x5 (ix5 n k g i j)
    = rDs (rSm x0 x1 x4 n k g i) (x3 (ix1 (headOf k g))) (keyOf x2 n k) (rowOf x5 n k g i) (val_main_v67 (F := Ideal) x0 x1 x3 x4 (ix5 n k g i 0)) (fun j => val_main_v53 (F := Ideal) x0 x1 x4 (ix5 n k g i j)) j := by
  pointwise [val_main_v133, val_main_v132, val_main_v131, v117_at, v130_at, rDs]
theorem v135_at (j : Fin 256) : val_main_v135 (F := Ideal) x0 x1 x2 x3 x4 x5 (ix5 n k g i j)
    = if Seen n i j then val_main_v133 (F := Ideal) x0 x1 x2 x3 x4 x5 (ix5 n k g i j) else 0 := by
  pointwise [val_main_v135, v471_at, val_main_call1_v0, val_main_call1_cst]
  split <;> simp [Scalar.select]

end Cert.Attn
end
end
-- ==== Proof.RefOut.lean ====
module

public import proofs.«01_k».proof.Proof.Gen.Reference2Ideal.Read
public import proofs.«01_k».proof.Proof.Backward
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.Reference2Ideal Cert.Reference2Ideal.Gen Cert.Reference2Ideal.Read

/-! The attention's forward lines and their derivative read at an index. -/

namespace Cert.Attn
variable (x0 : FVec Ideal S8192x512 .f32) (x1 x2 : FVec Ideal S8192x128 .f32) (x3 : FVec Ideal S8 .f32) (x4 : FVec Ideal S8x128x256 .f32) (x5 : FVec Ideal S8192x512 .f32)
variable (n : Fin 64) (k : Fin 2) (g : Fin 4) (i : Fin 128)

/-- Row `r` of the keys' gradient from the gradients of the two blocks each block sees. -/
def bandSum (a : Fin 64 → Fin 2 → Fin 256 → Fin 64 → EReal) (r : Fin 8192) (e : Fin 128) : EReal :=
  a ⟨r / 128, by omega⟩ ⟨e / 64, by omega⟩ ⟨128 + r % 128, by omega⟩ ⟨e % 64, by omega⟩
    + if h : (r : ℕ) / 128 + 1 < 64 then a ⟨r / 128 + 1, h⟩ ⟨e / 64, by omega⟩ ⟨r % 128, by omega⟩ ⟨e % 64, by omega⟩ else 0

/-! The gradients of the queries, keys, values, bias and sinks from the gradient `ds` of the scores, the row weights `p`, the scaled
cotangent `t` and the gradient `e` of the sink's weight. -/
section
variable (ds p : Fin 64 → Fin 2 → Fin 4 → Fin 128 → Fin 256 → EReal) (t : Fin 64 → Fin 2 → Fin 4 → Fin 128 → Fin 64 → EReal)
def gQ (i : Fin 128) (d : Fin 64) : EReal := ∑ j, ds n k g i j * Ideal.ofBits .f32 0x3E000000#32 * keyOf x1 n k j d
def gK (j : Fin 256) (d : Fin 64) : EReal := ∑ i, ∑ g, ds n k g i j * Ideal.ofBits .f32 0x3E000000#32 * rowOf x0 n k g i d
def gV (j : Fin 256) (d : Fin 64) : EReal := ∑ g, ∑ i, t n k g i d * p n k g i j
end

/-- The scores' gradient, the weights, the scaled cotangent and the sink's gradient of the derivative. -/
def rdS (n : Fin 64) (k : Fin 2) (g : Fin 4) (i : Fin 128) (j : Fin 256) : EReal := val_main_v135 (F := Ideal) x0 x1 x2 x3 x4 x5 (ix5 n k g i j)
def rP (n : Fin 64) (k : Fin 2) (g : Fin 4) (i : Fin 128) (j : Fin 256) : EReal := rowP (rSm x0 x1 x4 n k g i) (x3 (ix1 (headOf k g))) j
def rTt (n : Fin 64) (k : Fin 2) (g : Fin 4) (i : Fin 128) (d : Fin 64) : EReal :=
  rT (rSm x0 x1 x4 n k g i) (x3 (ix1 (headOf k g))) (rowOf x5 n k g i) d

theorem v142_at (d : Fin 64) : val_main_v142 (F := Ideal) x0 x1 x2 x3 x4 x5 (ix5 n k i g d)
    = gQ x1 n k g (rdS x0 x1 x2 x3 x4 x5) i d := by
  unfold val_main_v142 val_main_v141 val_main_v140 gQ rdS
  generalize val_main_v135 (F := Ideal) x0 x1 x2 x3 x4 x5 = ds
  pointwise [val_main_v139, val_main_cst_30, v29_at]
theorem v144_at (j : Fin 256) (d : Fin 64) : val_main_v144 (F := Ideal) x0 x1 x2 x3 x4 x5 (ix4 n k j d)
    = gK x0 n k (rdS x0 x1 x2 x3 x4 x5) j d := by
  unfold val_main_v144 val_main_v141 val_main_v140 gK rdS
  generalize val_main_v135 (F := Ideal) x0 x1 x2 x3 x4 x5 = ds
  pointwise [val_main_v139, val_main_cst_30, v21_at]
theorem v105_at (j : Fin 256) (d : Fin 64) : val_main_v105 (F := Ideal) x0 x1 x3 x4 x5 (ix4 n k d j)
    = gV n k (rP x0 x1 x3 x4) (rTt x0 x1 x3 x4 x5) j d := by
  unfold gV rP rTt
  simp only [← v79_at, ← v104_at]
  unfold val_main_v105
  generalize val_main_v104 (F := Ideal) x0 x1 x3 x4 x5 = a
  generalize val_main_v79 (F := Ideal) x0 x1 x3 x4 = b
  pointwise
theorem v164_at (r : Fin 8192) (e : Fin 128) : val_main_v164 (F := Ideal) x0 x1 x2 x3 x4 x5 (ix2 r e)
    = bandSum (fun n k j d => gK x0 n k (rdS x0 x1 x2 x3 x4 x5) j d) r e := by
  unfold bandSum
  simp only [← v144_at]
  unfold val_main_v164 val_main_v163 val_main_v161 val_main_v160 val_main_v159 val_main_v158 val_main_v157 val_main_v156 val_main_v145
  generalize val_main_v144 (F := Ideal) x0 x1 x2 x3 x4 x5 = a
  pointwise [val_main_cst_33, val_main_cst_34]
  have e1 : (128 + (r : ℕ)) / 128 = r / 128 + 1 := by omega
  have e2 : (128 + (r : ℕ)) % 128 = r % 128 := by omega
  have e3 : (r : ℕ) % 128 < 128 := by omega
  have e4 : (e : ℕ) / 64 < 2 := by omega
  have e5 : (e : ℕ) % 64 < 64 := by omega
  have e6 : (r : ℕ) / 128 < 64 := by omega
  simp only [e1, e2, e3, e4, e5, e6, Nat.add_sub_cancel, Nat.le_add_left, and_self, and_true, dif_pos]
theorem v155_at (r : Fin 8192) (e : Fin 128) : val_main_v155 (F := Ideal) x0 x1 x3 x4 x5 (ix2 r e)
    = bandSum (fun n k j d => gV n k (rP x0 x1 x3 x4) (rTt x0 x1 x3 x4 x5) j d) r e := by
  unfold bandSum
  simp only [← v105_at]
  unfold val_main_v155 val_main_v154 val_main_v152 val_main_v151 val_main_v150 val_main_v149 val_main_v148 val_main_v147 val_main_v106
  generalize val_main_v105 (F := Ideal) x0 x1 x3 x4 x5 = a
  pointwise [val_main_cst_31, val_main_cst_32]
  have e1 : (128 + (r : ℕ)) / 128 = r / 128 + 1 := by omega
  have e2 : (128 + (r : ℕ)) % 128 = r % 128 := by omega
  have e3 : (r : ℕ) % 128 < 128 := by omega
  have e4 : (e : ℕ) / 64 < 2 := by omega
  have e5 : (e : ℕ) % 64 < 64 := by omega
  have e6 : (r : ℕ) / 128 < 64 := by omega
  simp only [e1, e2, e3, e4, e5, e6, Nat.add_sub_cancel, Nat.le_add_left, and_self, and_true, dif_pos]

theorem v166_at (r : Fin 8192) (e : Fin 512) : val_main_v166 (F := Ideal) x0 x1 x2 x3 x4 x5 (ix2 r e)
    = gQ x1 ⟨r / 128, by omega⟩ ⟨e / 256, by omega⟩ ⟨e / 64 % 4, by omega⟩ (rdS x0 x1 x2 x3 x4 x5) ⟨r % 128, by omega⟩ ⟨e % 64, by omega⟩ := by
  rw [← v142_at]
  unfold val_main_v166 val_main_v165 val_main_v143
  generalize val_main_v142 (F := Ideal) x0 x1 x2 x3 x4 x5 = a
  pointwise
theorem v168_at (r : Fin 8192) (e : Fin 256) : val_main_v168 (F := Ideal) x0 x1 x2 x3 x4 x5 (ix2 r e)
    = if h : (e : ℕ) < 128 then bandSum (fun n k j d => gK x0 n k (rdS x0 x1 x2 x3 x4 x5) j d) r ⟨e, h⟩
      else bandSum (fun n k j d => gV n k (rP x0 x1 x3 x4) (rTt x0 x1 x3 x4 x5) j d) r ⟨e - 128, by omega⟩ := by
  simp only [← v164_at, ← v155_at]
  unfold val_main_v168 val_main_v167
  generalize val_main_v164 (F := Ideal) x0 x1 x2 x3 x4 x5 = a
  generalize val_main_v155 (F := Ideal) x0 x1 x3 x4 x5 = b
  pointwise
theorem v146_at (h : Fin 8) (i : Fin 128) (j : Fin 256) : val_main_v146 (F := Ideal) x0 x1 x2 x3 x4 x5 (ix3 h i j)
    = ∑ n, rdS x0 x1 x2 x3 x4 x5 n ⟨h / 4, by omega⟩ ⟨h % 4, by omega⟩ i j := by
  unfold val_main_v146 val_main_v138 val_main_v137 val_main_v136 rdS
  generalize val_main_v135 (F := Ideal) x0 x1 x2 x3 x4 x5 = a
  pointwise [val_main_cst_28, val_main_cst_29]
  rw [Fin.sum_univ_one]
theorem drop_unit (i : S1x2x4x128x1.Idx) : (reducesTo_S1x2x4x128x1_S2x4x128_d0_4).drop i = ix3 (i 1) (i 2) (i 3) := by
  funext b; fin_cases b <;> rfl
theorem reduce_unit (x : S1x2x4x128x1.Idx → EReal) (a : Fin 2) (b : Fin 4) (c : Fin 128) :
    Ideal.hostReduceAdd reducesTo_S1x2x4x128x1_S2x4x128_d0_4 x 0 (ix3 a b c) = x (ix5 0 a b c 0) := by
  unfold Ideal.hostReduceAdd
  rw [zero_add]
  refine Finset.sum_eq_single_of_mem _ (Finset.mem_filter.mpr ⟨Finset.mem_univ _, by rw [drop_unit]; rfl⟩) fun i hi hne => ?_
  have h := (Finset.mem_filter.mp hi).2
  rw [drop_unit] at h
  idx_vars i
  have h1 : i1 = a := congrFun h 0
  have h2 : i2 = b := congrFun h 1
  have h3 : i3 = c := congrFun h 2
  obtain rfl : i0 = 0 := Subsingleton.elim _ _
  obtain rfl : i4 = 0 := Subsingleton.elim _ _
  exact absurd (by rw [h1, h2, h3]) hne

theorem v134_at (h : Fin 8) (i : Fin 128) : val_main_v134 (F := Ideal) x0 x1 x2 x3 x4 x5 (ix3 h i 0)
    = (∑ n, val_main_v108 (F := Ideal) x0 x1 x2 x3 x4 x5 (ix5 n ⟨h / 4, by omega⟩ ⟨h % 4, by omega⟩ i 0))
      + ∑ n, val_main_v122 (F := Ideal) x0 x1 x2 x3 x4 x5 (ix5 n ⟨h / 4, by omega⟩ ⟨h % 4, by omega⟩ i 0) := by
  unfold val_main_v134 val_main_v128 val_main_v127 val_main_v126 val_main_v124 val_main_v123 val_main_v113 val_main_v112 val_main_v110 val_main_v109
  generalize val_main_v108 (F := Ideal) x0 x1 x2 x3 x4 x5 = a
  generalize val_main_v122 (F := Ideal) x0 x1 x2 x3 x4 x5 = b
  pointwise [val_main_cst_21, val_main_cst_22, val_main_cst_25, val_main_cst_26, reduce_unit]

end Cert.Attn
end
end
-- ==== Proof.Host.lean ====
module

public import proofs.«01_k».proof.Proof.StepVal
public import proofs.«01_k».proof.Proof.RefOut

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

/-! What the host prepares for the kernel. -/

namespace Cert.Attn

variable (m : (ℓ : Loc nD τ sig) → Buf (Elt Ideal) ℓ)
abbrev A0 (c : Dev nD) : FVec Ideal S8192x512 .f32 := m ((c : Thread nD τ).loc main_arg0)
abbrev A1 (c : Dev nD) : FVec Ideal S8192x128 .f32 := m ((c : Thread nD τ).loc main_arg1)
abbrev A2 (c : Dev nD) : FVec Ideal S8192x128 .f32 := m ((c : Thread nD τ).loc main_arg2)
abbrev A3 (c : Dev nD) : FVec Ideal S8 .f32 := m ((c : Thread nD τ).loc main_arg3)
abbrev A4 (c : Dev nD) : FVec Ideal S8x128x256 .f32 := m ((c : Thread nD τ).loc main_arg4)
abbrev A5 (c : Dev nD) : FVec Ideal S8192x512 .f32 := m ((c : Thread nD τ).loc main_arg5)

/-- Queries, keys and values side by side. -/
def QKV (c : Dev nD) : FVec Ideal S8192x768 .bf16 := truncf .bf16 (concatenate S8192x768 1 [⟨S8192x512, A0 m c⟩, ⟨S8192x128, A1 m c⟩, ⟨S8192x128, A2 m c⟩]
    concatenates_S8192x512_S8192x128_S8192x128_S8192x768_d1) bitsLt_bf16_f32
/-- The output of the attention. -/
def OUT (c : Dev nD) : FVec Ideal S8192x512 .f32 := Cert.Reference2Ideal.Read.val_main_v94 (F := Ideal) (A0 m c) (A1 m c) (A2 m c) (A3 m c) (A4 m c)

theorem V_v68 (c : Dev nD) : V m c main_v68 = QKV m c := by
  unfold V
  simp only [List.flatten_cons, List.flatten_nil, List.append_nil, List.cons_append, List.nil_append]
  after_results
  rfl
theorem V_v66 (c : Dev nD) : V m c main_v66 = OUT m c := by
  unfold V
  simp only [List.flatten_cons, List.flatten_nil, List.append_nil, List.cons_append, List.nil_append]
  after_results
  rfl
def maskAt (n : Fin 64) (i : Fin 128) (j : Fin 256) (a : EReal) : EReal := if Seen n i j then a else Ideal.ofBits .f32 0xFF800000#32

def maskedBias (n : Fin 64) (c : Dev nD) : FVec Ideal S8x128x256 .f32 := fun i => maskAt n (i 1) (i 2) (A4 m c i)

theorem maskedBias_eq (n : Fin 64) (c : Dev nD) (h : S64x128x256.Slices ![n.val, 0, 0] S1x128x256) : maskedBias m n c =
    select (broadcastInDim S8x128x256 ![1, 2] bcast_S128x256_S8x128x256_1_2 (shapeCast S128x256
      (extractStridedSlice S1x128x256 ![n.val, 0, 0] (Cert.Reference2Ideal.Read.val_main_v20 (F := Ideal)) h) shapeCasts_S1x128x256_S128x256))
      (A4 m c) (broadcastInDim S8x128x256 ![] bcast_S_S8x128x256 (constant S_ .f32 0xFF800000#32 : FVec Ideal S_ .f32)) := by
  funext i
  idx_vars i
  pointwise [maskedBias, v20_at]
  unfold maskAt
  split <;> simp [Scalar.select]

/-- The biases with the masked places at -∞: of the blocks after the first, and of the first block. -/
def BOTH (c : Dev nD) : FVec Ideal S2x8x128x256 .f32 := concatenate S2x8x128x256 0 [⟨S1x8x128x256, broadcastInDim S1x8x128x256 ![1, 2, 3] bcast_S8x128x256_S1x8x128x256_1_2_3 (maskedBias m 1 c)⟩,
      ⟨S1x8x128x256, broadcastInDim S1x8x128x256 ![1, 2, 3] bcast_S8x128x256_S1x8x128x256_1_2_3 (maskedBias m 0 c)⟩] concatenates_S1x8x128x256_S1x8x128x256_S2x8x128x256_d0

theorem V_v77 (c : Dev nD) : V m c main_v77 = BOTH m c := by
  unfold BOTH
  rw [maskedBias_eq m 0 c slices_S64x128x256_S1x128x256_0_0_0, maskedBias_eq m 1 c slices_S64x128x256_S1x128x256_1_0_0]
  unfold V
  simp only [List.flatten_cons, List.flatten_nil, List.append_nil, List.cons_append, List.nil_append]
  after_results
  rfl
theorem idx_val : ∀ t : Fin cfg0.N, win0_0.index t = ![15 - t.val, 0] ∧ win0_1.index t = ![(15 - t.val) * 4 - 1, 2] ∧ win0_2.index t = ![15 - t.val, 2]
    ∧ win0_3.index t = ![15 - t.val, 0] ∧ win0_4.index t = ![15 - t.val, 0] ∧ win0_5.index t = ![0, 0, 0, 0] ∧ win0_6.index t = ![0]
    ∧ win0_7.index t = ![15 - t.val, 0] ∧ win0_8.index t = ![15 - t.val, 0] ∧ win0_9.index t = ![0, 0, 0] ∧ win0_10.index t = ![0, 0, 0] :=
  (by decide +kernel : ∀ t : Fin grid0.N, _)

theorem qkv_q (c : Dev nD) (r : Fin 8192) (e : Fin 512) : QKV m c (ix2 r (⟨e, by omega⟩ : Fin 768)) = A0 m c (ix2 r e) := by
  unfold QKV; pointwise []
theorem qkv_k (c : Dev nD) (r : Fin 8192) (e : Fin 128) : QKV m c (ix2 r (⟨512 + e, by omega⟩ : Fin 768)) = A1 m c (ix2 r e) := by
  unfold QKV; pointwise []
theorem qkv_v (c : Dev nD) (r : Fin 8192) (e : Fin 128) : QKV m c (ix2 r (⟨640 + e, by omega⟩ : Fin 768)) = A2 m c (ix2 r e) := by
  unfold QKV; pointwise []
  rw [dif_neg (by omega), dif_neg (by omega)]
  exact congrArg (A2 m c) (congrArg (ix2 r) (Fin.ext (by simp; omega)))

theorem w2_at (c : Dev nD) (t : Fin cfg0.N) (p : Fin 512) (e : Fin 256) :
    iblk m c 2 t (ix2 p e) = QKV m c (ix2 (⟨(15 - t.val) * 512 + p, by omega⟩ : Fin 8192) (⟨512 + e, by omega⟩ : Fin 768)) := by
  simp only [iblk]
  rw [show V m c (Pipeline.arrRef spec0 2) = _ from V_v68 m c]
  blk_ext [idx_val t]
theorem w1_at (c : Dev nD) (t : Fin cfg0.N) (p : Fin 128) (e : Fin 256) :
    iblk m c 1 t (ix2 p e) = QKV m c (ix2 (⟨((15 - t.val) * 4 - 1) * 128 + p, by omega⟩ : Fin 8192) (⟨512 + e, by omega⟩ : Fin 768)) := by
  simp only [iblk]
  rw [show V m c (Pipeline.arrRef spec0 1) = _ from V_v68 m c]
  blk_ext [idx_val t]
theorem w0_at (c : Dev nD) (t : Fin cfg0.N) (p : Fin 512) (e : Fin 512) :
    X0_0 m c t (ix2 p e) = QKV m c (ix2 (⟨(15 - t.val) * 512 + p, by omega⟩ : Fin 8192) (⟨e, by omega⟩ : Fin 768)) := by
  unfold X0_0 Pipeline.Window.fill
  rw [dif_pos (moved0_0 t _)]
  simp only [iblk]
  rw [show V m c (Pipeline.arrRef spec0 0) = _ from V_v68 m c]
  blk_ext [idx_val t]
theorem w3_at (c : Dev nD) (t : Fin cfg0.N) (p : Fin 512) (e : Fin 512) :
    iblk m c 3 t (ix2 p e) = OUT m c (ix2 (⟨(15 - t.val) * 512 + p, by omega⟩ : Fin 8192) e) := by
  simp only [iblk]
  rw [show V m c (Pipeline.arrRef spec0 3) = _ from V_v66 m c]
  blk_ext [idx_val t]
theorem w4_at (c : Dev nD) (t : Fin cfg0.N) (p : Fin 512) (e : Fin 512) :
    iblk m c 4 t (ix2 p e) = A5 m c (ix2 (⟨(15 - t.val) * 512 + p, by omega⟩ : Fin 8192) e) := by
  simp only [iblk]
  rw [show V m c (Pipeline.arrRef spec0 4) = _ from V_main_arg5 m c]
  blk_ext [idx_val t]
theorem w5_eq (c : Dev nD) (t : Fin cfg0.N) : iblk m c 5 t = BOTH m c := by
  simp only [iblk]
  rw [show V m c (Pipeline.arrRef spec0 5) = _ from V_v77 m c]
  blk_ext! [idx_val t]
theorem w6_eq (c : Dev nD) (t : Fin cfg0.N) : iblk m c 6 t = A3 m c := by
  simp only [iblk]
  rw [show V m c (Pipeline.arrRef spec0 6) = _ from V_main_arg3 m c]
  blk_ext! [idx_val t]

theorem both_later (c : Dev nD) (h : Fin 8) (p : Fin 128) (j : Fin 256) : BOTH m c (ix4 0 h p j) = maskAt 1 p j (A4 m c (ix3 h p j)) := by
  unfold BOTH; pointwise [maskedBias]
theorem both_first (c : Dev nD) (h : Fin 8) (p : Fin 128) (j : Fin 256) : BOTH m c (ix4 1 h p j) = maskAt 0 p j (A4 m c (ix3 h p j)) := by
  unfold BOTH; pointwise [maskedBias]

theorem maskAt_later {n : Fin 64} (hn : 0 < n.val) (p : Fin 128) (j : Fin 256) (a : EReal) : maskAt n p j a = maskAt 1 p j a := by
  have : Seen n p j ↔ Seen 1 p j := by
    constructor <;> rintro ⟨h1, h2, _⟩ <;> exact ⟨h1, h2, by have : ((1 : Fin 64) : ℕ) = 1 := rfl; omega⟩
  simp [maskAt, this]

theorem offs_val : ∀ (t : Fin cfg0.N) (h : Fin 8), offs (grid0.coords t) h = ![if t.val = 15 then 1 else 0, h.val, 0, 0] :=
  (by decide +kernel : ∀ (t : Fin grid0.N) (h : Fin 8), _)

/-- The block of 128 rows that block `b` of step `t` is. -/
def blk (t : Fin cfg0.N) (b : Fin 4) : Fin 64 := ⟨(15 - t.val) * 4 + b, by omega⟩

theorem bias_at (c : Dev nD) (t : Fin cfg0.N) (b : Fin 4) (h : Fin 8) (p : Fin 128) (j : Fin 256) :
    biasAt (grid0.coords t) (BOTH m c) b h (ix4 0 0 p j) = maskAt (blk t b) p j (A4 m c (ix3 h p j)) := by
  have ld (o : Fin 4 → ℕ) (ho : ∀ a, o a + S1x1x128x256.size a ≤ S2x8x128x256.size a) (u : Fin 2) (e : o = ![u.val, h.val, 0, 0]) :
      View.ld (Val := Elt Ideal) (S := S2x8x128x256) (e' := .f32) (BOTH m c) (Rect.unit o S1x1x128x256.size ho) (ix4 0 0 p j) = BOTH m c (ix4 u h p j) := by
    subst e
    exact View.ld_unit_apply_of (Val := Elt Ideal) (S := S2x8x128x256) (e := .f32) _ _ _ _ (ix4 0 0 p j) (ix4 u h p j) (fun a => by fin_cases a <;> simp)
  have later (b : Fin 4) (hb : 0 < b.val) : BOTH m c (ix4 0 h p j) = maskAt (blk t b) p j (A4 m c (ix3 h p j)) := by
    rw [both_later, maskAt_later (n := blk t b) (by simp [blk]; omega)]
  match b with
  | 0 =>
    by_cases h15 : t.val = 15
    · refine (ld _ _ 1 (by rw [offs_val, if_pos h15]; rfl)).trans ?_
      rw [both_first, show blk t 0 = 0 from Fin.ext (by simp [blk, h15])]
    · refine (ld _ _ 0 (by rw [offs_val, if_neg h15]; rfl)).trans ?_
      have := t.isLt
      rw [both_later, maskAt_later (n := blk t 0) (by have : t.val < 16 := t.isLt; simp [blk]; omega)]
  | 1 => exact (ld _ _ 0 rfl).trans (later 1 (by decide))
  | 2 => exact (ld _ _ 0 rfl).trans (later 2 (by decide))
  | 3 => exact (ld _ _ 0 rfl).trans (later 3 (by decide))

theorem sink_at (c : Dev nD) (h : Fin 8) : sinkAt (A3 m c) h = A3 m c (ix1 h) := by
  unfold sinkAt
  exact View.ld_unit_apply_of (Val := Elt Ideal) (S := S8) (e := .f32) _ _ _ _ _ (ix1 h) (fun a => by fin_cases a; simp [Shape.Idx.first])

/-- The row of keys at `j` of the band of block `n`: before the first row, some row. -/
def bandRow (n : Fin 64) (j : Fin 256) : Fin 8192 := ⟨if 128 ≤ n * 128 + (j : ℕ) then n * 128 + (j : ℕ) - 128 else j, by split <;> omega⟩
theorem bandRow_hi {n : Fin 64} {j : Fin 256} (h : 128 ≤ (n : ℕ) * 128 + (j : ℕ)) : (bandRow n j : ℕ) = n * 128 + (j : ℕ) - 128 := if_pos h
theorem bandRow_lo {n : Fin 64} {j : Fin 256} (h : ¬ 128 ≤ (n : ℕ) * 128 + (j : ℕ)) : (bandRow n j : ℕ) = j := if_neg h
/-- The band of keys or values with those rows. -/
def bandOf (x : FVec Ideal S8192x128 .f32) (n : Fin 64) (k : Fin 2) (j : Fin 256) (d : Fin 64) : EReal := x (ix2 (bandRow n j) (⟨k * 64 + d, by omega⟩ : Fin 128))
def kOf (h : Fin 8) : Fin 2 := ⟨h / 4, by omega⟩
def gOf (h : Fin 8) : Fin 4 := ⟨h % 4, by omega⟩

theorem kv_at (c : Dev nD) (t : Fin cfg0.N) (b : Fin 4) (j : Fin 256) (e : Fin 256) :
    kvRow (iblk m c 1 t) (iblk m c 2 t) (⟨128 * b + j, by omega⟩ : Fin 640) e = QKV m c (ix2 (bandRow (blk t b) j) (⟨512 + e, by omega⟩ : Fin 768)) := by
  have ht : t.val < 16 := t.isLt
  unfold kvRow
  split
  · next h =>
    rw [w1_at]
    refine congrArg (fun r => QKV m c (ix2 r _)) (Fin.ext ?_)
    by_cases hb : 128 ≤ (blk t b : ℕ) * 128 + (j : ℕ)
    · rw [bandRow_hi hb]; simp only [blk] at hb h ⊢; omega
    · rw [bandRow_lo hb]; simp only [blk] at hb h ⊢; omega
  · next h =>
    rw [w2_at]
    refine congrArg (fun r => QKV m c (ix2 r _)) (Fin.ext ?_)
    by_cases hb : 128 ≤ (blk t b : ℕ) * 128 + (j : ℕ)
    · rw [bandRow_hi hb]; simp only [blk] at hb h ⊢; omega
    · rw [bandRow_lo hb]; simp only [blk] at hb h ⊢; omega

theorem bK_at (c : Dev nD) (t : Fin cfg0.N) (b : Fin 4) (h : Fin 8) (j : Fin 256) (d : Fin 64) :
    bK (iblk m c 1 t) (iblk m c 2 t) b h j d = bandOf (A1 m c) (blk t b) (kOf h) j d := by
  refine (kv_at m c t b j _).trans ((congrArg (fun e => QKV m c (ix2 (bandRow (blk t b) j) e)) (Fin.ext ?_)).trans (qkv_k m c _ (⟨kOf h * 64 + d, by omega⟩ : Fin 128)))
  simp [kOf]; try omega
theorem bV_at (c : Dev nD) (t : Fin cfg0.N) (b : Fin 4) (h : Fin 8) (j : Fin 256) (d : Fin 64) :
    bV (iblk m c 1 t) (iblk m c 2 t) b h j d = bandOf (A2 m c) (blk t b) (kOf h) j d := by
  refine (kv_at m c t b j _).trans ((congrArg (fun e => QKV m c (ix2 (bandRow (blk t b) j) e)) (Fin.ext ?_)).trans (qkv_v m c _ (⟨kOf h * 64 + d, by omega⟩ : Fin 128)))
  simp [kOf]; try omega
theorem bQ_at (c : Dev nD) (t : Fin cfg0.N) (b : Fin 4) (h : Fin 8) (p : Fin 128) (d : Fin 64) :
    bQ (X0_0 m c t) b h p d = rowOf (A0 m c) (blk t b) (kOf h) (gOf h) p d * Ideal.ofBits .f32 0x3E000000#32 := by
  unfold bQ rowOf
  rw [w0_at]
  refine congrArg (· * _) ((congrArg₂ (fun r e => QKV m c (ix2 r e)) (Fin.ext ?_) (Fin.ext ?_)).trans (qkv_q m c _ _))
  · simp [blk]; try omega
  · simp [kOf, gOf]; try omega
theorem bDy_at (c : Dev nD) (t : Fin cfg0.N) (b : Fin 4) (h : Fin 8) (p : Fin 128) (d : Fin 64) :
    bY (iblk m c 4 t) b h p d = rowOf (A5 m c) (blk t b) (kOf h) (gOf h) p d := by
  unfold bY rowOf
  rw [w4_at]
  refine congrArg₂ (fun r e => A5 m c (ix2 r e)) (Fin.ext ?_) (Fin.ext ?_)
  · simp [blk]; try omega
  · simp [kOf, gOf]; try omega

end Cert.Attn
end
end
-- ==== Proof.Match.lean ====
module

public import proofs.«01_k».proof.Proof.Host

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

/-! The gradients a step forms, block by block, are the reference's. -/

namespace Cert.Attn

variable (m : (ℓ : Loc nD τ sig) → Buf (Elt Ideal) ℓ)
/-- The scaling by an eighth is by a real number. -/
theorem c8_real : ∃ a : ℝ, Ideal.ofBits .f32 0x3E000000#32 = (a : EReal) :=
  ⟨1 / 8, by simp [Ideal.ofBits, Ideal.ieee, -EReal.coe_mul]; norm_num⟩

section
variable (x0 : FVec Ideal S8192x512 .f32) (x1 x2 : FVec Ideal S8192x128 .f32) (x3 : FVec Ideal S8 .f32) (x4 : FVec Ideal S8x128x256 .f32) (x5 : FVec Ideal S8192x512 .f32)
variable (h0 : ∀ i, ∃ a : ℝ, x0 i = a) (h1 : ∀ i, ∃ a : ℝ, x1 i = a) (h2 : ∀ i, ∃ a : ℝ, x2 i = a) (h3 : ∀ i, ∃ a : ℝ, x3 i = a)
  (h4 : ∀ i, ∃ a : ℝ, x4 i = a) (h5 : ∀ i, ∃ a : ℝ, x5 i = a)
variable (n : Fin 64) (k : Fin 2) (g : Fin 4) (i : Fin 128)

theorem keyOf_real {x : FVec Ideal S8192x128 .f32} (h : ∀ i, ∃ a : ℝ, x i = a) (j : Fin 256) (d : Fin 64) : ∃ a : ℝ, keyOf x n k j d = a := by
  unfold keyOf
  split
  · exact h _
  · exact ⟨0, by simp⟩

theorem bandOf_seen (x : FVec Ideal S8192x128 .f32) {j : Fin 256} (h : 128 ≤ (n : ℕ) * 128 + (j : ℕ)) (d : Fin 64) : bandOf x n k j d = keyOf x n k j d := by
  unfold bandOf keyOf
  rw [dif_pos h]
  exact congrArg x (congrArg (ix2 · _) (Fin.ext (bandRow_hi h)))

theorem sum_real {ι : Type} [Fintype ι] {f : ι → EReal} (h : ∀ i, ∃ a : ℝ, f i = a) : ∃ a : ℝ, ∑ i, f i = a := by
  choose a ha using h
  exact ⟨∑ i, a i, by simp only [ha, Cert.InProj.coe_sum]⟩

include h0 h1 h4 in
/-- The kernel's masked scores are the reference's. -/
theorem score_eq (j : Fin 256) : (∑ d, (rowOf x0 n k g i d * Ideal.ofBits .f32 0x3E000000#32) * bandOf x1 n k j d) + maskAt n i j (x4 (ix3 (headOf k g) i j))
    = rSm x0 x1 x4 n k g i j := by
  obtain ⟨c, hc⟩ := c8_real
  have hq : ∀ d, ∃ a : ℝ, rowOf x0 n k g i d = a := fun d => h0 _
  have hy : ∀ d, ∃ a : ℝ, bandOf x1 n k j d = a := fun d => h1 _
  choose q hq using hq
  choose y hy using hy
  unfold rSm maskAt
  by_cases hs : Seen n i j
  · rw [if_pos hs, if_pos hs]
    unfold rS
    refine congrArg (· + _) ?_
    simp only [← bandOf_seen n k x1 hs.2.2, hq, hy, hc, ← EReal.coe_mul, Cert.InProj.coe_sum]
    rw [Finset.sum_mul]
    congr 1
    exact Finset.sum_congr rfl fun d _ => by ring
  · rw [if_neg hs, if_neg hs, bot_bits]
    exact EReal.add_bot _

include h0 h1 h4 in
theorem rSm_real (j : Fin 256) : rSm x0 x1 x4 n k g i j = ⊥ ∨ ∃ a : ℝ, rSm x0 x1 x4 n k g i j = a := by
  obtain ⟨c, hc⟩ := c8_real
  unfold rSm
  split
  · refine Or.inr ?_
    obtain ⟨b, hb⟩ := h4 (ix3 (headOf k g) i j)
    obtain ⟨a, ha⟩ := sum_real (f := fun d => keyOf x1 n k j d * rowOf x0 n k g i d) fun d => by
      obtain ⟨a, ha⟩ := keyOf_real n k h1 j d
      obtain ⟨a', ha'⟩ := h0 (ix2 (⟨n * 128 + i, by omega⟩ : Fin 8192) (⟨k * 256 + g * 64 + d, by omega⟩ : Fin 512))
      exact ⟨a * a', by rw [ha, show rowOf x0 n k g i d = _ from ha', EReal.coe_mul]⟩
    exact ⟨a * c + b, by unfold rS; rw [ha, hb, hc, EReal.coe_add, EReal.coe_mul]⟩
  · exact Or.inl bot_bits

theorem seen_of_ne_bot {j : Fin 256} (h : rSm x0 x1 x4 n k g i j ≠ ⊥) : Seen n i j := by
  by_contra hs
  exact h (by unfold rSm; rw [if_neg hs, bot_bits])
theorem bot_of_not_seen {j : Fin 256} (h : ¬ Seen n i j) : rSm x0 x1 x4 n k g i j = ⊥ := by unfold rSm; rw [if_neg h, bot_bits]

/-- What the rows of the two programs have in common. -/
theorem row_both (h0 : ∀ i, ∃ a : ℝ, x0 i = a) (h1 : ∀ i, ∃ a : ℝ, x1 i = a) (h2 : ∀ i, ∃ a : ℝ, x2 i = a) (h3 : ∀ i, ∃ a : ℝ, x3 i = a)
  (h4 : ∀ i, ∃ a : ℝ, x4 i = a) (h5 : ∀ i, ∃ a : ℝ, x5 i = a) :
    (∀ j, kDs (rSm x0 x1 x4 n k g i) (x3 (ix1 (headOf k g))) (bandOf x2 n k) (rowY (rSm x0 x1 x4 n k g i) (x3 (ix1 (headOf k g))) (keyOf x2 n k)) (rowOf x5 n k g i) j
      = rdS x0 x1 x2 x3 x4 x5 n k g i j)
    ∧ (∀ j, ¬ Seen n i j → rdS x0 x1 x2 x3 x4 x5 n k g i j = 0)
    ∧ (∀ j, ∃ a : ℝ, rdS x0 x1 x2 x3 x4 x5 n k g i j = a)
    ∧ (∃ e : ℝ, kEds (rSm x0 x1 x4 n k g i) (x3 (ix1 (headOf k g))) (rowY (rSm x0 x1 x4 n k g i) (x3 (ix1 (headOf k g))) (keyOf x2 n k)) (rowOf x5 n k g i) = e
      ∧ rE (rSm x0 x1 x4 n k g i) (x3 (ix1 (headOf k g))) (keyOf x2 n k) (rowOf x5 n k g i) = ((-e : ℝ) : EReal))
    ∧ rMax (rSm x0 x1 x4 n k g i) (x3 (ix1 (headOf k g))) (keyOf x2 n k) (rowOf x5 n k g i) = 0
    ∧ ∀ d, kT (rSm x0 x1 x4 n k g i) (x3 (ix1 (headOf k g))) (rowOf x5 n k g i) d = rTt x0 x1 x3 x4 x5 n k g i d := by
  obtain ⟨f, e, t, p, hf, hw, hbot, he, hre, hmax, hk, hr, hp, hp0⟩ := row_grad (s := rSm x0 x1 x4 n k g i) (z := x3 (ix1 (headOf k g)))
    (v := keyOf x2 n k) (v' := bandOf x2 n k) (dy := rowOf x5 n k g i) (rSm_real x0 x1 x4 h0 h1 h4 n k g i) (h3 _) (fun j d => keyOf_real n k h2 j d) (fun j d => h2 _)
    (fun j hj => funext fun d => bandOf_seen n k x2 (seen_of_ne_bot x0 x1 x4 n k g i hj).2.2 d) (fun d => h5 _)
  have hd : ∀ j, rdS x0 x1 x2 x3 x4 x5 n k g i j = f j := fun j => by
    unfold rdS
    rw [v135_at]
    by_cases hs : Seen n i j
    · have h01 : ∀ j, Cert.Reference2Ideal.Read.val_main_v53 (F := Ideal) x0 x1 x4 (ix5 n k g i j) = 0 ∨ Cert.Reference2Ideal.Read.val_main_v53 (F := Ideal) x0 x1 x4 (ix5 n k g i j) = 1 := fun j => by
        rw [v53_at]; split
        · exact Or.inr rfl
        · exact Or.inl rfl
      have hone : ∃ j, Cert.Reference2Ideal.Read.val_main_v53 (F := Ideal) x0 x1 x4 (ix5 n k g i j) = 1 := by
        obtain ⟨j', hj'⟩ := fold_mem (rSm x0 x1 x4 n k g i)
        exact ⟨j', by rw [v53_at, if_pos hj']⟩
      rw [if_pos hs, v133_at, rDs_eq _ _ hmax _ _ h01 hone j, hw]
    · rw [if_neg hs, hbot j (bot_of_not_seen x0 x1 x4 n k g i hs)]; simp
  refine ⟨fun j => by rw [hf, hd], fun j hs => ?_, fun j => ⟨_, hd j⟩, ⟨e, he, hre⟩, hmax, fun d => (hk d).trans (hr d).symm⟩
  rw [hd, hbot j (bot_of_not_seen x0 x1 x4 n k g i hs)]; simp

end
theorem out_at (c : Dev nD) (r : Fin 8192) (e : Fin 512) : OUT m c (ix2 r e) = Cert.Reference2Ideal.Read.val_main_v89 (F := Ideal) (A0 m c) (A1 m c) (A2 m c) (A3 m c) (A4 m c)
    (ix5 (⟨r / 128, by omega⟩ : Fin 64) (⟨e / 256, by omega⟩ : Fin 2) (⟨e / 64 % 4, by omega⟩ : Fin 4) (⟨r % 128, by omega⟩ : Fin 128) (⟨e % 64, by omega⟩ : Fin 64)) := by
  unfold OUT Cert.Reference2Ideal.Read.val_main_v94 Cert.Reference2Ideal.Read.val_main_v93
  generalize Cert.Reference2Ideal.Read.val_main_v89 (F := Ideal) (A0 m c) (A1 m c) (A2 m c) (A3 m c) (A4 m c) = a
  pointwise []

theorem bOut_at (c : Dev nD) (t : Fin cfg0.N) (b : Fin 4) (h : Fin 8) (p : Fin 128) (d : Fin 64) :
    bY (iblk m c 3 t) b h p d = rowY (rSm (A0 m c) (A1 m c) (A4 m c) (blk t b) (kOf h) (gOf h) p) (A3 m c (ix1 (headOf (kOf h) (gOf h)))) (keyOf (A2 m c) (blk t b) (kOf h)) d := by
  unfold bY
  rw [w3_at, out_at, ← v89_at]
  congr 2
  all_goals (refine Fin.ext ?_; simp [blk, kOf, gOf]; try omega)
/-! The quantities of a step's four blocks. -/
def sDs (c : Dev nD) (t : Fin cfg0.N) : Fin 4 → Fin 8 → Fin 128 → Fin 256 → EReal :=
  bDs (X0_0 m c t) (iblk m c 1 t) (iblk m c 2 t) (iblk m c 3 t) (iblk m c 4 t) (biasAt (grid0.coords t) (iblk m c 5 t)) (sinkAt (iblk m c 6 t))
def sEds (c : Dev nD) (t : Fin cfg0.N) : Fin 4 → Fin 8 → Fin 128 → EReal :=
  bEds (X0_0 m c t) (iblk m c 1 t) (iblk m c 2 t) (iblk m c 3 t) (iblk m c 4 t) (biasAt (grid0.coords t) (iblk m c 5 t)) (sinkAt (iblk m c 6 t))

theorem head_eq (h : Fin 8) : headOf (kOf h) (gOf h) = h := Fin.ext (by simp [headOf, kOf, gOf]; omega)

/-- The gradient of the scores, from the arguments. -/
def DS (c : Dev nD) (n : Fin 64) (k : Fin 2) (g : Fin 4) (i : Fin 128) (j : Fin 256) : EReal := rdS (A0 m c) (A1 m c) (A2 m c) (A3 m c) (A4 m c) (A5 m c) n k g i j
def PP (c : Dev nD) (n : Fin 64) (k : Fin 2) (g : Fin 4) (i : Fin 128) (j : Fin 256) : EReal := rP (A0 m c) (A1 m c) (A3 m c) (A4 m c) n k g i j
def TT (c : Dev nD) (n : Fin 64) (k : Fin 2) (g : Fin 4) (i : Fin 128) (d : Fin 64) : EReal := rTt (A0 m c) (A1 m c) (A3 m c) (A4 m c) (A5 m c) n k g i d

/-- Every argument is finite. -/
structure Fin6 (c : Dev nD) : Prop where
  h0 : ∀ i, ∃ a : ℝ, A0 m c i = a
  h1 : ∀ i, ∃ a : ℝ, A1 m c i = a
  h2 : ∀ i, ∃ a : ℝ, A2 m c i = a
  h3 : ∀ i, ∃ a : ℝ, A3 m c i = a
  h4 : ∀ i, ∃ a : ℝ, A4 m c i = a
  h5 : ∀ i, ∃ a : ℝ, A5 m c i = a

variable {m} {c : Dev nD} (H : Fin6 m c) (t : Fin cfg0.N) (b : Fin 4) (h : Fin 8) (p : Fin 128)

include H in
theorem bS_eq : bS (X0_0 m c t) (iblk m c 1 t) (iblk m c 2 t) (biasAt (grid0.coords t) (iblk m c 5 t)) b h p
    = rSm (A0 m c) (A1 m c) (A4 m c) (blk t b) (kOf h) (gOf h) p := by
  funext j
  unfold bS scoreOf
  rw [w5_eq, bias_at, ← score_eq (A0 m c) (A1 m c) (A4 m c) H.h0 H.h1 H.h4, head_eq]
  exact congrArg (· + _) (Finset.sum_congr rfl fun d _ => by rw [bQ_at, bK_at])

theorem bz_eq : sinkAt (iblk m c 6 t) h = A3 m c (ix1 (headOf (kOf h) (gOf h))) := by rw [w6_eq, sink_at, head_eq]
theorem bv_eq : bV (iblk m c 1 t) (iblk m c 2 t) b h = bandOf (A2 m c) (blk t b) (kOf h) := funext fun j => funext fun d => bV_at m c t b h j d
theorem bd_eq : bY (iblk m c 4 t) b h p = rowOf (A5 m c) (blk t b) (kOf h) (gOf h) p := funext fun d => bDy_at m c t b h p d
theorem by_eq : bY (iblk m c 3 t) b h p = rowY (rSm (A0 m c) (A1 m c) (A4 m c) (blk t b) (kOf h) (gOf h) p) (A3 m c (ix1 (headOf (kOf h) (gOf h)))) (keyOf (A2 m c) (blk t b) (kOf h)) :=
  funext fun d => bOut_at m c t b h p d

include H in
theorem sDs_eq (j : Fin 256) : sDs m c t b h p j = DS m c (blk t b) (kOf h) (gOf h) p j := by
  unfold sDs bDs
  rw [bS_eq H, bz_eq, bv_eq, bd_eq, by_eq]
  exact (row_both _ _ _ _ _ _ _ _ _ _ H.h0 H.h1 H.h2 H.h3 H.h4 H.h5).1 j
include H in
theorem bP_eq (j : Fin 256) : bP (X0_0 m c t) (iblk m c 1 t) (iblk m c 2 t) (biasAt (grid0.coords t) (iblk m c 5 t)) (sinkAt (iblk m c 6 t)) b h p j
    = PP m c (blk t b) (kOf h) (gOf h) p j := by
  unfold bP
  rw [bS_eq H, bz_eq]
  rfl
include H in
theorem bT_eq (d : Fin 64) : bT (X0_0 m c t) (iblk m c 1 t) (iblk m c 2 t) (iblk m c 4 t) (biasAt (grid0.coords t) (iblk m c 5 t)) (sinkAt (iblk m c 6 t)) b h p d
    = TT m c (blk t b) (kOf h) (gOf h) p d := by
  unfold bT
  rw [bS_eq H, bz_eq, bd_eq]
  exact (row_both _ (A1 m c) (A2 m c) (A3 m c) _ _ _ _ _ _ H.h0 H.h1 H.h2 H.h3 H.h4 H.h5).2.2.2.2.2 d
include H in
theorem sEds_eq : ∃ e : ℝ, sEds m c t b h p = e
    ∧ rE (rSm (A0 m c) (A1 m c) (A4 m c) (blk t b) (kOf h) (gOf h) p) (A3 m c (ix1 (headOf (kOf h) (gOf h)))) (keyOf (A2 m c) (blk t b) (kOf h)) (rowOf (A5 m c) (blk t b) (kOf h) (gOf h) p)
      = ((-e : ℝ) : EReal) := by
  unfold sEds bEds
  rw [bS_eq H, bz_eq, bd_eq, by_eq]
  exact (row_both _ _ _ _ _ _ _ _ _ _ H.h0 H.h1 H.h2 H.h3 H.h4 H.h5).2.2.2.1

end Cert.Attn
end
end
-- ==== Proof.Rows.lean ====
module

public import proofs.«01_k».proof.Proof.Item

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

namespace Cert.Attn

/-! The two accumulated outputs: eight heads stored over what the step before left. -/
section
variable {n : ℕ}
abbrev Sh (n : ℕ) : Shape := ⟨3, ![8, 128, n]⟩
abbrev Sr (n : ℕ) : Shape := ⟨3, ![1, 128, n]⟩
variable (v : View sig .tc .vmem (Sh n) .f32) (f : v.ty.Contents (Elt Ideal)) (L : List (View.Piece (Elt Ideal) (Sh n) .f32))

/-- A store of one head leaves the other heads. -/
theorem head_skip {o : ℕ} (b) (w : FVec Ideal (Sr n) .f32) (r : Fin 8) (p : Fin 128) (j : Fin n) (h : ¬ o = (r : ℕ)) :
    v.read (Elt Ideal) (v.writes (Elt Ideal) f (⟨Rect.unit (s := Sh n) ![o, 0, 0] ![1, 128, n] b, w⟩ :: L)) (ix3 r p j)
      = v.read (Elt Ideal) (v.writes (Elt Ideal) f L) (ix3 r p j) :=
  View.read_writes_cons_unit_of_not_mem v f b w L (ix3 r p j) rfl (0 : Fin 3) (by
    show (r : ℕ) < o ∨ o + 1 ≤ (r : ℕ); omega)

/-- It is read back at its own head. -/
theorem head_hit {o : ℕ} (b) (w : FVec Ideal (Sr n) .f32) (r : Fin 8) (p : Fin 128) (j : Fin n) (h : o = (r : ℕ)) :
    v.read (Elt Ideal) (v.writes (Elt Ideal) f (⟨Rect.unit (s := Sh n) ![o, 0, 0] ![1, 128, n] b, w⟩ :: L)) (ix3 r p j)
      = w (ix3 0 p j) :=
  View.read_writes_cons_unit_of_mem v f b w L (ix3 r p j) (ix3 0 p j) rfl (fun a => by
    subst h; fin_cases a
    · rfl
    · exact (Nat.zero_add _).symm
    · exact (Nat.zero_add _).symm)

theorem head_whole (b) (w : FVec Ideal (Sh n) .f32) (r : Fin 8) (p : Fin 128) (j : Fin n) :
    v.read (Elt Ideal) (v.writes (Elt Ideal) f (⟨Rect.unit (s := Sh n) ![0, 0, 0] ![8, 128, n] b, w⟩ :: L)) (ix3 r p j)
      = w (ix3 r p j) :=
  View.read_writes_cons_unit_of_mem v f b w L (ix3 r p j) (ix3 r p j) rfl (fun a => by
    fin_cases a <;> exact (Nat.zero_add _).symm)

/-- A load of head `o` after stores. -/
theorem head_cov {o : ℕ} (b) (X : FVec Ideal (Sh n) .f32) (r : Fin 8) (p : Fin 128) (j : Fin n) (h : o = (r : ℕ))
    (hX : v.read (Elt Ideal) (v.writes (Elt Ideal) v.junk L) (ix3 r p j) = X (ix3 r p j)) :
    v.readCov (Val := Elt Ideal) L (Rect.unit (s := Sh n) ![o, 0, 0] ![1, 128, n] b).toLoadRect (ix3 (0 : Fin 1) p j) = X (ix3 r p j) := by
  rw [← hX, View.readCov_eq_canon', View.read_writes_junk_eq_canon]
  refine congrArg (View.canon L) (funext fun a => Fin.ext ?_)
  refine (Rect.idx_unit_val (s := Sh n) ![o, 0, 0] ![1, 128, n] b _ a).trans ?_
  subst h
  fin_cases a
  · rfl
  · exact Nat.zero_add _
  · exact Nat.zero_add _

/-- A load of head `o` of a block. -/
theorem head_ld (X : FVec Ideal (Sh n) .f32) {o : ℕ} (b) (r : Fin 8) (h : o = (r : ℕ)) (p : Fin 128) (j : Fin n) :
    View.ld (Val := Elt Ideal) (S := Sh n) (e' := .f32) X (Rect.unit ![o, 0, 0] ![1, 128, n] b) (ix3 (0 : Fin 1) p j) = X (ix3 r p j) :=
  View.ld_unit_apply_of (Val := Elt Ideal) (S := Sh n) (e := .f32) X _ _ b _ _ (fun a => by
    subst h; fin_cases a
    · rfl
    · exact (Nat.zero_add _).symm
    · exact (Nat.zero_add _).symm)

def pick {α : Type} (p0 p1 p2 p3 p4 p5 p6 p7 : α) : Fin 8 → α
  | 0 => p0 | 1 => p1 | 2 => p2 | 3 => p3 | 4 => p4 | 5 => p5 | 6 => p6 | 7 => p7
theorem heads_of {P : Fin 8 → Prop} (h0 : P 0) (h1 : P 1) (h2 : P 2) (h3 : P 3) (h4 : P 4) (h5 : P 5) (h6 : P 6) (h7 : P 7) : ∀ r, P r
  | 0 => h0 | 1 => h1 | 2 => h2 | 3 => h3 | 4 => h4 | 5 => h5 | 6 => h6 | 7 => h7

/-- Eight heads stored. -/
theorem heads8 (b0 b1 b2 b3 b4 b5 b6 b7) (p0 p1 p2 p3 p4 p5 p6 p7 : FVec Ideal (Sr n) .f32) (r : Fin 8) (p : Fin 128) (j : Fin n) :
    v.read (Elt Ideal) (v.writes (Elt Ideal) f
      (⟨Rect.unit (s := Sh n) ![7, 0, 0] ![1, 128, n] b7, p7⟩ :: ⟨Rect.unit (s := Sh n) ![6, 0, 0] ![1, 128, n] b6, p6⟩
        :: ⟨Rect.unit (s := Sh n) ![5, 0, 0] ![1, 128, n] b5, p5⟩ :: ⟨Rect.unit (s := Sh n) ![4, 0, 0] ![1, 128, n] b4, p4⟩
        :: ⟨Rect.unit (s := Sh n) ![3, 0, 0] ![1, 128, n] b3, p3⟩ :: ⟨Rect.unit (s := Sh n) ![2, 0, 0] ![1, 128, n] b2, p2⟩
        :: ⟨Rect.unit (s := Sh n) ![1, 0, 0] ![1, 128, n] b1, p1⟩ :: ⟨Rect.unit (s := Sh n) ![0, 0, 0] ![1, 128, n] b0, p0⟩ :: L)) (ix3 r p j)
      = pick p0 p1 p2 p3 p4 p5 p6 p7 r (ix3 0 p j) := by
  revert r
  refine heads_of ?_ ?_ ?_ ?_ ?_ ?_ ?_ ?_ <;> (try simp (disch := decide) only [head_skip]) <;> exact head_hit _ _ _ _ _ _ _ _ rfl

end

variable (xq : FVec Ideal S512x512 .bf16) (xp : FVec Ideal S128x256 .bf16) (xc : FVec Ideal S512x256 .bf16) (xy xd : FVec Ideal S512x512 .f32)
  (bias : Fin 4 → Fin 8 → FVec Ideal S1x1x128x256 .f32) (sink : Fin 8 → EReal)

def termB (h : Fin 8) : Tile := fun i =>
  iDs xq xp xc xy xd bias sink 0 h i + iDs xq xp xc xy xd bias sink 1 h i + iDs xq xp xc xy xd bias sink 2 h i + iDs xq xp xc xy xd bias sink 3 h i
def termS (h : Fin 8) : Col := fun i =>
  -(iEds xq xp xc xy xd bias sink 0 h i + iEds xq xp xc xy xd bias sink 1 h i + iEds xq xp xc xy xd bias sink 2 h i + iEds xq xp xc xy xd bias sink 3 h i)

theorem dbiasOut_apply (h : Fin 8) (old : FVec Ideal S1x128x256 .f32) (p : Fin 128) (j : Fin 256) :
    dbiasOut xq xp xc xy xd bias sink h old (ix3 0 p j) = old (ix3 0 p j) + termB xq xp xc xy xd bias sink h (ix2 p j) := by
  pointwise [dbiasOut, termB]
theorem dskOut_apply (h : Fin 8) (old : FVec Ideal S1x128x1 .f32) (p : Fin 128) (j : Fin 1) :
    dskOut xq xp xc xy xd bias sink h old (ix3 0 p j) = old (ix3 0 p j) + termS xq xp xc xy xd bias sink h (ix2 p j) := by
  obtain rfl : j = 0 := Subsingleton.elim _ _
  pointwise [dskOut, termS, sub_eq_add_neg]

variable (m : (ℓ : Loc nD τ sig) → Buf (Elt Ideal) ℓ)

set_option maxHeartbeats 1000000 in
theorem outs9_A (c : Dev nD) (t : Fin cfg0.N) (h0 : t.val % 16 = 0) (r : Fin 8) (p : Fin 128) (j : Fin 256) :
    (show FVec Ideal S8x128x256 .f32 from (outsAt0 m c t.val t.isLt).2.2.1) (ix3 r p j)
      = k0_pay3 (F := Ideal) (ix3 r p j) + termB (X0_0 m c t) (iblk m c 1 t) (iblk m c 2 t) (iblk m c 3 t) (iblk m c 4 t) (biasAt (grid0.coords t) (iblk m c 5 t))
      (sinkAt (iblk m c 6 t)) r (ix2 p j) := by
  rw [outsAt0_A m c t h0]; dsimp only; frame_out
  rw [← View.read_writes_junk_eq_canon (ms0_9 t).view, heads8]
  revert r
  refine heads_of ?_ ?_ ?_ ?_ ?_ ?_ ?_ ?_
  all_goals
    dsimp only [pick]
    generalize hold : View.readCov (Val := Elt Ideal) (s := S8x128x256) (e := .f32) _ _ _ = old
    refine Eq.trans (b := old (ix3 0 p j) + termB (X0_0 m c t) (iblk m c 1 t) (iblk m c 2 t) (iblk m c 3 t) (iblk m c 4 t) (biasAt (grid0.coords t) (iblk m c 5 t))
      (sinkAt (iblk m c 6 t)) _ (ix2 p j)) (Eq.trans (congrFun ?_ (ix3 0 p j)) (dbiasOut_apply _ _ _ _ _ _ _ _ _ _ _)) (congrArg (· + _) ?_)
    · sl_kernel_rfl
    · subst hold
      refine head_cov _ _ _ _ _ _ _ rfl ?_
      try simp (disch := decide) only [head_skip]
      exact head_whole _ _ _ _ _ _ _ _

set_option maxHeartbeats 1000000 in
theorem outs10_A (c : Dev nD) (t : Fin cfg0.N) (h0 : t.val % 16 = 0) (r : Fin 8) (p : Fin 128) (j : Fin 1) :
    (show FVec Ideal S8x128x1 .f32 from (outsAt0 m c t.val t.isLt).2.2.2.1) (ix3 r p j)
      = k0_pay4 (F := Ideal) (ix3 r p j) + termS (X0_0 m c t) (iblk m c 1 t) (iblk m c 2 t) (iblk m c 3 t) (iblk m c 4 t) (biasAt (grid0.coords t) (iblk m c 5 t))
      (sinkAt (iblk m c 6 t)) r (ix2 p j) := by
  rw [outsAt0_A m c t h0]; dsimp only; frame_out
  rw [← View.read_writes_junk_eq_canon (ms0_10 t).view, heads8]
  revert r
  refine heads_of ?_ ?_ ?_ ?_ ?_ ?_ ?_ ?_
  all_goals
    dsimp only [pick]
    generalize hold : View.readCov (Val := Elt Ideal) (s := S8x128x1) (e := .f32) _ _ _ = old
    refine Eq.trans (b := old (ix3 0 p j) + termS (X0_0 m c t) (iblk m c 1 t) (iblk m c 2 t) (iblk m c 3 t) (iblk m c 4 t) (biasAt (grid0.coords t) (iblk m c 5 t))
      (sinkAt (iblk m c 6 t)) _ (ix2 p j)) (Eq.trans (congrFun ?_ (ix3 0 p j)) (dskOut_apply _ _ _ _ _ _ _ _ _ _ _)) (congrArg (· + _) ?_)
    · sl_kernel_rfl
    · subst hold
      refine head_cov _ _ _ _ _ _ _ rfl ?_
      try simp (disch := decide) only [head_skip]
      exact head_whole _ _ _ _ _ _ _ _

set_option maxHeartbeats 1000000 in
theorem outs9_B (c : Dev nD) (t : Fin cfg0.N) (h0 : ¬ t.val % 16 = 0) (r : Fin 8) (p : Fin 128) (j : Fin 256) :
    (show FVec Ideal S8x128x256 .f32 from (outsAt0 m c t.val t.isLt).2.2.1) (ix3 r p j)
      = (show FVec Ideal S8x128x256 .f32 from (outsAt0 m c (t.val - 1) (Nat.lt_of_le_of_lt (Nat.sub_le _ _) t.isLt)).2.2.1) (ix3 r p j) + termB (X0_0 m c t) (iblk m c 1 t) (iblk m c 2 t) (iblk m c 3 t) (iblk m c 4 t) (biasAt (grid0.coords t) (iblk m c 5 t))
      (sinkAt (iblk m c 6 t)) r (ix2 p j) := by
  rw [outsAt0_B m c t h0]; dsimp only; frame_out
  rw [← View.read_writes_junk_eq_canon (ms0_9 t).view, heads8]
  revert r
  refine heads_of ?_ ?_ ?_ ?_ ?_ ?_ ?_ ?_
  all_goals
    dsimp only [pick]
    generalize hold : View.ld (Val := Elt Ideal) (S := S8x128x256) (e' := .f32) (outsAt0 m c (t.val - 1) (Nat.lt_of_le_of_lt (Nat.sub_le _ _) t.isLt)).2.2.1 _ = old
    refine Eq.trans (b := old (ix3 0 p j) + termB (X0_0 m c t) (iblk m c 1 t) (iblk m c 2 t) (iblk m c 3 t) (iblk m c 4 t) (biasAt (grid0.coords t) (iblk m c 5 t))
      (sinkAt (iblk m c 6 t)) _ (ix2 p j)) (Eq.trans (congrFun ?_ (ix3 0 p j)) (dbiasOut_apply _ _ _ _ _ _ _ _ _ _ _)) (congrArg (· + _) ?_)
    · sl_kernel_rfl
    · subst hold
      exact head_ld ((outsAt0 m c (t.val - 1) (Nat.lt_of_le_of_lt (Nat.sub_le _ _) t.isLt))).2.2.1 _ _ (by rfl) p j

set_option maxHeartbeats 1000000 in
theorem outs10_B (c : Dev nD) (t : Fin cfg0.N) (h0 : ¬ t.val % 16 = 0) (r : Fin 8) (p : Fin 128) (j : Fin 1) :
    (show FVec Ideal S8x128x1 .f32 from (outsAt0 m c t.val t.isLt).2.2.2.1) (ix3 r p j)
      = (show FVec Ideal S8x128x1 .f32 from (outsAt0 m c (t.val - 1) (Nat.lt_of_le_of_lt (Nat.sub_le _ _) t.isLt)).2.2.2.1) (ix3 r p j) + termS (X0_0 m c t) (iblk m c 1 t) (iblk m c 2 t) (iblk m c 3 t) (iblk m c 4 t) (biasAt (grid0.coords t) (iblk m c 5 t))
      (sinkAt (iblk m c 6 t)) r (ix2 p j) := by
  rw [outsAt0_B m c t h0]; dsimp only; frame_out
  rw [← View.read_writes_junk_eq_canon (ms0_10 t).view, heads8]
  revert r
  refine heads_of ?_ ?_ ?_ ?_ ?_ ?_ ?_ ?_
  all_goals
    dsimp only [pick]
    generalize hold : View.ld (Val := Elt Ideal) (S := S8x128x1) (e' := .f32) (outsAt0 m c (t.val - 1) (Nat.lt_of_le_of_lt (Nat.sub_le _ _) t.isLt)).2.2.2.1 _ = old
    refine Eq.trans (b := old (ix3 0 p j) + termS (X0_0 m c t) (iblk m c 1 t) (iblk m c 2 t) (iblk m c 3 t) (iblk m c 4 t) (biasAt (grid0.coords t) (iblk m c 5 t))
      (sinkAt (iblk m c 6 t)) _ (ix2 p j)) (Eq.trans (congrFun ?_ (ix3 0 p j)) (dskOut_apply _ _ _ _ _ _ _ _ _ _ _)) (congrArg (· + _) ?_)
    · sl_kernel_rfl
    · subst hold
      exact head_ld ((outsAt0 m c (t.val - 1) (Nat.lt_of_le_of_lt (Nat.sub_le _ _) t.isLt))).2.2.2.1 _ _ (by rfl) p j

end Cert.Attn
end
end
-- ==== Proof.Step.lean ====
module

public import proofs.«01_k».proof.Proof.Item

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

namespace Cert.Attn

/-! What each grid step stores, as the functions of the step. -/
theorem dq_cat (v1888 v1891 v1894 v1897 v1900 v1903 v1906 v1909 v1912 v1915 v1918 v1921 v1924 v1927 v1930 v1933 v1936 v1939 v1942 v1945 v1948 v1951 v1954 v1957 v1960 v1963 v1966 v1969 v1972 v1975 v1978 v1981 : Reg) :
    k0_pay699 (F := Ideal) v1936 v1939 v1942 v1945 v1948 v1951 v1954 v1957 v1960 v1963 v1966 v1969 v1972 v1975 v1978 v1981 (k0_pay696 (F := Ideal) v1888 v1891 v1894 v1897 v1900 v1903 v1906 v1909 lanes 64#32) (k0_pay697 (F := Ideal) v1912 v1915 v1918 v1921 v1924 v1927 v1930 v1933) k0_pay698
      = dqOf ![![v1888, v1891, v1894, v1897, v1900, v1903, v1906, v1909],
          ![v1912, v1915, v1918, v1921, v1924, v1927, v1930, v1933],
          ![v1936, v1939, v1942, v1945, v1948, v1951, v1954, v1957],
          ![v1960, v1963, v1966, v1969, v1972, v1975, v1978, v1981]] := rfl

theorem dkv_cat (a b c d e f g h a' b' c' d' e' f' g' h' : FVec Ideal S256x128 .f32) (x : Tile) :
    k0_pay1 (F := Ideal) (k0_pay700 (F := Ideal) a b c d a' b' c' d') (k0_pay704 (F := Ideal) e' f' (k0_pay701 (F := Ideal) c d c' d') (k0_pay702 (F := Ideal) e) (k0_pay703 (F := Ideal) f))
        (k0_pay705 (F := Ideal) e f g h e' f' g' h') (k0_pay708 (F := Ideal) (k0_pay706 (F := Ideal) g) (k0_pay707 (F := Ideal) h) lanes)
        (k0_pay709 (F := Ideal) g') (k0_pay710 (F := Ideal) h') x
      = dkvOf ![![a, b], ![c, d], ![e, f], ![g, h]] ![![a', b'], ![c', d'], ![e', f'], ![g', h']] x := rfl

theorem carry_cat (a b a' b' : FVec Ideal S256x128 .f32) :
    k0_pay2 (F := Ideal) a b a' b' = shapeCast S128x256 (early a b a' b') shapeCasts_S128x256_S128x256 := rfl

variable (m : (ℓ : Loc nD τ sig) → Buf (Elt Ideal) ℓ)

theorem outs7_B (c : Dev nD) (t : Fin cfg0.N) (h0 : ¬ t.val % 16 = 0) :
    (outsAt0 m c t.val t.isLt).1 = dqOut (X0_0 m c t) (iblk m c 1 t) (iblk m c 2 t) (iblk m c 3 t) (iblk m c 4 t)
      (biasAt (grid0.coords t) (iblk m c 5 t)) (sinkAt (iblk m c 6 t)) := by
  rw [outsAt0_B m c t h0]; dsimp only; frame_out
  refine (dq_cat _ _ _ _ _ _ _ _ _ _ _ _ _ _ _ _ _ _ _ _ _ _ _ _ _ _ _ _ _ _ _ _).trans (congrArg dqOf (funext fun b => funext fun h => ?_))
  fin_cases b <;> fin_cases h <;> (try frame_out) <;> sl_kernel_rfl

theorem outs8_B (c : Dev nD) (t : Fin cfg0.N) (h0 : ¬ t.val % 16 = 0) :
    (outsAt0 m c t.val t.isLt).2.1 = dkvOut (X0_0 m c t) (iblk m c 1 t) (iblk m c 2 t) (iblk m c 3 t) (iblk m c 4 t)
      (biasAt (grid0.coords t) (iblk m c 5 t)) (sinkAt (iblk m c 6 t))
      (outsAt0 m c (t.val - 1) (Nat.lt_of_le_of_lt (Nat.sub_le _ _) t.isLt)).2.2.2.2 := by
  rw [outsAt0_B m c t h0]; dsimp only; frame_out
  refine (dkv_cat _ _ _ _ _ _ _ _ _ _ _ _ _ _ _ _ _).trans ?_
  unfold dkvOut
  refine congr (congr (congrArg dkvOf ?_) ?_) ?_
  · funext b g
    fin_cases b <;> fin_cases g <;> (try frame_out) <;> sl_kernel_rfl
  · funext b g
    fin_cases b <;> fin_cases g <;> (try frame_out) <;> sl_kernel_rfl
  · exact Memref.IsWhole.read_unread _ _

theorem carry_B (c : Dev nD) (t : Fin cfg0.N) (h0 : ¬ t.val % 16 = 0) :
    (outsAt0 m c t.val t.isLt).2.2.2.2 = carryOut (X0_0 m c t) (iblk m c 1 t) (iblk m c 2 t) (iblk m c 3 t) (iblk m c 4 t)
      (biasAt (grid0.coords t) (iblk m c 5 t)) (sinkAt (iblk m c 6 t)) := by
  rw [outsAt0_B m c t h0]; dsimp only; frame_out
  refine (carry_cat _ _ _ _).trans ?_
  unfold carryOut carryOf
  refine congrArg (fun v => shapeCast S128x256 v shapeCasts_S128x256_S128x256) ?_
  refine congr (congr (congr (congrArg early ?_) ?_) ?_) ?_ <;> (try frame_out) <;> sl_kernel_rfl

theorem outs7_A (c : Dev nD) (t : Fin cfg0.N) (h0 : t.val % 16 = 0) :
    (outsAt0 m c t.val t.isLt).1 = dqOut (X0_0 m c t) (iblk m c 1 t) (iblk m c 2 t) (iblk m c 3 t) (iblk m c 4 t)
      (biasAt (grid0.coords t) (iblk m c 5 t)) (sinkAt (iblk m c 6 t)) := by
  rw [outsAt0_A m c t h0]; dsimp only; frame_out
  refine (dq_cat _ _ _ _ _ _ _ _ _ _ _ _ _ _ _ _ _ _ _ _ _ _ _ _ _ _ _ _ _ _ _ _).trans (congrArg dqOf (funext fun b => funext fun h => ?_))
  fin_cases b <;> fin_cases h <;> (try frame_out) <;> sl_kernel_rfl

theorem outs8_A (c : Dev nD) (t : Fin cfg0.N) (h0 : t.val % 16 = 0) :
    (outsAt0 m c t.val t.isLt).2.1 = dkvOut (X0_0 m c t) (iblk m c 1 t) (iblk m c 2 t) (iblk m c 3 t) (iblk m c 4 t)
      (biasAt (grid0.coords t) (iblk m c 5 t)) (sinkAt (iblk m c 6 t))
      (k0_pay5 (F := Ideal)) := by
  rw [outsAt0_A m c t h0]; dsimp only; frame_out
  refine (dkv_cat _ _ _ _ _ _ _ _ _ _ _ _ _ _ _ _ _).trans ?_
  unfold dkvOut
  refine congr (congr (congrArg dkvOf ?_) ?_) ?_
  · funext b g
    fin_cases b <;> fin_cases g <;> (try frame_out) <;> sl_kernel_rfl
  · funext b g
    fin_cases b <;> fin_cases g <;> (try frame_out) <;> sl_kernel_rfl
  · rfl

theorem carry_A (c : Dev nD) (t : Fin cfg0.N) (h0 : t.val % 16 = 0) :
    (outsAt0 m c t.val t.isLt).2.2.2.2 = carryOut (X0_0 m c t) (iblk m c 1 t) (iblk m c 2 t) (iblk m c 3 t) (iblk m c 4 t)
      (biasAt (grid0.coords t) (iblk m c 5 t)) (sinkAt (iblk m c 6 t)) := by
  rw [outsAt0_A m c t h0]; dsimp only; frame_out
  refine (carry_cat _ _ _ _).trans ?_
  unfold carryOut carryOf
  refine congrArg (fun v => shapeCast S128x256 v shapeCasts_S128x256_S128x256) ?_
  refine congr (congr (congr (congrArg early ?_) ?_) ?_) ?_ <;> (try frame_out) <;> sl_kernel_rfl

end Cert.Attn
end
end
-- ==== Proof.Out.lean ====
module

public import proofs.«01_k».proof.Proof.Match
public import proofs.«01_k».proof.Proof.Rows
public import proofs.«01_k».proof.Proof.Step

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

/-! The gradient arrays the kernel leaves. -/

namespace Cert.Attn

variable (m : (ℓ : Loc nD τ sig) → Buf (Elt Ideal) ℓ)
variable {m} {c : Dev nD} (H : Fin6 m c) (t : Fin cfg0.N) (b : Fin 4)

include H in
theorem ds_masked (n : Fin 64) (k : Fin 2) (g : Fin 4) (i : Fin 128) (j : Fin 256) (hs : ¬ Seen n i j) : DS m c n k g i j = 0 :=
  (row_both _ _ _ _ _ _ _ _ _ _ H.h0 H.h1 H.h2 H.h3 H.h4 H.h5).2.1 j hs

include H in
theorem bDq_eq (h : Fin 8) (p : Fin 128) (d : Fin 64) :
    bDq (X0_0 m c t) (iblk m c 1 t) (iblk m c 2 t) (iblk m c 3 t) (iblk m c 4 t) (biasAt (grid0.coords t) (iblk m c 5 t)) (sinkAt (iblk m c 6 t)) b h p d
      = gQ (A1 m c) (blk t b) (kOf h) (gOf h) (DS m c) p d := by
  obtain ⟨a, ha⟩ := c8_real
  have hy : ∀ j, ∃ a : ℝ, keyOf (A1 m c) (blk t b) (kOf h) j d = a := fun j => keyOf_real _ _ H.h1 j d
  have hf : ∀ j, ∃ a : ℝ, DS m c (blk t b) (kOf h) (gOf h) p j = a := (row_both _ _ _ _ _ _ _ _ _ _ H.h0 H.h1 H.h2 H.h3 H.h4 H.h5).2.2.1
  choose y hy using hy
  choose f hf using hf
  have e (j : Fin 256) : bDs (X0_0 m c t) (iblk m c 1 t) (iblk m c 2 t) (iblk m c 3 t) (iblk m c 4 t) (biasAt (grid0.coords t) (iblk m c 5 t)) (sinkAt (iblk m c 6 t)) b h p j
      * bK (iblk m c 1 t) (iblk m c 2 t) b h j d = DS m c (blk t b) (kOf h) (gOf h) p j * keyOf (A1 m c) (blk t b) (kOf h) j d := by
    rw [bK_at]
    refine (congrArg (· * _) (sDs_eq H t b h p j)).trans ?_
    by_cases hs : Seen (blk t b) p j
    · rw [bandOf_seen _ _ _ hs.2.2]
    · rw [ds_masked H _ _ _ _ _ hs, zero_mul, zero_mul]
  unfold bDq gQ
  simp only [e, hf, hy, ha, ← EReal.coe_mul, Cert.InProj.coe_sum]
  rw [Finset.sum_mul]
  congr 1
  exact Finset.sum_congr rfl fun j _ => by ring

theorem kOf_mk (k : Fin 2) (u : Fin 4) : kOf ⟨4 * k + u, by omega⟩ = k := Fin.ext (by simp [kOf]; try omega)
theorem gOf_mk (k : Fin 2) (u : Fin 4) : gOf ⟨4 * k + u, by omega⟩ = u := Fin.ext (by simp [gOf]; try omega)

include H in
theorem bDk_eq (k : Fin 2) (j : Fin 256) (d : Fin 64) :
    bDk (X0_0 m c t) (iblk m c 1 t) (iblk m c 2 t) (iblk m c 3 t) (iblk m c 4 t) (biasAt (grid0.coords t) (iblk m c 5 t)) (sinkAt (iblk m c 6 t)) b k j d
      = gK (A0 m c) (blk t b) k (DS m c) j d := by
  unfold bDk gK
  rw [Finset.sum_comm]
  refine Finset.sum_congr rfl fun p _ => Finset.sum_congr rfl fun u _ => ?_
  refine (congrArg₂ (· * ·) (sDs_eq H t b _ p j) (bQ_at m c t b _ p d)).trans ?_
  rw [kOf_mk, gOf_mk, mul_assoc, mul_comm (Ideal.ofBits .f32 0x3E000000#32)]

include H in
theorem bDv_eq (k : Fin 2) (j : Fin 256) (d : Fin 64) :
    bDv (X0_0 m c t) (iblk m c 1 t) (iblk m c 2 t) (iblk m c 4 t) (biasAt (grid0.coords t) (iblk m c 5 t)) (sinkAt (iblk m c 6 t)) b k j d
      = gV (blk t b) k (PP m c) (TT m c) j d := by
  unfold bDv gV
  refine Finset.sum_congr rfl fun u _ => Finset.sum_congr rfl fun p _ => ?_
  rw [bP_eq H, bT_eq H, kOf_mk, gOf_mk, mul_comm]

/-- The gradient of the keys (two heads) and of the values (two heads) of the band of a block. -/
def gBand (m : (ℓ : Loc nD τ sig) → Buf (Elt Ideal) ℓ) (c : Dev nD) (n : Fin 64) : Fin 4 → Fin 256 → Fin 64 → EReal
  | 0 => gK (A0 m c) n 0 (DS m c) | 1 => gK (A0 m c) n 1 (DS m c)
  | 2 => gV n 0 (PP m c) (TT m c) | 3 => gV n 1 (PP m c) (TT m c)

include H in
theorem bBand_eq (u : Fin 4) (j : Fin 256) (d : Fin 64) :
    bBand (X0_0 m c t) (iblk m c 1 t) (iblk m c 2 t) (iblk m c 3 t) (iblk m c 4 t) (biasAt (grid0.coords t) (iblk m c 5 t)) (sinkAt (iblk m c 6 t)) b u j d
      = gBand m c (blk t b) u j d :=
  match u with
  | 0 => bDk_eq H t b 0 j d
  | 1 => bDk_eq H t b 1 j d
  | 2 => bDv_eq H t b 0 j d
  | 3 => bDv_eq H t b 1 j d

/-- The array of gradients of the queries. -/
def GQ (m : (ℓ : Loc nD τ sig) → Buf (Elt Ideal) ℓ) (c : Dev nD) : FVec Ideal S8192x512 .bf16 :=
  Cert.Reference2Ideal.Read.val_main_v166 (F := Ideal) (A0 m c) (A1 m c) (A2 m c) (A3 m c) (A4 m c) (A5 m c)
def GKV (m : (ℓ : Loc nD τ sig) → Buf (Elt Ideal) ℓ) (c : Dev nD) : FVec Ideal S8192x256 .bf16 :=
  Cert.Reference2Ideal.Read.val_main_v168 (F := Ideal) (A0 m c) (A1 m c) (A2 m c) (A3 m c) (A4 m c) (A5 m c)
def GB (m : (ℓ : Loc nD τ sig) → Buf (Elt Ideal) ℓ) (c : Dev nD) : FVec Ideal S8x128x256 .f32 :=
  Cert.Reference2Ideal.Read.val_main_v146 (F := Ideal) (A0 m c) (A1 m c) (A2 m c) (A3 m c) (A4 m c) (A5 m c)
def GS (m : (ℓ : Loc nD τ sig) → Buf (Elt Ideal) ℓ) (c : Dev nD) : FVec Ideal S8x128x1 .f32 :=
  Cert.Reference2Ideal.Read.val_main_v134 (F := Ideal) (A0 m c) (A1 m c) (A2 m c) (A3 m c) (A4 m c) (A5 m c)

include H in
theorem q_at (r c' : Fin 512) : (show FVec Ideal S512x512 .bf16 from (outsAt0 m c t.val t.isLt).1) (ix2 r c') = GQ m c (ix2 (⟨(15 - t.val) * 512 + r, by omega⟩ : Fin 8192) c') := by
  have e : (outsAt0 m c t.val t.isLt).1 = dqOut (X0_0 m c t) (iblk m c 1 t) (iblk m c 2 t) (iblk m c 3 t) (iblk m c 4 t)
      (biasAt (grid0.coords t) (iblk m c 5 t)) (sinkAt (iblk m c 6 t)) := by
    by_cases h0 : t.val % 16 = 0
    · exact outs7_A m c t h0
    · exact outs7_B m c t h0
  refine (congrFun e (ix2 r c')).trans ?_
  rw [dqOut_at, bDq_eq H]
  unfold GQ
  rw [v166_at]
  congr 1
  all_goals (refine Fin.ext ?_; simp [blk, kOf, gOf]; try omega)

include H in
theorem final7 : (dats m 0 c).arrAt 7 (cfgs 0).N = GQ m c := by
  refine (dats m 0 c).arrAt_eq_of_covers 7 _ (by decide +kernel) fun t _ y => ?_
  rw [after0_7]
  idx_vars y
  refine (q_at H t y0 y1).trans (congrArg (GQ m c) ?_)
  blk_ext [idx_val t]
theorem pay5_zero (i) : k0_pay5 (F := Ideal) i = (0 : EReal) := by
  unfold k0_pay5
  idx_vars i
  pointwise []

include H in
/-- What a step leaves for the step after it: the part of its first block's band before the block. -/
theorem carry_at (p : Fin 128) (e : Fin 256) : (show FVec Ideal S128x256 .f32 from (outsAt0 m c t.val t.isLt).2.2.2.2) (ix2 p e)
    = gBand m c (blk t 0) ⟨e / 64, by omega⟩ ⟨p, by omega⟩ ⟨e % 64, by omega⟩ := by
  have h : (outsAt0 m c t.val t.isLt).2.2.2.2 = carryOut (X0_0 m c t) (iblk m c 1 t) (iblk m c 2 t) (iblk m c 3 t) (iblk m c 4 t)
      (biasAt (grid0.coords t) (iblk m c 5 t)) (sinkAt (iblk m c 6 t)) := by
    by_cases h0 : t.val % 16 = 0
    · exact carry_A m c t h0
    · exact carry_B m c t h0
  refine (congrFun h (ix2 p e)).trans ?_
  rw [carryOut_at, bBand_eq H]

/-- Row `r` of a block row of the gradient of keys and values: its own block's band, and the next one's. -/
def kvSum (m : (ℓ : Loc nD τ sig) → Buf (Elt Ideal) ℓ) (c : Dev nD) (r : Fin 8192) (e : Fin 256) : EReal :=
  gBand m c ⟨r / 128, by omega⟩ ⟨e / 64, by omega⟩ ⟨128 + r % 128, by omega⟩ ⟨e % 64, by omega⟩
    + if h : (r : ℕ) / 128 + 1 < 64 then gBand m c ⟨r / 128 + 1, h⟩ ⟨e / 64, by omega⟩ ⟨r % 128, by omega⟩ ⟨e % 64, by omega⟩ else 0

theorem gkv_at (r : Fin 8192) (e : Fin 256) : GKV m c (ix2 r e) = kvSum m c r e := by
  unfold GKV
  rw [v168_at]
  have low (k : Fin 2) (n : Fin 64) (j : Fin 256) (d : Fin 64) : gK (A0 m c) n k (DS m c) j d = gBand m c n ⟨k, by omega⟩ j d := match k with | 0 => rfl | 1 => rfl
  have high (k : Fin 2) (n : Fin 64) (j : Fin 256) (d : Fin 64) : gV n k (PP m c) (TT m c) j d = gBand m c n ⟨2 + k, by omega⟩ j d := match k with | 0 => rfl | 1 => rfl
  split
  · next h =>
    refine (?_ : bandSum (fun n k j d => gK (A0 m c) n k (DS m c) j d) r ⟨e, h⟩ = _)
    unfold bandSum kvSum
    simp only [low]
  · next h =>
    refine (?_ : bandSum (fun n k j d => gV n k (PP m c) (TT m c) j d) r ⟨e - 128, by omega⟩ = _)
    have e1 : (⟨2 + (e - 128 : ℕ) / 64, by omega⟩ : Fin 4) = ⟨e / 64, by omega⟩ := Fin.ext (by simp; omega)
    have e2 : (⟨(e - 128 : ℕ) % 64, by omega⟩ : Fin 64) = ⟨e % 64, by omega⟩ := Fin.ext (by simp; omega)
    unfold bandSum kvSum
    simp only [high, e1, e2]

include H in
theorem kv_step (r : Fin 512) (e : Fin 256) : (show FVec Ideal S512x256 .bf16 from (outsAt0 m c t.val t.isLt).2.1) (ix2 r e)
    = GKV m c (ix2 (⟨(15 - t.val) * 512 + r, by omega⟩ : Fin 8192) e) := by
  have ht : t.val < 16 := t.isLt
  rw [gkv_at]
  have own : (⟨((15 - t.val) * 512 + r) / 128, by omega⟩ : Fin 64) = blk t ⟨r / 128, by omega⟩ := Fin.ext (by simp [blk]; omega)
  have row (h : 128 ≤ 256) : ((15 - t.val) * 512 + (r : ℕ)) % 128 = r % 128 := by omega
  have main (carry : FVec Ideal S128x256 .f32) (hc : ∀ p e, carry (ix2 p e) = if h : 0 < t.val then gBand m c ⟨(16 - t.val) * 4, by omega⟩ ⟨e / 64, by omega⟩ ⟨p, by omega⟩ ⟨e % 64, by omega⟩ else 0) :
      dkvOut (X0_0 m c t) (iblk m c 1 t) (iblk m c 2 t) (iblk m c 3 t) (iblk m c 4 t) (biasAt (grid0.coords t) (iblk m c 5 t)) (sinkAt (iblk m c 6 t)) carry (ix2 r e)
        = kvSum m c (⟨(15 - t.val) * 512 + r, by omega⟩ : Fin 8192) e := by
    rw [dkvOut_at, bBand_eq H]
    unfold kvSum
    simp only [own, row (by decide)]
    refine congrArg (_ + ·) ?_
    by_cases h3 : (r : ℕ) / 128 < 3
    · rw [dif_pos h3, dif_pos (by omega), bBand_eq H]
      refine congrArg (fun n => gBand m c n _ _ _) (Fin.ext ?_)
      simp [blk]; omega
    · rw [dif_neg h3, hc]
      by_cases h0 : 0 < t.val
      · rw [dif_pos h0, dif_pos (by omega)]
        refine congrArg (fun n => gBand m c n _ _ _) (Fin.ext ?_)
        simp; omega
      · rw [dif_neg h0, dif_neg (by omega)]
  by_cases h0 : t.val % 16 = 0
  · refine (congrFun (outs8_A m c t h0) (ix2 r e)).trans (main _ fun p e => ?_)
    rw [dif_neg (by omega)]
    exact pay5_zero _
  · refine (congrFun (outs8_B m c t h0) (ix2 r e)).trans (main _ fun p e => ?_)
    rw [dif_pos (by omega)]
    refine (carry_at H (⟨t.val - 1, by have := t.isLt; omega⟩ : Fin cfg0.N) p e).trans ?_
    refine congrArg (fun n => gBand m c n _ _ _) (Fin.ext ?_)
    simp [blk]; omega

include H in
theorem final8 : (dats m 0 c).arrAt 8 (cfgs 0).N = GKV m c := by
  refine (dats m 0 c).arrAt_eq_of_covers 8 _ (by decide +kernel) fun t _ y => ?_
  rw [after0_8]
  idx_vars y
  refine (kv_step H t y0 y1).trans (congrArg (GKV m c) ?_)
  blk_ext [idx_val t]

end Cert.Attn
end
end
-- ==== Proof.Sums.lean ====
module

public import proofs.«01_k».proof.Proof.Out
public import proofs.«01_k».proof.Proof.Rows
public import proofs.«01_k».proof.Proof.Step

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

/-! The gradients of the bias and of the sinks, summed over the steps. -/

namespace Cert.Attn

variable (m : (ℓ : Loc nD τ sig) → Buf (Elt Ideal) ℓ)
variable {m} {c : Dev nD} (H : Fin6 m c) (t : Fin cfg0.N) (b : Fin 4)

theorem pay3_zero (i) : k0_pay3 (F := Ideal) i = (0 : EReal) := by
  unfold k0_pay3
  idx_vars i
  pointwise []
theorem pay4_zero (i) : k0_pay4 (F := Ideal) i = (0 : EReal) := by
  unfold k0_pay4
  idx_vars i
  pointwise []

/-- The sum over the 64 blocks, step by step from the last. -/
theorem sum_steps (f : Fin 64 → EReal) : ∑ n, f n = ∑ t : Fin cfg0.N, (f (blk t 0) + f (blk t 1) + f (blk t 2) + f (blk t 3)) := by
  have h : (∑ s : Fin 16, ∑ b : Fin 4, f ⟨s * 4 + b, by omega⟩) = ∑ n, f n := Fin.sum_mul_add_congr (L := 64) (S := 16) (n := 4) (fun s k hl => rfl) (by decide)
  rw [← h, ← Equiv.sum_comp Fin.revPerm]
  refine (Finset.sum_congr rfl fun s _ => ?_ : _ = ∑ t : Fin 16, (f (blk t 0) + f (blk t 1) + f (blk t 2) + f (blk t 3)))
  rw [Fin.sum_univ_four]
  have e (b : Fin 4) : (⟨(Fin.revPerm s : Fin 16) * 4 + b, by omega⟩ : Fin 64) = blk s b := Fin.ext (by simp [blk, Fin.rev])
  rw [← e 0, ← e 1, ← e 2, ← e 3]

include H in
theorem b_step (r : Fin 8) (p : Fin 128) (j : Fin 256) :
    termB (X0_0 m c t) (iblk m c 1 t) (iblk m c 2 t) (iblk m c 3 t) (iblk m c 4 t) (biasAt (grid0.coords t) (iblk m c 5 t)) (sinkAt (iblk m c 6 t)) r (ix2 p j)
      = DS m c (blk t 0) (kOf r) (gOf r) p j + DS m c (blk t 1) (kOf r) (gOf r) p j + DS m c (blk t 2) (kOf r) (gOf r) p j + DS m c (blk t 3) (kOf r) (gOf r) p j := by
  have e (b : Fin 4) := (iDs_at (X0_0 m c t) (iblk m c 1 t) (iblk m c 2 t) (iblk m c 3 t) (iblk m c 4 t) (biasAt (grid0.coords t) (iblk m c 5 t)) (sinkAt (iblk m c 6 t)) b r p j).trans
    (sDs_eq H t b r p j)
  unfold termB
  rw [e, e, e, e]

include H in
theorem s_step (r : Fin 8) (p : Fin 128) (j : Fin 1) (f : Fin 64 → EReal)
    (hf : ∀ n, f n = rE (rSm (A0 m c) (A1 m c) (A4 m c) n (kOf r) (gOf r) p) (A3 m c (ix1 (headOf (kOf r) (gOf r)))) (keyOf (A2 m c) n (kOf r)) (rowOf (A5 m c) n (kOf r) (gOf r) p)) :
    termS (X0_0 m c t) (iblk m c 1 t) (iblk m c 2 t) (iblk m c 3 t) (iblk m c 4 t) (biasAt (grid0.coords t) (iblk m c 5 t)) (sinkAt (iblk m c 6 t)) r (ix2 p j)
      = f (blk t 0) + f (blk t 1) + f (blk t 2) + f (blk t 3) := by
  have e (b : Fin 4) : ∃ a : ℝ, iEds (X0_0 m c t) (iblk m c 1 t) (iblk m c 2 t) (iblk m c 3 t) (iblk m c 4 t) (biasAt (grid0.coords t) (iblk m c 5 t)) (sinkAt (iblk m c 6 t)) b r (ix2 p j) = a
      ∧ f (blk t b) = ((-a : ℝ) : EReal) := by
    obtain ⟨a, h1, h2⟩ := sEds_eq H t b r p
    exact ⟨a, (iEds_at _ _ _ _ _ _ _ b r p j).trans h1, (hf _).trans h2⟩
  choose a ha hb using e
  unfold termS
  rw [ha, ha, ha, ha, hb, hb, hb, hb]
  simp only [← EReal.coe_add, ← EReal.coe_neg]
  congr 1
  ring

theorem gb_at (r : Fin 8) (p : Fin 128) (j : Fin 256) : GB m c (ix3 r p j) = ∑ n, DS m c n (kOf r) (gOf r) p j := by
  unfold GB
  exact v146_at _ _ _ _ _ _ r p j

include H in
theorem gs_at (r : Fin 8) (p : Fin 128) : GS m c (ix3 r p 0) = ∑ n, rE (rSm (A0 m c) (A1 m c) (A4 m c) n (kOf r) (gOf r) p) (A3 m c (ix1 (headOf (kOf r) (gOf r))))
    (keyOf (A2 m c) n (kOf r)) (rowOf (A5 m c) n (kOf r) (gOf r) p) := by
  unfold GS
  rw [v134_at]
  have z (n : Fin 64) : Cert.Reference2Ideal.Read.val_main_v122 (F := Ideal) (A0 m c) (A1 m c) (A2 m c) (A3 m c) (A4 m c) (A5 m c) (ix5 n (kOf r) (gOf r) p 0) = 0 := by
    have h := (row_both (A0 m c) (A1 m c) (A2 m c) (A3 m c) (A4 m c) (A5 m c) n (kOf r) (gOf r) p H.h0 H.h1 H.h2 H.h3 H.h4 H.h5).2.2.2.2.1
    rw [Cert.Reference2Ideal.Read.val_main_v122_apply, v121_at, h]
    exact zero_mul _
  refine (congrArg₂ (· + ·) (Finset.sum_congr rfl fun n _ => v108_at _ _ _ _ _ _ n (kOf r) (gOf r) p) (Finset.sum_congr rfl fun n _ => z n)).trans ?_
  rw [Finset.sum_const_zero, add_zero]

include H in
theorem final9 : (dats m 0 c).arrAt 9 (cfgs 0).N = GB m c := by
  refine (dats m 0 c).arrAt_eq_of_covers 9 _ (by decide +kernel) fun t hf y => ?_
  have h15 : t.val % 16 = 15 := (flush0_9 t).mp hf
  have hN : cfg0.N = 16 := N_0
  have ht : t.val < 16 := lt_of_lt_of_eq t.isLt hN
  have key := Pipeline.eq_sum_fin_of_reset_step_apply_last
    (fun n h (j : Fin 8 × Fin 128 × Fin 256) => (show FVec Ideal S8x128x256 .f32 from (outsAt0 m c n h).2.2.1) (ix3 j.1 j.2.1 j.2.2)) 16 (fun _ => (0 : EReal))
    (fun t j => DS m c (blk t 0) (kOf j.1) (gOf j.1) j.2.1 j.2.2 + DS m c (blk t 1) (kOf j.1) (gOf j.1) j.2.1 j.2.2 + DS m c (blk t 2) (kOf j.1) (gOf j.1) j.2.1 j.2.2
      + DS m c (blk t 3) (kOf j.1) (gOf j.1) j.2.1 j.2.2)
    (fun t h j => (outs9_A m c t h j.1 j.2.1 j.2.2).trans (by rw [pay3_zero, b_step H])) (fun t h j => (outs9_B m c t h j.1 j.2.1 j.2.2).trans (by rw [b_step H]))
    (le_of_eq N_0) t (by omega)
  have e : (outsAt0 m c t.val t.isLt).2.2.1 = GB m c := by
    funext i
    idx_vars i
    exact (key (i0, i1, i2)).trans ((zero_add _).trans ((sum_steps (fun n => DS m c n (kOf i0) (gOf i0) i1 i2)).symm.trans (gb_at (m := m) (c := c) i0 i1 i2).symm))
  rw [after0_9, e]
  refine congrArg (GB m c) ?_
  blk_ext [idx_val t]

include H in
theorem final10 : (dats m 0 c).arrAt 10 (cfgs 0).N = GS m c := by
  refine (dats m 0 c).arrAt_eq_of_covers 10 _ (by decide +kernel) fun t hf y => ?_
  have h15 : t.val % 16 = 15 := (flush0_10 t).mp hf
  have hN : cfg0.N = 16 := N_0
  have ht : t.val < 16 := lt_of_lt_of_eq t.isLt hN
  let f (j : Fin 8 × Fin 128) (n : Fin 64) : EReal :=
    rE (rSm (A0 m c) (A1 m c) (A4 m c) n (kOf j.1) (gOf j.1) j.2) (A3 m c (ix1 (headOf (kOf j.1) (gOf j.1)))) (keyOf (A2 m c) n (kOf j.1)) (rowOf (A5 m c) n (kOf j.1) (gOf j.1) j.2)
  have key := Pipeline.eq_sum_fin_of_reset_step_apply_last
    (fun n h (j : Fin 8 × Fin 128) => (show FVec Ideal S8x128x1 .f32 from (outsAt0 m c n h).2.2.2.1) (ix3 j.1 j.2 0)) 16 (fun _ => (0 : EReal))
    (fun t j => f j (blk t 0) + f j (blk t 1) + f j (blk t 2) + f j (blk t 3))
    (fun t h j => (outs10_A m c t h j.1 j.2 0).trans (by rw [pay4_zero, s_step H t j.1 j.2 0 (f j) (fun _ => rfl)]))
    (fun t h j => (outs10_B m c t h j.1 j.2 0).trans (by rw [s_step H t j.1 j.2 0 (f j) (fun _ => rfl)]))
    (le_of_eq N_0) t (by omega)
  have e : (outsAt0 m c t.val t.isLt).2.2.2.1 = GS m c := by
    funext i
    idx_vars i
    obtain rfl : i2 = 0 := Subsingleton.elim _ _
    refine (key (i0, i1)).trans ((zero_add _).trans ?_)
    rw [gs_at H]
    exact (sum_steps _).symm
  rw [after0_10, e]
  refine congrArg (GS m c) ?_
  blk_ext [idx_val t]

end Cert.Attn
end
end
-- ==== Proof.Attn.lean ====
module

public import proofs.«01_k».proof.Defs
public import proofs.«01_k».proof.Pre_finite2
public import proofs.«01_k».proof.Proof.Pre
public import proofs.«01_k».proof.Proof.Sums
public import proofs.«01_k».proof.Proof.Gen.Kernel2Ideal.Value
public import proofs.«01_k».proof.Proof.Gen.Reference2Ideal.Run
public import proofs.«01_k».proof.Proof.Gen.Reference2Ideal.Read
public import Idealize.ShloMosaic.Adequacy
public import Idealize.ShloMosaic.Init
public import Idealize.ShloMosaic.Lib.Claim

@[expose] public section

noncomputable section

open Idealize.ShloMosaic Idealize.SL.Sem

/-! The backward pass of the sliding-window attention: the two programs leave the same gradients. -/

namespace Cert.Attn

instance facts : Cert.Pre_finite2.Facts where
  bcast_S_S8192x512 := by decide
  bcast_S_S8192x128 := by decide
  bcast_S_S8 := by decide
  bcast_S_S8x128x256 := by decide

/-- The precondition: every argument is finite. -/
theorem fin6 (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) : Fin6 m c := by
  obtain ⟨p0, p1, p2, p3, p4, p5⟩ := h c
  exact ⟨fun i => Cert.InProj.isReal_of_abs _ (congrFun p0 i), fun i => Cert.InProj.isReal_of_abs _ (congrFun p1 i), fun i => Cert.InProj.isReal_of_abs _ (congrFun p2 i),
    fun i => Cert.InProj.isReal_of_abs _ (congrFun p3 i), fun i => Cert.InProj.isReal_of_abs _ (congrFun p4 i), fun i => Cert.InProj.isReal_of_abs _ (congrFun p5 i)⟩

theorem algebraic : Cert.algebraic_Kernel2Ideal_Reference2Ideal_pre_finite2 := by
  intro m g m' g' hpre hagree
  refine ⟨GQ m, GKV m, GB m, GS m, (θ_run _ _ _).mono (fun r h c => ?_) (Cert.Kernel2Ideal.Value.run_blocks m g),
    (θ_run _ _ _).mono (fun r h c => ?_) (Cert.Reference2Ideal.Value.run m' g')⟩
  · obtain ⟨e0, e1, e2, e3, ha⟩ := h c
    have H := fin6 m hpre c
    exact ⟨e0.trans (final7 H), e1.trans (final8 H), e2.trans (final9 H), e3.trans (final10 H), ha⟩
  · obtain ⟨e0, e1, e2, e3, ha⟩ := h c
    obtain ⟨a0, a1, a2, a3, a4, a5⟩ := hagree c
    refine ⟨(e0.trans (Cert.Reference2Ideal.Read.val_main_v166_eq _)).trans ?_, (e1.trans (Cert.Reference2Ideal.Read.val_main_v168_eq _)).trans ?_,
      (e2.trans (Cert.Reference2Ideal.Read.val_main_v146_eq _)).trans ?_, (e3.trans (Cert.Reference2Ideal.Read.val_main_v134_eq _)).trans ?_, ha⟩
    all_goals
      simp only [Idealize.ShloMosaic.StableHlo.launchContents]
      rw [show m' (c, Proc.devRef .tc Cert.Reference2Ideal.main_arg0) = _ from a0, show m' (c, Proc.devRef .tc Cert.Reference2Ideal.main_arg1) = _ from a1,
        show m' (c, Proc.devRef .tc Cert.Reference2Ideal.main_arg2) = _ from a2, show m' (c, Proc.devRef .tc Cert.Reference2Ideal.main_arg3) = _ from a3,
        show m' (c, Proc.devRef .tc Cert.Reference2Ideal.main_arg4) = _ from a4, show m' (c, Proc.devRef .tc Cert.Reference2Ideal.main_arg5) = _ from a5]
      rfl

theorem frame_reference : Cert.quiescent_Reference2Ideal :=
  fun m ρ _ => (θ_run _ _ _).mono (fun r h => ⟨fun c => (h c).2.2.2.2, sem_eq_zero_of_no_sems (by decide) r.2⟩) (Cert.Reference2Ideal.Value.run m ρ)

end Cert.Attn

end

end
-- ==== Proof.MlpRow.lean ====
module

public import proofs.«01_k».proof.Proof.Alg

@[expose] public section

set_option maxRecDepth 16384

noncomputable section

open Idealize.ShloMosaic
open Cert.InProj

/-! The feed-forward layer, the loss and their gradients on one row, over extended reals. -/

namespace Cert.Mlp

/-- What one row of the layer depends on: the row `x`, its target `t`, the norm's gain `n`, scale `s` and shift `b`, the gate `gt`,
the last norm's gain `fn`, and the two weights `W` (in) and `V` (out). -/
structure Row where
  x : Fin 1024 → EReal
  t : Fin 1024 → EReal
  n : Fin 1024 → EReal
  s : Fin 1024 → EReal
  b : Fin 1024 → EReal
  gt : Fin 1024 → EReal
  fn : Fin 1024 → EReal
  W : Fin 1024 → Fin 5632 → EReal
  V : Fin 2816 → Fin 1024 → EReal

/-- The mean square of a row with the floor added. -/
def msq (x : Fin 1024 → EReal) : EReal := (∑ e, x e * x e) * Ideal.ofBits .f32 0x3A800000#32 + Ideal.ofBits .f32 0x358637BD#32

/-- Half the derivative of the row's factor, carried back to an entry of the row; `ct` is the cotangent of the normed row. -/
def tau (x ct : Fin 1024 → EReal) : EReal :=
  (∑ e, x e * ct e) * (Ideal.ofBits .f32 0xBF000000#32 * Ideal.div (rinv x) (msq x)) * Ideal.ofBits .f32 0x3A800000#32

/-- The gradient of a row through its norm. -/
def back (x ct : Fin 1024 → EReal) (d : Fin 1024) : EReal := ct d * rinv x + x d * tau x ct + tau x ct * x d

theorem div_1024 (a : EReal) : Ideal.div a (Ideal.ofBits .f32 0x44800000#32) = a * Ideal.ofBits .f32 0x3A800000#32 := by
  rw [show Ideal.ofBits .f32 0x44800000#32 = ((1024 : ℝ) : EReal) from c1024, cInv, Ideal.div_coe (by norm_num)]

theorem rsqrt_msq (x : Fin 1024 → EReal) : Ideal.rsqrt (msq x) = rinv x := rfl

namespace Row

variable (A : Row)

def xn (d : Fin 1024) : EReal := A.x d * rinv A.x
def h (d : Fin 1024) : EReal := A.xn d * A.n d * (1 + A.s d) + A.b d
def gu (k : Fin 5632) : EReal := ∑ d, A.h d * A.W d k
def g (k : Fin 2816) : EReal := A.gu ⟨k, by omega⟩
def u (k : Fin 2816) : EReal := A.gu ⟨2816 + k, by omega⟩
def sg (k : Fin 2816) : EReal := Ideal.logistic (A.g k)
def act (k : Fin 2816) : EReal := A.g k * A.sg k * A.u k
def mlp (d : Fin 1024) : EReal := ∑ k, A.act k * A.V k d
def x2 (d : Fin 1024) : EReal := A.x d + A.gt d * A.mlp d
def x2n (d : Fin 1024) : EReal := A.x2 d * rinv A.x2
def err (d : Fin 1024) : EReal := A.x2n d * A.fn d - A.t d

/-- The cotangent of the last norm's output: the mean over a row, times a half. -/
def dy (d : Fin 1024) : EReal := Ideal.ofBits .f32 0x3A000000#32 * (Ideal.ofBits .f32 0x40000000#32 * A.err d)
def dx2 (d : Fin 1024) : EReal := back A.x2 (fun e => A.dy e * A.fn e) d
def dmlp (d : Fin 1024) : EReal := A.dx2 d * A.gt d
def dact (k : Fin 2816) : EReal := ∑ d, A.dmlp d * A.V k d
def dg (k : Fin 2816) : EReal := A.dact k * A.u k * (A.sg k * (1 + A.g k * (1 - A.sg k)))
def du (k : Fin 2816) : EReal := A.dact k * (A.g k * A.sg k)
def dgu (k : Fin 5632) : EReal := if h : (k : ℕ) < 2816 then A.dg ⟨k, h⟩ else A.du ⟨k - 2816, by omega⟩
def dh (d : Fin 1024) : EReal := ∑ k, A.dgu k * A.W d k
def dhs (d : Fin 1024) : EReal := A.dh d * (1 + A.s d)
def dhn (d : Fin 1024) : EReal := A.dhs d * A.n d
def dx (d : Fin 1024) : EReal := A.dx2 d + back A.x A.dhn d

/-- What a row adds to the gradients of the gain, the scale, the shift, the gate, the last gain, and to the loss. -/
def acc (r : Fin 8) (d : Fin 1024) : EReal :=
  if (r : ℕ) = 0 then A.xn d * A.dhs d
  else if (r : ℕ) = 1 then A.xn d * A.n d * A.dh d
  else if (r : ℕ) = 2 then A.dh d
  else if (r : ℕ) = 3 then A.dx2 d * A.mlp d
  else if (r : ℕ) = 4 then A.x2n d * A.dy d
  else if (r : ℕ) = 5 then ∑ e, A.err e * A.err e
  else 0

end Row

end Cert.Mlp

end

end
-- ==== Proof.MlpRef.lean ====
module

public import proofs.«01_k».proof.Proof.Gen.Reference3Ideal.Run
public import proofs.«01_k».proof.Proof.Gen.Reference3Ideal.Read
public import proofs.«01_k».proof.Proof.MlpRow

@[expose] public section

set_option maxRecDepth 16384

noncomputable section

open Idealize.ShloMosaic Idealize.ShloMosaic.TcCoe Idealize.SL.Sem
open Cert.Reference3Ideal Cert.Reference3Ideal.Gen Cert.Reference3Ideal.Read Cert.InProj

namespace Cert.Mlp

/-! The reference's arrays read at an index. -/

variable (x0 x1 : FVec Ideal S8192x1024 .f32) (x2 x3 x4 x5 x6 : FVec Ideal S1024 .f32) (x7 : FVec Ideal S1024x5632 .f32)
  (x8 : FVec Ideal S2816x1024 .f32) (r : Fin 8192) (d : Fin 1024) (k : Fin 2816)

/-- Row `r` of the arguments. -/
def rowR : Row where
  x e := x0 (ix2 r e)
  t e := x1 (ix2 r e)
  n e := x2 (ix1 e)
  s e := x3 (ix1 e)
  b e := x4 (ix1 e)
  gt e := x5 (ix1 e)
  fn e := x6 (ix1 e)
  W d k := x7 (ix2 d k)
  V k d := x8 (ix2 k d)

theorem r8 : val_main_v8 (F := Ideal) x0 (ix2 r 0) = msq (fun e => x0 (ix2 r e)) := by
  pointwise [val_main_v8, val_main_v7, val_main_v6, val_main_v5, val_main_v4, val_main_v3, val_main_v2, val_main_cst_1, val_main_cst_2, val_main_cst_3, div_1024, msq]

theorem r9 : val_main_v9 (F := Ideal) x0 (ix2 r 0) = rinv (fun e => x0 (ix2 r e)) := by
  pointwise [val_main_v9, r8, rsqrt_msq]

theorem r12 : val_main_v12 (F := Ideal) x0 (ix2 r 0)
    = Ideal.ofBits .f32 0xBF000000#32 * Ideal.div (rinv (fun e => x0 (ix2 r e))) (msq (fun e => x0 (ix2 r e))) := by
  pointwise [val_main_v12, val_main_v11, val_main_cst_4, val_main_v10, r8, r9]

theorem r14 : val_main_v14 (F := Ideal) x0 (ix2 r d) = x0 (ix2 r d) * rinv (fun e => x0 (ix2 r e)) := by
  pointwise [val_main_v14, val_main_v13, r9]

theorem r17 : val_main_v17 (F := Ideal) x0 x2 (ix2 r d) = x0 (ix2 r d) * rinv (fun e => x0 (ix2 r e)) * x2 (ix1 d) := by
  pointwise [val_main_v17, r14, val_main_v16, val_main_v15]

theorem r20 (z : Fin 1) : val_main_v20 (F := Ideal) x3 (ix2 z d) = 1 + x3 (ix1 d) := by
  pointwise [val_main_v20, val_main_v19, val_main_v18, val_main_cst_5, one_bits]

theorem r25 : val_main_v25 (F := Ideal) x0 x2 x3 x4 (ix2 r d) = (rowR x0 x1 x2 x3 x4 x5 x6 x7 x8 r).h d := by
  pointwise [val_main_v25, val_main_v24, val_main_v23, val_main_v22, val_main_v21, r17, r20]
  rfl

theorem r27 (k : Fin 5632) : val_main_v27 (F := Ideal) x0 x2 x3 x4 x7 (ix2 r k) = (rowR x0 x1 x2 x3 x4 x5 x6 x7 x8 r).gu k := by
  pointwise [val_main_v27, val_main_v0, val_main_cst, zero_bits, val_main_v26, r25 x0 x1 x2 x3 x4 x5 x6 x7 x8 r]
  rfl

theorem r28 : val_main_v28 (F := Ideal) x0 x2 x3 x4 x7 (ix2 r k) = (rowR x0 x1 x2 x3 x4 x5 x6 x7 x8 r).g k := by
  pointwise [val_main_v28, r27 x0 x1 x2 x3 x4 x5 x6 x7 x8 r]
  try rfl

theorem r29 : val_main_v29 (F := Ideal) x0 x2 x3 x4 x7 (ix2 r k) = (rowR x0 x1 x2 x3 x4 x5 x6 x7 x8 r).u k := by
  pointwise [val_main_v29, r27 x0 x1 x2 x3 x4 x5 x6 x7 x8 r]
  try rfl

theorem r30_2 : val_main_v30_2 (F := Ideal) x0 x2 x3 x4 x7 (ix2 r k) = (rowR x0 x1 x2 x3 x4 x5 x6 x7 x8 r).sg k := by
  pointwise [val_main_v30_2, val_main_call0_v4, val_main_call0_cst_0, val_main_call0_v3, val_main_call0_v2, val_main_call0_cst, val_main_call0_v1, val_main_call0_v0, r28 x0 x1 x2 x3 x4 x5 x6 x7 x8 r, one_bits]
  rfl

theorem r30_1 : val_main_v30_1 (F := Ideal) x0 x2 x3 x4 x7 (ix2 r k) = (rowR x0 x1 x2 x3 x4 x5 x6 x7 x8 r).sg k * (1 - (rowR x0 x1 x2 x3 x4 x5 x6 x7 x8 r).sg k) := by
  pointwise [val_main_v30_1, val_main_call0_v7, val_main_call0_v6, val_main_call0_cst_1, r30_2 x0 x1 x2 x3 x4 x5 x6 x7 x8 r, one_bits]

theorem r30_0 : val_main_v30_0 (F := Ideal) x0 x2 x3 x4 x7 (ix2 r k) = (rowR x0 x1 x2 x3 x4 x5 x6 x7 x8 r).g k * (rowR x0 x1 x2 x3 x4 x5 x6 x7 x8 r).sg k := by
  pointwise [val_main_v30_0, r28 x0 x1 x2 x3 x4 x5 x6 x7 x8 r, r30_2 x0 x1 x2 x3 x4 x5 x6 x7 x8 r]

theorem r31 : val_main_v31 (F := Ideal) x0 x2 x3 x4 x7 (ix2 r k) = (rowR x0 x1 x2 x3 x4 x5 x6 x7 x8 r).act k := by
  pointwise [val_main_v31, r30_0 x0 x1 x2 x3 x4 x5 x6 x7 x8 r, r29 x0 x1 x2 x3 x4 x5 x6 x7 x8 r]
  rfl

theorem r33 : val_main_v33 (F := Ideal) x0 x2 x3 x4 x7 x8 (ix2 r d) = (rowR x0 x1 x2 x3 x4 x5 x6 x7 x8 r).mlp d := by
  pointwise [val_main_v33, val_main_v1, val_main_cst_0, zero_bits, val_main_v32, r31 x0 x1 x2 x3 x4 x5 x6 x7 x8 r]
  rfl

theorem r37 : val_main_v37 (F := Ideal) x0 x2 x3 x4 x5 x7 x8 (ix2 r d) = (rowR x0 x1 x2 x3 x4 x5 x6 x7 x8 r).x2 d := by
  pointwise [val_main_v37, val_main_v36, val_main_v35, val_main_v34, r33 x0 x1 x2 x3 x4 x5 x6 x7 x8 r]
  rfl

theorem r44 (z : Fin 1) : val_main_v44 (F := Ideal) x0 x2 x3 x4 x5 x7 x8 (ix2 r z) = msq (rowR x0 x1 x2 x3 x4 x5 x6 x7 x8 r).x2 := by
  pointwise [val_main_v44, val_main_v43, val_main_v42, val_main_v41, val_main_v40, val_main_v39, val_main_v38, val_main_cst_6, val_main_cst_7, val_main_cst_8, div_1024, r37 x0 x1 x2 x3 x4 x5 x6 x7 x8 r]
  rfl

theorem r45 (z : Fin 1) : val_main_v45 (F := Ideal) x0 x2 x3 x4 x5 x7 x8 (ix2 r z) = rinv (rowR x0 x1 x2 x3 x4 x5 x6 x7 x8 r).x2 := by
  pointwise [val_main_v45, r44 x0 x1 x2 x3 x4 x5 x6 x7 x8 r, rsqrt_msq]

theorem r48 (z : Fin 1) : val_main_v48 (F := Ideal) x0 x2 x3 x4 x5 x7 x8 (ix2 r z)
    = Ideal.ofBits .f32 0xBF000000#32 * Ideal.div (rinv (rowR x0 x1 x2 x3 x4 x5 x6 x7 x8 r).x2) (msq (rowR x0 x1 x2 x3 x4 x5 x6 x7 x8 r).x2) := by
  pointwise [val_main_v48, val_main_v47, val_main_cst_9, val_main_v46, r44 x0 x1 x2 x3 x4 x5 x6 x7 x8 r, r45 x0 x1 x2 x3 x4 x5 x6 x7 x8 r]

theorem r50 : val_main_v50 (F := Ideal) x0 x2 x3 x4 x5 x7 x8 (ix2 r d) = (rowR x0 x1 x2 x3 x4 x5 x6 x7 x8 r).x2n d := by
  pointwise [val_main_v50, val_main_v49, r37 x0 x1 x2 x3 x4 x5 x6 x7 x8 r, r45 x0 x1 x2 x3 x4 x5 x6 x7 x8 r]
  rfl

theorem r54 : val_main_v54 (F := Ideal) x0 x1 x2 x3 x4 x5 x6 x7 x8 (ix2 r d) = (rowR x0 x1 x2 x3 x4 x5 x6 x7 x8 r).err d := by
  pointwise [val_main_v54, val_main_v53, val_main_v52, val_main_v51, r50 x0 x1 x2 x3 x4 x5 x6 x7 x8 r]
  rfl

/-- A half of one, divided by the row's width. -/
theorem half_1024 : Ideal.ofBits .f32 0x3F000000#32 * Ideal.ofBits .f32 0x3A800000#32 = Ideal.ofBits .f32 0x3A000000#32 := by
  rw [cInv, show Ideal.ofBits .f32 0x3F000000#32 = ((1 / 2 : ℝ) : EReal) by
      simp [Ideal.ofBits, Ideal.ieee, -EReal.coe_mul]; norm_num,
    show Ideal.ofBits .f32 0x3A000000#32 = ((1 / 2048 : ℝ) : EReal) by simp [Ideal.ofBits, Ideal.ieee, -EReal.coe_mul]; norm_num,
    ← EReal.coe_mul]
  norm_num

theorem r68 : val_main_v68 (F := Ideal) x0 x1 x2 x3 x4 x5 x6 x7 x8 (ix2 r d) = (rowR x0 x1 x2 x3 x4 x5 x6 x7 x8 r).dy d := by
  pointwise [val_main_v68, val_main_v67, val_main_v66, val_main_v65, val_main_v64, val_main_v63, val_main_cst_15, val_main_cst_16, val_main_cst_17,
    val_main_v57, val_main_v56, val_main_cst_10, r54 x0 x1 x2 x3 x4 x5 x6 x7 x8 r, div_1024, one_bits]
  rw [half_1024]
  rfl

theorem r73 : val_main_v73 (F := Ideal) x0 x1 x2 x3 x4 x5 x6 x7 x8 (ix2 r d) = (rowR x0 x1 x2 x3 x4 x5 x6 x7 x8 r).dy d * x6 (ix1 d) := by
  pointwise [val_main_v73, val_main_v72, val_main_v51, r68 x0 x1 x2 x3 x4 x5 x6 x7 x8 r]

theorem r84 : val_main_v84 (F := Ideal) x0 x1 x2 x3 x4 x5 x6 x7 x8 (ix2 r d) = tau (rowR x0 x1 x2 x3 x4 x5 x6 x7 x8 r).x2 (fun e => (rowR x0 x1 x2 x3 x4 x5 x6 x7 x8 r).dy e * (rowR x0 x1 x2 x3 x4 x5 x6 x7 x8 r).fn e) := by
  pointwise [val_main_v84, val_main_v83, val_main_v82, val_main_v81, val_main_v80, val_main_v77, val_main_v76, val_main_v75, val_main_cst_20, val_main_cst_21,
    val_main_cst_22, div_1024, r37 x0 x1 x2 x3 x4 x5 x6 x7 x8 r, r73 x0 x1 x2 x3 x4 x5 x6 x7 x8 r]
  simp only [Finset.univ_unique, Finset.sum_singleton, Fin.default_eq_zero, Fin.isValue]
  rw [r48 x0 x1 x2 x3 x4 x5 x6 x7 x8 r]
  rfl

theorem r88 : val_main_v88 (F := Ideal) x0 x1 x2 x3 x4 x5 x6 x7 x8 (ix2 r d) = (rowR x0 x1 x2 x3 x4 x5 x6 x7 x8 r).dx2 d := by
  pointwise [val_main_v88, val_main_v87, val_main_v86, val_main_v85, val_main_v79, val_main_v78, r84 x0 x1 x2 x3 x4 x5 x6 x7 x8 r, r73 x0 x1 x2 x3 x4 x5 x6 x7 x8 r, r45 x0 x1 x2 x3 x4 x5 x6 x7 x8 r, r37 x0 x1 x2 x3 x4 x5 x6 x7 x8 r]
  rfl

theorem r90 : val_main_v90 (F := Ideal) x0 x1 x2 x3 x4 x5 x6 x7 x8 (ix2 r d) = (rowR x0 x1 x2 x3 x4 x5 x6 x7 x8 r).dmlp d := by
  pointwise [val_main_v90, val_main_v89, val_main_v34, r88 x0 x1 x2 x3 x4 x5 x6 x7 x8 r]
  exact mul_comm _ _

theorem r95 : val_main_v95 (F := Ideal) x0 x1 x2 x3 x4 x5 x6 x7 x8 (ix2 r k) = (rowR x0 x1 x2 x3 x4 x5 x6 x7 x8 r).dact k := by
  pointwise [val_main_v95, r90 x0 x1 x2 x3 x4 x5 x6 x7 x8 r]
  rfl

theorem r96 : val_main_v96 (F := Ideal) x0 x1 x2 x3 x4 x5 x6 x7 x8 (ix2 r k) = (rowR x0 x1 x2 x3 x4 x5 x6 x7 x8 r).du k := by
  pointwise [val_main_v96, r95 x0 x1 x2 x3 x4 x5 x6 x7 x8 r, r30_0 x0 x1 x2 x3 x4 x5 x6 x7 x8 r]
  exact mul_comm _ _

/-- The gate's cotangent as the reference writes it. -/
theorem r98 : val_main_v98 (F := Ideal) x0 x1 x2 x3 x4 x5 x6 x7 x8 (ix2 r k)
    = (rowR x0 x1 x2 x3 x4 x5 x6 x7 x8 r).dact k * (rowR x0 x1 x2 x3 x4 x5 x6 x7 x8 r).u k * (rowR x0 x1 x2 x3 x4 x5 x6 x7 x8 r).sg k + (rowR x0 x1 x2 x3 x4 x5 x6 x7 x8 r).g k * ((rowR x0 x1 x2 x3 x4 x5 x6 x7 x8 r).dact k * (rowR x0 x1 x2 x3 x4 x5 x6 x7 x8 r).u k) * ((rowR x0 x1 x2 x3 x4 x5 x6 x7 x8 r).sg k * (1 - (rowR x0 x1 x2 x3 x4 x5 x6 x7 x8 r).sg k)) := by
  pointwise [val_main_v98, val_main_call1_v0, val_main_call1_v1, val_main_call1_v2, val_main_v97, r28 x0 x1 x2 x3 x4 x5 x6 x7 x8 r, r29 x0 x1 x2 x3 x4 x5 x6 x7 x8 r, r30_1 x0 x1 x2 x3 x4 x5 x6 x7 x8 r, r30_2 x0 x1 x2 x3 x4 x5 x6 x7 x8 r, r95 x0 x1 x2 x3 x4 x5 x6 x7 x8 r]

end Cert.Mlp

end

end
-- ==== Proof.MlpReal.lean ====
module

public import proofs.«01_k».proof.Proof.MlpRow
public import proofs.«01_k».proof.Proof.Pre

@[expose] public section

set_option maxRecDepth 16384

noncomputable section

open Idealize.ShloMosaic
open Cert.InProj

/-! On finite arguments every value of the row is a real number; so the gate's cotangent may be factored. -/

namespace Cert.Mlp

theorem IsReal.sub {a b : EReal} (ha : IsReal a) (hb : IsReal b) : IsReal (a - b) := by
  obtain ⟨a, rfl⟩ := ha; obtain ⟨b, rfl⟩ := hb; exact ⟨a - b, (EReal.coe_sub a b).symm⟩

theorem isReal_logistic {a : EReal} (ha : IsReal a) : IsReal (Ideal.logistic a) := by
  obtain ⟨a, rfl⟩ := ha; exact ⟨_, Ideal.logistic_coe a⟩

theorem c2048 : Ideal.ofBits .f32 0x3A000000#32 = ((1 / 2048 : ℝ) : EReal) := by
  simp [Ideal.ofBits, Ideal.ieee, -EReal.coe_mul]; norm_num

theorem cHalfPos : Ideal.ofBits .f32 0x3F000000#32 = ((1 / 2 : ℝ) : EReal) := by
  simp [Ideal.ofBits, Ideal.ieee, -EReal.coe_mul]; norm_num

theorem cTwo : Ideal.ofBits .f32 0x40000000#32 = ((2 : ℝ) : EReal) := by
  simp [Ideal.ofBits, Ideal.ieee, -EReal.coe_mul]; norm_num

section

variable {x ct : Fin 1024 → EReal} (hx : ∀ e, IsReal (x e)) (hc : ∀ e, IsReal (ct e))

include hx

theorem msq_real : ∃ v : ℝ, v ≠ 0 ∧ msq x = v := by
  choose a ha using hx
  obtain rfl : x = fun e => (a e : EReal) := funext ha
  obtain ⟨ρ, v, h0, _, hv, _, _⟩ := row_real a
  refine ⟨v, h0, ?_⟩
  rw [← hv, refV, show Ideal.ofBits .f32 1149239296#32 = Ideal.ofBits .f32 0x44800000#32 from rfl, div_1024]
  rfl

include hc

theorem tau_real : IsReal (tau x ct) := by
  obtain ⟨v, h0, hv⟩ := msq_real hx
  unfold tau
  rw [hv, Ideal.div_coe h0]
  exact ((isReal_sum _ _ fun e => (hx e).mul (hc e)).mul (IsReal.mul ⟨_, cHalf⟩ (IsReal.mul (rinv_real hx) ⟨_, rfl⟩))).mul ⟨_, cInv⟩

theorem back_real (d : Fin 1024) : IsReal (back x ct d) :=
  (((hc d).mul (rinv_real hx)).add ((hx d).mul (tau_real hx hc))).add ((tau_real hx hc).mul (hx d))

end

/-- The row's arguments are finite. -/
structure Row.Finite (A : Row) : Prop where
  x d : IsReal (A.x d)
  t d : IsReal (A.t d)
  n d : IsReal (A.n d)
  s d : IsReal (A.s d)
  b d : IsReal (A.b d)
  gt d : IsReal (A.gt d)
  fn d : IsReal (A.fn d)
  W d k : IsReal (A.W d k)
  V k d : IsReal (A.V k d)

theorem silu_real (P g σ : ℝ) :
    (P : EReal) * σ + g * P * (σ * (1 - σ)) = P * (σ * (1 + g * (1 - σ))) := by
  rw [← EReal.coe_one]
  simp only [← EReal.coe_mul, ← EReal.coe_add, ← EReal.coe_sub]
  congr 1
  ring

namespace Row.Finite

variable {A : Row} (H : A.Finite) (d : Fin 1024) (k : Fin 2816)

include H

theorem h : IsReal (A.h d) := ((((H.x d).mul (rinv_real H.x)).mul (H.n d)).mul (isReal_one.add (H.s d))).add (H.b d)
theorem gu (k : Fin 5632) : IsReal (A.gu k) := isReal_sum _ _ fun d => (H.h d).mul (H.W d k)
theorem g : IsReal (A.g k) := H.gu _
theorem u : IsReal (A.u k) := H.gu _
theorem sg : IsReal (A.sg k) := isReal_logistic (H.g k)
theorem act : IsReal (A.act k) := ((H.g k).mul (H.sg k)).mul (H.u k)
theorem mlp : IsReal (A.mlp d) := isReal_sum _ _ fun k => (H.act k).mul (H.V k d)
theorem x2 : IsReal (A.x2 d) := (H.x d).add ((H.gt d).mul (H.mlp d))
theorem err : IsReal (A.err d) := IsReal.sub (((H.x2 d).mul (rinv_real H.x2)).mul (H.fn d)) (H.t d)
theorem dy : IsReal (A.dy d) := IsReal.mul ⟨_, c2048⟩ (IsReal.mul ⟨_, cTwo⟩ (H.err d))
theorem dx2 : IsReal (A.dx2 d) := back_real H.x2 (fun e => (H.dy e).mul (H.fn e)) d
theorem dmlp : IsReal (A.dmlp d) := (H.dx2 d).mul (H.gt d)
theorem dact : IsReal (A.dact k) := isReal_sum _ _ fun d => (H.dmlp d).mul (H.V k d)
theorem err2 : IsReal (∑ e, A.err e * A.err e) := isReal_sum _ _ fun e => (H.err e).mul (H.err e)

/-- The gate's cotangent, as a sum of two terms and as a product. -/
theorem dg_eq : A.dact k * A.u k * A.sg k + A.g k * (A.dact k * A.u k) * (A.sg k * (1 - A.sg k)) = A.dg k := by
  obtain ⟨p, hp⟩ := (H.dact k).mul (H.u k)
  obtain ⟨g, hg⟩ := H.g k
  obtain ⟨σ, hs⟩ := H.sg k
  unfold Row.dg
  rw [hp, hg, hs]
  exact silu_real p g σ

end Row.Finite

/-- The loss: half the sum of the rows' means is the sum over blocks of rows of their sums, scaled once per block. -/
theorem loss_sum (S : Fin 8192 → EReal) (hS : ∀ r, IsReal (S r)) (f : Fin 32 → Fin 256 → Fin 8192)
    (hf : ∀ T : Fin 8192 → EReal, ∑ t, ∑ p, T (f t p) = ∑ r, T r) :
    ∑ t, (∑ p, S (f t p)) * Ideal.ofBits .f32 0x3A000000#32
      = Ideal.ofBits .f32 0x3F000000#32 * ∑ r, S r * Ideal.ofBits .f32 0x3A800000#32 := by
  have e : ∀ r, S r * Ideal.ofBits .f32 0x3A800000#32 * Ideal.ofBits .f32 0x3F000000#32 = S r * Ideal.ofBits .f32 0x3A000000#32 := fun r => by
    rw [mul_assoc, cInv, cHalfPos, c2048, ← EReal.coe_mul]
    norm_num
  rw [mul_comm, sum_mul_real _ _ _ (fun r => (hS r).mul ⟨_, cInv⟩) ⟨_, cHalfPos⟩, Finset.sum_congr rfl (fun r _ => e r),
    ← hf fun r => S r * Ideal.ofBits .f32 0x3A000000#32]
  exact Finset.sum_congr rfl fun t _ => sum_mul_real _ _ _ (fun p => hS _) ⟨_, c2048⟩

end Cert.Mlp

end

end
-- ==== Proof.MlpOut.lean ====
module

public import proofs.«01_k».proof.Proof.MlpRef
public import proofs.«01_k».proof.Proof.MlpReal

@[expose] public section

set_option maxRecDepth 16384

noncomputable section

open Idealize.ShloMosaic Idealize.ShloMosaic.TcCoe Idealize.SL.Sem
open Cert.Reference3Ideal Cert.Reference3Ideal.Gen Cert.Reference3Ideal.Read Cert.InProj

namespace Cert.Mlp

/-! The reference's results read at an index, on finite arguments. -/

variable {x0 x1 : FVec Ideal S8192x1024 .f32} {x2 x3 x4 x5 x6 : FVec Ideal S1024 .f32} {x7 : FVec Ideal S1024x5632 .f32}
  {x8 : FVec Ideal S2816x1024 .f32}

theorem o101 (H : ∀ r, (rowR x0 x1 x2 x3 x4 x5 x6 x7 x8 r).Finite) (r : Fin 8192) (k : Fin 5632) : val_main_v101 (F := Ideal) x0 x1 x2 x3 x4 x5 x6 x7 x8 (ix2 r k) = (rowR x0 x1 x2 x3 x4 x5 x6 x7 x8 r).dgu k := by
  pointwise [val_main_v101, val_main_v100, val_main_v99, val_main_cst_25, val_main_cst_26, zero_bits, r96 x0 x1 x2 x3 x4 x5 x6 x7 x8 r, r98 x0 x1 x2 x3 x4 x5 x6 x7 x8 r, (H r).dg_eq, Row.dgu]
  by_cases hk : (k : ℕ) < 2816
  · rw [dif_neg (by omega), dif_pos hk, dif_pos hk, zero_add]
  · rw [dif_pos ⟨by omega, by omega⟩, dif_neg hk, dif_neg hk, add_zero]

theorem o102 (H : ∀ r, (rowR x0 x1 x2 x3 x4 x5 x6 x7 x8 r).Finite) (r : Fin 8192) (d : Fin 1024) : val_main_v102 (F := Ideal) x0 x1 x2 x3 x4 x5 x6 x7 x8 (ix2 r d) = (rowR x0 x1 x2 x3 x4 x5 x6 x7 x8 r).dh d := by
  pointwise [val_main_v102, o101 H]
  rfl

theorem o110 (H : ∀ r, (rowR x0 x1 x2 x3 x4 x5 x6 x7 x8 r).Finite) (r : Fin 8192) (d : Fin 1024) : val_main_v110 (F := Ideal) x0 x1 x2 x3 x4 x5 x6 x7 x8 (ix2 r d) = (rowR x0 x1 x2 x3 x4 x5 x6 x7 x8 r).dhs d := by
  pointwise [val_main_v110, val_main_v109, o102 H, r20]
  rfl

theorem o116 (H : ∀ r, (rowR x0 x1 x2 x3 x4 x5 x6 x7 x8 r).Finite) (r : Fin 8192) (d : Fin 1024) : val_main_v116 (F := Ideal) x0 x1 x2 x3 x4 x5 x6 x7 x8 (ix2 r d) = (rowR x0 x1 x2 x3 x4 x5 x6 x7 x8 r).dhn d := by
  pointwise [val_main_v116, val_main_v115, val_main_v15, o110 H]
  rfl

theorem o128 (H : ∀ r, (rowR x0 x1 x2 x3 x4 x5 x6 x7 x8 r).Finite) (r : Fin 8192) (d : Fin 1024) : val_main_v128 (F := Ideal) x0 x1 x2 x3 x4 x5 x6 x7 x8 (ix2 r d) = tau (rowR x0 x1 x2 x3 x4 x5 x6 x7 x8 r).x (rowR x0 x1 x2 x3 x4 x5 x6 x7 x8 r).dhn := by
  pointwise [val_main_v128, val_main_v127, val_main_v126, val_main_v125, val_main_v124, val_main_v120, val_main_v119, val_main_v118, val_main_cst_33, val_main_cst_34, val_main_cst_35, zero_bits, div_1024, o116 H]
  simp only [Finset.univ_unique, Finset.sum_singleton, Fin.default_eq_zero, Fin.isValue]
  rw [r12]
  rfl

theorem o132 (H : ∀ r, (rowR x0 x1 x2 x3 x4 x5 x6 x7 x8 r).Finite) (r : Fin 8192) (d : Fin 1024) : val_main_v132 (F := Ideal) x0 x1 x2 x3 x4 x5 x6 x7 x8 (ix2 r d) = (rowR x0 x1 x2 x3 x4 x5 x6 x7 x8 r).dx d := by
  pointwise [val_main_v132, val_main_v131, val_main_v130, val_main_v129, val_main_v123, val_main_v122, val_main_v121, r9, r88 x0 x1 x2 x3 x4 x5 x6 x7 x8 r, o116 H, o128 H]
  rw [add_assoc, add_assoc]
  unfold Row.dx back
  rw [add_assoc]
  rfl

theorem s0 (H : ∀ r, (rowR x0 x1 x2 x3 x4 x5 x6 x7 x8 r).Finite) (d : Fin 1024) : val_main_v117 (F := Ideal) x0 x1 x2 x3 x4 x5 x6 x7 x8 (ix1 d) = ∑ r, (rowR x0 x1 x2 x3 x4 x5 x6 x7 x8 r).acc 0 d := by
  pointwise [val_main_v117, val_main_v114, val_main_v113, val_main_v112, val_main_cst_31, val_main_cst_32, zero_bits, r14, o110 H]
  simp only [Finset.univ_unique, Finset.sum_singleton, Fin.default_eq_zero, Fin.isValue]
  rfl

theorem s1 (H : ∀ r, (rowR x0 x1 x2 x3 x4 x5 x6 x7 x8 r).Finite) (d : Fin 1024) : val_main_v111 (F := Ideal) x0 x1 x2 x3 x4 x5 x6 x7 x8 (ix1 d) = ∑ r, (rowR x0 x1 x2 x3 x4 x5 x6 x7 x8 r).acc 1 d := by
  pointwise [val_main_v111, val_main_v108, val_main_v107, val_main_v106, val_main_cst_29, val_main_cst_30, zero_bits, r17, o102 H]
  simp only [Finset.univ_unique, Finset.sum_singleton, Fin.default_eq_zero, Fin.isValue]
  rfl

theorem s2 (H : ∀ r, (rowR x0 x1 x2 x3 x4 x5 x6 x7 x8 r).Finite) (d : Fin 1024) : val_main_v105 (F := Ideal) x0 x1 x2 x3 x4 x5 x6 x7 x8 (ix1 d) = ∑ r, (rowR x0 x1 x2 x3 x4 x5 x6 x7 x8 r).acc 2 d := by
  pointwise [val_main_v105, val_main_v104, val_main_v103, val_main_cst_27, val_main_cst_28, zero_bits, o102 H]
  simp only [Finset.univ_unique, Finset.sum_singleton, Fin.default_eq_zero, Fin.isValue]
  rfl

theorem s3 (d : Fin 1024) : val_main_v94 (F := Ideal) x0 x1 x2 x3 x4 x5 x6 x7 x8 (ix1 d) = ∑ r, (rowR x0 x1 x2 x3 x4 x5 x6 x7 x8 r).acc 3 d := by
  pointwise [val_main_v94, val_main_v93, val_main_v92, val_main_v91, val_main_cst_23, val_main_cst_24, zero_bits, r88 x0 x1 x2 x3 x4 x5 x6 x7 x8, r33 x0 x1 x2 x3 x4 x5 x6 x7 x8]
  simp only [Finset.univ_unique, Finset.sum_singleton, Fin.default_eq_zero, Fin.isValue]
  rfl

theorem s4 (d : Fin 1024) : val_main_v74 (F := Ideal) x0 x1 x2 x3 x4 x5 x6 x7 x8 (ix1 d) = ∑ r, (rowR x0 x1 x2 x3 x4 x5 x6 x7 x8 r).acc 4 d := by
  pointwise [val_main_v74, val_main_v71, val_main_v70, val_main_v69, val_main_cst_18, val_main_cst_19, zero_bits, r50 x0 x1 x2 x3 x4 x5 x6 x7 x8, r68 x0 x1 x2 x3 x4 x5 x6 x7 x8]
  simp only [Finset.univ_unique, Finset.sum_singleton, Fin.default_eq_zero, Fin.isValue]
  rfl

theorem s5 (d : Fin 1024) (j : S_.Idx) : val_main_v62 (F := Ideal) x0 x1 x2 x3 x4 x5 x6 x7 x8 j = Ideal.ofBits .f32 0x3F000000#32 * ∑ r, (rowR x0 x1 x2 x3 x4 x5 x6 x7 x8 r).acc 5 d * Ideal.ofBits .f32 0x3A800000#32 := by
  pointwise [val_main_v62, val_main_v61, val_main_v60, val_main_v59, val_main_v58, val_main_v55, val_main_cst_11, val_main_cst_12, val_main_cst_13, val_main_cst_14, zero_bits, div_1024, r54 x0 x1 x2 x3 x4 x5 x6 x7 x8]
  rfl

theorem o142 (H : ∀ r, (rowR x0 x1 x2 x3 x4 x5 x6 x7 x8 r).Finite) (i : Fin 8) (d : Fin 1024) : val_main_v142 (F := Ideal) x0 x1 x2 x3 x4 x5 x6 x7 x8 (ix2 i d) = if (i : ℕ) = 5 then Ideal.ofBits .f32 0x3F000000#32 * ∑ r, (rowR x0 x1 x2 x3 x4 x5 x6 x7 x8 r).acc i d * Ideal.ofBits .f32 0x3A800000#32 else ∑ r, (rowR x0 x1 x2 x3 x4 x5 x6 x7 x8 r).acc i d := by
  pointwise [val_main_v142, val_main_v141, val_main_cst_36, val_main_v140, val_main_v139, val_main_v138, val_main_v137, val_main_v136, val_main_v135, val_main_v134, val_main_v133, zero_bits, s0 H, s1 H, s2 H, s3, s4]
  fin_cases i
  · rfl
  · rfl
  · rfl
  · rfl
  · rfl
  · exact s5 d _
  · exact Finset.sum_const_zero.symm
  · exact Finset.sum_const_zero.symm

end Cert.Mlp

end

end
-- ==== Proof.MlpPay.lean ====
module

public import proofs.«01_k».proof.Proof.Gen.Kernel3Ideal.Skeleton
public import proofs.«01_k».proof.Proof.MlpRow

@[expose] public section

set_option maxRecDepth 16384

noncomputable section

open Idealize.ShloMosaic
open Cert.Kernel3Ideal Cert.Kernel3Ideal.Gen Cert.InProj

namespace Cert.Mlp

/-! What the kernel computes on a block of 256 rows, read at an index: `X` the rows, `T` the targets, `N`, `S`, `B`, `G`, `FN` the
gain, scale, shift, gate and last gain, `W` and `V` the two weights. -/

variable (X T : FVec Ideal S256x1024 .f32) (N S B G FN a : FVec Ideal S1x1024 .f32) (W : FVec Ideal S5632x1024 .bf16)
  (V : FVec Ideal S2816x1024 .bf16) (p : Fin 256) (d : Fin 1024) (k : Fin 2816)

/-- Row `p` of the block. -/
def rowK : Row where
  x e := X (ix2 p e)
  t e := T (ix2 p e)
  n e := N (ix2 0 e)
  s e := S (ix2 0 e)
  b e := B (ix2 0 e)
  gt e := G (ix2 0 e)
  fn e := FN (ix2 0 e)
  W d k := W (ix2 k d)
  V k d := V (ix2 k d)

theorem pay7_at : k0_pay7 (F := Ideal) G (ix2 0 d) = G (ix2 0 d) := by
  pointwise [k0_pay7]

theorem pay9_at : k0_pay9 (F := Ideal) X (ix2 p 0) = msq (fun e => X (ix2 p e)) := by
  pointwise [k0_pay9, msq]

theorem pay10_at : k0_pay10 (F := Ideal) X (ix2 p 0) = rinv (fun e => X (ix2 p e)) := by
  pointwise [k0_pay10, pay9_at, rsqrt_msq]

theorem pay11_at : k0_pay11 (F := Ideal) X (ix2 p 0)
    = Ideal.ofBits .f32 0xBF000000#32 * Ideal.div (rinv (fun e => X (ix2 p e))) (msq (fun e => X (ix2 p e))) := by
  pointwise [k0_pay11, pay9_at, pay10_at]

theorem pay12_at : k0_pay12 (F := Ideal) X (ix2 p d) = X (ix2 p d) * rinv (fun e => X (ix2 p e)) := by
  pointwise [k0_pay12, pay10_at]

theorem pay13_at : k0_pay13 (F := Ideal) X N (ix2 p d) = X (ix2 p d) * rinv (fun e => X (ix2 p e)) * N (ix2 0 d) := by
  pointwise [k0_pay13, pay12_at, k0_pay8]

theorem pay14_at : k0_pay14 (F := Ideal) S (ix2 0 d) = 1 + S (ix2 0 d) := by
  pointwise [k0_pay14, one_bits]

theorem pay15_at : k0_pay15 (F := Ideal) X N S B (ix2 p d) = (rowK X T N S B G FN W V p).h d := by
  pointwise [k0_pay15, pay13_at, pay14_at]
  rfl

theorem pay16_at (k : Fin 5632) : k0_pay16 (F := Ideal) X N S B W (ix2 p k) = (rowK X T N S B G FN W V p).gu k := by
  pointwise [k0_pay16, pay15_at X T N S B G FN W V p]
  rfl

theorem pay17_at : k0_pay17 (F := Ideal) X N S B W (ix2 p k) = (rowK X T N S B G FN W V p).g k := by
  pointwise [k0_pay17, pay16_at X T N S B G FN W V p]
  try rfl

theorem pay18_at : k0_pay18 (F := Ideal) X N S B W (ix2 p k) = (rowK X T N S B G FN W V p).u k := by
  pointwise [k0_pay18, pay16_at X T N S B G FN W V p]
  try rfl

theorem pay19_at : k0_pay19 (F := Ideal) (k0_pay17 X N S B W) (ix2 p k) = (rowK X T N S B G FN W V p).sg k := by
  pointwise [k0_pay19, pay17_at X T N S B G FN W V p]
  try rfl

theorem pay20_at : k0_pay20 (F := Ideal) (k0_pay17 X N S B W) (ix2 p k) = (rowK X T N S B G FN W V p).g k * (rowK X T N S B G FN W V p).sg k := by
  pointwise [k0_pay20, pay19_at X T N S B G FN W V p, pay17_at X T N S B G FN W V p]
  try rfl

theorem pay21_at : k0_pay21 (F := Ideal) (k0_pay17 X N S B W) (k0_pay18 X N S B W) (ix2 p k) = (rowK X T N S B G FN W V p).act k := by
  pointwise [k0_pay21, pay20_at X T N S B G FN W V p, pay18_at X T N S B G FN W V p]
  try rfl

theorem pay22_at : k0_pay22 (F := Ideal) (k0_pay17 X N S B W) (k0_pay18 X N S B W) V (ix2 p d) = (rowK X T N S B G FN W V p).mlp d := by
  pointwise [k0_pay22, pay21_at X T N S B G FN W V p]
  try rfl

theorem pay23_at : k0_pay23 (F := Ideal) X (k0_pay7 G) (k0_pay17 X N S B W) (k0_pay18 X N S B W) V (ix2 p d) = (rowK X T N S B G FN W V p).x2 d := by
  pointwise [k0_pay23, pay22_at X T N S B G FN W V p, k0_pay7]
  try rfl

theorem pay25_at : k0_pay25 (F := Ideal) X (k0_pay7 G) (k0_pay17 X N S B W) (k0_pay18 X N S B W) V (ix2 p 0) = msq (rowK X T N S B G FN W V p).x2 := by
  pointwise [k0_pay25, pay23_at X T N S B G FN W V p]
  rfl

theorem pay26_at : k0_pay26 (F := Ideal) X (k0_pay7 G) (k0_pay17 X N S B W) (k0_pay18 X N S B W) V (ix2 p 0) = rinv (rowK X T N S B G FN W V p).x2 := by
  pointwise [k0_pay26, pay25_at X T N S B G FN W V p, rsqrt_msq]

theorem pay27_at : k0_pay27 (F := Ideal) X (k0_pay7 G) (k0_pay17 X N S B W) (k0_pay18 X N S B W) V (ix2 p 0)
    = Ideal.ofBits .f32 0xBF000000#32 * Ideal.div (rinv (rowK X T N S B G FN W V p).x2) (msq (rowK X T N S B G FN W V p).x2) := by
  pointwise [k0_pay27, pay25_at X T N S B G FN W V p, pay26_at X T N S B G FN W V p]

theorem pay28_at : k0_pay28 (F := Ideal) X (k0_pay7 G) (k0_pay17 X N S B W) (k0_pay18 X N S B W) V (ix2 p d) = (rowK X T N S B G FN W V p).x2n d := by
  pointwise [k0_pay28, pay23_at X T N S B G FN W V p, pay26_at X T N S B G FN W V p]
  rfl

theorem pay29_at : k0_pay29 (F := Ideal) X (k0_pay7 G) (k0_pay17 X N S B W) (k0_pay18 X N S B W) V FN T (ix2 p d) = (rowK X T N S B G FN W V p).err d := by
  pointwise [k0_pay29, k0_pay24, pay28_at X T N S B G FN W V p]
  rfl

theorem pay30_at : k0_pay30 (F := Ideal) X (k0_pay7 G) (k0_pay17 X N S B W) (k0_pay18 X N S B W) V FN T (ix2 p d) = Ideal.ofBits .f32 0x40000000#32 * (rowK X T N S B G FN W V p).err d := by
  pointwise [k0_pay30, pay29_at X T N S B G FN W V p]

theorem pay31_at : k0_pay31 (F := Ideal) X (k0_pay7 G) (k0_pay17 X N S B W) (k0_pay18 X N S B W) V FN T (ix2 0 0)
    = (∑ p : Fin 256, ∑ d : Fin 1024, (rowK X T N S B G FN W V p).err d * (rowK X T N S B G FN W V p).err d) * Ideal.ofBits .f32 0x3A000000#32 := by
  pointwise [k0_pay31, pay29_at X T N S B G FN W V]

theorem pay32_at : k0_pay32 (F := Ideal) (ix1 0) = Ideal.ofBits .f32 0x3A000000#32 := by
  pointwise [k0_pay32, one_bits]
  simp only [Finset.univ_unique, Finset.sum_singleton, Fin.default_eq_zero, Fin.isValue]

theorem pay33_at : k0_pay33 (F := Ideal) (k0_pay30 X (k0_pay7 G) (k0_pay17 X N S B W) (k0_pay18 X N S B W) V FN T) k0_pay32 (ix2 p d) = (rowK X T N S B G FN W V p).dy d := by
  pointwise [k0_pay33, pay30_at X T N S B G FN W V p, pay32_at]
  simp only [Finset.univ_unique, Finset.sum_singleton, Fin.default_eq_zero, Fin.isValue]
  rfl

/-- The gradient of the rows before the last norm, as the kernel's body composes it. -/
def dx2K : FVec Ideal S256x1024 .f32 :=
  k0_pay35 (k0_pay23 X (k0_pay7 G) (k0_pay17 X N S B W) (k0_pay18 X N S B W) V) (k0_pay24 FN) (k0_pay26 X (k0_pay7 G) (k0_pay17 X N S B W) (k0_pay18 X N S B W) V) (k0_pay27 X (k0_pay7 G) (k0_pay17 X N S B W) (k0_pay18 X N S B W) V) (k0_pay30 X (k0_pay7 G) (k0_pay17 X N S B W) (k0_pay18 X N S B W) V FN T) k0_pay32

theorem dx2K_at : dx2K X T N S B G FN W V (ix2 p d) = (rowK X T N S B G FN W V p).dx2 d := by
  unfold dx2K
  pointwise [k0_pay35, k0_pay24, pay23_at X T N S B G FN W V p, pay26_at X T N S B G FN W V p, pay27_at X T N S B G FN W V p, pay33_at X T N S B G FN W V p]
  simp only [Finset.univ_unique, Finset.sum_singleton, Fin.default_eq_zero, Fin.isValue]
  rw [pay27_at X T N S B G FN W V p]
  rfl

theorem pay36_at : k0_pay36 (F := Ideal) (k0_pay7 G) (k0_pay23 X (k0_pay7 G) (k0_pay17 X N S B W) (k0_pay18 X N S B W) V) (k0_pay24 FN) (k0_pay26 X (k0_pay7 G) (k0_pay17 X N S B W) (k0_pay18 X N S B W) V) (k0_pay27 X (k0_pay7 G) (k0_pay17 X N S B W) (k0_pay18 X N S B W) V) (k0_pay30 X (k0_pay7 G) (k0_pay17 X N S B W) (k0_pay18 X N S B W) V FN T) k0_pay32 (ix2 p d) = (rowK X T N S B G FN W V p).dmlp d := by
  have h := dx2K_at X T N S B G FN W V p d
  unfold dx2K at h
  pointwise [k0_pay36, h, pay7_at]
  rfl

/-- The gradient of the gate and the up projection, as the kernel's body composes it. -/
def dguK : FVec Ideal S256x5632 .bf16 :=
  k0_pay37 (k0_pay7 G) (k0_pay17 X N S B W) (k0_pay18 X N S B W) (k0_pay19 (k0_pay17 X N S B W)) (k0_pay20 (k0_pay17 X N S B W)) (k0_pay23 X (k0_pay7 G) (k0_pay17 X N S B W) (k0_pay18 X N S B W) V) (k0_pay24 FN) (k0_pay26 X (k0_pay7 G) (k0_pay17 X N S B W) (k0_pay18 X N S B W) V) (k0_pay27 X (k0_pay7 G) (k0_pay17 X N S B W) (k0_pay18 X N S B W) V) (k0_pay30 X (k0_pay7 G) (k0_pay17 X N S B W) (k0_pay18 X N S B W) V FN T) k0_pay32 V

theorem dguK_at (k : Fin 5632) : dguK X T N S B G FN W V (ix2 p k) = (rowK X T N S B G FN W V p).dgu k := by
  unfold dguK
  rw [Row.dgu]
  pointwise [k0_pay37, pay36_at X T N S B G FN W V p, pay17_at X T N S B G FN W V p, pay18_at X T N S B G FN W V p, pay19_at X T N S B G FN W V p, pay20_at X T N S B G FN W V p, one_bits]
  rfl

/-- The gradient of the norm's output. -/
def dhK : FVec Ideal S256x1024 .f32 :=
  k0_pay38 (k0_pay7 G) (k0_pay17 X N S B W) (k0_pay18 X N S B W) (k0_pay19 (k0_pay17 X N S B W)) (k0_pay20 (k0_pay17 X N S B W)) (k0_pay23 X (k0_pay7 G) (k0_pay17 X N S B W) (k0_pay18 X N S B W) V) (k0_pay24 FN) (k0_pay26 X (k0_pay7 G) (k0_pay17 X N S B W) (k0_pay18 X N S B W) V) (k0_pay27 X (k0_pay7 G) (k0_pay17 X N S B W) (k0_pay18 X N S B W) V) (k0_pay30 X (k0_pay7 G) (k0_pay17 X N S B W) (k0_pay18 X N S B W) V FN T) k0_pay32 V W

theorem dhK_at : dhK X T N S B G FN W V (ix2 p d) = (rowK X T N S B G FN W V p).dh d := by
  have h := dguK_at X T N S B G FN W V p
  unfold dguK at h
  unfold dhK
  pointwise [k0_pay38, h]
  rfl

theorem pay41_at : k0_pay41 (F := Ideal) (k0_pay14 S) (dhK X T N S B G FN W V) (ix2 p d) = (rowK X T N S B G FN W V p).dhs d := by
  pointwise [k0_pay41, pay14_at, dhK_at X T N S B G FN W V p]
  rfl

theorem pay42_at : k0_pay42 (F := Ideal) X (k0_pay8 N) (k0_pay10 X) (k0_pay11 X) (k0_pay14 S) (dx2K X T N S B G FN W V)
    (dhK X T N S B G FN W V) (ix2 p d) = (rowK X T N S B G FN W V p).dx d := by
  pointwise [k0_pay42, k0_pay8, pay41_at X T N S B G FN W V p, pay10_at, dx2K_at X T N S B G FN W V p]
  simp only [Finset.univ_unique, Finset.sum_singleton, Fin.default_eq_zero, Fin.isValue]
  rw [pay11_at]
  rfl

theorem pay43_at : k0_pay43 (F := Ideal) (k0_pay12 X) (k0_pay14 S) (dhK X T N S B G FN W V) a (ix2 0 d)
    = a (ix2 0 d) + ∑ p : Fin 256, (rowK X T N S B G FN W V p).acc 0 d := by
  pointwise [k0_pay43, pay41_at X T N S B G FN W V, pay12_at]
  rfl

theorem pay1_at : k0_pay1 (F := Ideal) (k0_pay40 (k0_pay13 X N) (dhK X T N S B G FN W V)) a (ix2 0 d)
    = a (ix2 0 d) + ∑ p : Fin 256, (rowK X T N S B G FN W V p).acc 1 d := by
  pointwise [k0_pay1, k0_pay40, pay13_at, dhK_at X T N S B G FN W V]
  rfl

theorem pay2_at : k0_pay2 (F := Ideal) (k0_pay39 (dhK X T N S B G FN W V)) a (ix2 0 d)
    = a (ix2 0 d) + ∑ p : Fin 256, (rowK X T N S B G FN W V p).acc 2 d := by
  pointwise [k0_pay2, k0_pay39, dhK_at X T N S B G FN W V]
  rfl

theorem pay3_at : k0_pay3 (F := Ideal) (k0_pay22 (k0_pay17 X N S B W) (k0_pay18 X N S B W) V) (dx2K X T N S B G FN W V) a (ix2 0 d)
    = a (ix2 0 d) + ∑ p : Fin 256, (rowK X T N S B G FN W V p).acc 3 d := by
  pointwise [k0_pay3, pay22_at X T N S B G FN W V, dx2K_at X T N S B G FN W V]
  rfl

theorem pay4_at : k0_pay4 (F := Ideal) (k0_pay34 (k0_pay28 X (k0_pay7 G) (k0_pay17 X N S B W) (k0_pay18 X N S B W) V) (k0_pay30 X (k0_pay7 G) (k0_pay17 X N S B W) (k0_pay18 X N S B W) V FN T) k0_pay32) a (ix2 0 d)
    = a (ix2 0 d) + ∑ p : Fin 256, (rowK X T N S B G FN W V p).acc 4 d := by
  pointwise [k0_pay4, k0_pay34, pay28_at X T N S B G FN W V, pay33_at X T N S B G FN W V]
  rfl

theorem pay5_at : k0_pay5 (F := Ideal) (k0_pay31 X (k0_pay7 G) (k0_pay17 X N S B W) (k0_pay18 X N S B W) V FN T) a (ix2 0 d)
    = a (ix2 0 d) + (∑ p : Fin 256, (rowK X T N S B G FN W V p).acc 5 d) * Ideal.ofBits .f32 0x3A000000#32 := by
  pointwise [k0_pay5, pay31_at X T N S B G FN W V]
  rfl

end Cert.Mlp

end

end
-- ==== Proof.RowStore.lean ====
module

public import Idealize.ShloMosaic.Lib.Pointwise
public import Idealize.ShloMosaic.Lib.Pipeline.ValueKit
public import Idealize.ShloMosaic.Lib.WritesUnit
public import Idealize.ShloMosaic.Lib.Pipeline.ReadBack

@[expose] public section

noncomputable section

open Idealize.ShloMosaic

namespace Cert.RowStore

/-! Single rows stored over a block of eight rows, for any program's block. -/

variable {sig : RefSig} (v : View sig .tc .vmem (⟨2, ![8, 1024]⟩ : Shape) .f32) (L : List (View.Piece (Elt Ideal) (⟨2, ![8, 1024]⟩ : Shape) .f32))

/-- Row `q` stored over earlier stores: the row, and the earlier stores elsewhere. -/
theorem row_cons (f : v.ty.Contents (Elt Ideal)) (q : ℕ) (b) (w : FVec Ideal (⟨2, ![1, 1024]⟩ : Shape) .f32) (r : Fin 8) (d : Fin 1024) :
    v.read (Elt Ideal) (v.writes (Elt Ideal) f (⟨Rect.unit (s := (⟨2, ![8, 1024]⟩ : Shape)) ![q, 0] ![1, 1024] b, w⟩ :: L)) (ix2 r d)
      = if (r : ℕ) = q then w (ix2 0 d) else v.read (Elt Ideal) (v.writes (Elt Ideal) f L) (ix2 r d) := by
  by_cases h : (r : ℕ) = q
  · rw [if_pos h, View.read_writes_cons_rows_of_mem v f b w L (ix2 r d) (ix2 (0 : Fin 1) d) rfl (by show (r : ℕ) = q + 0; omega) rfl]
  · rw [if_neg h, View.read_writes_cons_rows_of_not_mem v f b w L (ix2 r d) (W := 1) rfl rfl (by
      show (r : ℕ) < q ∨ q + 1 ≤ (r : ℕ); omega)]

/-- A load of row `q` after stores. -/
theorem load_row (q : ℕ) (hq : q < 8) (b : ∀ a : Fin 2, ![q, 0] a + ![1, 1024] a ≤ (⟨2, ![8, 1024]⟩ : Shape).size a) (d : Fin 1024) :
    v.readCov (Val := Elt Ideal) L (Rect.unit (s := (⟨2, ![8, 1024]⟩ : Shape)) ![q, 0] ![1, 1024] b).toLoadRect (ix2 (0 : Fin 1) d)
      = v.read (Elt Ideal) (v.writes (Elt Ideal) v.junk L) (ix2 (⟨q, hq⟩ : Fin 8) d) := by
  rw [View.readCov_eq_canon', View.read_writes_junk_eq_canon]
  refine congrArg (View.canon L) (funext fun a => Fin.ext ?_)
  refine (Rect.idx_unit_val (s := (⟨2, ![8, 1024]⟩ : Shape)) ![q, 0] ![1, 1024] b (ix2 (0 : Fin 1) d) a).trans ?_
  fin_cases a
  · show q + 0 = q; omega
  · show 0 + (d : ℕ) = d; omega

end Cert.RowStore

end

end
-- ==== Proof.MlpKer.lean ====
module

public import proofs.«01_k».proof.Proof.Gen.Kernel3Ideal.Value
public import proofs.«01_k».proof.Proof.MlpPay
public import proofs.«01_k».proof.Proof.RowStore
public import Idealize.ShloMosaic.Lib.Pointwise
public import Idealize.ShloMosaic.Lib.Pipeline.ValueKit
public import Idealize.ShloMosaic.Lib.Claim
public import Idealize.ShloMosaic.Lib.WritesUnit
public import Idealize.ShloMosaic.Lib.Pipeline.ReadBack
public import Idealize.ShloMosaic.Lib.ValueLayout
public import Idealize.ShloMosaic.Lib.ViewIndex

@[expose] public section

set_option maxRecDepth 16384

noncomputable section

open Idealize.ShloMosaic Idealize.ShloMosaic.TcCoe Idealize.SL.Sem
open Idealize.ShloMosaic.Tactic
open Idealize.ShloMosaic.Pipeline (Dat)
open Cert.Kernel3Ideal Cert.Kernel3Ideal.Gen Cert.InProj Cert.RowStore

namespace Cert.Mlp

/-! What the kernel's seven arguments and its two weights hold, and what it leaves in its results. -/

variable (m : (ℓ : Loc nD τ sig) → Buf (Elt Ideal) ℓ)

theorem idx_val : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] :=
  (by decide +kernel : ∀ t : Fin grid0.N, _)

/-- A grid position as one of the 32 blocks. -/
def pt (t : Fin cfg0.N) : Fin 32 := ⟨t.val, lt_of_lt_of_eq t.isLt N_0⟩

/-- Row `p` of block `t`. -/
def at256 (t : Fin 32) (p : Fin 256) : Fin 8192 := ⟨t.val * 256 + p.val, by omega⟩

theorem ix2_ext {d : Fin 2 → ℕ} {x y : (⟨2, d⟩ : Shape).Idx} (h0 : (x 0 : ℕ) = y 0) (h1 : (x 1 : ℕ) = y 1) : x = y :=
  funext fun a => by
    match a with
    | ⟨0, _⟩ => exact Fin.ext h0
    | ⟨1, _⟩ => exact Fin.ext h1

theorem rowCast (x : FVec Ideal S1024 .f32) (i0 : Fin 1) (i1 : Fin 1024) :
    shapeCast S1x1024 x shapeCasts_S1024_S1x1024 (ix2 i0 i1) = x (ix1 i1) := by
  pointwise []

theorem V_v5 (c : Dev nD) : V m c main_v5 = shapeCast S1x1024 (show FVec Ideal S1024 .f32 from m ((c : Thread nD τ).loc main_arg2))
    shapeCasts_S1024_S1x1024 := by
  unfold V
  simp only [List.flatten_cons, List.flatten_nil, List.append_nil, List.cons_append, List.nil_append]
  after_results
  rfl

theorem V_v6 (c : Dev nD) : V m c main_v6 = shapeCast S1x1024 (show FVec Ideal S1024 .f32 from m ((c : Thread nD τ).loc main_arg3))
    shapeCasts_S1024_S1x1024 := by
  unfold V
  simp only [List.flatten_cons, List.flatten_nil, List.append_nil, List.cons_append, List.nil_append]
  after_results
  rfl

theorem V_v7 (c : Dev nD) : V m c main_v7 = shapeCast S1x1024 (show FVec Ideal S1024 .f32 from m ((c : Thread nD τ).loc main_arg4))
    shapeCasts_S1024_S1x1024 := by
  unfold V
  simp only [List.flatten_cons, List.flatten_nil, List.append_nil, List.cons_append, List.nil_append]
  after_results
  rfl

theorem V_v8 (c : Dev nD) : V m c main_v8 = shapeCast S1x1024 (show FVec Ideal S1024 .f32 from m ((c : Thread nD τ).loc main_arg5))
    shapeCasts_S1024_S1x1024 := by
  unfold V
  simp only [List.flatten_cons, List.flatten_nil, List.append_nil, List.cons_append, List.nil_append]
  after_results
  rfl

theorem V_v9 (c : Dev nD) : V m c main_v9 = shapeCast S1x1024 (show FVec Ideal S1024 .f32 from m ((c : Thread nD τ).loc main_arg6))
    shapeCasts_S1024_S1x1024 := by
  unfold V
  simp only [List.flatten_cons, List.flatten_nil, List.append_nil, List.cons_append, List.nil_append]
  after_results
  rfl

theorem V_v2 (c : Dev nD) : V m c main_v2 = shapeCast S8x704x1024 (truncf .bf16 (transpose S5632x1024 [1, 0]
    (show FVec Ideal S1024x5632 .f32 from m ((c : Thread nD τ).loc main_arg7)) transposes_S1024x5632_S5632x1024_1_0) bitsLt_bf16_f32)
    shapeCasts_S5632x1024_S8x704x1024 := by
  unfold V
  simp only [List.flatten_cons, List.flatten_nil, List.append_nil, List.cons_append, List.nil_append]
  after_results
  rfl

theorem V_v4 (c : Dev nD) : V m c main_v4 = shapeCast S8x352x1024 (truncf (F := Ideal) .bf16
    (show FVec Ideal S2816x1024 .f32 from m ((c : Thread nD τ).loc main_arg8)) bitsLt_bf16_f32) shapeCasts_S2816x1024_S8x352x1024 := by
  unfold V
  simp only [List.flatten_cons, List.flatten_nil, List.append_nil, List.cons_append, List.nil_append]
  after_results
  rfl

theorem v2_at (c : Dev nD) (j : Fin 8) (r : Fin 704) (d : Fin 1024) :
    (show FVec Ideal S8x704x1024 .bf16 from V m c main_v2) (ix3 j r d)
      = m ((c : Thread nD τ).loc main_arg7) (ix2 d ⟨j.val * 704 + r.val, by omega⟩) := by
  rw [V_v2]
  pointwise []

theorem v4_at (c : Dev nD) (j : Fin 8) (r : Fin 352) (d : Fin 1024) :
    (show FVec Ideal S8x352x1024 .bf16 from V m c main_v4) (ix3 j r d)
      = m ((c : Thread nD τ).loc main_arg8) (ix2 ⟨j.val * 352 + r.val, by omega⟩ d) := by
  rw [V_v4]
  pointwise []

/-- The two weights as the kernel keeps them. -/
def WT (c : Dev nD) : FVec Ideal S5632x1024 .bf16 := fun i => m ((c : Thread nD τ).loc main_arg7) (ix2 (i 1) (i 0))

def WD (c : Dev nD) : FVec Ideal S2816x1024 .bf16 := fun i => m ((c : Thread nD τ).loc main_arg8) i

theorem numW : S704x1024.numel = (⟨3, ![1, 704, 1024]⟩ : Shape).numel := by decide +kernel

theorem numV : S352x1024.numel = (⟨3, ![1, 352, 1024]⟩ : Shape).numel := by decide +kernel

/-- Copy `j` of the eight that fill the first weight, and of the eight that fill the second. -/
abbrev pcW (c : Dev nD) (j : ℕ) (b : ∀ a : Fin 2, ![704 * j, 0] a + ![704, 1024] a ≤ S5632x1024.size a)
    (b' : ∀ a : Fin 3, ![j, 0, 0] a + ![1, 704, 1024] a ≤ S8x704x1024.size a) : View.Piece (Elt Ideal) S5632x1024 .bf16 :=
  ⟨Rect.unit ![704 * j, 0] ![704, 1024] b, ReadAs.same.apply (View.read (Elt Ideal)
    (((View.whole main_v2).slice (Rect.unit ![j, 0, 0] ![1, 704, 1024] b')).reshape S704x1024 numW) (V m c main_v2))⟩

abbrev pcV (c : Dev nD) (j : ℕ) (b : ∀ a : Fin 2, ![352 * j, 0] a + ![352, 1024] a ≤ S2816x1024.size a)
    (b' : ∀ a : Fin 3, ![j, 0, 0] a + ![1, 352, 1024] a ≤ S8x352x1024.size a) : View.Piece (Elt Ideal) S2816x1024 .bf16 :=
  ⟨Rect.unit ![352 * j, 0] ![352, 1024] b, ReadAs.same.apply (View.read (Elt Ideal)
    (((View.whole main_v4).slice (Rect.unit ![j, 0, 0] ![1, 352, 1024] b')).reshape S352x1024 numV) (V m c main_v4))⟩

def piecesW (c : Dev nD) : List (View.Piece (Elt Ideal) S5632x1024 .bf16) :=
  [pcW m c 7 (by decide) (by decide), pcW m c 6 (by decide) (by decide), pcW m c 5 (by decide) (by decide), pcW m c 4 (by decide) (by decide),
    pcW m c 3 (by decide) (by decide), pcW m c 2 (by decide) (by decide), pcW m c 1 (by decide) (by decide), pcW m c 0 (by decide) (by decide)]

def piecesV (c : Dev nD) : List (View.Piece (Elt Ideal) S2816x1024 .bf16) :=
  [pcV m c 7 (by decide) (by decide), pcV m c 6 (by decide) (by decide), pcV m c 5 (by decide) (by decide), pcV m c 4 (by decide) (by decide),
    pcV m c 3 (by decide) (by decide), pcV m c 2 (by decide) (by decide), pcV m c 1 (by decide) (by decide), pcV m c 0 (by decide) (by decide)]

theorem pcW_at (c : Dev nD) (j : ℕ) (hj : j < 8) (b b') (x : (pcW m c j b b').1.shape.Idx) :
    (pcW m c j b b').2 x = WT m c ((pcW m c j b b').1.emb x) := by
  change S704x1024.Idx at x
  idx_vars x
  refine Eq.trans (b := (show FVec Ideal S8x704x1024 .bf16 from V m c main_v2) (ix3 ⟨j, hj⟩ x0 x1)) ?_ ?_
  · show V m c main_v2 ((Rect.unit ![j, 0, 0] ![1, 704, 1024] b').emb (Shape.reshapeEquiv _ (ix2 x0 x1))) = _
    rw [show (Shape.reshapeEquiv numW) (ix2 x0 x1) = ix3 (0 : Fin 1) x0 x1 from ValueIdx.reshapeEquiv_ix2_1ab _ _ _]
    refine congrArg (V m c main_v2) (Shape.idx3_ext ?_ ?_ ?_) <;> simp
  · rw [v2_at]
    unfold WT
    refine congrArg (m ((c : Thread nD τ).loc main_arg7)) (ix2_ext ?_ ?_) <;> simp <;> omega

theorem pcV_at (c : Dev nD) (j : ℕ) (hj : j < 8) (b b') (x : (pcV m c j b b').1.shape.Idx) :
    (pcV m c j b b').2 x = WD m c ((pcV m c j b b').1.emb x) := by
  change S352x1024.Idx at x
  idx_vars x
  refine Eq.trans (b := (show FVec Ideal S8x352x1024 .bf16 from V m c main_v4) (ix3 ⟨j, hj⟩ x0 x1)) ?_ ?_
  · show V m c main_v4 ((Rect.unit ![j, 0, 0] ![1, 352, 1024] b').emb (Shape.reshapeEquiv _ (ix2 x0 x1))) = _
    rw [show (Shape.reshapeEquiv numV) (ix2 x0 x1) = ix3 (0 : Fin 1) x0 x1 from ValueIdx.reshapeEquiv_ix2_1ab _ _ _]
    refine congrArg (V m c main_v4) (Shape.idx3_ext ?_ ?_ ?_) <;> simp
  · rw [v4_at]
    unfold WD
    refine congrArg (m ((c : Thread nD τ).loc main_arg8)) (ix2_ext ?_ ?_) <;> simp <;> omega

theorem canonW (c : Dev nD) : View.canon (piecesW m c) = WT m c := by
  funext y
  refine View.canon_apply_of_pieces (WT m c) _ (View.PiecesOf.mem ?_) y (View.cover_of_tiledL (piecesW m c) S704x1024.size (by sl_kernel_rfl) y)
  exact ⟨pcW_at m c 7 (by decide) _ _, pcW_at m c 6 (by decide) _ _, pcW_at m c 5 (by decide) _ _, pcW_at m c 4 (by decide) _ _,
    pcW_at m c 3 (by decide) _ _, pcW_at m c 2 (by decide) _ _, pcW_at m c 1 (by decide) _ _, pcW_at m c 0 (by decide) _ _, trivial⟩

theorem canonV (c : Dev nD) : View.canon (piecesV m c) = WD m c := by
  funext y
  refine View.canon_apply_of_pieces (WD m c) _ (View.PiecesOf.mem ?_) y (View.cover_of_tiledL (piecesV m c) S352x1024.size (by sl_kernel_rfl) y)
  exact ⟨pcV_at m c 7 (by decide) _ _, pcV_at m c 6 (by decide) _ _, pcV_at m c 5 (by decide) _ _, pcV_at m c 4 (by decide) _ _,
    pcV_at m c 3 (by decide) _ _, pcV_at m c 2 (by decide) _ _, pcV_at m c 1 (by decide) _ _, pcV_at m c 0 (by decide) _ _, trivial⟩

/-- A load of the whole of a weight after its eight copies. -/
theorem covW (c : Dev nD) {L : List (View.Piece (Elt Ideal) S5632x1024 .bf16)} {b} (h : L = piecesW m c) :
    (View.whole cc0_scratch0).readCov (Val := Elt Ideal) L (Rect.unit (s := S5632x1024) ![0, 0] ![5632, 1024] b).toLoadRect = WT m c := by
  rw [View.readCov_eq_canon', h, canonW]
  funext x
  refine congrArg (WT m c) (ix2_ext ?_ ?_) <;> simp

theorem covV (c : Dev nD) {L : List (View.Piece (Elt Ideal) S2816x1024 .bf16)} {b} (h : L = piecesV m c) :
    (View.whole cc0_scratch1).readCov (Val := Elt Ideal) L (Rect.unit (s := S2816x1024) ![0, 0] ![2816, 1024] b).toLoadRect = WD m c := by
  rw [View.readCov_eq_canon', h, canonV]
  funext x
  refine congrArg (WD m c) (ix2_ext ?_ ?_) <;> simp

/-- The two weights after a point. -/
theorem scr_A (c : Dev nD) (t : Fin cfg0.N) (h0 : t.val % 32 = 0) :
    (outsAt0 m c t.val t.isLt).2.2.2.2.2.2.1 = WT m c ∧ (outsAt0 m c t.val t.isLt).2.2.2.2.2.2.2 = WD m c := by
  rw [outsAt0_A m c t h0]; dsimp only; frame_out
  exact ⟨canonW m c, canonV m c⟩

theorem scr (c : Dev nD) : ∀ (n : ℕ) (hn : n < cfg0.N),
    (outsAt0 m c n hn).2.2.2.2.2.2.1 = WT m c ∧ (outsAt0 m c n hn).2.2.2.2.2.2.2 = WD m c
  | 0, hn => scr_A m c ⟨0, hn⟩ rfl
  | n + 1, hn => by
    have hN : cfg0.N = 32 := N_0
    have h0 : ¬(n + 1) % 32 = 0 := by omega
    rw [outsAt0_B m c ⟨n + 1, hn⟩ h0]
    exact scr c n (Nat.lt_of_succ_lt hn)

/-- Row `r` of the launched arrays. -/
def rowM (c : Dev nD) (r : Fin 8192) : Row where
  x e := (show FVec Ideal S8192x1024 .f32 from m ((c : Thread nD τ).loc main_arg0)) (ix2 r e)
  t e := (show FVec Ideal S8192x1024 .f32 from m ((c : Thread nD τ).loc main_arg1)) (ix2 r e)
  n e := (show FVec Ideal S1024 .f32 from m ((c : Thread nD τ).loc main_arg2)) (ix1 e)
  s e := (show FVec Ideal S1024 .f32 from m ((c : Thread nD τ).loc main_arg3)) (ix1 e)
  b e := (show FVec Ideal S1024 .f32 from m ((c : Thread nD τ).loc main_arg4)) (ix1 e)
  gt e := (show FVec Ideal S1024 .f32 from m ((c : Thread nD τ).loc main_arg5)) (ix1 e)
  fn e := (show FVec Ideal S1024 .f32 from m ((c : Thread nD τ).loc main_arg6)) (ix1 e)
  W d k := (show FVec Ideal S1024x5632 .f32 from m ((c : Thread nD τ).loc main_arg7)) (ix2 d k)
  V k d := (show FVec Ideal S2816x1024 .f32 from m ((c : Thread nD τ).loc main_arg8)) (ix2 k d)

section
variable (c : Dev nD) (t : Fin cfg0.N)

theorem blk0 (p : Fin 256) (e : Fin 1024) : (show FVec Ideal S256x1024 .f32 from iblk m c 0 t) (ix2 p e)
    = (show FVec Ideal S8192x1024 .f32 from m ((c : Thread nD τ).loc main_arg0)) (ix2 (at256 (pt t) p) e) := by
  simp only [iblk]
  rw [show V m c (Pipeline.arrRef spec0 0) = _ from V_main_arg0 m c]
  blk_ext [idx_val t, at256, pt]

theorem blk1 (p : Fin 256) (e : Fin 1024) : (show FVec Ideal S256x1024 .f32 from iblk m c 1 t) (ix2 p e)
    = (show FVec Ideal S8192x1024 .f32 from m ((c : Thread nD τ).loc main_arg1)) (ix2 (at256 (pt t) p) e) := by
  simp only [iblk]
  rw [show V m c (Pipeline.arrRef spec0 1) = _ from V_main_arg1 m c]
  blk_ext [idx_val t, at256, pt]

theorem blk2 (e : Fin 1024) : (show FVec Ideal S1x1024 .f32 from iblk m c 2 t) (ix2 0 e)
    = (show FVec Ideal S1024 .f32 from m ((c : Thread nD τ).loc main_arg2)) (ix1 e) := by
  refine Eq.trans ?_ ((congrFun (V_v5 m c) (ix2 0 e)).trans (rowCast _ 0 e))
  refine congrFun (f := (show FVec Ideal S1x1024 .f32 from iblk m c 2 t)) ?_ _
  blk_ext! [iblk, idx_val t]

theorem blk3 (e : Fin 1024) : (show FVec Ideal S1x1024 .f32 from iblk m c 3 t) (ix2 0 e)
    = (show FVec Ideal S1024 .f32 from m ((c : Thread nD τ).loc main_arg3)) (ix1 e) := by
  refine Eq.trans ?_ ((congrFun (V_v6 m c) (ix2 0 e)).trans (rowCast _ 0 e))
  refine congrFun (f := (show FVec Ideal S1x1024 .f32 from iblk m c 3 t)) ?_ _
  blk_ext! [iblk, idx_val t]

theorem blk4 (e : Fin 1024) : (show FVec Ideal S1x1024 .f32 from iblk m c 4 t) (ix2 0 e)
    = (show FVec Ideal S1024 .f32 from m ((c : Thread nD τ).loc main_arg4)) (ix1 e) := by
  refine Eq.trans ?_ ((congrFun (V_v7 m c) (ix2 0 e)).trans (rowCast _ 0 e))
  refine congrFun (f := (show FVec Ideal S1x1024 .f32 from iblk m c 4 t)) ?_ _
  blk_ext! [iblk, idx_val t]

theorem blk5 (e : Fin 1024) : (show FVec Ideal S1x1024 .f32 from iblk m c 5 t) (ix2 0 e)
    = (show FVec Ideal S1024 .f32 from m ((c : Thread nD τ).loc main_arg5)) (ix1 e) := by
  refine Eq.trans ?_ ((congrFun (V_v8 m c) (ix2 0 e)).trans (rowCast _ 0 e))
  refine congrFun (f := (show FVec Ideal S1x1024 .f32 from iblk m c 5 t)) ?_ _
  blk_ext! [iblk, idx_val t]

theorem blk6 (e : Fin 1024) : (show FVec Ideal S1x1024 .f32 from iblk m c 6 t) (ix2 0 e)
    = (show FVec Ideal S1024 .f32 from m ((c : Thread nD τ).loc main_arg6)) (ix1 e) := by
  refine Eq.trans ?_ ((congrFun (V_v9 m c) (ix2 0 e)).trans (rowCast _ 0 e))
  refine congrFun (f := (show FVec Ideal S1x1024 .f32 from iblk m c 6 t)) ?_ _
  blk_ext! [iblk, idx_val t]

/-- A row of the block is a row of the launched arrays. -/
theorem rowK_eq (p : Fin 256) : rowK (iblk m c 0 t) (iblk m c 1 t) (iblk m c 2 t) (iblk m c 3 t) (iblk m c 4 t) (iblk m c 5 t) (iblk m c 6 t)
    (WT m c) (WD m c) p = rowM m c (at256 (pt t) p) := by
  unfold rowK rowM
  congr 1
  · funext e; exact blk0 m c t p e
  · funext e; exact blk1 m c t p e
  · funext e; exact blk2 m c t e
  · funext e; exact blk3 m c t e
  · funext e; exact blk4 m c t e
  · funext e; exact blk5 m c t e
  · funext e; exact blk6 m c t e

/-- What block `t` adds to row `r` of the row accumulator. -/
def accT (t : Fin 32) (r : Fin 8) (d : Fin 1024) : EReal :=
  if (r : ℕ) = 5 then (∑ p : Fin 256, (rowM m c (at256 t p)).acc r d) * Ideal.ofBits .f32 0x3A000000#32
  else ∑ p : Fin 256, (rowM m c (at256 t p)).acc r d

theorem acc0_tile (a : FVec Ideal S1x1024 .f32) (d : Fin 1024) :
    k0_pay43 (F := Ideal) (k0_pay12 (iblk m c 0 t)) (k0_pay14 (iblk m c 3 t)) (dhK (iblk m c 0 t) (iblk m c 1 t) (iblk m c 2 t) (iblk m c 3 t) (iblk m c 4 t) (iblk m c 5 t) (iblk m c 6 t) (WT m c) (WD m c)) a (ix2 0 d)
      = a (ix2 0 d) + accT m c (pt t) 0 d := by
  refine (pay43_at (iblk m c 0 t) (iblk m c 1 t) (iblk m c 2 t) (iblk m c 3 t) (iblk m c 4 t) (iblk m c 5 t) (iblk m c 6 t) a (WT m c) (WD m c) d).trans ?_
  simp only [rowK_eq]
  rfl

theorem acc1_tile (a : FVec Ideal S1x1024 .f32) (d : Fin 1024) :
    k0_pay1 (F := Ideal) (k0_pay40 (k0_pay13 (iblk m c 0 t) (iblk m c 2 t)) (dhK (iblk m c 0 t) (iblk m c 1 t) (iblk m c 2 t) (iblk m c 3 t) (iblk m c 4 t) (iblk m c 5 t) (iblk m c 6 t) (WT m c) (WD m c))) a (ix2 0 d)
      = a (ix2 0 d) + accT m c (pt t) 1 d := by
  refine (pay1_at (iblk m c 0 t) (iblk m c 1 t) (iblk m c 2 t) (iblk m c 3 t) (iblk m c 4 t) (iblk m c 5 t) (iblk m c 6 t) a (WT m c) (WD m c) d).trans ?_
  simp only [rowK_eq]
  rfl

theorem acc2_tile (a : FVec Ideal S1x1024 .f32) (d : Fin 1024) :
    k0_pay2 (F := Ideal) (k0_pay39 (dhK (iblk m c 0 t) (iblk m c 1 t) (iblk m c 2 t) (iblk m c 3 t) (iblk m c 4 t) (iblk m c 5 t) (iblk m c 6 t) (WT m c) (WD m c))) a (ix2 0 d)
      = a (ix2 0 d) + accT m c (pt t) 2 d := by
  refine (pay2_at (iblk m c 0 t) (iblk m c 1 t) (iblk m c 2 t) (iblk m c 3 t) (iblk m c 4 t) (iblk m c 5 t) (iblk m c 6 t) a (WT m c) (WD m c) d).trans ?_
  simp only [rowK_eq]
  rfl

theorem acc3_tile (a : FVec Ideal S1x1024 .f32) (d : Fin 1024) :
    k0_pay3 (F := Ideal) (k0_pay22 (k0_pay17 (iblk m c 0 t) (iblk m c 2 t) (iblk m c 3 t) (iblk m c 4 t) (WT m c)) (k0_pay18 (iblk m c 0 t) (iblk m c 2 t) (iblk m c 3 t) (iblk m c 4 t) (WT m c)) (WD m c)) (dx2K (iblk m c 0 t) (iblk m c 1 t) (iblk m c 2 t) (iblk m c 3 t) (iblk m c 4 t) (iblk m c 5 t) (iblk m c 6 t) (WT m c) (WD m c)) a (ix2 0 d)
      = a (ix2 0 d) + accT m c (pt t) 3 d := by
  refine (pay3_at (iblk m c 0 t) (iblk m c 1 t) (iblk m c 2 t) (iblk m c 3 t) (iblk m c 4 t) (iblk m c 5 t) (iblk m c 6 t) a (WT m c) (WD m c) d).trans ?_
  simp only [rowK_eq]
  rfl

theorem acc4_tile (a : FVec Ideal S1x1024 .f32) (d : Fin 1024) :
    k0_pay4 (F := Ideal) (k0_pay34 (k0_pay28 (iblk m c 0 t) (k0_pay7 (iblk m c 5 t)) (k0_pay17 (iblk m c 0 t) (iblk m c 2 t) (iblk m c 3 t) (iblk m c 4 t) (WT m c)) (k0_pay18 (iblk m c 0 t) (iblk m c 2 t) (iblk m c 3 t) (iblk m c 4 t) (WT m c)) (WD m c)) (k0_pay30 (iblk m c 0 t) (k0_pay7 (iblk m c 5 t)) (k0_pay17 (iblk m c 0 t) (iblk m c 2 t) (iblk m c 3 t) (iblk m c 4 t) (WT m c)) (k0_pay18 (iblk m c 0 t) (iblk m c 2 t) (iblk m c 3 t) (iblk m c 4 t) (WT m c)) (WD m c) (iblk m c 6 t) (iblk m c 1 t)) k0_pay32) a (ix2 0 d)
      = a (ix2 0 d) + accT m c (pt t) 4 d := by
  refine (pay4_at (iblk m c 0 t) (iblk m c 1 t) (iblk m c 2 t) (iblk m c 3 t) (iblk m c 4 t) (iblk m c 5 t) (iblk m c 6 t) a (WT m c) (WD m c) d).trans ?_
  simp only [rowK_eq]
  rfl

theorem acc5_tile (a : FVec Ideal S1x1024 .f32) (d : Fin 1024) :
    k0_pay5 (F := Ideal) (k0_pay31 (iblk m c 0 t) (k0_pay7 (iblk m c 5 t)) (k0_pay17 (iblk m c 0 t) (iblk m c 2 t) (iblk m c 3 t) (iblk m c 4 t) (WT m c)) (k0_pay18 (iblk m c 0 t) (iblk m c 2 t) (iblk m c 3 t) (iblk m c 4 t) (WT m c)) (WD m c) (iblk m c 6 t) (iblk m c 1 t)) a (ix2 0 d)
      = a (ix2 0 d) + accT m c (pt t) 5 d := by
  refine (pay5_at (iblk m c 0 t) (iblk m c 1 t) (iblk m c 2 t) (iblk m c 3 t) (iblk m c 4 t) (iblk m c 5 t) (iblk m c 6 t) a (WT m c) (WD m c) d).trans ?_
  simp only [rowK_eq]
  rfl

end

/-- The two weights at the start of a later point. -/
theorem scr_prev (c : Dev nD) (t : Fin cfg0.N) :
    (outsAt0 m c (t.val - 1) (Nat.lt_of_le_of_lt (Nat.sub_le _ _) t.isLt)).2.2.2.2.2.2.1 = WT m c
      ∧ (outsAt0 m c (t.val - 1) (Nat.lt_of_le_of_lt (Nat.sub_le _ _) t.isLt)).2.2.2.2.2.2.2 = WD m c :=
  scr m c _ _

/-- The gradient of the rows. -/
def G7 (c : Dev nD) : FVec Ideal S8192x1024 .f32 := fun i => (rowM m c (i 0)).dx (i 1)

def B7 (c : Dev nD) (t : Fin 32) : FVec Ideal S256x1024 .f32 := fun i => G7 m c (ix2 (at256 t (i 0)) (i 1))

theorem outs7 (c : Dev nD) (t : Fin cfg0.N) : (outsAt0 m c t.val t.isLt).1 = B7 m c (pt t) := by
  by_cases h0 : t.val % 32 = 0
  · rw [outsAt0_A m c t h0]; dsimp only; frame_out
    rw [covW m c, covV m c]
    · funext x
      idx_vars x
      exact (pay42_at (iblk m c 0 t) (iblk m c 1 t) (iblk m c 2 t) (iblk m c 3 t) (iblk m c 4 t) (iblk m c 5 t) (iblk m c 6 t)
        (WT m c) (WD m c) x0 x1).trans (congrArg (fun A : Row => A.dx x1) (rowK_eq m c t x0))
    · rfl
    · rfl
  · rw [outsAt0_B m c t h0]; dsimp only; frame_out
    simp only [read_unread_whole]
    rw [(scr_prev m c t).1, (scr_prev m c t).2]
    funext x
    idx_vars x
    exact (pay42_at (iblk m c 0 t) (iblk m c 1 t) (iblk m c 2 t) (iblk m c 3 t) (iblk m c 4 t) (iblk m c 5 t) (iblk m c 6 t)
        (WT m c) (WD m c) x0 x1).trans (congrArg (fun A : Row => A.dx x1) (rowK_eq m c t x0))

theorem final7 (c : Dev nD) : (dats m 0 c).arrAt 7 (cfgs 0).N = G7 m c := by
  refine (dats m 0 c).arrAt_eq_of_covers 7 _ (by decide +kernel) fun t _ y => ?_
  rw [after0_7, outs7]
  refine congrArg (G7 m c) ?_
  blk_ext [idx_val t, pt, at256]

/-- The norm's output. -/
def G8 (c : Dev nD) : FVec Ideal S8192x1024 .bf16 := fun i => (rowM m c (i 0)).h (i 1)

def B8 (c : Dev nD) (t : Fin 32) : FVec Ideal S256x1024 .bf16 := fun i => G8 m c (ix2 (at256 t (i 0)) (i 1))

theorem outs8 (c : Dev nD) (t : Fin cfg0.N) : (outsAt0 m c t.val t.isLt).2.1 = B8 m c (pt t) := by
  by_cases h0 : t.val % 32 = 0
  · rw [outsAt0_A m c t h0]; dsimp only; frame_out
    funext x
    idx_vars x
    exact (pay15_at (iblk m c 0 t) (iblk m c 1 t) (iblk m c 2 t) (iblk m c 3 t) (iblk m c 4 t) (iblk m c 5 t) (iblk m c 6 t)
        (WT m c) (WD m c) x0 x1).trans (congrArg (fun A : Row => A.h x1) (rowK_eq m c t x0))
  · rw [outsAt0_B m c t h0]; dsimp only; frame_out
    funext x
    idx_vars x
    exact (pay15_at (iblk m c 0 t) (iblk m c 1 t) (iblk m c 2 t) (iblk m c 3 t) (iblk m c 4 t) (iblk m c 5 t) (iblk m c 6 t)
        (WT m c) (WD m c) x0 x1).trans (congrArg (fun A : Row => A.h x1) (rowK_eq m c t x0))

theorem final8 (c : Dev nD) : (dats m 0 c).arrAt 8 (cfgs 0).N = G8 m c := by
  refine (dats m 0 c).arrAt_eq_of_covers 8 _ (by decide +kernel) fun t _ y => ?_
  rw [after0_8, outs8]
  refine congrArg (G8 m c) ?_
  blk_ext [idx_val t, pt, at256]

/-- The gradient of the gate and the up projection. -/
def G9 (c : Dev nD) : FVec Ideal S8192x5632 .bf16 := fun i => (rowM m c (i 0)).dgu (i 1)

def B9 (c : Dev nD) (t : Fin 32) : FVec Ideal S256x5632 .bf16 := fun i => G9 m c (ix2 (at256 t (i 0)) (i 1))

theorem outs9 (c : Dev nD) (t : Fin cfg0.N) : (outsAt0 m c t.val t.isLt).2.2.1 = B9 m c (pt t) := by
  by_cases h0 : t.val % 32 = 0
  · rw [outsAt0_A m c t h0]; dsimp only; frame_out
    rw [covW m c, covV m c]
    · funext x
      idx_vars x
      exact (dguK_at (iblk m c 0 t) (iblk m c 1 t) (iblk m c 2 t) (iblk m c 3 t) (iblk m c 4 t) (iblk m c 5 t) (iblk m c 6 t)
        (WT m c) (WD m c) x0 x1).trans (congrArg (fun A : Row => A.dgu x1) (rowK_eq m c t x0))
    · rfl
    · rfl
  · rw [outsAt0_B m c t h0]; dsimp only; frame_out
    simp only [read_unread_whole]
    rw [(scr_prev m c t).1, (scr_prev m c t).2]
    funext x
    idx_vars x
    exact (dguK_at (iblk m c 0 t) (iblk m c 1 t) (iblk m c 2 t) (iblk m c 3 t) (iblk m c 4 t) (iblk m c 5 t) (iblk m c 6 t)
        (WT m c) (WD m c) x0 x1).trans (congrArg (fun A : Row => A.dgu x1) (rowK_eq m c t x0))

theorem final9 (c : Dev nD) : (dats m 0 c).arrAt 9 (cfgs 0).N = G9 m c := by
  refine (dats m 0 c).arrAt_eq_of_covers 9 _ (by decide +kernel) fun t _ y => ?_
  rw [after0_9, outs9]
  refine congrArg (G9 m c) ?_
  blk_ext [idx_val t, pt, at256]

/-- The activation. -/
def G10 (c : Dev nD) : FVec Ideal S8192x2816 .bf16 := fun i => (rowM m c (i 0)).act (i 1)

def B10 (c : Dev nD) (t : Fin 32) : FVec Ideal S256x2816 .bf16 := fun i => G10 m c (ix2 (at256 t (i 0)) (i 1))

theorem outs10 (c : Dev nD) (t : Fin cfg0.N) : (outsAt0 m c t.val t.isLt).2.2.2.1 = B10 m c (pt t) := by
  by_cases h0 : t.val % 32 = 0
  · rw [outsAt0_A m c t h0]; dsimp only; frame_out
    rw [covW m c]
    · funext x
      idx_vars x
      exact (pay21_at (iblk m c 0 t) (iblk m c 1 t) (iblk m c 2 t) (iblk m c 3 t) (iblk m c 4 t) (iblk m c 5 t) (iblk m c 6 t)
        (WT m c) (WD m c) x0 x1).trans (congrArg (fun A : Row => A.act x1) (rowK_eq m c t x0))
    · rfl
  · rw [outsAt0_B m c t h0]; dsimp only; frame_out
    simp only [read_unread_whole]
    rw [(scr_prev m c t).1]
    funext x
    idx_vars x
    exact (pay21_at (iblk m c 0 t) (iblk m c 1 t) (iblk m c 2 t) (iblk m c 3 t) (iblk m c 4 t) (iblk m c 5 t) (iblk m c 6 t)
        (WT m c) (WD m c) x0 x1).trans (congrArg (fun A : Row => A.act x1) (rowK_eq m c t x0))

theorem final10 (c : Dev nD) : (dats m 0 c).arrAt 10 (cfgs 0).N = G10 m c := by
  refine (dats m 0 c).arrAt_eq_of_covers 10 _ (by decide +kernel) fun t _ y => ?_
  rw [after0_10, outs10]
  refine congrArg (G10 m c) ?_
  blk_ext [idx_val t, pt, at256]

/-- The gradient of the block's output. -/
def G11 (c : Dev nD) : FVec Ideal S8192x1024 .bf16 := fun i => (rowM m c (i 0)).dmlp (i 1)

def B11 (c : Dev nD) (t : Fin 32) : FVec Ideal S256x1024 .bf16 := fun i => G11 m c (ix2 (at256 t (i 0)) (i 1))

theorem outs11 (c : Dev nD) (t : Fin cfg0.N) : (outsAt0 m c t.val t.isLt).2.2.2.2.1 = B11 m c (pt t) := by
  by_cases h0 : t.val % 32 = 0
  · rw [outsAt0_A m c t h0]; dsimp only; frame_out
    rw [covW m c, covV m c]
    · funext x
      idx_vars x
      exact (pay36_at (iblk m c 0 t) (iblk m c 1 t) (iblk m c 2 t) (iblk m c 3 t) (iblk m c 4 t) (iblk m c 5 t) (iblk m c 6 t)
        (WT m c) (WD m c) x0 x1).trans (congrArg (fun A : Row => A.dmlp x1) (rowK_eq m c t x0))
    · rfl
    · rfl
  · rw [outsAt0_B m c t h0]; dsimp only; frame_out
    simp only [read_unread_whole]
    rw [(scr_prev m c t).1, (scr_prev m c t).2]
    funext x
    idx_vars x
    exact (pay36_at (iblk m c 0 t) (iblk m c 1 t) (iblk m c 2 t) (iblk m c 3 t) (iblk m c 4 t) (iblk m c 5 t) (iblk m c 6 t)
        (WT m c) (WD m c) x0 x1).trans (congrArg (fun A : Row => A.dmlp x1) (rowK_eq m c t x0))

theorem final11 (c : Dev nD) : (dats m 0 c).arrAt 11 (cfgs 0).N = G11 m c := by
  refine (dats m 0 c).arrAt_eq_of_covers 11 _ (by decide +kernel) fun t _ y => ?_
  rw [after0_11, outs11]
  refine congrArg (G11 m c) ?_
  blk_ext [idx_val t, pt, at256]

theorem zero_row (v : View sig .tc .vmem S8x1024 .f32) (f : v.ty.Contents (Elt Ideal)) (b) (r : Fin 8) (d : Fin 1024) :
    v.read (Elt Ideal) (v.writes (Elt Ideal) f [⟨Rect.unit ![0, 0] ![8, 1024] b, k0_pay6 (F := Ideal)⟩]) (ix2 r d) = (0 : EReal) := by
  rw [View.read_writes_cons_rows_of_mem v f b _ [] (ix2 r d) (ix2 r d) rfl (by simp) rfl]
  pointwise [k0_pay6, zero_f32]

theorem accT_rest (c : Dev nD) (t : Fin 32) (r : Fin 8) (d : Fin 1024) (h0 : ¬(r : ℕ) = 0) (h1 : ¬(r : ℕ) = 1) (h2 : ¬(r : ℕ) = 2)
    (h3 : ¬(r : ℕ) = 3) (h4 : ¬(r : ℕ) = 4) (h5 : ¬(r : ℕ) = 5) : accT m c t r d = 0 := by
  rw [accT, if_neg h5]
  exact Finset.sum_eq_zero fun p _ => by rw [Row.acc, if_neg h0, if_neg h1, if_neg h2, if_neg h3, if_neg h4, if_neg h5]

theorem outs12_A (c : Dev nD) (t : Fin cfg0.N) (h0 : t.val % 32 = 0) (r : Fin 8) (d : Fin 1024) :
    (show FVec Ideal S8x1024 .f32 from (outsAt0 m c t.val t.isLt).2.2.2.2.2.1) (ix2 r d) = (0 : EReal) + accT m c (pt t) r d := by
  rw [outsAt0_A m c t h0]; dsimp only; frame_out
  rw [covW m c, covV m c]
  · rw [← View.read_writes_junk_eq_canon (ms0_12 t).view, row_cons, row_cons, row_cons, row_cons, row_cons, row_cons]
    split_ifs with h5 h4 h3 h2 h1 h0
    · obtain rfl : r = 5 := Fin.ext h5
      refine (acc5_tile m c t _ d).trans (congrArg (· + _) ?_)
      rw [load_row _ _ 5 (by decide) _ d]
      repeat rw [row_cons, if_neg (by decide)]
      exact zero_row _ _ _ _ _
    · obtain rfl : r = 4 := Fin.ext h4
      refine (acc4_tile m c t _ d).trans (congrArg (· + _) ?_)
      rw [load_row _ _ 4 (by decide) _ d]
      repeat rw [row_cons, if_neg (by decide)]
      exact zero_row _ _ _ _ _
    · obtain rfl : r = 3 := Fin.ext h3
      refine (acc3_tile m c t _ d).trans (congrArg (· + _) ?_)
      rw [load_row _ _ 3 (by decide) _ d]
      repeat rw [row_cons, if_neg (by decide)]
      exact zero_row _ _ _ _ _
    · obtain rfl : r = 2 := Fin.ext h2
      refine (acc2_tile m c t _ d).trans (congrArg (· + _) ?_)
      rw [load_row _ _ 2 (by decide) _ d]
      repeat rw [row_cons, if_neg (by decide)]
      exact zero_row _ _ _ _ _
    · obtain rfl : r = 1 := Fin.ext h1
      refine (acc1_tile m c t _ d).trans (congrArg (· + _) ?_)
      rw [load_row _ _ 1 (by decide) _ d]
      repeat rw [row_cons, if_neg (by decide)]
      exact zero_row _ _ _ _ _
    · obtain rfl : r = 0 := Fin.ext h0
      refine (acc0_tile m c t _ d).trans (congrArg (· + _) ?_)
      rw [load_row _ _ 0 (by decide) _ d]
      repeat rw [row_cons, if_neg (by decide)]
      exact zero_row _ _ _ _ _
    · rw [accT_rest m c _ r d h0 h1 h2 h3 h4 h5, add_zero]
      exact zero_row _ _ _ _ _
  · rfl
  · rfl

theorem outs12_B (c : Dev nD) (t : Fin cfg0.N) (h0 : ¬t.val % 32 = 0) (r : Fin 8) (d : Fin 1024) :
    (show FVec Ideal S8x1024 .f32 from (outsAt0 m c t.val t.isLt).2.2.2.2.2.1) (ix2 r d)
      = (show FVec Ideal S8x1024 .f32 from (outsAt0 m c (t.val - 1) (Nat.lt_of_le_of_lt (Nat.sub_le _ _) t.isLt)).2.2.2.2.2.1) (ix2 r d)
        + accT m c (pt t) r d := by
  have ld (X : FVec Ideal S8x1024 .f32) (q : ℕ) (hq : q < 8) (b) : View.ld (Val := Elt Ideal) (S := S8x1024) (e' := .f32) X (Rect.unit ![q, 0] ![1, 1024] b) (ix2 (0 : Fin 1) d)
      = X (ix2 ⟨q, hq⟩ d) :=
    View.ld_unit_apply_of (Val := Elt Ideal) (S := S8x1024) (e := .f32) X _ _ b _ _ (fun a => by fin_cases a <;> simp)
  rw [outsAt0_B m c t h0]; dsimp only; frame_out
  simp only [read_unread_whole]
  rw [(scr_prev m c t).1, (scr_prev m c t).2]
  rw [row_cons, row_cons, row_cons, row_cons, row_cons, row_cons]
  split_ifs with h5 h4 h3 h2 h1 h0
  · obtain rfl : r = 5 := Fin.ext h5
    exact (acc5_tile m c t _ d).trans (congrArg (· + _) (ld _ 5 (by decide) _))
  · obtain rfl : r = 4 := Fin.ext h4
    exact (acc4_tile m c t _ d).trans (congrArg (· + _) (ld _ 4 (by decide) _))
  · obtain rfl : r = 3 := Fin.ext h3
    exact (acc3_tile m c t _ d).trans (congrArg (· + _) (ld _ 3 (by decide) _))
  · obtain rfl : r = 2 := Fin.ext h2
    exact (acc2_tile m c t _ d).trans (congrArg (· + _) (ld _ 2 (by decide) _))
  · obtain rfl : r = 1 := Fin.ext h1
    exact (acc1_tile m c t _ d).trans (congrArg (· + _) (ld _ 1 (by decide) _))
  · obtain rfl : r = 0 := Fin.ext h0
    exact (acc0_tile m c t _ d).trans (congrArg (· + _) (ld _ 0 (by decide) _))
  · rw [accT_rest m c _ r d h0 h1 h2 h3 h4 h5, add_zero, View.writes_nil]
    simp only [Memref.IsWhole.read_unread]

/-- The row accumulator after the thirty-two blocks. -/
def G12 (c : Dev nD) : FVec Ideal S8x1024 .f32 := fun i => ∑ t : Fin cfg0.N, accT m c (pt t) (i 0) (i 1)

theorem final12 (c : Dev nD) : (dats m 0 c).arrAt 12 (cfgs 0).N = G12 m c := by
  refine (dats m 0 c).arrAt_eq_of_covers 12 _ (by decide +kernel) fun t hf y => ?_
  have h31 : t.val % 32 = 31 := (flush0_12 t).mp hf
  have hN : cfg0.N = 32 := N_0
  have ht : t.val < 32 := lt_of_lt_of_eq t.isLt hN
  have key := Pipeline.eq_sum_fin_of_reset_step_apply_last
    (fun n h (j : Fin 8 × Fin 1024) => (show FVec Ideal S8x1024 .f32 from (outsAt0 m c n h).2.2.2.2.2.1) (ix2 j.1 j.2)) 32 (fun _ => (0 : EReal))
    (fun t j => accT m c (pt t) j.1 j.2) (fun t h j => outs12_A m c t h j.1 j.2) (fun t h j => outs12_B m c t h j.1 j.2)
    (le_of_eq N_0) t (by omega)
  have e : (outsAt0 m c t.val t.isLt).2.2.2.2.2.1 = G12 m c := by
    funext i
    idx_vars i
    exact (key (i0, i1)).trans (zero_add _)
  rw [after0_12, e]
  refine congrArg (G12 m c) ?_
  blk_ext [idx_val t, pt]

end Cert.Mlp

end

end
-- ==== Proof.Mlp.lean ====
module

public import proofs.«01_k».proof.Defs
public import proofs.«01_k».proof.Pre_finite3
public import proofs.«01_k».proof.Proof.MlpOut
public import proofs.«01_k».proof.Proof.MlpKer
public import proofs.«01_k».proof.Proof.Gen.Kernel3Ideal.Value
public import Idealize.ShloMosaic.Adequacy
public import Idealize.ShloMosaic.Init
public import Idealize.ShloMosaic.Lib.Claim

@[expose] public section

set_option maxRecDepth 16384

noncomputable section

open Idealize.ShloMosaic Idealize.SL.Sem Idealize.ShloMosaic.TcCoe

/-! The feed-forward layer with the loss: the two programs leave the same gradients and the same loss. -/

namespace Cert.Mlp

instance facts : Cert.Pre_finite3.Facts where
  bcast_S_S8192x1024 := by decide
  bcast_S_S1024 := by decide
  bcast_S_S1024x5632 := by decide
  bcast_S_S2816x1024 := by decide

section

variable (m : (ℓ : Loc Cert.Kernel3Ideal.nD Cert.Kernel3Ideal.τ Cert.Kernel3Ideal.sig) → Buf (Elt Ideal) ℓ)

/-- The precondition: every argument is finite. -/
theorem fin9 (h : Cert.Pre_Kernel3Ideal_finite3 m) (c : Dev Cert.Kernel3Ideal.nD) (r : Fin 8192) : (rowM m c r).Finite := by
  obtain ⟨p0, p1, p2, p3, p4, p5, p6, p7, p8⟩ := h c
  exact ⟨fun d => Cert.InProj.isReal_of_abs _ (congrFun p0 (ix2 r d)), fun d => Cert.InProj.isReal_of_abs _ (congrFun p1 (ix2 r d)),
    fun d => Cert.InProj.isReal_of_abs _ (congrFun p2 (ix1 d)), fun d => Cert.InProj.isReal_of_abs _ (congrFun p3 (ix1 d)),
    fun d => Cert.InProj.isReal_of_abs _ (congrFun p4 (ix1 d)), fun d => Cert.InProj.isReal_of_abs _ (congrFun p5 (ix1 d)),
    fun d => Cert.InProj.isReal_of_abs _ (congrFun p6 (ix1 d)), fun d k => Cert.InProj.isReal_of_abs _ (congrFun p7 (ix2 d k)),
    fun k d => Cert.InProj.isReal_of_abs _ (congrFun p8 (ix2 k d))⟩

theorem blocks_sum (T : Fin 8192 → EReal) : ∑ t, ∑ p, T (at256 t p) = ∑ r, T r :=
  Fin.sum_mul_add_congr (L := 8192) (S := 32) (n := 256) (fun s k hl => rfl) (by decide)

/-- The sums over the steps are the sums over the rows. -/
theorem acc_sum (c : Dev Cert.Kernel3Ideal.nD) (H : ∀ r, (rowM m c r).Finite) (i : Fin 8) (d : Fin 1024) :
    (if (i : ℕ) = 5 then Ideal.ofBits .f32 0x3F000000#32 * ∑ r, (rowM m c r).acc i d * Ideal.ofBits .f32 0x3A800000#32
      else ∑ r, (rowM m c r).acc i d) = G12 m c (ix2 i d) := by
  refine Eq.trans ?_ (show ∑ t : Fin 32, accT m c t i d = G12 m c (ix2 i d) from rfl)
  unfold accT
  by_cases h : (i : ℕ) = 5
  · simp only [if_pos h]
    refine (loss_sum (fun r => (rowM m c r).acc i d) (fun r => ?_) at256 blocks_sum).symm
    obtain rfl : i = 5 := Fin.ext h
    exact (H r).err2
  · simp only [if_neg h]
    exact (blocks_sum fun r => (rowM m c r).acc i d).symm

end

theorem algebraic : Cert.algebraic_Kernel3Ideal_Reference3Ideal_pre_finite3 := by
  intro m g m' g' hpre hagree
  refine ⟨G7 m, G8 m, G9 m, G10 m, G11 m, G12 m, (θ_run _ _ _).mono (fun r h c => ?_) (Cert.Kernel3Ideal.Value.run_blocks m g),
    (θ_run _ _ _).mono (fun r h c => ?_) (Cert.Reference3Ideal.Value.run m' g')⟩
  · obtain ⟨e0, e1, e2, e3, e4, e5, ha⟩ := h c
    exact ⟨e0.trans (final7 m c), e1.trans (final8 m c), e2.trans (final9 m c), e3.trans (final10 m c), e4.trans (final11 m c),
      e5.trans (final12 m c), ha⟩
  · obtain ⟨e0, e1, e2, e3, e4, e5, ha⟩ := h c
    obtain ⟨a0, a1, a2, a3, a4, a5, a6, a7, a8⟩ := hagree c
    have H := fin9 m hpre c
    refine ⟨(e0.trans (Cert.Reference3Ideal.Read.val_main_v132_eq _)).trans ?_, (e1.trans (Cert.Reference3Ideal.Read.val_main_v143_eq _)).trans ?_,
      (e2.trans (Cert.Reference3Ideal.Read.val_main_v144_eq _)).trans ?_, (e3.trans (Cert.Reference3Ideal.Read.val_main_v145_eq _)).trans ?_,
      (e4.trans (Cert.Reference3Ideal.Read.val_main_v146_eq _)).trans ?_, (e5.trans (Cert.Reference3Ideal.Read.val_main_v142_eq _)).trans ?_, ha⟩
    all_goals
      simp only [Idealize.ShloMosaic.StableHlo.launchContents]
      simp only [show m' (c, Proc.devRef .tc Cert.Reference3Ideal.main_arg0) = _ from a0, show m' (c, Proc.devRef .tc Cert.Reference3Ideal.main_arg1) = _ from a1,
        show m' (c, Proc.devRef .tc Cert.Reference3Ideal.main_arg2) = _ from a2, show m' (c, Proc.devRef .tc Cert.Reference3Ideal.main_arg3) = _ from a3,
        show m' (c, Proc.devRef .tc Cert.Reference3Ideal.main_arg4) = _ from a4, show m' (c, Proc.devRef .tc Cert.Reference3Ideal.main_arg5) = _ from a5,
        show m' (c, Proc.devRef .tc Cert.Reference3Ideal.main_arg6) = _ from a6, show m' (c, Proc.devRef .tc Cert.Reference3Ideal.main_arg7) = _ from a7,
        show m' (c, Proc.devRef .tc Cert.Reference3Ideal.main_arg8) = _ from a8]
      funext i
      obtain ⟨i0, i1, rfl⟩ : ∃ i0 i1, i = ix2 i0 i1 := ⟨i 0, i 1, by idx_vars i⟩
    · exact o132 H i0 i1
    · exact r25 _ (m ((c.tc : Thread Cert.Kernel3Ideal.nD Cert.Kernel3Ideal.τ).loc Cert.Kernel3Ideal.main_arg1)) _ _ _ (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) i0 i1
    · exact o101 H i0 i1
    · exact r31 _ (m ((c.tc : Thread Cert.Kernel3Ideal.nD Cert.Kernel3Ideal.τ).loc Cert.Kernel3Ideal.main_arg1)) _ _ _ (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) _ (m ((c.tc : Thread Cert.Kernel3Ideal.nD Cert.Kernel3Ideal.τ).loc Cert.Kernel3Ideal.main_arg8)) i0 i1
    · exact r90 _ _ _ _ _ _ _ _ _ i0 i1
    · exact (o142 H i0 i1).trans (acc_sum m c H i0 i1)

theorem frame_reference : Cert.quiescent_Reference3Ideal :=
  fun m ρ _ => (θ_run _ _ _).mono (fun r h => ⟨fun c => (h c).2.2.2.2.2.2, sem_eq_zero_of_no_sems (by decide) r.2⟩) (Cert.Reference3Ideal.Value.run m ρ)

end Cert.Mlp

end

end
-- ==== Proof.GateRow.lean ====
module

public import proofs.«01_k».proof.Proof.Alg

@[expose] public section

set_option maxRecDepth 16384

noncomputable section

open Idealize.ShloMosaic
open Cert.InProj

/-! The norms of the two mixers, the gate and the output projection on one row, with their gradients, over extended reals. -/

namespace Cert.Gate

/-- The mean square of a row with the floor added; `c` is one over the row's width. -/
def nsq {n : ℕ} (c : EReal) (x : Fin n → EReal) : EReal := (∑ e, x e * x e) * c + Ideal.ofBits .f32 0x358637BD#32

/-- The norm's factor. -/
def nrm {n : ℕ} (c : EReal) (x : Fin n → EReal) : EReal := Ideal.rsqrt (nsq c x)

/-- Half the derivative of the row's factor, carried back to an entry of the row; `ct` is the cotangent of the normed row. -/
def ntau {n : ℕ} (c : EReal) (x ct : Fin n → EReal) : EReal :=
  (∑ e, x e * ct e) * (Ideal.ofBits .f32 0xBF000000#32 * Ideal.div (nrm c x) (nsq c x)) * c

/-- The gradient of a row through its norm. -/
def nback {n : ℕ} (c : EReal) (x ct : Fin n → EReal) (d : Fin n) : EReal := ct d * nrm c x + x d * ntau c x ct + ntau c x ct * x d

/-- One over 512 and one over 256. -/
def c512 : EReal := Ideal.ofBits .f32 0x3B000000#32
def c256 : EReal := Ideal.ofBits .f32 0x3B800000#32

theorem div_512 (a : EReal) : Ideal.div a (Ideal.ofBits .f32 0x44000000#32) = a * c512 := by
  rw [c512, show Ideal.ofBits .f32 0x44000000#32 = ((512 : ℝ) : EReal) by simp [Ideal.ofBits, Ideal.ieee, -EReal.coe_mul]; norm_num,
    show Ideal.ofBits .f32 0x3B000000#32 = ((1 / 512 : ℝ) : EReal) by simp [Ideal.ofBits, Ideal.ieee, -EReal.coe_mul]; norm_num,
    Ideal.div_coe (by norm_num)]

theorem div_256 (a : EReal) : Ideal.div a (Ideal.ofBits .f32 0x43800000#32) = a * c256 := by
  rw [c256, show Ideal.ofBits .f32 0x43800000#32 = ((256 : ℝ) : EReal) by simp [Ideal.ofBits, Ideal.ieee, -EReal.coe_mul]; norm_num,
    show Ideal.ofBits .f32 0x3B800000#32 = ((1 / 256 : ℝ) : EReal) by simp [Ideal.ofBits, Ideal.ieee, -EReal.coe_mul]; norm_num,
    Ideal.div_coe (by norm_num)]

/-- What one row depends on: the cotangent `ct` of the residual, the attention's output `ya`, the scan's output `ys`, the gate's
argument `z`, the gains `an` and `sn` of the two norms, the residual's gate `gt` and the output weight `W`. -/
structure Row where
  ct : Fin 1024 → EReal
  ya : Fin 512 → EReal
  ys : Fin 512 → EReal
  z : Fin 512 → EReal
  an : Fin 512 → EReal
  sn : Fin 512 → EReal
  gt : Fin 1024 → EReal
  W : Fin 1024 → Fin 1024 → EReal

/-- Column `d` of group `q` of the scan's output. -/
def col (q : Fin 2) (d : Fin 256) : Fin 512 := ⟨q * 256 + d, by omega⟩

/-- A column's group and its place in it. -/
def grp (k : Fin 512) : Fin 2 := ⟨k / 256, by omega⟩
def off (k : Fin 512) : Fin 256 := ⟨k % 256, by omega⟩

namespace Row

variable (A : Row)

def sg (k : Fin 512) : EReal := Ideal.logistic (A.z k)
def v (q : Fin 2) (d : Fin 256) : EReal := A.ys (col q d) * (A.z (col q d) * A.sg (col q d))
def vn (q : Fin 2) (d : Fin 256) : EReal := A.v q d * nrm c256 (A.v q)
def an0 (k : Fin 512) : EReal := A.ya k * nrm c512 A.ya

/-- The projection's argument. -/
def u (k : Fin 1024) : EReal :=
  if h : (k : ℕ) < 512 then A.an0 ⟨k, h⟩ * A.an ⟨k, h⟩
  else A.vn (grp ⟨k - 512, by omega⟩) (off ⟨k - 512, by omega⟩) * A.sn ⟨k - 512, by omega⟩

def mix (j : Fin 1024) : EReal := ∑ k, A.u k * A.W k j
def dmix (j : Fin 1024) : EReal := A.ct j * A.gt j
def du (k : Fin 1024) : EReal := ∑ j, A.dmix j * A.W k j

/-- The parts of the cotangent of the projection's argument. -/
def duA (k : Fin 512) : EReal := A.du ⟨k, by omega⟩
def duS (k : Fin 512) : EReal := A.du ⟨512 + k, by omega⟩

def dya (k : Fin 512) : EReal := nback c512 A.ya (fun e => A.duA e * A.an e) k
def dv (q : Fin 2) (d : Fin 256) : EReal := nback c256 (A.v q) (fun e => A.duS (col q e) * A.sn (col q e)) d
def dvk (k : Fin 512) : EReal := A.dv (grp k) (off k)
def dys (k : Fin 512) : EReal := A.dvk k * (A.z k * A.sg k)
def dz (k : Fin 512) : EReal :=
  A.ys k * A.dvk k * A.sg k + A.z k * (A.ys k * A.dvk k) * (A.sg k * (1 - A.sg k))

theorem grp_col (q : Fin 2) (d : Fin 256) : grp (col q d) = q := Fin.ext (by show ((q : ℕ) * 256 + d) / 256 = q; omega)

theorem off_col (q : Fin 2) (d : Fin 256) : off (col q d) = d := Fin.ext (by show ((q : ℕ) * 256 + d) % 256 = d; omega)

theorem col_grp (k : Fin 512) : col (grp k) (off k) = k := Fin.ext (by show (k : ℕ) / 256 * 256 + (k : ℕ) % 256 = k; omega)

theorem u_lo (k : Fin 512) : A.u ⟨k, by omega⟩ = A.an0 k * A.an k := dif_pos k.isLt

theorem u_hi (q : Fin 2) (d : Fin 256) : A.u ⟨512 + (q * 256 + d), by omega⟩ = A.vn q d * A.sn (col q d) := by
  have e : (⟨512 + ((q : ℕ) * 256 + d) - 512, by omega⟩ : Fin 512) = col q d := Fin.ext (by show 512 + ((q : ℕ) * 256 + d) - 512 = q * 256 + d; omega)
  refine (dif_neg (by show ¬512 + ((q : ℕ) * 256 + d) < 512; omega)).trans ?_
  rw [e, grp_col, off_col]

theorem dvk_col (q : Fin 2) (d : Fin 256) : A.dvk (col q d) = A.dv q d := by rw [dvk, grp_col, off_col]

/-- What a row adds to the gradients of the gains. -/
def nacc (j : Fin 1024) : EReal :=
  if h : (j : ℕ) < 512 then A.an0 ⟨j, h⟩ * A.duA ⟨j, h⟩
  else A.vn (grp ⟨j - 512, by omega⟩) (off ⟨j - 512, by omega⟩) * A.duS ⟨j - 512, by omega⟩

theorem nacc_lo (k : Fin 512) : A.nacc ⟨k, by omega⟩ = A.an0 k * A.duA k := dif_pos k.isLt

theorem nacc_hi (q : Fin 2) (d : Fin 256) : A.nacc ⟨512 + (q * 256 + d), by omega⟩ = A.vn q d * A.duS (col q d) := by
  have e : (⟨512 + ((q : ℕ) * 256 + d) - 512, by omega⟩ : Fin 512) = col q d := Fin.ext (by show 512 + ((q : ℕ) * 256 + d) - 512 = q * 256 + d; omega)
  refine (dif_neg (by show ¬512 + ((q : ℕ) * 256 + d) < 512; omega)).trans ?_
  rw [e, grp_col, off_col]

/-- What a row adds to the gradients of the gate and of the two gains. -/
def acc (r : Fin 8) (j : Fin 1024) : EReal :=
  if (r : ℕ) = 0 then A.ct j * A.mix j
  else if (r : ℕ) = 1 then A.nacc j
  else 0

/-- What a row adds to the gradient of the output weight. -/
def gw (a b : Fin 1024) : EReal := A.u a * A.dmix b

end Row

end Cert.Gate

end

end
-- ==== Proof.GateRef.lean ====
module

public import proofs.«01_k».proof.Proof.Gen.Reference4Ideal.Run
public import proofs.«01_k».proof.Proof.Gen.Reference4Ideal.Read
public import proofs.«01_k».proof.Proof.GateRow

@[expose] public section

set_option maxRecDepth 16384

noncomputable section

open Idealize.ShloMosaic Idealize.ShloMosaic.TcCoe Idealize.SL.Sem
open Cert.Reference4Ideal Cert.Reference4Ideal.Gen Cert.Reference4Ideal.Read Cert.InProj

namespace Cert.Gate

/-! The reference's arrays read at an index. -/

variable (x0 : FVec Ideal S8192x1024 .f32) (x1 x2 x3 : FVec Ideal S8192x512 .f32) (x4 x5 : FVec Ideal S512 .f32) (x6 : FVec Ideal S1024 .f32)
  (x7 : FVec Ideal S1024x1024 .f32) (r : Fin 8192) (q : Fin 2) (d : Fin 256) (k : Fin 512) (j : Fin 1024)

/-- Row `r` of the arguments. -/
def rowR : Row where
  ct e := x0 (ix2 r e)
  ya e := x1 (ix2 r e)
  ys e := x2 (ix2 r e)
  z e := x3 (ix2 r e)
  an e := x4 (ix1 e)
  sn e := x5 (ix1 e)
  gt e := x6 (ix1 e)
  W k j := x7 (ix2 k j)

theorem sum_fin1 (f : Fin 1 → EReal) : ∑ i, f i = f 0 := by
  simp only [Finset.univ_unique, Finset.sum_singleton, Fin.default_eq_zero, Fin.isValue]

/-- A column of the projection's argument, by its part. -/
theorem part_cases (j : Fin 1024) : (∃ k : Fin 512, j = ⟨k, by omega⟩) ∨ ∃ k : Fin 512, j = ⟨512 + k, by omega⟩ := by
  by_cases h : (j : ℕ) < 512
  · exact .inl ⟨⟨j, h⟩, rfl⟩
  · exact .inr ⟨⟨j - 512, by omega⟩, Fin.ext (by show (j : ℕ) = 512 + (j - 512); omega)⟩

theorem s0_2 : val_main_v0_2 (F := Ideal) x3 (ix2 r k) = (rowR x0 x1 x2 x3 x4 x5 x6 x7 r).sg k := by
  pointwise [val_main_v0_2, val_main_call0_v4, val_main_call0_cst_0, val_main_call0_v3, val_main_call0_v2, val_main_call0_cst, val_main_call0_v1, val_main_call0_v0, one_bits, Ideal.logistic]
  try rfl

theorem s0_1 : val_main_v0_1 (F := Ideal) x3 (ix2 r k) = (rowR x0 x1 x2 x3 x4 x5 x6 x7 r).sg k * (1 - (rowR x0 x1 x2 x3 x4 x5 x6 x7 r).sg k) := by
  pointwise [val_main_v0_1, val_main_call0_v7, val_main_call0_v6, val_main_call0_cst_1, one_bits, s0_2 x0 x1 x2 x3 x4 x5 x6 x7 r]
  try rfl

theorem s0_0 : val_main_v0_0 (F := Ideal) x3 (ix2 r k) = (rowR x0 x1 x2 x3 x4 x5 x6 x7 r).z k * (rowR x0 x1 x2 x3 x4 x5 x6 x7 r).sg k := by
  pointwise [val_main_v0_0, s0_2 x0 x1 x2 x3 x4 x5 x6 x7 r]
  try rfl

theorem s1 : val_main_v1 (F := Ideal) x3 (ix3 r q d) = (rowR x0 x1 x2 x3 x4 x5 x6 x7 r).z (col q d) * (rowR x0 x1 x2 x3 x4 x5 x6 x7 r).sg (col q d) := by
  pointwise [val_main_v1, s0_0 x0 x1 x2 x3 x4 x5 x6 x7 r]
  try rfl

theorem s3 : val_main_v3 (F := Ideal) x2 x3 (ix3 r q d) = (rowR x0 x1 x2 x3 x4 x5 x6 x7 r).v q d := by
  pointwise [val_main_v3, val_main_v2, s1 x0 x1 x2 x3 x4 x5 x6 x7 r]
  try rfl

theorem s11 : val_main_v11 (F := Ideal) x2 x3 (ix3 r q 0) = nsq c256 ((rowR x0 x1 x2 x3 x4 x5 x6 x7 r).v q) := by
  pointwise [val_main_v11, val_main_v10, val_main_cst_1, val_main_v9, val_main_v8, val_main_cst_0, val_main_v7, val_main_v6, val_main_cst, zero_bits, val_main_v5, s3 x0 x1 x2 x3 x4 x5 x6 x7 r, div_256, nsq]
  try rfl

theorem s12 : val_main_v12 (F := Ideal) x2 x3 (ix3 r q 0) = nrm c256 ((rowR x0 x1 x2 x3 x4 x5 x6 x7 r).v q) := by
  pointwise [val_main_v12, s11 x0 x1 x2 x3 x4 x5 x6 x7 r, nrm]
  try rfl

theorem s15 : val_main_v15 (F := Ideal) x2 x3 (ix3 r q 0) = Ideal.ofBits .f32 0xBF000000#32 * Ideal.div (nrm c256 ((rowR x0 x1 x2 x3 x4 x5 x6 x7 r).v q)) (nsq c256 ((rowR x0 x1 x2 x3 x4 x5 x6 x7 r).v q)) := by
  pointwise [val_main_v15, val_main_v14, val_main_cst_2, val_main_v13, s11 x0 x1 x2 x3 x4 x5 x6 x7 r, s12 x0 x1 x2 x3 x4 x5 x6 x7 r]
  try rfl

theorem s17 : val_main_v17 (F := Ideal) x2 x3 (ix3 r q d) = (rowR x0 x1 x2 x3 x4 x5 x6 x7 r).vn q d := by
  pointwise [val_main_v17, val_main_v16, s12 x0 x1 x2 x3 x4 x5 x6 x7 r, s3 x0 x1 x2 x3 x4 x5 x6 x7 r]
  try rfl

theorem s20 : val_main_v20 (F := Ideal) x2 x3 x5 (ix3 r q d) = (rowR x0 x1 x2 x3 x4 x5 x6 x7 r).vn q d * (rowR x0 x1 x2 x3 x4 x5 x6 x7 r).sn (col q d) := by
  pointwise [val_main_v20, val_main_v19, val_main_v18, val_main_v4, s17 x0 x1 x2 x3 x4 x5 x6 x7 r]
  try rfl

theorem s27 : val_main_v27 (F := Ideal) x1 (ix2 r 0) = nsq c512 (fun e => x1 (ix2 r e)) := by
  pointwise [val_main_v27, val_main_v26, val_main_cst_5, val_main_v25, val_main_v24, val_main_cst_4, val_main_v23, val_main_v22, val_main_cst_3, zero_bits, val_main_v21, div_512, nsq]
  try rfl

theorem s28 : val_main_v28 (F := Ideal) x1 (ix2 r 0) = nrm c512 (fun e => x1 (ix2 r e)) := by
  pointwise [val_main_v28, s27, nrm]
  try rfl

theorem s31 : val_main_v31 (F := Ideal) x1 (ix2 r 0) = Ideal.ofBits .f32 0xBF000000#32 * Ideal.div (nrm c512 (fun e => x1 (ix2 r e))) (nsq c512 (fun e => x1 (ix2 r e))) := by
  pointwise [val_main_v31, val_main_v30, val_main_cst_6, val_main_v29, s27, s28]
  try rfl

theorem s33 : val_main_v33 (F := Ideal) x1 (ix2 r k) = (rowR x0 x1 x2 x3 x4 x5 x6 x7 r).an0 k := by
  pointwise [val_main_v33, val_main_v32, s28]
  try rfl

theorem s36 : val_main_v36 (F := Ideal) x1 x4 (ix2 r k) = (rowR x0 x1 x2 x3 x4 x5 x6 x7 r).an0 k * (rowR x0 x1 x2 x3 x4 x5 x6 x7 r).an k := by
  pointwise [val_main_v36, val_main_v35, val_main_v34, s33 x0 x1 x2 x3 x4 x5 x6 x7 r]
  try rfl

theorem s37 : val_main_v37 (F := Ideal) x2 x3 x5 (ix2 r k) = (rowR x0 x1 x2 x3 x4 x5 x6 x7 r).vn (grp k) (off k) * (rowR x0 x1 x2 x3 x4 x5 x6 x7 r).sn k := by
  pointwise [val_main_v37, s20 x0 x1 x2 x3 x4 x5 x6 x7 r]
  exact congrArg ((rowR x0 x1 x2 x3 x4 x5 x6 x7 r).vn (grp k) (off k) * (rowR x0 x1 x2 x3 x4 x5 x6 x7 r).sn ·) (Row.col_grp k)

theorem s38 : val_main_v38 (F := Ideal) x1 x2 x3 x4 x5 (ix2 r j) = (rowR x0 x1 x2 x3 x4 x5 x6 x7 r).u j := by
  by_cases h : (j : ℕ) < 512
  · rw [Row.u, dif_pos h]
    pointwise [val_main_v38, s36 x0 x1 x2 x3 x4 x5 x6 x7 r]
    rw [dif_pos h]
  · rw [Row.u, dif_neg h]
    pointwise [val_main_v38, s37 x0 x1 x2 x3 x4 x5 x6 x7 r]
    rw [dif_neg h]

theorem s39 : val_main_v39 (F := Ideal) x1 x2 x3 x4 x5 x7 (ix2 r j) = (rowR x0 x1 x2 x3 x4 x5 x6 x7 r).mix j := by
  pointwise [val_main_v39, s38 x0 x1 x2 x3 x4 x5 x6 x7 r]
  try rfl

theorem s44 : val_main_v44 (F := Ideal) x0 x6 (ix2 r j) = (rowR x0 x1 x2 x3 x4 x5 x6 x7 r).dmix j := by
  pointwise [val_main_v44, val_main_v43, val_main_v40, Row.dmix, rowR]
  exact mul_comm _ _

theorem s51 : val_main_v51 (F := Ideal) x0 x6 x7 (ix2 r j) = (rowR x0 x1 x2 x3 x4 x5 x6 x7 r).du j := by
  pointwise [val_main_v51, s44 x0 x1 x2 x3 x4 x5 x6 x7 r]
  try rfl

theorem s52 : val_main_v52 (F := Ideal) x0 x6 x7 (ix2 r k) = (rowR x0 x1 x2 x3 x4 x5 x6 x7 r).duA k := by
  pointwise [val_main_v52, s51 x0 x1 x2 x3 x4 x5 x6 x7 r]
  try rfl

theorem s53 : val_main_v53 (F := Ideal) x0 x6 x7 (ix2 r k) = (rowR x0 x1 x2 x3 x4 x5 x6 x7 r).duS k := by
  pointwise [val_main_v53, s51 x0 x1 x2 x3 x4 x5 x6 x7 r]
  try rfl

theorem s54 : val_main_v54 (F := Ideal) x0 x6 x7 (ix3 r q d) = (rowR x0 x1 x2 x3 x4 x5 x6 x7 r).duS (col q d) := by
  pointwise [val_main_v54, s53 x0 x1 x2 x3 x4 x5 x6 x7 r]
  try rfl

theorem s59 : val_main_v59 (F := Ideal) x0 x4 x6 x7 (ix2 r k) = (rowR x0 x1 x2 x3 x4 x5 x6 x7 r).duA k * (rowR x0 x1 x2 x3 x4 x5 x6 x7 r).an k := by
  pointwise [val_main_v59, val_main_v58, val_main_v34, s52 x0 x1 x2 x3 x4 x5 x6 x7 r]
  try rfl

theorem s74 : val_main_v74 (F := Ideal) x0 x1 x4 x6 x7 (ix2 r k) = (rowR x0 x1 x2 x3 x4 x5 x6 x7 r).dya k := by
  pointwise [val_main_v74, val_main_v73, val_main_v72, val_main_v71, val_main_v70, val_main_v69, val_main_cst_13, val_main_v68, val_main_v67, val_main_cst_12, val_main_v66, val_main_v65, val_main_v64, val_main_v63, val_main_v62, val_main_cst_11, val_main_v61, zero_bits, div_512, s59 x0 x1 x2 x3 x4 x5 x6 x7 r, s28, s31, sum_fin1]
  try rfl

theorem s79 : val_main_v79 (F := Ideal) x0 x5 x6 x7 (ix3 r q d) = (rowR x0 x1 x2 x3 x4 x5 x6 x7 r).duS (col q d) * (rowR x0 x1 x2 x3 x4 x5 x6 x7 r).sn (col q d) := by
  pointwise [val_main_v79, val_main_v78, val_main_v18, val_main_v4, s54 x0 x1 x2 x3 x4 x5 x6 x7 r]
  try rfl

theorem s94 : val_main_v94 (F := Ideal) x0 x2 x3 x5 x6 x7 (ix3 r q d) = (rowR x0 x1 x2 x3 x4 x5 x6 x7 r).dv q d := by
  pointwise [val_main_v94, val_main_v93, val_main_v92, val_main_v91, val_main_v90, val_main_v89, val_main_cst_18, val_main_v88, val_main_v87, val_main_cst_17, val_main_v86, val_main_v85, val_main_v84, val_main_v83, val_main_v82, val_main_cst_16, val_main_v81, zero_bits, div_256, s79 x0 x1 x2 x3 x4 x5 x6 x7 r, s12 x0 x1 x2 x3 x4 x5 x6 x7 r, s15 x0 x1 x2 x3 x4 x5 x6 x7 r, s3 x0 x1 x2 x3 x4 x5 x6 x7 r, sum_fin1]
  try rfl

theorem s97 : val_main_v97 (F := Ideal) x0 x2 x3 x5 x6 x7 (ix3 r q d) = (rowR x0 x1 x2 x3 x4 x5 x6 x7 r).dv q d * ((rowR x0 x1 x2 x3 x4 x5 x6 x7 r).z (col q d) * (rowR x0 x1 x2 x3 x4 x5 x6 x7 r).sg (col q d)) := by
  pointwise [val_main_v97, s94 x0 x1 x2 x3 x4 x5 x6 x7 r, s1 x0 x1 x2 x3 x4 x5 x6 x7 r]
  try rfl

theorem s98 : val_main_v98 (F := Ideal) x0 x2 x3 x5 x6 x7 (ix2 r k) = (rowR x0 x1 x2 x3 x4 x5 x6 x7 r).dys k := by
  pointwise [val_main_v98, s97 x0 x1 x2 x3 x4 x5 x6 x7 r]
  show (rowR x0 x1 x2 x3 x4 x5 x6 x7 r).dv (grp k) (off k) * ((rowR x0 x1 x2 x3 x4 x5 x6 x7 r).z (col (grp k) (off k)) * (rowR x0 x1 x2 x3 x4 x5 x6 x7 r).sg (col (grp k) (off k))) = _
  rw [Row.col_grp]
  rfl

theorem s96 : val_main_v96 (F := Ideal) x0 x2 x3 x5 x6 x7 (ix3 r q d) = (rowR x0 x1 x2 x3 x4 x5 x6 x7 r).ys (col q d) * (rowR x0 x1 x2 x3 x4 x5 x6 x7 r).dv q d := by
  pointwise [val_main_v96, val_main_v2, s94 x0 x1 x2 x3 x4 x5 x6 x7 r]
  try rfl

theorem s99 : val_main_v99 (F := Ideal) x0 x2 x3 x5 x6 x7 (ix2 r k) = (rowR x0 x1 x2 x3 x4 x5 x6 x7 r).ys k * (rowR x0 x1 x2 x3 x4 x5 x6 x7 r).dvk k := by
  pointwise [val_main_v99, s96 x0 x1 x2 x3 x4 x5 x6 x7 r]
  show (rowR x0 x1 x2 x3 x4 x5 x6 x7 r).ys (col (grp k) (off k)) * (rowR x0 x1 x2 x3 x4 x5 x6 x7 r).dv (grp k) (off k) = _
  rw [Row.col_grp]
  rfl

theorem s106 : val_main_v106 (F := Ideal) x0 x2 x3 x5 x6 x7 (ix2 r k) = (rowR x0 x1 x2 x3 x4 x5 x6 x7 r).dz k := by
  pointwise [val_main_v106, val_main_v100, val_main_call1_v2, val_main_call1_v1, val_main_call1_v0, s99 x0 x1 x2 x3 x4 x5 x6 x7 r, s0_2 x0 x1 x2 x3 x4 x5 x6 x7 r, s0_1 x0 x1 x2 x3 x4 x5 x6 x7 r]
  try rfl

theorem s107 (i j : Fin 1024) : val_main_v107 (F := Ideal) x0 x1 x2 x3 x4 x5 x6 (ix2 i j) = ∑ r, (rowR x0 x1 x2 x3 x4 x5 x6 x7 r).gw i j := by
  pointwise [val_main_v107, val_main_v50, val_main_v49, s44 x0 x1 x2 x3 x4 x5 x6 x7, s38 x0 x1 x2 x3 x4 x5 x6 x7, Row.gw]
  exact Finset.sum_congr rfl fun r _ => mul_comm _ _

theorem s48 : val_main_v48 (F := Ideal) x0 x1 x2 x3 x4 x5 x7 (ix1 j) = ∑ r, (rowR x0 x1 x2 x3 x4 x5 x6 x7 r).ct j * (rowR x0 x1 x2 x3 x4 x5 x6 x7 r).mix j := by
  pointwise [val_main_v48, val_main_cst_8, zero_bits, val_main_v47, val_main_v46, val_main_cst_7, val_main_v45, s39 x0 x1 x2 x3 x4 x5 x6 x7]
  exact sum_fin1 _

theorem s60 : val_main_v60 (F := Ideal) x0 x1 x6 x7 (ix1 k) = ∑ r, (rowR x0 x1 x2 x3 x4 x5 x6 x7 r).an0 k * (rowR x0 x1 x2 x3 x4 x5 x6 x7 r).duA k := by
  pointwise [val_main_v60, val_main_cst_10, zero_bits, val_main_v57, val_main_v56, val_main_cst_9, val_main_v55, s33 x0 x1 x2 x3 x4 x5 x6 x7, s52 x0 x1 x2 x3 x4 x5 x6 x7]
  exact sum_fin1 _

theorem s80 : val_main_v80 (F := Ideal) x0 x2 x3 x6 x7 (ix2 q d) = ∑ r, (rowR x0 x1 x2 x3 x4 x5 x6 x7 r).vn q d * (rowR x0 x1 x2 x3 x4 x5 x6 x7 r).duS (col q d) := by
  pointwise [val_main_v80, val_main_cst_15, zero_bits, val_main_v77, val_main_v76, val_main_cst_14, val_main_v75, s17 x0 x1 x2 x3 x4 x5 x6 x7, s54 x0 x1 x2 x3 x4 x5 x6 x7]
  exact sum_fin1 _

theorem s95 : val_main_v95 (F := Ideal) x0 x2 x3 x6 x7 (ix1 k) = ∑ r, (rowR x0 x1 x2 x3 x4 x5 x6 x7 r).vn (grp k) (off k) * (rowR x0 x1 x2 x3 x4 x5 x6 x7 r).duS k := by
  pointwise [val_main_v95, s80 x0 x1 x2 x3 x4 x5 x6 x7]
  show ∑ r, (rowR x0 x1 x2 x3 x4 x5 x6 x7 r).vn (grp k) (off k) * (rowR x0 x1 x2 x3 x4 x5 x6 x7 r).duS (col (grp k) (off k)) = _
  rw [Row.col_grp]

theorem s102 : val_main_v102 (F := Ideal) x0 x1 x2 x3 x6 x7 (ix1 j) = ∑ r, (rowR x0 x1 x2 x3 x4 x5 x6 x7 r).nacc j := by
  by_cases h : (j : ℕ) < 512
  · simp only [Row.nacc, dif_pos h]
    pointwise [val_main_v102, s60 x0 x1 x2 x3 x4 x5 x6 x7]
    rw [dif_pos h]
  · simp only [Row.nacc, dif_neg h]
    pointwise [val_main_v102, s95 x0 x1 x2 x3 x4 x5 x6 x7]
    rw [dif_neg h]

theorem s105 (i : Fin 8) : val_main_v105 (F := Ideal) x0 x1 x2 x3 x4 x5 x6 x7 (ix2 i j) = ∑ r, (rowR x0 x1 x2 x3 x4 x5 x6 x7 r).acc i j := by
  unfold Row.acc
  pointwise [val_main_v105, val_main_v101, val_main_v103, val_main_v104, val_main_cst_19, zero_bits, s48 x0 x1 x2 x3 x4 x5 x6 x7, s102 x0 x1 x2 x3 x4 x5 x6 x7]
  fin_cases i
  · rfl
  · rfl
  all_goals exact Finset.sum_const_zero.symm

end Cert.Gate

end

end
-- ==== Proof.GatePay.lean ====
module

public import proofs.«01_k».proof.Proof.Gen.Kernel4Ideal.Skeleton
public import proofs.«01_k».proof.Proof.GateRow

@[expose] public section

set_option maxRecDepth 16384

noncomputable section

open Idealize.ShloMosaic
open Cert.Kernel4Ideal Cert.Kernel4Ideal.Gen Cert.InProj

namespace Cert.Gate

/-! What the kernel computes on a block of 512 rows, read at an index: `D` the residual's cotangent, `YA`, `YS`, `Z` the two mixers'
outputs and the gate's argument, `AN`, `SN` the gains, `G` the residual's gate, `W` the weight. -/

/-- The columns of group `q`. -/
def cut (X : FVec Ideal S512x512 .f32) (q : Fin 2) : FVec Ideal S512x256 .f32 := fun i => X (ix2 (i 0) (col q (i 1)))

def cutR (X : FVec Ideal S1x512 .f32) (q : Fin 2) : FVec Ideal S1x256 .f32 := fun i => X (ix2 (i 0) (col q (i 1)))

variable (D : FVec Ideal S512x1024 .f32) (YA YS Z : FVec Ideal S512x512 .f32) (AN SN : FVec Ideal S1x512 .f32) (G a : FVec Ideal S1x1024 .f32)
  (W : FVec Ideal S1024x1024 .bf16) (v : FVec Ideal S512x256 .f32) (p : Fin 512) (q : Fin 2) (d : Fin 256) (k : Fin 512) (j : Fin 1024)

/-- Row `p` of the block. -/
def rowK : Row where
  ct e := D (ix2 p e)
  ya e := YA (ix2 p e)
  ys e := YS (ix2 p e)
  z e := Z (ix2 p e)
  an e := AN (ix2 0 e)
  sn e := SN (ix2 0 e)
  gt e := G (ix2 0 e)
  W k j := W (ix2 k j)

theorem sum_one (f : Fin 1 → EReal) : ∑ i, f i = f 0 := by
  simp only [Finset.univ_unique, Finset.sum_singleton, Fin.default_eq_zero, Fin.isValue]

theorem pay6_at : k0_pay6 (F := Ideal) AN (ix2 0 k) = AN (ix2 0 k) := by
  pointwise [k0_pay6]

theorem pay32_at : k0_pay32 (F := Ideal) G (ix2 0 j) = G (ix2 0 j) := by
  pointwise [k0_pay32]

theorem pay7_at : k0_pay7 (F := Ideal) (cutR SN q) (ix2 0 d) = SN (ix2 0 (col q d)) := by
  pointwise [k0_pay7]
  try rfl

theorem pay8_at : k0_pay8 (F := Ideal) (cutR SN q) (ix2 0 d) = SN (ix2 0 (col q d)) := by
  pointwise [k0_pay8]
  try rfl

theorem pay9_at : k0_pay9 (F := Ideal) YA (ix2 p 0) = nsq c512 (fun e => YA (ix2 p e)) := by
  pointwise [k0_pay9, nsq, c512]

theorem pay10_at : k0_pay10 (F := Ideal) YA (ix2 p 0) = nrm c512 (fun e => YA (ix2 p e)) := by
  pointwise [k0_pay10, pay9_at, nrm]

theorem pay11_at : k0_pay11 (F := Ideal) YA (ix2 p 0) = Ideal.ofBits .f32 0xBF000000#32 * Ideal.div (nrm c512 (fun e => YA (ix2 p e))) (nsq c512 (fun e => YA (ix2 p e))) := by
  pointwise [k0_pay11, pay9_at, pay10_at]

theorem pay12_at : k0_pay12 (F := Ideal) YA (ix2 p k) = (rowK D YA YS Z AN SN G W p).an0 k := by
  pointwise [k0_pay12, pay10_at]
  try rfl

theorem pay13_at : k0_pay13 (F := Ideal) YA AN (ix2 p k) = (rowK D YA YS Z AN SN G W p).an0 k * (rowK D YA YS Z AN SN G W p).an k := by
  pointwise [k0_pay13, pay12_at D YA YS Z AN SN G W p, pay6_at]
  try rfl

theorem pay14_at : k0_pay14 (F := Ideal) (cut Z q) (ix2 p d) = (rowK D YA YS Z AN SN G W p).sg (col q d) := by
  pointwise [k0_pay14]
  try rfl

theorem pay15_at : k0_pay15 (F := Ideal) (cut Z q) (ix2 p d) = (rowK D YA YS Z AN SN G W p).sg (col q d) * (1 - (rowK D YA YS Z AN SN G W p).sg (col q d)) := by
  pointwise [k0_pay15, pay14_at D YA YS Z AN SN G W p, one_bits]
  try rfl

theorem pay16_at : k0_pay16 (F := Ideal) (cut Z q) (ix2 p d) = (rowK D YA YS Z AN SN G W p).z (col q d) * (rowK D YA YS Z AN SN G W p).sg (col q d) := by
  pointwise [k0_pay16, pay14_at D YA YS Z AN SN G W p]
  try rfl

theorem pay17_at : k0_pay17 (F := Ideal) (cut YS q) (cut Z q) (ix2 p d) = (rowK D YA YS Z AN SN G W p).v q d := by
  pointwise [k0_pay17, pay16_at D YA YS Z AN SN G W p]
  try rfl

theorem pay22_at : k0_pay22 (F := Ideal) (cut Z q) (ix2 p d) = (rowK D YA YS Z AN SN G W p).sg (col q d) := by
  pointwise [k0_pay22]
  try rfl

theorem pay23_at : k0_pay23 (F := Ideal) (cut Z q) (ix2 p d) = (rowK D YA YS Z AN SN G W p).sg (col q d) * (1 - (rowK D YA YS Z AN SN G W p).sg (col q d)) := by
  pointwise [k0_pay23, pay22_at D YA YS Z AN SN G W p, one_bits]
  try rfl

theorem pay24_at : k0_pay24 (F := Ideal) (cut Z q) (ix2 p d) = (rowK D YA YS Z AN SN G W p).z (col q d) * (rowK D YA YS Z AN SN G W p).sg (col q d) := by
  pointwise [k0_pay24, pay22_at D YA YS Z AN SN G W p]
  try rfl

theorem pay25_at : k0_pay25 (F := Ideal) (cut YS q) (cut Z q) (ix2 p d) = (rowK D YA YS Z AN SN G W p).v q d := by
  pointwise [k0_pay25, pay24_at D YA YS Z AN SN G W p]
  try rfl

theorem pay18_at : k0_pay18 (F := Ideal) (k0_pay17 (cut YS q) (cut Z q)) (ix2 p 0) = nsq c256 ((rowK D YA YS Z AN SN G W p).v q) := by
  pointwise [k0_pay18, pay17_at D YA YS Z AN SN G W p, nsq, c256]
  try rfl

theorem pay19_at : k0_pay19 (F := Ideal) (k0_pay17 (cut YS q) (cut Z q)) (ix2 p 0) = nrm c256 ((rowK D YA YS Z AN SN G W p).v q) := by
  pointwise [k0_pay19, pay18_at D YA YS Z AN SN G W p, nrm]
  try rfl

theorem pay20_at : k0_pay20 (F := Ideal) (k0_pay17 (cut YS q) (cut Z q)) (ix2 p 0) = Ideal.ofBits .f32 0xBF000000#32 * Ideal.div (nrm c256 ((rowK D YA YS Z AN SN G W p).v q)) (nsq c256 ((rowK D YA YS Z AN SN G W p).v q)) := by
  pointwise [k0_pay20, pay18_at D YA YS Z AN SN G W p, pay19_at D YA YS Z AN SN G W p]
  try rfl

theorem pay21_at : k0_pay21 (F := Ideal) (k0_pay17 (cut YS q) (cut Z q)) (ix2 p d) = (rowK D YA YS Z AN SN G W p).vn q d := by
  pointwise [k0_pay21, pay19_at D YA YS Z AN SN G W p, pay17_at D YA YS Z AN SN G W p]
  try rfl

theorem pay26_at : k0_pay26 (F := Ideal) (cut YS q) (cut Z q) (ix2 p 0) = nsq c256 ((rowK D YA YS Z AN SN G W p).v q) := by
  pointwise [k0_pay26, pay25_at D YA YS Z AN SN G W p, nsq, c256]
  try rfl

theorem pay27_at : k0_pay27 (F := Ideal) (cut YS q) (cut Z q) (ix2 p 0) = nrm c256 ((rowK D YA YS Z AN SN G W p).v q) := by
  pointwise [k0_pay27, pay26_at D YA YS Z AN SN G W p, nrm]
  try rfl

theorem pay28_at : k0_pay28 (F := Ideal) (cut YS q) (cut Z q) (ix2 p 0) = Ideal.ofBits .f32 0xBF000000#32 * Ideal.div (nrm c256 ((rowK D YA YS Z AN SN G W p).v q)) (nsq c256 ((rowK D YA YS Z AN SN G W p).v q)) := by
  pointwise [k0_pay28, pay26_at D YA YS Z AN SN G W p, pay27_at D YA YS Z AN SN G W p]
  try rfl

theorem pay29_at : k0_pay29 (F := Ideal) (cut YS q) (cut Z q) (ix2 p d) = (rowK D YA YS Z AN SN G W p).vn q d := by
  pointwise [k0_pay29, pay27_at D YA YS Z AN SN G W p, pay25_at D YA YS Z AN SN G W p]
  try rfl

/-- A column of the projection's argument, by its part. -/
theorem col_cases (j : Fin 1024) : (∃ k : Fin 512, j = ⟨k, by omega⟩) ∨ ∃ (q : Fin 2) (d : Fin 256), j = ⟨512 + (q * 256 + d), by omega⟩ := by
  by_cases h : (j : ℕ) < 512
  · exact .inl ⟨⟨j, h⟩, rfl⟩
  · exact .inr ⟨⟨(j - 512) / 256, by omega⟩, ⟨(j - 512) % 256, by omega⟩, Fin.ext (by show (j : ℕ) = 512 + ((j - 512) / 256 * 256 + (j - 512) % 256); omega)⟩

theorem pay30_at : k0_pay30 (F := Ideal) (cut YS 1) (cut Z 1) (k0_pay7 (cutR SN 0)) (k0_pay8 (cutR SN 1)) (k0_pay13 YA AN) (k0_pay17 (cut YS 0) (cut Z 0)) (ix2 p j)
    = (rowK D YA YS Z AN SN G W p).u j := by
  rcases col_cases j with ⟨k, rfl⟩ | ⟨q, d, rfl⟩
  · rw [Row.u_lo]
    pointwise [k0_pay30, pay13_at D YA YS Z AN SN G W p]
  · rw [Row.u_hi]
    fin_cases q
    · pointwise [k0_pay30, pay13_at D YA YS Z AN SN G W p, pay21_at D YA YS Z AN SN G W p, pay7_at, pay29_at D YA YS Z AN SN G W p, pay8_at]
      rfl
    · pointwise [k0_pay30, pay13_at D YA YS Z AN SN G W p, pay21_at D YA YS Z AN SN G W p, pay7_at, pay29_at D YA YS Z AN SN G W p, pay8_at]
      rfl

theorem pay31_at : k0_pay31 (F := Ideal) (cut YS 1) (cut Z 1) (k0_pay7 (cutR SN 0)) (k0_pay8 (cutR SN 1)) (k0_pay13 YA AN) (k0_pay17 (cut YS 0) (cut Z 0)) W (ix2 p j) = (rowK D YA YS Z AN SN G W p).mix j := by
  pointwise [k0_pay31, pay30_at D YA YS Z AN SN G W p]
  try rfl

theorem pay33_at : k0_pay33 (F := Ideal) D (k0_pay32 G) (ix2 p j) = (rowK D YA YS Z AN SN G W p).dmix j := by
  pointwise [k0_pay33, pay32_at]
  try rfl

theorem pay34_at : k0_pay34 (F := Ideal) D (k0_pay32 G) W (ix2 p j) = (rowK D YA YS Z AN SN G W p).du j := by
  pointwise [k0_pay34, pay33_at D YA YS Z AN SN G W p]
  try rfl

theorem pay35_at (w : FVec Ideal S1024x1024 .f32) (i j : Fin 1024) :
    k0_pay35 (F := Ideal) D (k0_pay30 (cut YS 1) (cut Z 1) (k0_pay7 (cutR SN 0)) (k0_pay8 (cutR SN 1)) (k0_pay13 YA AN) (k0_pay17 (cut YS 0) (cut Z 0))) (k0_pay32 G) w (ix2 i j) = w (ix2 i j) + ∑ p : Fin 512, (rowK D YA YS Z AN SN G W p).gw i j := by
  pointwise [k0_pay35]
  simp only [pay30_at D YA YS Z AN SN G W, pay33_at D YA YS Z AN SN G W]
  rfl

theorem pay36_at : k0_pay36 (F := Ideal) D (k0_pay32 G) W (ix2 p k) = (rowK D YA YS Z AN SN G W p).duA k := by
  pointwise [k0_pay36, pay34_at D YA YS Z AN SN G W p]
  try rfl

theorem pay37_at : k0_pay37 (F := Ideal) D (k0_pay32 G) W (ix2 p d) = (rowK D YA YS Z AN SN G W p).duS (col 0 d) := by
  pointwise [k0_pay37, pay34_at D YA YS Z AN SN G W p]
  exact congrArg (rowK D YA YS Z AN SN G W p).du (Fin.ext (by show 512 + (d : ℕ) = 512 + (0 * 256 + (d : ℕ)); omega))

theorem pay38_at : k0_pay38 (F := Ideal) D (k0_pay32 G) W (ix2 p d) = (rowK D YA YS Z AN SN G W p).duS (col 1 d) := by
  pointwise [k0_pay38, pay34_at D YA YS Z AN SN G W p]
  exact congrArg (rowK D YA YS Z AN SN G W p).du (Fin.ext (by show 768 + (d : ℕ) = 512 + (1 * 256 + (d : ℕ)); omega))

theorem pay39_at : k0_pay39 (F := Ideal) (k0_pay29 (cut YS 1) (cut Z 1)) D (k0_pay32 G) W (ix2 0 d) = ∑ p, (rowK D YA YS Z AN SN G W p).vn 1 d * (rowK D YA YS Z AN SN G W p).duS (col 1 d) := by
  pointwise [k0_pay39, pay29_at D YA YS Z AN SN G W, pay38_at D YA YS Z AN SN G W]
  try rfl

theorem pay40_at : k0_pay40 (F := Ideal) (k0_pay8 (cutR SN 1)) (k0_pay25 (cut YS 1) (cut Z 1)) (k0_pay27 (cut YS 1) (cut Z 1)) (k0_pay28 (cut YS 1) (cut Z 1)) D (k0_pay32 G) W (ix2 p d) = (rowK D YA YS Z AN SN G W p).dv 1 d := by
  pointwise [k0_pay40, pay38_at D YA YS Z AN SN G W p, pay8_at, pay25_at D YA YS Z AN SN G W p, pay27_at D YA YS Z AN SN G W p, pay28_at D YA YS Z AN SN G W p, sum_one]
  try rfl

theorem pay41_at : k0_pay41 (F := Ideal) (k0_pay8 (cutR SN 1)) (k0_pay24 (cut Z 1)) (k0_pay25 (cut YS 1) (cut Z 1)) (k0_pay27 (cut YS 1) (cut Z 1)) (k0_pay28 (cut YS 1) (cut Z 1)) D (k0_pay32 G) W (ix2 p d) = (rowK D YA YS Z AN SN G W p).dys (col 1 d) := by
  pointwise [k0_pay41, pay40_at D YA YS Z AN SN G W p, pay24_at D YA YS Z AN SN G W p, Row.dys, Row.dvk_col]
  try rfl

theorem pay42_at : k0_pay42 (F := Ideal) (cut YS 1) (cut Z 1) (k0_pay8 (cutR SN 1)) (k0_pay22 (cut Z 1)) (k0_pay23 (cut Z 1)) (k0_pay25 (cut YS 1) (cut Z 1)) (k0_pay27 (cut YS 1) (cut Z 1)) (k0_pay28 (cut YS 1) (cut Z 1)) D (k0_pay32 G) W (ix2 p d) = (rowK D YA YS Z AN SN G W p).dz (col 1 d) := by
  pointwise [k0_pay42, pay40_at D YA YS Z AN SN G W p, pay22_at D YA YS Z AN SN G W p, pay23_at D YA YS Z AN SN G W p, Row.dz, Row.dvk_col]
  try rfl

theorem pay43_at : k0_pay43 (F := Ideal) (k0_pay21 (k0_pay17 (cut YS 0) (cut Z 0))) D (k0_pay32 G) W (ix2 0 d) = ∑ p, (rowK D YA YS Z AN SN G W p).vn 0 d * (rowK D YA YS Z AN SN G W p).duS (col 0 d) := by
  pointwise [k0_pay43, pay21_at D YA YS Z AN SN G W, pay37_at D YA YS Z AN SN G W]
  try rfl

theorem pay44_at : k0_pay44 (F := Ideal) (k0_pay7 (cutR SN 0)) D (k0_pay32 G) W (ix2 p d) = (rowK D YA YS Z AN SN G W p).duS (col 0 d) * (rowK D YA YS Z AN SN G W p).sn (col 0 d) := by
  pointwise [k0_pay44, pay37_at D YA YS Z AN SN G W p, pay7_at]
  try rfl

theorem pay45_at : k0_pay45 (F := Ideal) (k0_pay17 (cut YS 0) (cut Z 0)) (k0_pay19 (k0_pay17 (cut YS 0) (cut Z 0))) (k0_pay20 (k0_pay17 (cut YS 0) (cut Z 0))) (k0_pay44 (k0_pay7 (cutR SN 0)) D (k0_pay32 G) W) (ix2 p d) = (rowK D YA YS Z AN SN G W p).dv 0 d := by
  pointwise [k0_pay45, pay44_at D YA YS Z AN SN G W p, pay17_at D YA YS Z AN SN G W p, pay19_at D YA YS Z AN SN G W p, pay20_at D YA YS Z AN SN G W p, sum_one]
  try rfl

theorem pay46_at : k0_pay46 (F := Ideal) (k0_pay12 YA) (k0_pay36 D (k0_pay32 G) W) (ix2 0 k) = ∑ p, (rowK D YA YS Z AN SN G W p).an0 k * (rowK D YA YS Z AN SN G W p).duA k := by
  pointwise [k0_pay46, pay12_at D YA YS Z AN SN G W, pay36_at D YA YS Z AN SN G W]
  try rfl

theorem pay47_at : k0_pay47 (F := Ideal) YA (k0_pay6 AN) (k0_pay10 YA) (k0_pay11 YA) (k0_pay36 D (k0_pay32 G) W) (ix2 p k) = (rowK D YA YS Z AN SN G W p).dya k := by
  pointwise [k0_pay47, pay36_at D YA YS Z AN SN G W p, pay6_at, pay10_at, pay11_at, sum_one]
  try rfl

/-- A column of a mixer's width, by its group. -/
theorem grp_cases (k : Fin 512) : ∃ (q : Fin 2) (d : Fin 256), k = col q d :=
  ⟨grp k, off k, (Row.col_grp k).symm⟩

theorem cut_at (X : FVec Ideal S512x512 .f32) : cut X q (ix2 p d) = X (ix2 p (col q d)) := rfl

theorem pay48_0 : k0_pay48 (F := Ideal) (k0_pay16 (cut Z 0)) (k0_pay17 (cut YS 0) (cut Z 0)) (k0_pay19 (k0_pay17 (cut YS 0) (cut Z 0))) (k0_pay20 (k0_pay17 (cut YS 0) (cut Z 0))) (k0_pay41 (k0_pay8 (cutR SN 1)) (k0_pay24 (cut Z 1)) (k0_pay25 (cut YS 1) (cut Z 1)) (k0_pay27 (cut YS 1) (cut Z 1)) (k0_pay28 (cut YS 1) (cut Z 1)) D (k0_pay32 G) W) (k0_pay44 (k0_pay7 (cutR SN 0)) D (k0_pay32 G) W) (ix2 p (col 0 d)) = (rowK D YA YS Z AN SN G W p).dys (col 0 d) := by
  rw [Row.dys, Row.dvk_col]
  pointwise [k0_pay48, pay45_at D YA YS Z AN SN G W p, pay16_at D YA YS Z AN SN G W p, pay41_at D YA YS Z AN SN G W p, col]

theorem pay48_1 : k0_pay48 (F := Ideal) (k0_pay16 (cut Z 0)) (k0_pay17 (cut YS 0) (cut Z 0)) (k0_pay19 (k0_pay17 (cut YS 0) (cut Z 0))) (k0_pay20 (k0_pay17 (cut YS 0) (cut Z 0))) (k0_pay41 (k0_pay8 (cutR SN 1)) (k0_pay24 (cut Z 1)) (k0_pay25 (cut YS 1) (cut Z 1)) (k0_pay27 (cut YS 1) (cut Z 1)) (k0_pay28 (cut YS 1) (cut Z 1)) D (k0_pay32 G) W) (k0_pay44 (k0_pay7 (cutR SN 0)) D (k0_pay32 G) W) (ix2 p (col 1 d)) = (rowK D YA YS Z AN SN G W p).dys (col 1 d) := by
  pointwise [k0_pay48, pay45_at D YA YS Z AN SN G W p, pay16_at D YA YS Z AN SN G W p, pay41_at D YA YS Z AN SN G W p, col]

theorem pay48_at : k0_pay48 (F := Ideal) (k0_pay16 (cut Z 0)) (k0_pay17 (cut YS 0) (cut Z 0)) (k0_pay19 (k0_pay17 (cut YS 0) (cut Z 0))) (k0_pay20 (k0_pay17 (cut YS 0) (cut Z 0))) (k0_pay41 (k0_pay8 (cutR SN 1)) (k0_pay24 (cut Z 1)) (k0_pay25 (cut YS 1) (cut Z 1)) (k0_pay27 (cut YS 1) (cut Z 1)) (k0_pay28 (cut YS 1) (cut Z 1)) D (k0_pay32 G) W) (k0_pay44 (k0_pay7 (cutR SN 0)) D (k0_pay32 G) W) (ix2 p k) = (rowK D YA YS Z AN SN G W p).dys k := by
  obtain ⟨q, d, rfl⟩ := grp_cases k
  fin_cases q
  · exact pay48_0 D YA YS Z AN SN G W p d
  · exact pay48_1 D YA YS Z AN SN G W p d

theorem pay49_0 : k0_pay49 (F := Ideal) (cut YS 0) (cut Z 0) (k0_pay14 (cut Z 0)) (k0_pay15 (cut Z 0)) (k0_pay17 (cut YS 0) (cut Z 0)) (k0_pay19 (k0_pay17 (cut YS 0) (cut Z 0))) (k0_pay20 (k0_pay17 (cut YS 0) (cut Z 0))) (k0_pay42 (cut YS 1) (cut Z 1) (k0_pay8 (cutR SN 1)) (k0_pay22 (cut Z 1)) (k0_pay23 (cut Z 1)) (k0_pay25 (cut YS 1) (cut Z 1)) (k0_pay27 (cut YS 1) (cut Z 1)) (k0_pay28 (cut YS 1) (cut Z 1)) D (k0_pay32 G) W) (k0_pay44 (k0_pay7 (cutR SN 0)) D (k0_pay32 G) W) (ix2 p (col 0 d)) = (rowK D YA YS Z AN SN G W p).dz (col 0 d) := by
  rw [Row.dz, Row.dvk_col]
  pointwise [k0_pay49, pay45_at D YA YS Z AN SN G W p, pay14_at D YA YS Z AN SN G W p, pay15_at D YA YS Z AN SN G W p, pay42_at D YA YS Z AN SN G W p, col, cut_at]
  rfl

theorem pay49_1 : k0_pay49 (F := Ideal) (cut YS 0) (cut Z 0) (k0_pay14 (cut Z 0)) (k0_pay15 (cut Z 0)) (k0_pay17 (cut YS 0) (cut Z 0)) (k0_pay19 (k0_pay17 (cut YS 0) (cut Z 0))) (k0_pay20 (k0_pay17 (cut YS 0) (cut Z 0))) (k0_pay42 (cut YS 1) (cut Z 1) (k0_pay8 (cutR SN 1)) (k0_pay22 (cut Z 1)) (k0_pay23 (cut Z 1)) (k0_pay25 (cut YS 1) (cut Z 1)) (k0_pay27 (cut YS 1) (cut Z 1)) (k0_pay28 (cut YS 1) (cut Z 1)) D (k0_pay32 G) W) (k0_pay44 (k0_pay7 (cutR SN 0)) D (k0_pay32 G) W) (ix2 p (col 1 d)) = (rowK D YA YS Z AN SN G W p).dz (col 1 d) := by
  pointwise [k0_pay49, pay45_at D YA YS Z AN SN G W p, pay14_at D YA YS Z AN SN G W p, pay15_at D YA YS Z AN SN G W p, pay42_at D YA YS Z AN SN G W p, col]

theorem pay49_at : k0_pay49 (F := Ideal) (cut YS 0) (cut Z 0) (k0_pay14 (cut Z 0)) (k0_pay15 (cut Z 0)) (k0_pay17 (cut YS 0) (cut Z 0)) (k0_pay19 (k0_pay17 (cut YS 0) (cut Z 0))) (k0_pay20 (k0_pay17 (cut YS 0) (cut Z 0))) (k0_pay42 (cut YS 1) (cut Z 1) (k0_pay8 (cutR SN 1)) (k0_pay22 (cut Z 1)) (k0_pay23 (cut Z 1)) (k0_pay25 (cut YS 1) (cut Z 1)) (k0_pay27 (cut YS 1) (cut Z 1)) (k0_pay28 (cut YS 1) (cut Z 1)) D (k0_pay32 G) W) (k0_pay44 (k0_pay7 (cutR SN 0)) D (k0_pay32 G) W) (ix2 p k) = (rowK D YA YS Z AN SN G W p).dz k := by
  obtain ⟨q, d, rfl⟩ := grp_cases k
  fin_cases q
  · exact pay49_0 D YA YS Z AN SN G W p d
  · exact pay49_1 D YA YS Z AN SN G W p d

theorem pay1_at : k0_pay1 (F := Ideal) D (k0_pay31 (cut YS 1) (cut Z 1) (k0_pay7 (cutR SN 0)) (k0_pay8 (cutR SN 1)) (k0_pay13 YA AN) (k0_pay17 (cut YS 0) (cut Z 0)) W) a (ix2 0 j) = a (ix2 0 j) + ∑ p, (rowK D YA YS Z AN SN G W p).acc 0 j := by
  pointwise [k0_pay1]
  simp only [pay31_at D YA YS Z AN SN G W]
  rfl

theorem pay2_at : k0_pay2 (F := Ideal) (k0_pay39 (k0_pay29 (cut YS 1) (cut Z 1)) D (k0_pay32 G) W) (k0_pay43 (k0_pay21 (k0_pay17 (cut YS 0) (cut Z 0))) D (k0_pay32 G) W)
    (k0_pay46 (k0_pay12 YA) (k0_pay36 D (k0_pay32 G) W)) a (ix2 0 j) = a (ix2 0 j) + ∑ p, (rowK D YA YS Z AN SN G W p).acc 1 j := by
  show _ = _ + ∑ p, (rowK D YA YS Z AN SN G W p).nacc j
  rcases col_cases j with ⟨k, rfl⟩ | ⟨q, d, rfl⟩
  · simp only [Row.nacc_lo]
    pointwise [k0_pay2, pay46_at D YA YS Z AN SN G W]
  · simp only [Row.nacc_hi]
    fin_cases q
    · pointwise [k0_pay2, pay43_at D YA YS Z AN SN G W]
      try rfl
    · pointwise [k0_pay2, pay39_at D YA YS Z AN SN G W]
      try rfl

end Cert.Gate

end

end
-- ==== Proof.GateKer.lean ====
module

public import proofs.«01_k».proof.Proof.Gen.Kernel4Ideal.Value
public import proofs.«01_k».proof.Proof.GatePay
public import proofs.«01_k».proof.Proof.RowStore
public import Idealize.ShloMosaic.Lib.Pointwise
public import Idealize.ShloMosaic.Lib.Pipeline.ValueKit
public import Idealize.ShloMosaic.Lib.Claim
public import Idealize.ShloMosaic.Lib.WritesUnit
public import Idealize.ShloMosaic.Lib.Pipeline.ReadBack
public import Idealize.ShloMosaic.Lib.ValueLayout
public import Idealize.ShloMosaic.Lib.ViewIndex

@[expose] public section

set_option maxRecDepth 16384

noncomputable section

open Idealize.ShloMosaic Idealize.ShloMosaic.TcCoe Idealize.SL.Sem
open Idealize.ShloMosaic.Tactic
open Idealize.ShloMosaic.Pipeline (Dat)
open Cert.Kernel4Ideal Cert.Kernel4Ideal.Gen Cert.InProj Cert.RowStore

namespace Cert.Gate

/-! What the kernel's eight arguments hold on a block of 512 rows, and what it leaves in its results. -/

variable (m : (ℓ : Loc nD τ sig) → Buf (Elt Ideal) ℓ)

theorem idx_val : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![0, 0] ∧ win0_12.index t = ![0, 0] :=
  (by decide +kernel : ∀ t : Fin grid0.N, _)

/-- A grid position as one of the 16 blocks. -/
def pt (t : Fin cfg0.N) : Fin 16 := ⟨t.val, lt_of_lt_of_eq t.isLt N_0⟩

/-- Row `p` of block `t`. -/
def at512 (t : Fin 16) (p : Fin 512) : Fin 8192 := ⟨t.val * 512 + p.val, by omega⟩

theorem rowCast (x : FVec Ideal S1024 .f32) (i0 : Fin 1) (i1 : Fin 1024) :
    shapeCast S1x1024 x shapeCasts_S1024_S1x1024 (ix2 i0 i1) = x (ix1 i1) := by
  pointwise []

theorem rowCast' (x : FVec Ideal S512 .f32) (i0 : Fin 1) (i1 : Fin 512) :
    shapeCast S1x512 x shapeCasts_S512_S1x512 (ix2 i0 i1) = x (ix1 i1) := by
  pointwise []

theorem V_v0 (c : Dev nD) : V m c main_v0 = shapeCast S1x512 (show FVec Ideal S512 .f32 from m ((c : Thread nD τ).loc main_arg4))
    shapeCasts_S512_S1x512 := by
  unfold V
  simp only [List.flatten_cons, List.flatten_nil, List.append_nil, List.cons_append, List.nil_append]
  after_results
  rfl

theorem V_v1 (c : Dev nD) : V m c main_v1 = shapeCast S1x512 (show FVec Ideal S512 .f32 from m ((c : Thread nD τ).loc main_arg5))
    shapeCasts_S512_S1x512 := by
  unfold V
  simp only [List.flatten_cons, List.flatten_nil, List.append_nil, List.cons_append, List.nil_append]
  after_results
  rfl

theorem V_v2 (c : Dev nD) : V m c main_v2 = shapeCast S1x1024 (show FVec Ideal S1024 .f32 from m ((c : Thread nD τ).loc main_arg6))
    shapeCasts_S1024_S1x1024 := by
  unfold V
  simp only [List.flatten_cons, List.flatten_nil, List.append_nil, List.cons_append, List.nil_append]
  after_results
  rfl

theorem V_v3 (c : Dev nD) : V m c main_v3 = truncf (F := Ideal) .bf16 (show FVec Ideal S1024x1024 .f32 from m ((c : Thread nD τ).loc main_arg7))
    bitsLt_bf16_f32 := by
  unfold V
  simp only [List.flatten_cons, List.flatten_nil, List.append_nil, List.cons_append, List.nil_append]
  after_results

/-- Row `r` of the launched arrays. -/
def rowM (c : Dev nD) (r : Fin 8192) : Row where
  ct e := (show FVec Ideal S8192x1024 .f32 from m ((c : Thread nD τ).loc main_arg0)) (ix2 r e)
  ya e := (show FVec Ideal S8192x512 .f32 from m ((c : Thread nD τ).loc main_arg1)) (ix2 r e)
  ys e := (show FVec Ideal S8192x512 .f32 from m ((c : Thread nD τ).loc main_arg2)) (ix2 r e)
  z e := (show FVec Ideal S8192x512 .f32 from m ((c : Thread nD τ).loc main_arg3)) (ix2 r e)
  an e := (show FVec Ideal S512 .f32 from m ((c : Thread nD τ).loc main_arg4)) (ix1 e)
  sn e := (show FVec Ideal S512 .f32 from m ((c : Thread nD τ).loc main_arg5)) (ix1 e)
  gt e := (show FVec Ideal S1024 .f32 from m ((c : Thread nD τ).loc main_arg6)) (ix1 e)
  W k j := (show FVec Ideal S1024x1024 .f32 from m ((c : Thread nD τ).loc main_arg7)) (ix2 k j)

section
variable (c : Dev nD) (t : Fin cfg0.N)

theorem blk0 (p : Fin 512) (e : Fin 1024) : (show FVec Ideal S512x1024 .f32 from iblk m c 0 t) (ix2 p e)
    = (show FVec Ideal S8192x1024 .f32 from m ((c : Thread nD τ).loc main_arg0)) (ix2 (at512 (pt t) p) e) := by
  simp only [iblk]
  rw [show V m c (Pipeline.arrRef spec0 0) = _ from V_main_arg0 m c]
  blk_ext [idx_val t, at512, pt]

theorem blk1 (p : Fin 512) (e : Fin 512) : (show FVec Ideal S512x512 .f32 from iblk m c 1 t) (ix2 p e)
    = (show FVec Ideal S8192x512 .f32 from m ((c : Thread nD τ).loc main_arg1)) (ix2 (at512 (pt t) p) e) := by
  simp only [iblk]
  rw [show V m c (Pipeline.arrRef spec0 1) = _ from V_main_arg1 m c]
  blk_ext [idx_val t, at512, pt]

theorem blk2 (p : Fin 512) (e : Fin 512) : (show FVec Ideal S512x512 .f32 from iblk m c 2 t) (ix2 p e)
    = (show FVec Ideal S8192x512 .f32 from m ((c : Thread nD τ).loc main_arg2)) (ix2 (at512 (pt t) p) e) := by
  simp only [iblk]
  rw [show V m c (Pipeline.arrRef spec0 2) = _ from V_main_arg2 m c]
  blk_ext [idx_val t, at512, pt]

theorem blk3 (p : Fin 512) (e : Fin 512) : (show FVec Ideal S512x512 .f32 from iblk m c 3 t) (ix2 p e)
    = (show FVec Ideal S8192x512 .f32 from m ((c : Thread nD τ).loc main_arg3)) (ix2 (at512 (pt t) p) e) := by
  simp only [iblk]
  rw [show V m c (Pipeline.arrRef spec0 3) = _ from V_main_arg3 m c]
  blk_ext [idx_val t, at512, pt]

theorem blk4 (e : Fin 512) : (show FVec Ideal S1x512 .f32 from iblk m c 4 t) (ix2 0 e)
    = (show FVec Ideal S512 .f32 from m ((c : Thread nD τ).loc main_arg4)) (ix1 e) := by
  refine Eq.trans ?_ ((congrFun (V_v0 m c) (ix2 0 e)).trans (rowCast' _ 0 e))
  refine congrFun (f := (show FVec Ideal S1x512 .f32 from iblk m c 4 t)) ?_ _
  blk_ext! [iblk, idx_val t]

theorem blk5 (e : Fin 512) : (show FVec Ideal S1x512 .f32 from iblk m c 5 t) (ix2 0 e)
    = (show FVec Ideal S512 .f32 from m ((c : Thread nD τ).loc main_arg5)) (ix1 e) := by
  refine Eq.trans ?_ ((congrFun (V_v1 m c) (ix2 0 e)).trans (rowCast' _ 0 e))
  refine congrFun (f := (show FVec Ideal S1x512 .f32 from iblk m c 5 t)) ?_ _
  blk_ext! [iblk, idx_val t]

theorem blk6 (e : Fin 1024) : (show FVec Ideal S1x1024 .f32 from iblk m c 6 t) (ix2 0 e)
    = (show FVec Ideal S1024 .f32 from m ((c : Thread nD τ).loc main_arg6)) (ix1 e) := by
  refine Eq.trans ?_ ((congrFun (V_v2 m c) (ix2 0 e)).trans (rowCast _ 0 e))
  refine congrFun (f := (show FVec Ideal S1x1024 .f32 from iblk m c 6 t)) ?_ _
  blk_ext! [iblk, idx_val t]

theorem blk7 (k j : Fin 1024) : (show FVec Ideal S1024x1024 .bf16 from iblk m c 7 t) (ix2 k j)
    = (show FVec Ideal S1024x1024 .f32 from m ((c : Thread nD τ).loc main_arg7)) (ix2 k j) := by
  refine Eq.trans ?_ (congrFun (V_v3 m c) (ix2 k j))
  refine congrFun (f := (show FVec Ideal S1024x1024 .bf16 from iblk m c 7 t)) ?_ _
  blk_ext! [iblk, idx_val t]

/-- A row of the block is a row of the launched arrays. -/
theorem rowK_eq (p : Fin 512) : rowK (iblk m c 0 t) (iblk m c 1 t) (iblk m c 2 t) (iblk m c 3 t) (iblk m c 4 t) (iblk m c 5 t) (iblk m c 6 t) (iblk m c 7 t) p = rowM m c (at512 (pt t) p) := by
  unfold rowK rowM
  congr 1
  · funext e; exact blk0 m c t p e
  · funext e; exact blk1 m c t p e
  · funext e; exact blk2 m c t p e
  · funext e; exact blk3 m c t p e
  · funext e; exact blk4 m c t e
  · funext e; exact blk5 m c t e
  · funext e; exact blk6 m c t e
  · funext k j; exact blk7 m c t k j

/-- A load of the first and of the second half of the columns. -/
theorem ld_lo (X : FVec Ideal S512x512 .f32) (b : ∀ a : Fin 2, ![0, 0] a + ![512, 256] a ≤ S512x512.size a) :
    View.ld (Val := Elt Ideal) (S := S512x512) (e' := .f32) X (Rect.unit ![0, 0] ![512, 256] b) = cut X 0 := by
  funext i
  exact View.ld_unit_apply_of (Val := Elt Ideal) (S := S512x512) (e := .f32) X _ _ b i (ix2 (i 0) (col 0 (i 1))) (fun a => by fin_cases a <;> simp [col])

theorem ld_hi (X : FVec Ideal S512x512 .f32) (b : ∀ a : Fin 2, ![0, 256] a + ![512, 256] a ≤ S512x512.size a) :
    View.ld (Val := Elt Ideal) (S := S512x512) (e' := .f32) X (Rect.unit ![0, 256] ![512, 256] b) = cut X 1 := by
  funext i
  exact View.ld_unit_apply_of (Val := Elt Ideal) (S := S512x512) (e := .f32) X _ _ b i (ix2 (i 0) (col 1 (i 1))) (fun a => by fin_cases a <;> simp [col])

theorem ldR_lo (X : FVec Ideal S1x512 .f32) (b : ∀ a : Fin 2, ![0, 0] a + ![1, 256] a ≤ S1x512.size a) :
    View.ld (Val := Elt Ideal) (S := S1x512) (e' := .f32) X (Rect.unit ![0, 0] ![1, 256] b) = cutR X 0 := by
  funext i
  exact View.ld_unit_apply_of (Val := Elt Ideal) (S := S1x512) (e := .f32) X _ _ b i (ix2 (i 0) (col 0 (i 1))) (fun a => by fin_cases a <;> simp [col])

theorem ldR_hi (X : FVec Ideal S1x512 .f32) (b : ∀ a : Fin 2, ![0, 256] a + ![1, 256] a ≤ S1x512.size a) :
    View.ld (Val := Elt Ideal) (S := S1x512) (e' := .f32) X (Rect.unit ![0, 256] ![1, 256] b) = cutR X 1 := by
  funext i
  exact View.ld_unit_apply_of (Val := Elt Ideal) (S := S1x512) (e := .f32) X _ _ b i (ix2 (i 0) (col 1 (i 1))) (fun a => by fin_cases a <;> simp [col])

end

theorem case_split (t : Fin cfg0.N) : (t.val % 16 = 0 ∧ ¬t.val % 16 = 15) ∨ (¬t.val % 16 = 0 ∧ ¬t.val % 16 = 15)
    ∨ (¬t.val % 16 = 0 ∧ t.val % 16 = 15) := by omega

/-- The gradient of the attention's output. -/
def K8 (c : Dev nD) : FVec Ideal S8192x512 .f32 := fun i => (rowM m c (i 0)).dya (i 1)

def B8 (c : Dev nD) (t : Fin 16) : FVec Ideal S512x512 .f32 := fun i => K8 m c (ix2 (at512 t (i 0)) (i 1))

theorem outs8 (c : Dev nD) (t : Fin cfg0.N) : (outsAt0 m c t.val t.isLt).1 = B8 m c (pt t) := by
  rcases case_split t with ⟨h0, h1⟩ | ⟨h0, h1⟩ | ⟨h0, h1⟩
  · rw [outsAt0_A m c t h0 h1]; dsimp only; frame_out
    funext x
    idx_vars x
    exact (pay47_at (iblk m c 0 t) (iblk m c 1 t) (iblk m c 2 t) (iblk m c 3 t) (iblk m c 4 t) (iblk m c 5 t) (iblk m c 6 t) (iblk m c 7 t) x0 x1).trans (congrArg (fun A : Row => A.dya x1) (rowK_eq m c t x0))
  · rw [outsAt0_B m c t h0 h1]; dsimp only; frame_out
    funext x
    idx_vars x
    exact (pay47_at (iblk m c 0 t) (iblk m c 1 t) (iblk m c 2 t) (iblk m c 3 t) (iblk m c 4 t) (iblk m c 5 t) (iblk m c 6 t) (iblk m c 7 t) x0 x1).trans (congrArg (fun A : Row => A.dya x1) (rowK_eq m c t x0))
  · rw [outsAt0_C m c t h0 h1]; dsimp only; frame_out
    funext x
    idx_vars x
    exact (pay47_at (iblk m c 0 t) (iblk m c 1 t) (iblk m c 2 t) (iblk m c 3 t) (iblk m c 4 t) (iblk m c 5 t) (iblk m c 6 t) (iblk m c 7 t) x0 x1).trans (congrArg (fun A : Row => A.dya x1) (rowK_eq m c t x0))

theorem final8 (c : Dev nD) : (dats m 0 c).arrAt 8 (cfgs 0).N = K8 m c := by
  refine (dats m 0 c).arrAt_eq_of_covers 8 _ (by decide +kernel) fun t _ y => ?_
  rw [after0_8, outs8]
  refine congrArg (K8 m c) ?_
  blk_ext [idx_val t, pt, at512]

/-- The gradient of the scan's output. -/
def K9 (c : Dev nD) : FVec Ideal S8192x512 .f32 := fun i => (rowM m c (i 0)).dys (i 1)

def B9 (c : Dev nD) (t : Fin 16) : FVec Ideal S512x512 .f32 := fun i => K9 m c (ix2 (at512 t (i 0)) (i 1))

theorem outs9 (c : Dev nD) (t : Fin cfg0.N) : (outsAt0 m c t.val t.isLt).2.1 = B9 m c (pt t) := by
  rcases case_split t with ⟨h0, h1⟩ | ⟨h0, h1⟩ | ⟨h0, h1⟩
  · rw [outsAt0_A m c t h0 h1]; dsimp only; frame_out
    simp only [ld_lo, ld_hi, ldR_lo, ldR_hi]
    funext x
    idx_vars x
    exact (pay48_at (iblk m c 0 t) (iblk m c 1 t) (iblk m c 2 t) (iblk m c 3 t) (iblk m c 4 t) (iblk m c 5 t) (iblk m c 6 t) (iblk m c 7 t) x0 x1).trans (congrArg (fun A : Row => A.dys x1) (rowK_eq m c t x0))
  · rw [outsAt0_B m c t h0 h1]; dsimp only; frame_out
    simp only [ld_lo, ld_hi, ldR_lo, ldR_hi]
    funext x
    idx_vars x
    exact (pay48_at (iblk m c 0 t) (iblk m c 1 t) (iblk m c 2 t) (iblk m c 3 t) (iblk m c 4 t) (iblk m c 5 t) (iblk m c 6 t) (iblk m c 7 t) x0 x1).trans (congrArg (fun A : Row => A.dys x1) (rowK_eq m c t x0))
  · rw [outsAt0_C m c t h0 h1]; dsimp only; frame_out
    simp only [ld_lo, ld_hi, ldR_lo, ldR_hi]
    funext x
    idx_vars x
    exact (pay48_at (iblk m c 0 t) (iblk m c 1 t) (iblk m c 2 t) (iblk m c 3 t) (iblk m c 4 t) (iblk m c 5 t) (iblk m c 6 t) (iblk m c 7 t) x0 x1).trans (congrArg (fun A : Row => A.dys x1) (rowK_eq m c t x0))

theorem final9 (c : Dev nD) : (dats m 0 c).arrAt 9 (cfgs 0).N = K9 m c := by
  refine (dats m 0 c).arrAt_eq_of_covers 9 _ (by decide +kernel) fun t _ y => ?_
  rw [after0_9, outs9]
  refine congrArg (K9 m c) ?_
  blk_ext [idx_val t, pt, at512]

/-- The gradient of the gate's argument. -/
def K10 (c : Dev nD) : FVec Ideal S8192x512 .bf16 := fun i => (rowM m c (i 0)).dz (i 1)

def B10 (c : Dev nD) (t : Fin 16) : FVec Ideal S512x512 .bf16 := fun i => K10 m c (ix2 (at512 t (i 0)) (i 1))

theorem outs10 (c : Dev nD) (t : Fin cfg0.N) : (outsAt0 m c t.val t.isLt).2.2.1 = B10 m c (pt t) := by
  rcases case_split t with ⟨h0, h1⟩ | ⟨h0, h1⟩ | ⟨h0, h1⟩
  · rw [outsAt0_A m c t h0 h1]; dsimp only; frame_out
    simp only [ld_lo, ld_hi, ldR_lo, ldR_hi]
    funext x
    idx_vars x
    exact (pay49_at (iblk m c 0 t) (iblk m c 1 t) (iblk m c 2 t) (iblk m c 3 t) (iblk m c 4 t) (iblk m c 5 t) (iblk m c 6 t) (iblk m c 7 t) x0 x1).trans (congrArg (fun A : Row => A.dz x1) (rowK_eq m c t x0))
  · rw [outsAt0_B m c t h0 h1]; dsimp only; frame_out
    simp only [ld_lo, ld_hi, ldR_lo, ldR_hi]
    funext x
    idx_vars x
    exact (pay49_at (iblk m c 0 t) (iblk m c 1 t) (iblk m c 2 t) (iblk m c 3 t) (iblk m c 4 t) (iblk m c 5 t) (iblk m c 6 t) (iblk m c 7 t) x0 x1).trans (congrArg (fun A : Row => A.dz x1) (rowK_eq m c t x0))
  · rw [outsAt0_C m c t h0 h1]; dsimp only; frame_out
    simp only [ld_lo, ld_hi, ldR_lo, ldR_hi]
    funext x
    idx_vars x
    exact (pay49_at (iblk m c 0 t) (iblk m c 1 t) (iblk m c 2 t) (iblk m c 3 t) (iblk m c 4 t) (iblk m c 5 t) (iblk m c 6 t) (iblk m c 7 t) x0 x1).trans (congrArg (fun A : Row => A.dz x1) (rowK_eq m c t x0))

theorem final10 (c : Dev nD) : (dats m 0 c).arrAt 10 (cfgs 0).N = K10 m c := by
  refine (dats m 0 c).arrAt_eq_of_covers 10 _ (by decide +kernel) fun t _ y => ?_
  rw [after0_10, outs10]
  refine congrArg (K10 m c) ?_
  blk_ext [idx_val t, pt, at512]

/-- What block `t` adds to row `r` of the row accumulator, and to the weight's gradient. -/
def accT (c : Dev nD) (t : Fin 16) (r : Fin 8) (d : Fin 1024) : EReal := ∑ p : Fin 512, (rowM m c (at512 t p)).acc r d

def gwT (c : Dev nD) (t : Fin 16) (i j : Fin 1024) : EReal := ∑ p : Fin 512, (rowM m c (at512 t p)).gw i j

section
variable (c : Dev nD) (t : Fin cfg0.N)

theorem acc0_tile (a : FVec Ideal S1x1024 .f32) (d : Fin 1024) :
    k0_pay1 (F := Ideal) (iblk m c 0 t) (k0_pay31 (cut (iblk m c 2 t) 1) (cut (iblk m c 3 t) 1) (k0_pay7 (cutR (iblk m c 5 t) 0)) (k0_pay8 (cutR (iblk m c 5 t) 1)) (k0_pay13 (iblk m c 1 t) (iblk m c 4 t)) (k0_pay17 (cut (iblk m c 2 t) 0) (cut (iblk m c 3 t) 0)) (iblk m c 7 t)) a (ix2 0 d) = a (ix2 0 d) + accT m c (pt t) 0 d := by
  refine (pay1_at (iblk m c 0 t) (iblk m c 1 t) (iblk m c 2 t) (iblk m c 3 t) (iblk m c 4 t) (iblk m c 5 t) (iblk m c 6 t) a (iblk m c 7 t) d).trans ?_
  simp only [rowK_eq]
  rfl

theorem acc1_tile (a : FVec Ideal S1x1024 .f32) (d : Fin 1024) :
    k0_pay2 (F := Ideal) (k0_pay39 (k0_pay29 (cut (iblk m c 2 t) 1) (cut (iblk m c 3 t) 1)) (iblk m c 0 t) (k0_pay32 (iblk m c 6 t)) (iblk m c 7 t)) (k0_pay43 (k0_pay21 (k0_pay17 (cut (iblk m c 2 t) 0) (cut (iblk m c 3 t) 0))) (iblk m c 0 t) (k0_pay32 (iblk m c 6 t)) (iblk m c 7 t))
      (k0_pay46 (k0_pay12 (iblk m c 1 t)) (k0_pay36 (iblk m c 0 t) (k0_pay32 (iblk m c 6 t)) (iblk m c 7 t))) a (ix2 0 d) = a (ix2 0 d) + accT m c (pt t) 1 d := by
  refine (pay2_at (iblk m c 0 t) (iblk m c 1 t) (iblk m c 2 t) (iblk m c 3 t) (iblk m c 4 t) (iblk m c 5 t) (iblk m c 6 t) a (iblk m c 7 t) d).trans ?_
  simp only [rowK_eq]
  rfl

theorem gw_tile (w : FVec Ideal S1024x1024 .f32) (i j : Fin 1024) :
    k0_pay35 (F := Ideal) (iblk m c 0 t) (k0_pay30 (cut (iblk m c 2 t) 1) (cut (iblk m c 3 t) 1) (k0_pay7 (cutR (iblk m c 5 t) 0)) (k0_pay8 (cutR (iblk m c 5 t) 1)) (k0_pay13 (iblk m c 1 t) (iblk m c 4 t)) (k0_pay17 (cut (iblk m c 2 t) 0) (cut (iblk m c 3 t) 0))) (k0_pay32 (iblk m c 6 t)) w (ix2 i j) = w (ix2 i j) + gwT m c (pt t) i j := by
  refine (pay35_at (iblk m c 0 t) (iblk m c 1 t) (iblk m c 2 t) (iblk m c 3 t) (iblk m c 4 t) (iblk m c 5 t) (iblk m c 6 t) (iblk m c 7 t) w i j).trans ?_
  simp only [rowK_eq]
  rfl

end

theorem zero_f32 : Ideal.ofBits .f32 0x00000000#32 = 0 := by
  simp [Ideal.ofBits, Ideal.ieee]

theorem zero_row (v : View sig .tc .vmem S8x1024 .f32) (f : v.ty.Contents (Elt Ideal)) (b) (r : Fin 8) (d : Fin 1024) :
    v.read (Elt Ideal) (v.writes (Elt Ideal) f [⟨Rect.unit ![0, 0] ![8, 1024] b, k0_pay4 (F := Ideal)⟩]) (ix2 r d) = (0 : EReal) := by
  rw [View.read_writes_cons_rows_of_mem v f b _ [] (ix2 r d) (ix2 r d) rfl (by simp) rfl]
  pointwise [k0_pay4, zero_f32]

theorem accT_rest (c : Dev nD) (t : Fin 16) (r : Fin 8) (d : Fin 1024) (h0 : ¬(r : ℕ) = 0) (h1 : ¬(r : ℕ) = 1) : accT m c t r d = 0 :=
  Finset.sum_eq_zero fun p _ => by rw [Row.acc, if_neg h0, if_neg h1]

theorem outs12_A (c : Dev nD) (t : Fin cfg0.N) (h0 : t.val % 16 = 0) (h1 : ¬t.val % 16 = 15) (r : Fin 8) (d : Fin 1024) :
    (show FVec Ideal S8x1024 .f32 from (outsAt0 m c t.val t.isLt).2.2.2.2.1) (ix2 r d) = (0 : EReal) + accT m c (pt t) r d := by
  rw [outsAt0_A m c t h0 h1]; dsimp only; frame_out
  simp only [ld_lo, ld_hi, ldR_lo, ldR_hi]
  rw [← View.read_writes_junk_eq_canon (ms0_12 t).view, row_cons, row_cons]
  split_ifs with hr1 hr0
  · obtain rfl : r = 1 := Fin.ext hr1
    refine (acc1_tile m c t _ d).trans (congrArg (· + _) ?_)
    rw [load_row _ _ 1 (by decide) _ d]
    repeat rw [row_cons, if_neg (by decide)]
    exact zero_row _ _ _ _ _
  · obtain rfl : r = 0 := Fin.ext hr0
    refine (acc0_tile m c t _ d).trans (congrArg (· + _) ?_)
    rw [load_row _ _ 0 (by decide) _ d]
    exact zero_row _ _ _ _ _
  · rw [accT_rest m c _ r d hr0 hr1, add_zero]
    exact zero_row _ _ _ _ _

theorem outs12_BC (c : Dev nD) (t : Fin cfg0.N) (h0 : ¬t.val % 16 = 0) (r : Fin 8) (d : Fin 1024) :
    (show FVec Ideal S8x1024 .f32 from (outsAt0 m c t.val t.isLt).2.2.2.2.1) (ix2 r d)
      = (show FVec Ideal S8x1024 .f32 from (outsAt0 m c (t.val - 1) (Nat.lt_of_le_of_lt (Nat.sub_le _ _) t.isLt)).2.2.2.2.1) (ix2 r d) + accT m c (pt t) r d := by
  have ld (X : FVec Ideal S8x1024 .f32) (q : ℕ) (hq : q < 8) (b) : View.ld (Val := Elt Ideal) (S := S8x1024) (e' := .f32) X (Rect.unit ![q, 0] ![1, 1024] b) (ix2 (0 : Fin 1) d)
      = X (ix2 ⟨q, hq⟩ d) :=
    View.ld_unit_apply_of (Val := Elt Ideal) (S := S8x1024) (e := .f32) X _ _ b _ _ (fun a => by fin_cases a <;> simp)
  by_cases h1 : t.val % 16 = 15
  · rw [outsAt0_C m c t h0 h1]; dsimp only; frame_out
    simp only [ld_lo, ld_hi, ldR_lo, ldR_hi]
    rw [row_cons, row_cons]
    split_ifs with hr1 hr0
    · obtain rfl : r = 1 := Fin.ext hr1
      exact (acc1_tile m c t _ d).trans (congrArg (· + _) (ld _ 1 (by decide) _))
    · obtain rfl : r = 0 := Fin.ext hr0
      exact (acc0_tile m c t _ d).trans (congrArg (· + _) (ld _ 0 (by decide) _))
    · rw [accT_rest m c _ r d hr0 hr1, add_zero, View.writes_nil]
      simp only [Memref.IsWhole.read_unread]
  · rw [outsAt0_B m c t h0 h1]; dsimp only; frame_out
    simp only [ld_lo, ld_hi, ldR_lo, ldR_hi]
    rw [row_cons, row_cons]
    split_ifs with hr1 hr0
    · obtain rfl : r = 1 := Fin.ext hr1
      exact (acc1_tile m c t _ d).trans (congrArg (· + _) (ld _ 1 (by decide) _))
    · obtain rfl : r = 0 := Fin.ext hr0
      exact (acc0_tile m c t _ d).trans (congrArg (· + _) (ld _ 0 (by decide) _))
    · rw [accT_rest m c _ r d hr0 hr1, add_zero, View.writes_nil]
      simp only [Memref.IsWhole.read_unread]

theorem gw_A (c : Dev nD) (t : Fin cfg0.N) (h0 : t.val % 16 = 0) (h1 : ¬t.val % 16 = 15) (i j : Fin 1024) :
    (show FVec Ideal S1024x1024 .f32 from (outsAt0 m c t.val t.isLt).2.2.2.2.2) (ix2 i j) = (0 : EReal) + gwT m c (pt t) i j := by
  rw [outsAt0_A m c t h0 h1]; dsimp only; frame_out
  simp only [ld_lo, ld_hi, ldR_lo, ldR_hi]
  refine (gw_tile m c t _ i j).trans (congrArg (· + _) ?_)
  pointwise [k0_pay5, zero_f32]

theorem gw_BC (c : Dev nD) (t : Fin cfg0.N) (h0 : ¬t.val % 16 = 0) (i j : Fin 1024) :
    (show FVec Ideal S1024x1024 .f32 from (outsAt0 m c t.val t.isLt).2.2.2.2.2) (ix2 i j)
      = (show FVec Ideal S1024x1024 .f32 from (outsAt0 m c (t.val - 1) (Nat.lt_of_le_of_lt (Nat.sub_le _ _) t.isLt)).2.2.2.2.2) (ix2 i j) + gwT m c (pt t) i j := by
  by_cases h1 : t.val % 16 = 15
  · rw [outsAt0_C m c t h0 h1]; dsimp only; frame_out
    simp only [read_unread_whole, ld_lo, ld_hi, ldR_lo, ldR_hi]
    exact gw_tile m c t _ i j
  · rw [outsAt0_B m c t h0 h1]; dsimp only; frame_out
    simp only [read_unread_whole, ld_lo, ld_hi, ldR_lo, ldR_hi]
    exact gw_tile m c t _ i j

theorem outs11 (c : Dev nD) (t : Fin cfg0.N) (h0 : ¬t.val % 16 = 0) (h1 : t.val % 16 = 15) (i j : Fin 1024) :
    (show FVec Ideal S1024x1024 .bf16 from (outsAt0 m c t.val t.isLt).2.2.2.1) (ix2 i j)
      = (show FVec Ideal S1024x1024 .f32 from (outsAt0 m c t.val t.isLt).2.2.2.2.2) (ix2 i j) := by
  rw [outsAt0_C m c t h0 h1]; dsimp only; frame_out
  pointwise [k0_pay3]

/-- The weight's gradient and the row accumulator after the sixteen blocks. -/
def K11 (c : Dev nD) : FVec Ideal S1024x1024 .bf16 := fun i => ∑ t : Fin cfg0.N, gwT m c (pt t) (i 0) (i 1)

def K12 (c : Dev nD) : FVec Ideal S8x1024 .f32 := fun i => ∑ t : Fin cfg0.N, accT m c (pt t) (i 0) (i 1)

theorem final12 (c : Dev nD) : (dats m 0 c).arrAt 12 (cfgs 0).N = K12 m c := by
  refine (dats m 0 c).arrAt_eq_of_covers 12 _ (by decide +kernel) fun t hf y => ?_
  have h15 : t.val % 16 = 15 := (flush0_12 t).mp hf
  have hN : cfg0.N = 16 := N_0
  have ht : t.val < 16 := lt_of_lt_of_eq t.isLt hN
  have key := Pipeline.eq_sum_fin_of_reset_step_apply_last
    (fun n h (j : Fin 8 × Fin 1024) => (show FVec Ideal S8x1024 .f32 from (outsAt0 m c n h).2.2.2.2.1) (ix2 j.1 j.2)) 16 (fun _ => (0 : EReal))
    (fun t j => accT m c (pt t) j.1 j.2) (fun t h j => outs12_A m c t h (by omega) j.1 j.2) (fun t h j => outs12_BC m c t h j.1 j.2)
    (le_of_eq N_0) t (by omega)
  have e : (outsAt0 m c t.val t.isLt).2.2.2.2.1 = K12 m c := by
    funext i
    idx_vars i
    exact (key (i0, i1)).trans (zero_add _)
  rw [after0_12, e]
  refine congrArg (K12 m c) ?_
  blk_ext [idx_val t, pt]

theorem final11 (c : Dev nD) : (dats m 0 c).arrAt 11 (cfgs 0).N = K11 m c := by
  refine (dats m 0 c).arrAt_eq_of_covers 11 _ (by decide +kernel) fun t hf y => ?_
  have h15 : t.val % 16 = 15 := (flush0_11 t).mp hf
  have hN : cfg0.N = 16 := N_0
  have ht : t.val < 16 := lt_of_lt_of_eq t.isLt hN
  have key := Pipeline.eq_sum_fin_of_reset_step_apply_last
    (fun n h (j : Fin 1024 × Fin 1024) => (show FVec Ideal S1024x1024 .f32 from (outsAt0 m c n h).2.2.2.2.2) (ix2 j.1 j.2)) 16 (fun _ => (0 : EReal))
    (fun t j => gwT m c (pt t) j.1 j.2) (fun t h j => gw_A m c t h (by omega) j.1 j.2) (fun t h j => gw_BC m c t h j.1 j.2)
    (le_of_eq N_0) t (by omega)
  have e : (outsAt0 m c t.val t.isLt).2.2.2.1 = K11 m c := by
    funext i
    idx_vars i
    exact (outs11 m c t (by omega) h15 i0 i1).trans ((key (i0, i1)).trans (zero_add _))
  rw [after0_11, e]
  refine congrArg (K11 m c) ?_
  blk_ext [idx_val t, pt]

end Cert.Gate

end

end
-- ==== Proof.Gate.lean ====
module

public import proofs.«01_k».proof.Defs
public import proofs.«01_k».proof.Proof.GateRef
public import proofs.«01_k».proof.Proof.GateKer
public import proofs.«01_k».proof.Proof.Gen.Kernel4Ideal.Value
public import Idealize.ShloMosaic.Adequacy
public import Idealize.ShloMosaic.Init
public import Idealize.ShloMosaic.Lib.Claim

@[expose] public section

set_option maxRecDepth 16384

noncomputable section

open Idealize.ShloMosaic Idealize.SL.Sem Idealize.ShloMosaic.TcCoe

/-! The norms of the two mixers, the gate and the output projection: the two programs leave the same gradients. -/

namespace Cert.Gate

section

variable (m : (ℓ : Loc Cert.Kernel4Ideal.nD Cert.Kernel4Ideal.τ Cert.Kernel4Ideal.sig) → Buf (Elt Ideal) ℓ)

theorem blocks_sum (T : Fin 8192 → EReal) : ∑ t, ∑ p, T (at512 t p) = ∑ r, T r :=
  Fin.sum_mul_add_congr (L := 8192) (S := 16) (n := 512) (fun s k hl => rfl) (by decide)

/-- The sums over the steps are the sums over the rows. -/
theorem acc_sum (c : Dev Cert.Kernel4Ideal.nD) (i : Fin 8) (j : Fin 1024) : ∑ r, (rowM m c r).acc i j = K12 m c (ix2 i j) :=
  (blocks_sum fun r => (rowM m c r).acc i j).symm

theorem gw_sum (c : Dev Cert.Kernel4Ideal.nD) (i j : Fin 1024) : ∑ r, (rowM m c r).gw i j = K11 m c (ix2 i j) :=
  (blocks_sum fun r => (rowM m c r).gw i j).symm

end

theorem algebraic : Cert.algebraic_Kernel4Ideal_Reference4Ideal := by
  intro m g m' g' _ hagree
  refine ⟨K8 m, K9 m, K10 m, K11 m, K12 m, (θ_run _ _ _).mono (fun r h c => ?_) (Cert.Kernel4Ideal.Value.run_blocks m g),
    (θ_run _ _ _).mono (fun r h c => ?_) (Cert.Reference4Ideal.Value.run m' g')⟩
  · obtain ⟨e0, e1, e2, e3, e4, ha⟩ := h c
    exact ⟨e0.trans (final8 m c), e1.trans (final9 m c), e2.trans (final10 m c), e3.trans (final11 m c), e4.trans (final12 m c), ha⟩
  · obtain ⟨e0, e1, e2, e3, e4, ha⟩ := h c
    obtain ⟨a0, a1, a2, a3, a4, a5, a6, a7⟩ := hagree c
    refine ⟨(e0.trans (Cert.Reference4Ideal.Read.val_main_v74_eq m' c)).trans ?_, (e1.trans (Cert.Reference4Ideal.Read.val_main_v98_eq m' c)).trans ?_, (e2.trans (Cert.Reference4Ideal.Read.val_main_v106_eq m' c)).trans ?_,
      (e3.trans (Cert.Reference4Ideal.Read.val_main_v107_eq _ _ _ _ _ _ _)).trans ?_, (e4.trans (Cert.Reference4Ideal.Read.val_main_v105_eq m' c)).trans ?_, ha⟩
    all_goals
      try simp only [Idealize.ShloMosaic.StableHlo.launchContents]
      try simp only [show m' (c, Proc.devRef .tc Cert.Reference4Ideal.main_arg0) = _ from a0,
        show m' (c, Proc.devRef .tc Cert.Reference4Ideal.main_arg1) = _ from a1,
        show m' (c, Proc.devRef .tc Cert.Reference4Ideal.main_arg2) = _ from a2,
        show m' (c, Proc.devRef .tc Cert.Reference4Ideal.main_arg3) = _ from a3,
        show m' (c, Proc.devRef .tc Cert.Reference4Ideal.main_arg4) = _ from a4,
        show m' (c, Proc.devRef .tc Cert.Reference4Ideal.main_arg5) = _ from a5,
        show m' (c, Proc.devRef .tc Cert.Reference4Ideal.main_arg6) = _ from a6,
        show m' (c, Proc.devRef .tc Cert.Reference4Ideal.main_arg7) = _ from a7]
      try simp only [a0, a1, a2, a3, a4, a5, a6, a7]
      funext i
      obtain ⟨i0, i1, rfl⟩ : ∃ i0 i1, i = ix2 i0 i1 := ⟨i 0, i 1, by idx_vars i⟩
    · exact s74 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) i0 i1
    · exact s98 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) i0 i1
    · exact s106 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) i0 i1
    · exact (s107 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) i0 i1).trans (gw_sum m c i0 i1)
    · exact (s105 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) i1 i0).trans (acc_sum m c i0 i1)

theorem frame_reference : Cert.quiescent_Reference4Ideal :=
  fun m ρ _ => (θ_run _ _ _).mono (fun r h => ⟨fun c => (h c).2.2.2.2.2, sem_eq_zero_of_no_sems (by decide) r.2⟩) (Cert.Reference4Ideal.Value.run m ρ)

end Cert.Gate

end

end
-- ==== Proof.FwdItem.lean ====
module

public import proofs.«01_k».proof.Proof.Match

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

/-! One grid step of the attention's forward kernel, in the words of the backward kernel's step: the row's weights and their sum are
the same functions there. -/

namespace Cert.Attn

/-- The output of one block and head. -/
def yi (q : FVec Ideal S128x128 .bf16) (k v : FVec Ideal S256x128 .bf16) (bias : FVec Ideal S1x1x128x256 .f32) (sink : EReal) : Reg :=
  mulf (matmul dot_S128x256_S256x128_S128x128_1_0_0_1_n_n none (pb q k bias sink) v (constant S128x128 .f32 0x00000000#32))
    (broadcastTo S128x128 (ri q k bias sink) broadcasts_S128x1_S128x128)
/-- A block of 512 rows from its four blocks' eight heads. -/
def yOf (f : Fin 4 → Fin 8 → Reg) : FVec Ideal S512x512 .f32 :=
  concatenate S512x512 0 [⟨S128x512, joins (f 0)⟩, ⟨S128x512, joins (f 1)⟩, ⟨S128x512, joins (f 2)⟩, ⟨S128x512, joins (f 3)⟩]
    concatenates_S128x512_S128x512_S128x512_S128x512_S512x512_d0

/-- A row's output as the kernel forms it: the quotient of the sum of the weights is taken first. -/
def kY (s : Fin 256 → EReal) (z : EReal) (v : Fin 256 → Fin 64 → EReal) (d : Fin 64) : EReal := (∑ j, rowP s z j * v j d) * Ideal.div 1 (rowZ s z)

section
variable {q : FVec Ideal S128x128 .bf16} {k v : FVec Ideal S256x128 .bf16} (bias : FVec Ideal S1x1x128x256 .f32) (sink : EReal)
variable {Q : Fin 128 → Fin 64 → EReal} {K V : Fin 256 → Fin 64 → EReal}
variable (hq : ∀ p x, q (ix2 p x) = lane (Q p) x) (hk : ∀ j x, k (ix2 j x) = lane (K j) x) (hv : ∀ j x, v (ix2 j x) = lane (V j) x)
include hq hk hv

theorem yi_at (p x : Fin 128) : yi q k v bias sink (ix2 p x) = lane (kY (scoreOf bias Q K p) sink V) x := by
  pointwise [yi, pb, pr_at bias sink hq hk, ri_at bias sink hq hk, hv, sum_mul_lane, lane_mul]
  rfl
end

theorem yOf_at (f : Fin 4 → Fin 8 → Reg) (r c : Fin 512) : yOf f (ix2 r c)
    = f ⟨r / 128, by omega⟩ ⟨c / 64, by omega⟩ (ix2 ⟨r % 128, by omega⟩ ⟨c % 64, by omega⟩) := by
  pointwise [yOf]
  refine (four_blocks (fun g e => joins (f g) (ix2 e c)) r).trans ?_
  rw [joins_at]

section
variable (xq : FVec Ideal S512x512 .bf16) (xp : FVec Ideal S128x256 .bf16) (xc : FVec Ideal S512x256 .bf16)
  (bias : Fin 4 → Fin 8 → FVec Ideal S1x1x128x256 .f32) (sink : Fin 8 → EReal)

def iY (b : Fin 4) (h : Fin 8) : Reg := yi (qs xq b h) (kband xp xc b h) (vband xp xc b h) (bias b h) (sink h)
def yOut : FVec Ideal S512x512 .f32 := yOf (iY xq xp xc bias sink)

theorem yOut_at (r c : Fin 512) : yOut xq xp xc bias sink (ix2 r c)
    = kY (bS xq xp xc bias ⟨r / 128, by omega⟩ ⟨c / 64, by omega⟩ ⟨r % 128, by omega⟩) (sink ⟨c / 64, by omega⟩)
      (bV xp xc ⟨r / 128, by omega⟩ ⟨c / 64, by omega⟩) ⟨c % 64, by omega⟩ := by
  rw [yOut, yOf_at, iY, yi_at (bias _ _) (sink _) (qs_at xq _ _) (kband_at xp xc _ _) (vband_at xp xc _ _), lane_lt _ _ (Nat.mod_lt _ (by decide))]
  rfl
end

section
variable {s : Fin 256 → EReal} {z : EReal} {v v' : Fin 256 → Fin 64 → EReal}

/-- A row's output is the reference's: its sum of weights is a positive real number, and a masked key's weight is zero. -/
theorem kY_eq (hs : ∀ j, s j = ⊥ ∨ ∃ a : ℝ, s j = a) (hz : ∃ a : ℝ, z = a) (hvv : ∀ j, s j ≠ ⊥ → v' j = v j) : kY s z v' = rowY s z v := by
  obtain ⟨p, e, hZ, hp, _, hz', hpb⟩ := row_real hs hz
  funext d
  rw [kY, rowY, hz', Ideal.div_coe hZ, Ideal.div_coe hZ, one_mul]
  refine congrArg (· * _) (Finset.sum_congr rfl fun j _ => ?_)
  by_cases h : s j = ⊥
  · rw [hp, hpb j h]; simp
  · rw [hvv j h]
end

end Cert.Attn
end
end
-- ==== Proof.FwdStep.lean ====
module

public import proofs.«01_k».proof.Proof.FwdItem
public import proofs.«01_k».proof.Proof.Gen.Kernel5Ideal.Value

@[expose] public section

set_option maxRecDepth 16384

noncomputable section

open Idealize.ShloMosaic Idealize.ShloMosaic.TcCoe Idealize.SL.Sem
open Idealize.ShloMosaic.Pipeline (Dat)
open Cert.Kernel5Ideal Cert.Kernel5Ideal.Gen
open Cert.Attn (Reg lanes yi yOf iY yOut qs kband vband)

namespace Cert.AttnF

/-! What each grid step of the forward kernel stores, as the functions of the step. -/

theorem y_cat (a0 a1 a2 a3 a4 a5 a6 a7 a8 a9 a10 a11 a12 a13 a14 a15 a16 a17 a18 a19 a20 a21 a22 a23 a24 a25 a26 a27 a28 a29 a30 a31 : Reg) :
    k0_pay274 (F := Ideal) a24 a25 a26 a27 a28 a29 a30 a31
        (k0_pay271 (F := Ideal) (k0_pay267 (F := Ideal) a0 a1) (k0_pay268 (F := Ideal) a2 a3) (k0_pay269 (F := Ideal) a4 a5) (k0_pay270 (F := Ideal) a6 a7))
        (k0_pay272 (F := Ideal) a8 a9 a10 a11 a12 a13 a14 a15) (k0_pay273 (F := Ideal) a16 a17 a18 a19 a20 a21 a22 a23) lanes
      = yOf ![![a0, a1, a2, a3, a4, a5, a6, a7],
          ![a8, a9, a10, a11, a12, a13, a14, a15],
          ![a16, a17, a18, a19, a20, a21, a22, a23],
          ![a24, a25, a26, a27, a28, a29, a30, a31]] := rfl

/-! The step's masks and sinks. -/
section
variable (i : grid0.Coords) (x3 : FVec Ideal S2x8x128x256 .f32) (x4 : FVec Ideal S8 .f32)

def offs : Fin 8 → Fin 4 → ℕ
  | 0 => k0_off1 i | 1 => k0_off2 i | 2 => k0_off3 i | 3 => k0_off4 i | 4 => k0_off5 i | 5 => k0_off6 i | 6 => k0_off7 i | 7 => k0_off8 i
theorem offs_inb : ∀ h a, offs i h a + S1x1x128x256.size a ≤ S2x8x128x256.size a
  | 0 => k0_off1_inb i | 1 => k0_off2_inb i | 2 => k0_off3_inb i | 3 => k0_off4_inb i
  | 4 => k0_off5_inb i | 5 => k0_off6_inb i | 6 => k0_off7_inb i | 7 => k0_off8_inb i
theorem later_inb : ∀ (h : Fin 8) (a : Fin 4), (![0, h.val, 0, 0] : Fin 4 → ℕ) a + S1x1x128x256.size a ≤ S2x8x128x256.size a := by decide
theorem sink_inb : ∀ (h : Fin 8) (a : Fin 1), (![h.val] : Fin 1 → ℕ) a + S1.size a ≤ S8.size a := by decide

def biasAt : Fin 4 → Fin 8 → FVec Ideal S1x1x128x256 .f32
  | 0, h => View.ld (Val := Elt Ideal) (S := S2x8x128x256) (e' := .f32) x3 (Rect.unit (offs i h) S1x1x128x256.size (offs_inb i h))
  | 1, h | 2, h | 3, h => View.ld (Val := Elt Ideal) (S := S2x8x128x256) (e' := .f32) x3 (Rect.unit ![0, h.val, 0, 0] S1x1x128x256.size (later_inb h))
def sinkAt (h : Fin 8) : EReal := View.ld (Val := Elt Ideal) (S := S8) (e' := .f32) x4 (Rect.unit ![h.val] S1.size (sink_inb h)) (Shape.Idx.first (show 0 < S1.numel from by decide))

end

variable (m : (ℓ : Loc nD τ sig) → Buf (Elt Ideal) ℓ)

theorem outs5 (c : Dev nD) (t : Fin cfg0.N) :
    outsAt0 m c t = yOut (X0_0 m c t) (iblk m c 1 t) (iblk m c 2 t) (biasAt (grid0.coords t) (iblk m c 3 t)) (sinkAt (iblk m c 4 t)) := by
  unfold outsAt0
  frame_out
  refine (y_cat _ _ _ _ _ _ _ _ _ _ _ _ _ _ _ _ _ _ _ _ _ _ _ _ _ _ _ _ _ _ _ _).trans (congrArg yOf (funext fun b => funext fun h => ?_))
  fin_cases b <;> fin_cases h <;> (try frame_out) <;> sl_kernel_rfl

end Cert.AttnF
end
end
-- ==== Proof.FwdHost.lean ====
module

public import proofs.«01_k».proof.Proof.FwdStep

@[expose] public section

set_option maxRecDepth 16384

noncomputable section

open Idealize.ShloMosaic Idealize.ShloMosaic.TcCoe Idealize.SL.Sem
open Idealize.ShloMosaic.Pipeline (Dat)
open Cert.Kernel5Ideal Cert.Kernel5Ideal.Gen
open Cert.Attn (Seen maskAt maskAt_later kvRow bK bV bQ bandOf bandRow bandRow_hi bandRow_lo kOf gOf rowOf v20_at)

/-! What the host prepares for the forward kernel. -/

namespace Cert.AttnF

variable (m : (ℓ : Loc nD τ sig) → Buf (Elt Ideal) ℓ)
abbrev A0 (c : Dev nD) : FVec Ideal S8192x512 .f32 := m ((c : Thread nD τ).loc main_arg0)
abbrev A1 (c : Dev nD) : FVec Ideal S8192x128 .f32 := m ((c : Thread nD τ).loc main_arg1)
abbrev A2 (c : Dev nD) : FVec Ideal S8192x128 .f32 := m ((c : Thread nD τ).loc main_arg2)
abbrev A3 (c : Dev nD) : FVec Ideal S8 .f32 := m ((c : Thread nD τ).loc main_arg3)
abbrev A4 (c : Dev nD) : FVec Ideal S8x128x256 .f32 := m ((c : Thread nD τ).loc main_arg4)

/-- Queries, keys and values side by side. -/
def QKV (c : Dev nD) : FVec Ideal S8192x768 .bf16 := truncf .bf16 (concatenate S8192x768 1 [⟨S8192x512, A0 m c⟩, ⟨S8192x128, A1 m c⟩, ⟨S8192x128, A2 m c⟩]
    concatenates_S8192x512_S8192x128_S8192x128_S8192x768_d1) bitsLt_bf16_f32

theorem V_v20 (c : Dev nD) : V m c main_v20 = QKV m c := by
  unfold V
  simp only [List.flatten_cons, List.flatten_nil, List.append_nil, List.cons_append, List.nil_append]
  after_results
  rfl

def maskedBias (n : Fin 64) (c : Dev nD) : FVec Ideal S8x128x256 .f32 := fun i => maskAt n (i 1) (i 2) (A4 m c i)

theorem maskedBias_eq (n : Fin 64) (c : Dev nD) (h : S64x128x256.Slices ![n.val, 0, 0] S1x128x256) : maskedBias m n c =
    select (broadcastInDim S8x128x256 ![1, 2] bcast_S128x256_S8x128x256_1_2 (shapeCast S128x256
      (extractStridedSlice S1x128x256 ![n.val, 0, 0] (Cert.Reference2Ideal.Read.val_main_v20 (F := Ideal)) h) shapeCasts_S1x128x256_S128x256))
      (A4 m c) (broadcastInDim S8x128x256 ![] bcast_S_S8x128x256 (constant S_ .f32 0xFF800000#32 : FVec Ideal S_ .f32)) := by
  funext i
  idx_vars i
  pointwise [maskedBias, v20_at]
  unfold maskAt
  split <;> simp [Scalar.select]

/-- The biases with the masked places at -∞: of the blocks after the first, and of the first block. -/
def BOTH (c : Dev nD) : FVec Ideal S2x8x128x256 .f32 := concatenate S2x8x128x256 0 [⟨S1x8x128x256, broadcastInDim S1x8x128x256 ![1, 2, 3] bcast_S8x128x256_S1x8x128x256_1_2_3 (maskedBias m 1 c)⟩,
      ⟨S1x8x128x256, broadcastInDim S1x8x128x256 ![1, 2, 3] bcast_S8x128x256_S1x8x128x256_1_2_3 (maskedBias m 0 c)⟩] concatenates_S1x8x128x256_S1x8x128x256_S2x8x128x256_d0

theorem V_v29 (c : Dev nD) : V m c main_v29 = BOTH m c := by
  unfold BOTH
  rw [maskedBias_eq m 0 c slices_S64x128x256_S1x128x256_0_0_0, maskedBias_eq m 1 c slices_S64x128x256_S1x128x256_1_0_0]
  unfold V
  simp only [List.flatten_cons, List.flatten_nil, List.append_nil, List.cons_append, List.nil_append]
  after_results
  rfl
theorem t_lt (t : Fin cfg0.N) : t.val < 16 := t.isLt
theorem idx_val : ∀ t : Fin cfg0.N, win0_0.index t = ![t.val, 0] ∧ win0_1.index t = ![t.val * 4 - 1, 2] ∧ win0_2.index t = ![t.val, 2]
    ∧ win0_3.index t = ![0, 0, 0, 0] ∧ win0_4.index t = ![0] ∧ win0_5.index t = ![t.val, 0] :=
  (by decide +kernel : ∀ t : Fin grid0.N, _)

theorem qkv_q (c : Dev nD) (r : Fin 8192) (e : Fin 512) : QKV m c (ix2 r (⟨e, by omega⟩ : Fin 768)) = A0 m c (ix2 r e) := by
  unfold QKV; pointwise []
theorem qkv_k (c : Dev nD) (r : Fin 8192) (e : Fin 128) : QKV m c (ix2 r (⟨512 + e, by omega⟩ : Fin 768)) = A1 m c (ix2 r e) := by
  unfold QKV; pointwise []
theorem qkv_v (c : Dev nD) (r : Fin 8192) (e : Fin 128) : QKV m c (ix2 r (⟨640 + e, by omega⟩ : Fin 768)) = A2 m c (ix2 r e) := by
  unfold QKV; pointwise []
  rw [dif_neg (by omega), dif_neg (by omega)]
  exact congrArg (A2 m c) (congrArg (ix2 r) (Fin.ext (by simp; omega)))

theorem w2_at (c : Dev nD) (t : Fin cfg0.N) (p : Fin 512) (e : Fin 256) :
    iblk m c 2 t (ix2 p e) = QKV m c (ix2 (⟨t.val * 512 + p, by have := t_lt t; omega⟩ : Fin 8192) (⟨512 + e, by omega⟩ : Fin 768)) := by
  simp only [iblk]
  rw [show V m c (Pipeline.arrRef spec0 2) = _ from V_v20 m c]
  blk_ext [idx_val t]
theorem w1_at (c : Dev nD) (t : Fin cfg0.N) (p : Fin 128) (e : Fin 256) :
    iblk m c 1 t (ix2 p e) = QKV m c (ix2 (⟨(t.val * 4 - 1) * 128 + p, by have := t_lt t; omega⟩ : Fin 8192) (⟨512 + e, by omega⟩ : Fin 768)) := by
  simp only [iblk]
  rw [show V m c (Pipeline.arrRef spec0 1) = _ from V_v20 m c]
  blk_ext [idx_val t]
theorem w0_at (c : Dev nD) (t : Fin cfg0.N) (p : Fin 512) (e : Fin 512) :
    X0_0 m c t (ix2 p e) = QKV m c (ix2 (⟨t.val * 512 + p, by have := t_lt t; omega⟩ : Fin 8192) (⟨e, by omega⟩ : Fin 768)) := by
  unfold X0_0 Pipeline.Window.fill
  rw [dif_pos (moved0_0 t _)]
  simp only [iblk]
  rw [show V m c (Pipeline.arrRef spec0 0) = _ from V_v20 m c]
  blk_ext [idx_val t]
theorem w3_eq (c : Dev nD) (t : Fin cfg0.N) : iblk m c 3 t = BOTH m c := by
  simp only [iblk]
  rw [show V m c (Pipeline.arrRef spec0 3) = _ from V_v29 m c]
  blk_ext! [idx_val t]
theorem w4_eq (c : Dev nD) (t : Fin cfg0.N) : iblk m c 4 t = A3 m c := by
  simp only [iblk]
  rw [show V m c (Pipeline.arrRef spec0 4) = _ from V_main_arg3 m c]
  blk_ext! [idx_val t]

theorem both_later (c : Dev nD) (h : Fin 8) (p : Fin 128) (j : Fin 256) : BOTH m c (ix4 0 h p j) = maskAt 1 p j (A4 m c (ix3 h p j)) := by
  unfold BOTH; pointwise [maskedBias]
theorem both_first (c : Dev nD) (h : Fin 8) (p : Fin 128) (j : Fin 256) : BOTH m c (ix4 1 h p j) = maskAt 0 p j (A4 m c (ix3 h p j)) := by
  unfold BOTH; pointwise [maskedBias]

theorem offs_val : ∀ (t : Fin cfg0.N) (h : Fin 8), offs (grid0.coords t) h = ![if t.val = 0 then 1 else 0, h.val, 0, 0] :=
  (by decide +kernel : ∀ (t : Fin grid0.N) (h : Fin 8), _)

/-- The block of 128 rows that block `b` of step `t` is. -/
def blk (t : Fin cfg0.N) (b : Fin 4) : Fin 64 := ⟨t.val * 4 + b, by have := t_lt t; omega⟩

theorem bias_at (c : Dev nD) (t : Fin cfg0.N) (b : Fin 4) (h : Fin 8) (p : Fin 128) (j : Fin 256) :
    biasAt (grid0.coords t) (BOTH m c) b h (ix4 0 0 p j) = maskAt (blk t b) p j (A4 m c (ix3 h p j)) := by
  have ld (o : Fin 4 → ℕ) (ho : ∀ a, o a + S1x1x128x256.size a ≤ S2x8x128x256.size a) (u : Fin 2) (e : o = ![u.val, h.val, 0, 0]) :
      View.ld (Val := Elt Ideal) (S := S2x8x128x256) (e' := .f32) (BOTH m c) (Rect.unit o S1x1x128x256.size ho) (ix4 0 0 p j) = BOTH m c (ix4 u h p j) := by
    subst e
    exact View.ld_unit_apply_of (Val := Elt Ideal) (S := S2x8x128x256) (e := .f32) _ _ _ _ (ix4 0 0 p j) (ix4 u h p j) (fun a => by fin_cases a <;> simp)
  have later (b : Fin 4) (hb : 0 < b.val) : BOTH m c (ix4 0 h p j) = maskAt (blk t b) p j (A4 m c (ix3 h p j)) := by
    rw [both_later, maskAt_later (n := blk t b) (by simp [blk]; omega)]
  match b with
  | 0 =>
    by_cases h0 : t.val = 0
    · refine (ld _ _ 1 (by rw [offs_val, if_pos h0]; rfl)).trans ?_
      rw [both_first, show blk t 0 = 0 from Fin.ext (by simp [blk, h0])]
    · refine (ld _ _ 0 (by rw [offs_val, if_neg h0]; rfl)).trans ?_
      have := t.isLt
      rw [both_later, maskAt_later (n := blk t 0) (by have : t.val < 16 := t.isLt; simp [blk]; omega)]
  | 1 => exact (ld _ _ 0 rfl).trans (later 1 (by decide))
  | 2 => exact (ld _ _ 0 rfl).trans (later 2 (by decide))
  | 3 => exact (ld _ _ 0 rfl).trans (later 3 (by decide))

theorem sink_at (c : Dev nD) (h : Fin 8) : sinkAt (A3 m c) h = A3 m c (ix1 h) := by
  unfold sinkAt
  exact View.ld_unit_apply_of (Val := Elt Ideal) (S := S8) (e := .f32) _ _ _ _ _ (ix1 h) (fun a => by fin_cases a; simp [Shape.Idx.first])

theorem kv_at (c : Dev nD) (t : Fin cfg0.N) (b : Fin 4) (j : Fin 256) (e : Fin 256) :
    kvRow (iblk m c 1 t) (iblk m c 2 t) (⟨128 * b + j, by omega⟩ : Fin 640) e = QKV m c (ix2 (bandRow (blk t b) j) (⟨512 + e, by omega⟩ : Fin 768)) := by
  have ht : t.val < 16 := t.isLt
  unfold kvRow
  split
  · next h =>
    rw [w1_at]
    refine congrArg (fun r => QKV m c (ix2 r _)) (Fin.ext ?_)
    by_cases hb : 128 ≤ (blk t b : ℕ) * 128 + (j : ℕ)
    · rw [bandRow_hi hb]; simp only [blk] at hb h ⊢; omega
    · rw [bandRow_lo hb]; simp only [blk] at hb h ⊢; omega
  · next h =>
    rw [w2_at]
    refine congrArg (fun r => QKV m c (ix2 r _)) (Fin.ext ?_)
    by_cases hb : 128 ≤ (blk t b : ℕ) * 128 + (j : ℕ)
    · rw [bandRow_hi hb]; simp only [blk] at hb h ⊢; omega
    · rw [bandRow_lo hb]; simp only [blk] at hb h ⊢; omega

theorem bK_at (c : Dev nD) (t : Fin cfg0.N) (b : Fin 4) (h : Fin 8) (j : Fin 256) (d : Fin 64) :
    bK (iblk m c 1 t) (iblk m c 2 t) b h j d = bandOf (A1 m c) (blk t b) (kOf h) j d := by
  refine (kv_at m c t b j _).trans ((congrArg (fun e => QKV m c (ix2 (bandRow (blk t b) j) e)) (Fin.ext ?_)).trans (qkv_k m c _ (⟨kOf h * 64 + d, by omega⟩ : Fin 128)))
  simp [kOf]; try omega
theorem bV_at (c : Dev nD) (t : Fin cfg0.N) (b : Fin 4) (h : Fin 8) (j : Fin 256) (d : Fin 64) :
    bV (iblk m c 1 t) (iblk m c 2 t) b h j d = bandOf (A2 m c) (blk t b) (kOf h) j d := by
  refine (kv_at m c t b j _).trans ((congrArg (fun e => QKV m c (ix2 (bandRow (blk t b) j) e)) (Fin.ext ?_)).trans (qkv_v m c _ (⟨kOf h * 64 + d, by omega⟩ : Fin 128)))
  simp [kOf]; try omega
theorem bQ_at (c : Dev nD) (t : Fin cfg0.N) (b : Fin 4) (h : Fin 8) (p : Fin 128) (d : Fin 64) :
    bQ (X0_0 m c t) b h p d = rowOf (A0 m c) (blk t b) (kOf h) (gOf h) p d * Ideal.ofBits .f32 0x3E000000#32 := by
  unfold bQ rowOf
  rw [w0_at]
  refine congrArg (· * _) ((congrArg₂ (fun r e => QKV m c (ix2 r e)) (Fin.ext ?_) (Fin.ext ?_)).trans (qkv_q m c _ _))
  · simp [blk]; try omega
  · simp [kOf, gOf]; try omega
end Cert.AttnF
end
end
-- ==== Proof.Fwd.lean ====
module

public import proofs.«01_k».proof.Defs
public import proofs.«01_k».proof.Pre_finite5
public import proofs.«01_k».proof.Proof.Pre
public import proofs.«01_k».proof.Proof.FwdHost
public import proofs.«01_k».proof.Proof.Gen.Reference5Ideal.Run
public import proofs.«01_k».proof.Proof.Gen.Reference5Ideal.Read
public import Idealize.ShloMosaic.Adequacy
public import Idealize.ShloMosaic.Init
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Kernel5Ideal Cert.Kernel5Ideal.Gen
open Cert.Attn (bV bQ bK bS bandOf kOf gOf rowOf rSm keyOf headOf rowY kY yOut yOut_at kY_eq scoreOf score_eq rSm_real seen_of_ne_bot bandOf_seen head_eq v89_at)

/-! The attention's forward pass: the two programs leave the same output. -/

namespace Cert.AttnF

instance facts : Cert.Pre_finite5.Facts where
  bcast_S_S8192x512 := by decide
  bcast_S_S8192x128 := by decide
  bcast_S_S8 := by decide
  bcast_S_S8x128x256 := by decide

/-- The queries, keys, sinks and biases are finite. -/
structure Fin4 (m : (ℓ : Loc nD τ sig) → Buf (Elt Ideal) ℓ) (c : Dev nD) : Prop where
  h0 : ∀ i, ∃ a : ℝ, A0 m c i = a
  h1 : ∀ i, ∃ a : ℝ, A1 m c i = a
  h3 : ∀ i, ∃ a : ℝ, A3 m c i = a
  h4 : ∀ i, ∃ a : ℝ, A4 m c i = a

theorem fin4 (m : (ℓ : Loc nD τ sig) → Buf (Elt Ideal) ℓ) (h : Cert.Pre_Kernel5Ideal_finite5 m) (c : Dev nD) : Fin4 m c := by
  obtain ⟨p0, p1, p3, p4⟩ := h c
  exact ⟨fun i => Cert.InProj.isReal_of_abs _ (congrFun p0 i), fun i => Cert.InProj.isReal_of_abs _ (congrFun p1 i),
    fun i => Cert.InProj.isReal_of_abs _ (congrFun p3 i), fun i => Cert.InProj.isReal_of_abs _ (congrFun p4 i)⟩

variable (m : (ℓ : Loc nD τ sig) → Buf (Elt Ideal) ℓ)

/-- The output of the attention. -/
def OUT (c : Dev nD) : FVec Ideal S8192x512 .f32 := Cert.Reference2Ideal.Read.val_main_v94 (F := Ideal) (A0 m c) (A1 m c) (A2 m c) (A3 m c) (A4 m c)

theorem out_at (c : Dev nD) (r : Fin 8192) (e : Fin 512) : OUT m c (ix2 r e) = rowY (rSm (A0 m c) (A1 m c) (A4 m c) (⟨r / 128, by omega⟩ : Fin 64) (⟨e / 256, by omega⟩ : Fin 2) (⟨e / 64 % 4, by omega⟩ : Fin 4) (⟨r % 128, by omega⟩ : Fin 128))
    (A3 m c (ix1 (headOf (⟨e / 256, by omega⟩ : Fin 2) (⟨e / 64 % 4, by omega⟩ : Fin 4)))) (keyOf (A2 m c) (⟨r / 128, by omega⟩ : Fin 64) (⟨e / 256, by omega⟩ : Fin 2)) (⟨e % 64, by omega⟩ : Fin 64) := by
  refine Eq.trans ?_ (v89_at (A0 m c) (A1 m c) (A2 m c) (A3 m c) (A4 m c) _ _ _ _ _)
  unfold OUT Cert.Reference2Ideal.Read.val_main_v94 Cert.Reference2Ideal.Read.val_main_v93
  generalize Cert.Reference2Ideal.Read.val_main_v89 (F := Ideal) (A0 m c) (A1 m c) (A2 m c) (A3 m c) (A4 m c) = a
  pointwise []

variable {m} {c : Dev nD} (H : Fin4 m c) (t : Fin cfg0.N)

include H in
theorem bS_eq (b : Fin 4) (h : Fin 8) (p : Fin 128) : bS (X0_0 m c t) (iblk m c 1 t) (iblk m c 2 t) (biasAt (grid0.coords t) (iblk m c 3 t)) b h p
    = rSm (A0 m c) (A1 m c) (A4 m c) (blk t b) (kOf h) (gOf h) p := by
  funext j
  refine Eq.trans ?_ (score_eq (A0 m c) (A1 m c) (A4 m c) H.h0 H.h1 H.h4 (blk t b) (kOf h) (gOf h) p j)
  unfold bS scoreOf
  refine congrArg₂ (fun x y : EReal => x + y) (Finset.sum_congr rfl fun d _ => congrArg₂ (fun x y : EReal => x * y) (bQ_at m c t b h p d) (bK_at m c t b h j d)) ?_
  rw [w3_eq]
  refine (bias_at m c t b h p j).trans ?_
  rw [head_eq]

theorem bz_eq (h : Fin 8) : sinkAt (iblk m c 4 t) h = A3 m c (ix1 (headOf (kOf h) (gOf h))) := by rw [w4_eq, sink_at, head_eq]

include H in
theorem y_at (r e : Fin 512) : outsAt0 m c t (ix2 r e) = OUT m c (ix2 (⟨t.val * 512 + r, by have := t_lt t; omega⟩ : Fin 8192) e) := by
  refine (congrFun (outs5 m c t) (ix2 r e)).trans ((yOut_at _ _ _ _ _ r e).trans ?_)
  rw [bS_eq H, bz_eq, show bV (iblk m c 1 t) (iblk m c 2 t) (⟨r / 128, by omega⟩ : Fin 4) (⟨e / 64, by omega⟩ : Fin 8) = bandOf (A2 m c) (blk t ⟨r / 128, by omega⟩) (kOf ⟨e / 64, by omega⟩) from
    funext fun j => funext fun d => bV_at m c t _ _ j d]
  rw [kY_eq (v := keyOf (A2 m c) (blk t ⟨r / 128, by omega⟩) (kOf ⟨e / 64, by omega⟩)) (rSm_real (A0 m c) (A1 m c) (A4 m c) H.h0 H.h1 H.h4 _ _ _ _) (H.h3 _)
    (fun j hj => funext fun d => bandOf_seen _ _ (A2 m c) (seen_of_ne_bot (A0 m c) (A1 m c) (A4 m c) _ _ _ _ hj).2.2 d), out_at]
  have e1 : (⟨(t.val * 512 + (r : ℕ)) / 128, by have := t_lt t; omega⟩ : Fin 64) = blk t ⟨r / 128, by omega⟩ := Fin.ext (by simp [blk]; omega)
  have e2 : (⟨(e : ℕ) / 256, by omega⟩ : Fin 2) = kOf ⟨e / 64, by omega⟩ := Fin.ext (by simp [kOf]; omega)
  have e3 : (⟨(e : ℕ) / 64 % 4, by omega⟩ : Fin 4) = gOf ⟨e / 64, by omega⟩ := Fin.ext (by simp [gOf])
  have e4 : (⟨(t.val * 512 + (r : ℕ)) % 128, by omega⟩ : Fin 128) = ⟨r % 128, by omega⟩ := Fin.ext (by simp; omega)
  rw [e1, e2, e3, e4]

/-- The output's blocks cover the array. -/
theorem final_of (G : FVec Ideal S8192x512 .f32)
    (h : ∀ (t : Fin cfg0.N) (r e : Fin 512), outsAt0 m c t (ix2 r e) = G (ix2 (⟨t.val * 512 + r, by have := t_lt t; omega⟩ : Fin 8192) e)) :
    (dats m 0 c).arrAt 5 (cfgs 0).N = G := by
  refine (dats m 0 c).arrAt_eq_of_covers 5 _ (by decide +kernel) fun t _ y => ?_
  rw [after0_5]
  have h' := h t
  generalize outsAt0 m c t = o at h' ⊢
  idx_vars y
  refine (h' y0 y1).trans (congrArg G ?_)
  blk_ext [idx_val t]

include H in
theorem final5 : (dats m 0 c).arrAt 5 (cfgs 0).N = OUT m c := final_of (OUT m c) (y_at H)

theorem same (x0 : FVec Ideal S8192x512 .f32) (x1 x2 : FVec Ideal S8192x128 .f32) (x3 : FVec Ideal S8 .f32) (x4 : FVec Ideal S8x128x256 .f32) :
    Cert.Reference5Ideal.Read.val_main_v66 (F := Ideal) x0 x1 x2 x3 x4 = Cert.Reference2Ideal.Read.val_main_v94 (F := Ideal) x0 x1 x2 x3 x4 := by
  sl_kernel_rfl

theorem algebraic : Cert.algebraic_Kernel5Ideal_Reference5Ideal_pre_finite5 := by
  intro m g m' g' hpre hagree
  refine ⟨OUT m, (θ_run _ _ _).mono (fun r h c => ?_) (Cert.Kernel5Ideal.Value.run_blocks m g),
    (θ_run _ _ _).mono (fun r h c => ?_) (Cert.Reference5Ideal.Value.run m' g')⟩
  · obtain ⟨e0, ha⟩ := h c
    exact ⟨e0.trans (final5 (fin4 m hpre c)), ha⟩
  · obtain ⟨e0, ha⟩ := h c
    obtain ⟨a0, a1, a2, a3, a4⟩ := hagree c
    refine ⟨(e0.trans (Cert.Reference5Ideal.Read.val_main_v66_eq m' c)).trans ?_, ha⟩
    rw [a0, a1, a2, a3, a4]
    exact same _ _ _ _ _

theorem frame_reference : Cert.quiescent_Reference5Ideal :=
  fun m ρ _ => (θ_run _ _ _).mono (fun r h => ⟨fun c => (h c).2, sem_eq_zero_of_no_sems (by decide) r.2⟩) (Cert.Reference5Ideal.Value.run m ρ)

end Cert.AttnF

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Reference5Ideal.Run
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Claim
public import proofs.«01_k».proof.Proof.Alg
public import proofs.«01_k».proof.Proof.Attn
public import proofs.«01_k».proof.Proof.Mlp
public import proofs.«01_k».proof.Proof.Gate
public import proofs.«01_k».proof.Proof.Fwd

@[expose] public section

noncomputable section

namespace Cert.Proof

open Idealize.ShloMosaic Idealize.SL.Sem Cert.InProj

theorem algebraic : Cert.algebraic_KernelIdeal_ReferenceIdeal_pre_finite := by
  intro m g m' g' hpre hagree
  refine ⟨GXm m, HHm m, ACm m, GWm m, (θ_run _ _ _).mono (fun r h c => ?_) (Cert.KernelIdeal.Value.run_blocks m g),
    (θ_run _ _ _).mono (fun r h c => ?_) (Cert.ReferenceIdeal.Value.run m' g')⟩
  · obtain ⟨e0, e1, e2, e3, ha⟩ := h c
    exact ⟨e0.trans (final11 m c), e1.trans (final12 m c), e2.trans (final13 m c), e3.trans (final14 m c), ha⟩
  · obtain ⟨e0, e1, e2, e3, ha⟩ := h c
    obtain ⟨a0, a1, a2, a3, a4, a5, a6, a7, a8, a9, a10⟩ := hagree c
    obtain ⟨p0, p2, p3, p4, p5, p6, p7, p8, p10⟩ := hpre c
    have h0 := real0 _ _ _ _ _ _ _ _ _ _ _ p0
    have h2 := real2 _ _ _ _ _ _ _ _ _ _ _ p2
    have h3 := real3 _ _ _ _ _ _ _ _ _ _ _ p3
    have h4 := real4 _ _ _ _ _ _ _ _ _ _ _ p4
    have h5 := real5 _ _ _ _ _ _ _ _ _ _ _ p5
    have h6 := real6 _ _ _ _ _ _ _ _ _ _ _ p6
    have h7 := real7 _ _ _ _ _ _ _ _ _ _ _ p7
    have h8 := real8 _ _ _ _ _ _ _ _ _ _ _ p8
    have h10 := real10 _ _ _ _ _ _ _ _ _ _ _ p10
    refine ⟨(e0.trans (Cert.ReferenceIdeal.Read.val_main_v65_eq m' c)).trans ?_, (e1.trans (Cert.ReferenceIdeal.Read.val_main_v74_eq _ _ _ _)).trans ?_,
      (e2.trans (Cert.ReferenceIdeal.Read.val_main_v70_eq m' c)).trans ?_, (e3.trans (Cert.ReferenceIdeal.Read.val_main_v75_eq _ _ _ _ _ _ _ _ _)).trans ?_, ha⟩
    · rw [a0, a1, a2, a3, a4, a5, a6, a7, a8, a10]
      exact (GX_eq _ _ _ _ _ _ _ _ _ _ h0 h2 h3 h4 h5 h6 h7 h8 h10).symm
    · rw [a0, a7, a8, a9]
      exact (HH_eq _ _ _ _ h0).symm
    · rw [a0, a2, a3, a4, a5, a6, a7, a8, a10]
      exact (AC_eq m c h0 h2 h3 h4 h5 h6 h7 h8 h10).symm
    · rw [a0, a2, a3, a4, a5, a6, a7, a8, a9]
      exact (GW_eq m c h0).symm

theorem frame_reference : Cert.quiescent_ReferenceIdeal :=
  fun m ρ _ => (θ_run _ _ _).mono (fun r h => ⟨fun c => (h c).2.2.2.2, sem_eq_zero_of_no_sems (by decide) r.2⟩) (Cert.ReferenceIdeal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.InProj.facts, Cert.Attn.facts, Cert.Mlp.facts, Cert.AttnF.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  Cert.Attn.frame_reference, fun m ρ _ => Cert.Attn.frame_reference m ρ trivial,
  fun m ρ _ => Cert.Kernel3.Gen.frame m ρ, fun m ρ _ => Cert.Kernel3Ideal.Gen.frame m ρ, fun m ρ _ => Cert.Kernel3Ideal.Gen.frame m ρ,
  Cert.Mlp.frame_reference, fun m ρ _ => Cert.Mlp.frame_reference m ρ trivial,
  fun m ρ _ => Cert.Kernel4.Gen.frame m ρ, fun m ρ _ => Cert.Kernel4Ideal.Gen.frame m ρ, Cert.Gate.frame_reference,
  fun m ρ _ => Cert.Kernel5.Gen.frame m ρ, fun m ρ _ => Cert.Kernel5Ideal.Gen.frame m ρ, fun m ρ _ => Cert.Kernel5Ideal.Gen.frame m ρ,
  Cert.AttnF.frame_reference, fun m ρ _ => Cert.AttnF.frame_reference m ρ trivial,
  trivial, algebraic, trivial, Cert.Attn.algebraic, trivial, Cert.Mlp.algebraic, trivial, Cert.Gate.algebraic,
  trivial, Cert.AttnF.algebraic⟩

end Cert.Proof

end
